-- ==== Defs.lean ====
def Pre_Kernel [hPre_cdf_sorted : Cert.Pre_cdf_sorted.Facts] (m : (ℓ : Loc Cert.Kernel.nD Cert.Kernel.τ Cert.Kernel.sig) → Buf (Elt Bits) ℓ) : Prop :=
  ∀ c : Dev Cert.Kernel.nD,
    (Cert.Pre_cdf_sorted.fn (F := Bits) (m ((c.tc : Thread Cert.Kernel.nD Cert.Kernel.τ).loc Cert.Kernel.main_arg0))) = (fun _ => 1#1)

def Pre_KernelIdeal [hPre_cdf_sorted : Cert.Pre_cdf_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_cdf_sorted.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cdf_sorted [hPre_cdf_sorted : Cert.Pre_cdf_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cdf_sorted.fn (F := Ideal) (m ((c.tc : Thread Cert.ReferenceIdeal.nD Cert.ReferenceIdeal.τ).loc Cert.ReferenceIdeal.main_arg0))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_finite [hPre_finite : Cert.Pre_finite.Facts] (m : (ℓ : Loc Cert.DenseIdeal.nD Cert.DenseIdeal.τ Cert.DenseIdeal.sig) → Buf (Elt Ideal) ℓ) : Prop :=
  ∀ c : Dev Cert.DenseIdeal.nD,
    (Cert.Pre_finite.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5)) (m ((c.tc : Thread Cert.DenseIdeal.nD Cert.DenseIdeal.τ).loc Cert.DenseIdeal.main_arg6)) (m ((c.tc : Thread Cert.DenseIdeal.nD Cert.DenseIdeal.τ).loc Cert.DenseIdeal.main_arg7)) (m ((c.tc : Thread Cert.DenseIdeal.nD Cert.DenseIdeal.τ).loc Cert.DenseIdeal.main_arg8)) (m ((c.tc : Thread Cert.DenseIdeal.nD Cert.DenseIdeal.τ).loc Cert.DenseIdeal.main_arg9)) (m ((c.tc : Thread Cert.DenseIdeal.nD Cert.DenseIdeal.τ).loc Cert.DenseIdeal.main_arg10)) (m ((c.tc : Thread Cert.DenseIdeal.nD Cert.DenseIdeal.τ).loc Cert.DenseIdeal.main_arg11)) (m ((c.tc : Thread Cert.DenseIdeal.nD Cert.DenseIdeal.τ).loc Cert.DenseIdeal.main_arg12)) (m ((c.tc : Thread Cert.DenseIdeal.nD Cert.DenseIdeal.τ).loc Cert.DenseIdeal.main_arg13))) = (fun _ => 1#1)

def Pre_DenseReferenceIdeal (m : (ℓ : Loc Cert.DenseReferenceIdeal.nD Cert.DenseReferenceIdeal.τ Cert.DenseReferenceIdeal.sig) → Buf (Elt Ideal) ℓ) : Prop :=
  True

def Pre_DenseReferenceIdeal_finite [hPre_finite : Cert.Pre_finite.Facts] (m : (ℓ : Loc Cert.DenseReferenceIdeal.nD Cert.DenseReferenceIdeal.τ Cert.DenseReferenceIdeal.sig) → Buf (Elt Ideal) ℓ) : Prop :=
  ∀ c : Dev Cert.DenseReferenceIdeal.nD,
    (Cert.Pre_finite.fn (F := Ideal) (m ((c.tc : Thread Cert.DenseReferenceIdeal.nD Cert.DenseReferenceIdeal.τ).loc Cert.DenseReferenceIdeal.main_arg0)) (m ((c.tc : Thread Cert.DenseReferenceIdeal.nD Cert.DenseReferenceIdeal.τ).loc Cert.DenseReferenceIdeal.main_arg1)) (m ((c.tc : Thread Cert.DenseReferenceIdeal.nD Cert.DenseReferenceIdeal.τ).loc Cert.DenseReferenceIdeal.main_arg2)) (m ((c.tc : Thread Cert.DenseReferenceIdeal.nD Cert.DenseReferenceIdeal.τ).loc Cert.DenseReferenceIdeal.main_arg3)) (m ((c.tc : Thread Cert.DenseReferenceIdeal.nD Cert.DenseReferenceIdeal.τ).loc Cert.DenseReferenceIdeal.main_arg4)) (m ((c.tc : Thread Cert.DenseReferenceIdeal.nD Cert.DenseReferenceIdeal.τ).loc Cert.DenseReferenceIdeal.main_arg5)) (m ((c.tc : Thread Cert.DenseReferenceIdeal.nD Cert.DenseReferenceIdeal.τ).loc Cert.DenseReferenceIdeal.main_arg6)) (m ((c.tc : Thread Cert.DenseReferenceIdeal.nD Cert.DenseReferenceIdeal.τ).loc Cert.DenseReferenceIdeal.main_arg7)) (m ((c.tc : Thread Cert.DenseReferenceIdeal.nD Cert.DenseReferenceIdeal.τ).loc Cert.DenseReferenceIdeal.main_arg8)) (m ((c.tc : Thread Cert.DenseReferenceIdeal.nD Cert.DenseReferenceIdeal.τ).loc Cert.DenseReferenceIdeal.main_arg9)) (m ((c.tc : Thread Cert.DenseReferenceIdeal.nD Cert.DenseReferenceIdeal.τ).loc Cert.DenseReferenceIdeal.main_arg10)) (m ((c.tc : Thread Cert.DenseReferenceIdeal.nD Cert.DenseReferenceIdeal.τ).loc Cert.DenseReferenceIdeal.main_arg11)) (m ((c.tc : Thread Cert.DenseReferenceIdeal.nD Cert.DenseReferenceIdeal.τ).loc Cert.DenseReferenceIdeal.main_arg12)) (m ((c.tc : Thread Cert.DenseReferenceIdeal.nD Cert.DenseReferenceIdeal.τ).loc Cert.DenseReferenceIdeal.main_arg13))) = (fun _ => 1#1)

def quiescent_Kernel [hKernel : Cert.Kernel.Facts] [hPre_cdf_sorted : Cert.Pre_cdf_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_cdf_sorted : Cert.Pre_cdf_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_cdf_sorted [hReferenceIdeal : Cert.ReferenceIdeal.Facts] [hPre_cdf_sorted : Cert.Pre_cdf_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cdf_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9)
      ∧ r.2.mem ((c.tc : Thread Cert.Dense.nD Cert.Dense.τ).loc Cert.Dense.main_arg10) = m ((c.tc : Thread Cert.Dense.nD Cert.Dense.τ).loc Cert.Dense.main_arg10)
      ∧ r.2.mem ((c.tc : Thread Cert.Dense.nD Cert.Dense.τ).loc Cert.Dense.main_arg11) = m ((c.tc : Thread Cert.Dense.nD Cert.Dense.τ).loc Cert.Dense.main_arg11)
      ∧ r.2.mem ((c.tc : Thread Cert.Dense.nD Cert.Dense.τ).loc Cert.Dense.main_arg12) = m ((c.tc : Thread Cert.Dense.nD Cert.Dense.τ).loc Cert.Dense.main_arg12)
      ∧ r.2.mem ((c.tc : Thread Cert.Dense.nD Cert.Dense.τ).loc Cert.Dense.main_arg13) = m ((c.tc : Thread Cert.Dense.nD Cert.Dense.τ).loc Cert.Dense.main_arg13))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
      ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
      ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12)
      ∧ r.2.mem ((c.tc : Thread Cert.DenseIdeal.nD Cert.DenseIdeal.τ).loc Cert.DenseIdeal.main_arg13) = m ((c.tc : Thread Cert.DenseIdeal.nD Cert.DenseIdeal.τ).loc Cert.DenseIdeal.main_arg13))
      ∧ r.2.sem = fun _ => 0)

def quiescent_DenseIdeal_pre_finite [hDenseIdeal : Cert.DenseIdeal.Facts] [hPre_finite : Cert.Pre_finite.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_finite m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
      ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
      ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12)
      ∧ r.2.mem ((c.tc : Thread Cert.DenseIdeal.nD Cert.DenseIdeal.τ).loc Cert.DenseIdeal.main_arg13) = m ((c.tc : Thread Cert.DenseIdeal.nD Cert.DenseIdeal.τ).loc Cert.DenseIdeal.main_arg13))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9)
      ∧ r.2.mem ((c.tc : Thread Cert.DenseReferenceIdeal.nD Cert.DenseReferenceIdeal.τ).loc Cert.DenseReferenceIdeal.main_arg10) = m ((c.tc : Thread Cert.DenseReferenceIdeal.nD Cert.DenseReferenceIdeal.τ).loc Cert.DenseReferenceIdeal.main_arg10)
      ∧ r.2.mem ((c.tc : Thread Cert.DenseReferenceIdeal.nD Cert.DenseReferenceIdeal.τ).loc Cert.DenseReferenceIdeal.main_arg11) = m ((c.tc : Thread Cert.DenseReferenceIdeal.nD Cert.DenseReferenceIdeal.τ).loc Cert.DenseReferenceIdeal.main_arg11)
      ∧ r.2.mem ((c.tc : Thread Cert.DenseReferenceIdeal.nD Cert.DenseReferenceIdeal.τ).loc Cert.DenseReferenceIdeal.main_arg12) = m ((c.tc : Thread Cert.DenseReferenceIdeal.nD Cert.DenseReferenceIdeal.τ).loc Cert.DenseReferenceIdeal.main_arg12)
      ∧ r.2.mem ((c.tc : Thread Cert.DenseReferenceIdeal.nD Cert.DenseReferenceIdeal.τ).loc Cert.DenseReferenceIdeal.main_arg13) = m ((c.tc : Thread Cert.DenseReferenceIdeal.nD Cert.DenseReferenceIdeal.τ).loc Cert.DenseReferenceIdeal.main_arg13))
      ∧ r.2.sem = fun _ => 0)

def quiescent_DenseReferenceIdeal_pre_finite [hDenseReferenceIdeal : Cert.DenseReferenceIdeal.Facts] [hPre_finite : Cert.Pre_finite.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal_finite m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9)
      ∧ r.2.mem ((c.tc : Thread Cert.DenseReferenceIdeal.nD Cert.DenseReferenceIdeal.τ).loc Cert.DenseReferenceIdeal.main_arg10) = m ((c.tc : Thread Cert.DenseReferenceIdeal.nD Cert.DenseReferenceIdeal.τ).loc Cert.DenseReferenceIdeal.main_arg10)
      ∧ r.2.mem ((c.tc : Thread Cert.DenseReferenceIdeal.nD Cert.DenseReferenceIdeal.τ).loc Cert.DenseReferenceIdeal.main_arg11) = m ((c.tc : Thread Cert.DenseReferenceIdeal.nD Cert.DenseReferenceIdeal.τ).loc Cert.DenseReferenceIdeal.main_arg11)
      ∧ r.2.mem ((c.tc : Thread Cert.DenseReferenceIdeal.nD Cert.DenseReferenceIdeal.τ).loc Cert.DenseReferenceIdeal.main_arg12) = m ((c.tc : Thread Cert.DenseReferenceIdeal.nD Cert.DenseReferenceIdeal.τ).loc Cert.DenseReferenceIdeal.main_arg12)
      ∧ r.2.mem ((c.tc : Thread Cert.DenseReferenceIdeal.nD Cert.DenseReferenceIdeal.τ).loc Cert.DenseReferenceIdeal.main_arg13) = m ((c.tc : Thread Cert.DenseReferenceIdeal.nD Cert.DenseReferenceIdeal.τ).loc Cert.DenseReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cdf_sorted : Cert.Pre_cdf_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Dense_DenseIdeal : Prop :=
  True

def algebraic_DenseIdeal_DenseReferenceIdeal_pre_finite [hDenseIdeal : Cert.DenseIdeal.Facts] [hDenseReferenceIdeal : Cert.DenseReferenceIdeal.Facts] [hPre_finite : Cert.Pre_finite.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal_finite m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)
      ∧ m' ((c.tc : Thread Cert.DenseReferenceIdeal.nD Cert.DenseReferenceIdeal.τ).loc Cert.DenseReferenceIdeal.main_arg10) = m ((c.tc : Thread Cert.DenseIdeal.nD Cert.DenseIdeal.τ).loc Cert.DenseIdeal.main_arg10)
      ∧ m' ((c.tc : Thread Cert.DenseReferenceIdeal.nD Cert.DenseReferenceIdeal.τ).loc Cert.DenseReferenceIdeal.main_arg11) = m ((c.tc : Thread Cert.DenseIdeal.nD Cert.DenseIdeal.τ).loc Cert.DenseIdeal.main_arg11)
      ∧ m' ((c.tc : Thread Cert.DenseReferenceIdeal.nD Cert.DenseReferenceIdeal.τ).loc Cert.DenseReferenceIdeal.main_arg12) = m ((c.tc : Thread Cert.DenseIdeal.nD Cert.DenseIdeal.τ).loc Cert.DenseIdeal.main_arg12)
      ∧ m' ((c.tc : Thread Cert.DenseReferenceIdeal.nD Cert.DenseReferenceIdeal.τ).loc Cert.DenseReferenceIdeal.main_arg13) = m ((c.tc : Thread Cert.DenseIdeal.nD Cert.DenseIdeal.τ).loc Cert.DenseIdeal.main_arg13)) →
    ∃ (v0 : (c : Dev Cert.DenseIdeal.nD) → Buf (Elt Ideal) ((c.tc : Thread Cert.DenseIdeal.nD Cert.DenseIdeal.τ).loc Cert.DenseIdeal.main_v11)) (v1 : (c : Dev Cert.DenseIdeal.nD) → Buf (Elt Ideal) ((c.tc : Thread Cert.DenseIdeal.nD Cert.DenseIdeal.τ).loc Cert.DenseIdeal.main_v8_0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v11) = v0 c
          ∧ r.2.mem ((c.tc : Thread Cert.DenseIdeal.nD Cert.DenseIdeal.τ).loc Cert.DenseIdeal.main_v8_0) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
          ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
          ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12)
          ∧ r.2.mem ((c.tc : Thread Cert.DenseIdeal.nD Cert.DenseIdeal.τ).loc Cert.DenseIdeal.main_arg13) = m ((c.tc : Thread Cert.DenseIdeal.nD Cert.DenseIdeal.τ).loc Cert.DenseIdeal.main_arg13))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v78) = v0 c
          ∧ r.2.mem ((c.tc : Thread Cert.DenseReferenceIdeal.nD Cert.DenseReferenceIdeal.τ).loc Cert.DenseReferenceIdeal.main_v51) = v1 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9)
          ∧ r.2.mem ((c.tc : Thread Cert.DenseReferenceIdeal.nD Cert.DenseReferenceIdeal.τ).loc Cert.DenseReferenceIdeal.main_arg10) = m' ((c.tc : Thread Cert.DenseReferenceIdeal.nD Cert.DenseReferenceIdeal.τ).loc Cert.DenseReferenceIdeal.main_arg10)
          ∧ r.2.mem ((c.tc : Thread Cert.DenseReferenceIdeal.nD Cert.DenseReferenceIdeal.τ).loc Cert.DenseReferenceIdeal.main_arg11) = m' ((c.tc : Thread Cert.DenseReferenceIdeal.nD Cert.DenseReferenceIdeal.τ).loc Cert.DenseReferenceIdeal.main_arg11)
          ∧ r.2.mem ((c.tc : Thread Cert.DenseReferenceIdeal.nD Cert.DenseReferenceIdeal.τ).loc Cert.DenseReferenceIdeal.main_arg12) = m' ((c.tc : Thread Cert.DenseReferenceIdeal.nD Cert.DenseReferenceIdeal.τ).loc Cert.DenseReferenceIdeal.main_arg12)
          ∧ r.2.mem ((c.tc : Thread Cert.DenseReferenceIdeal.nD Cert.DenseReferenceIdeal.τ).loc Cert.DenseReferenceIdeal.main_arg13) = m' ((c.tc : Thread Cert.DenseReferenceIdeal.nD Cert.DenseReferenceIdeal.τ).loc Cert.DenseReferenceIdeal.main_arg13))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hPre_cdf_sorted : Cert.Pre_cdf_sorted.Facts) (hPre_finite : Cert.Pre_finite.Facts),
    quiescent_Kernel (hKernel := hKernel) (hPre_cdf_sorted := hPre_cdf_sorted)
    ∧ quiescent_KernelIdeal (hKernelIdeal := hKernelIdeal) (hPre_cdf_sorted := hPre_cdf_sorted)
    ∧ quiescent_ReferenceIdeal (hReferenceIdeal := hReferenceIdeal)
    ∧ quiescent_ReferenceIdeal_pre_cdf_sorted (hReferenceIdeal := hReferenceIdeal) (hPre_cdf_sorted := hPre_cdf_sorted)
    ∧ quiescent_Dense (hDense := hDense)
    ∧ quiescent_DenseIdeal (hDenseIdeal := hDenseIdeal)
    ∧ quiescent_DenseIdeal_pre_finite (hDenseIdeal := hDenseIdeal) (hPre_finite := hPre_finite)
    ∧ quiescent_DenseReferenceIdeal (hDenseReferenceIdeal := hDenseReferenceIdeal)
    ∧ quiescent_DenseReferenceIdeal_pre_finite (hDenseReferenceIdeal := hDenseReferenceIdeal) (hPre_finite := hPre_finite)
    ∧ preserves_Kernel_KernelIdeal
    ∧ algebraic_KernelIdeal_ReferenceIdeal (hKernelIdeal := hKernelIdeal) (hReferenceIdeal := hReferenceIdeal) (hPre_cdf_sorted := hPre_cdf_sorted)
    ∧ preserves_Dense_DenseIdeal
    ∧ algebraic_DenseIdeal_DenseReferenceIdeal_pre_finite (hDenseIdeal := hDenseIdeal) (hDenseReferenceIdeal := hDenseReferenceIdeal) (hPre_finite := hPre_finite)
-- ==== Pre_cdf_sorted.lean ====
abbrev S8x256x8192 : Shape := ⟨3, ![8, 256, 8192]⟩
abbrev S1x256x8192 : Shape := ⟨3, ![1, 256, 8192]⟩
abbrev S_ : Shape := ⟨0, ![]⟩
abbrev S1x8192 : Shape := ⟨2, ![1, 8192]⟩
abbrev S8192 : Shape := ⟨1, ![8192]⟩
abbrev S8191 : Shape := ⟨1, ![8191]⟩
abbrev S1 : Shape := ⟨1, ![1]⟩

class Facts : Prop where
  slices_S8x256x8192_S1x256x8192_0_0_0 : S8x256x8192.Slices ![0, 0, 0] S1x256x8192
  reducesTo_S1x256x8192_S1x8192_d1 : S1x256x8192.ReducesTo [1] S1x8192
  h_S_ : 0 < S_.numel
  bcast_S_S1x8192 : S_.BroadcastsInDim S1x8192 (![] : Fin 0 → Fin S1x8192.rank)
  shapeCasts_S1x8192_S8192 : S1x8192.ShapeCasts S8192
  reducesTo_S8192_S_d0 : S8192.ReducesTo [0] S_
  bcast_S_S8192 : S_.BroadcastsInDim S8192 (![] : Fin 0 → Fin S8192.rank)
  bcast_S_S_ : S_.BroadcastsInDim S_ (![] : Fin 0 → Fin S_.rank)
  reduceWindows_S8192_S8192_w8192s1p8191_0 : S8192.ReduceWindows (![8192] : Fin 1 → Nat) ![1] ![8191] ![0] S8192
  slices_S8192_S8191_1 : S8192.Slices ![1] S8191
  slices_S8192_S8191_0 : S8192.Slices ![0] S8191
  reducesTo_S8191_S_d0 : S8191.ReducesTo [0] S_
  slices_S8192_S1_0 : S8192.Slices ![0] S1
  shapeCasts_S1_S_ : S1.ShapeCasts S_

variable [Facts]

def fn_cumsum_0 {F : FTy → Type} [FloatOps F] (arg0 : FVec F S8192 .f32) : FVec F S8192 .f32 :=
  let cst : FVec F S_ .f32 := constant S_ .f32 0x00000000#32
  let v0 : FVec F S_ .f32 := broadcastInDim S_ ![] bcast_S_S_ cst
  let v1 : FVec F S8192 .f32 := (fun x v => Host.reduceWindowAdd ![8192] ![1] ![8191] ![0] x v reduceWindows_S8192_S8192_w8192s1p8191_0 h_S_) arg0 v0
  v1

def fn_cumsum {F : FTy → Type} [FloatOps F] (arg0 : FVec F S8192 .f32) : FVec F S8192 .f32 :=
  let v0 : FVec F S8192 .f32 := fn_cumsum_0 (F := F) arg0
  v0

def fn_part1 {F : FTy → Type} [FloatOps F] (main_v13 : IVec S8192 32) (main_v17 : IVec S_ 1) : IVec S_ 1 :=
  let main_v18 : IVec S1 32 := (extractStridedSlice S1 ![0] · slices_S8192_S1_0) main_v13
  let main_v19 : IVec S_ 32 := shapeCast S_ main_v18 shapeCasts_S1_S_
  let main_c_4 : IVec S_ 32 := constantI S_ 32 0#32
  let main_v20 : IVec S_ 1 := cmpi .sge main_v19 main_c_4
  let main_v21 : IVec S_ 1 := andi main_v17 main_v20
  main_v21

def fn {F : FTy → Type} [FloatOps F] (main_arg0 : FVec F S8x256x8192 .f32) : IVec S_ 1 :=
  let main_v0 : FVec F S1x256x8192 .f32 := (extractStridedSlice S1x256x8192 ![0, 0, 0] · slices_S8x256x8192_S1x256x8192_0_0_0) main_arg0
  let main_cst : FVec F S_ .f32 := constant S_ .f32 0x00000000#32
  let main_v1 : FVec F S1x8192 .f32 := (fun x v => Host.reduceAdd x v reducesTo_S1x256x8192_S1x8192_d1 h_S_) main_v0 main_cst
  let main_cst_0 : FVec F S_ .f32 := constant S_ .f32 0x43800000#32
  let main_v2 : FVec F S1x8192 .f32 := broadcastInDim S1x8192 ![] bcast_S_S1x8192 main_cst_0
  let main_v3 : FVec F S1x8192 .f32 := Host.divf main_v1 main_v2
  let main_v4 : FVec F S8192 .f32 := shapeCast S8192 main_v3 shapeCasts_S1x8192_S8192
  let main_cst_1 : FVec F S_ .f32 := constant S_ .f32 0x00000000#32
  let main_v5 : FVec F S_ .f32 := (fun x v => Host.reduceAdd x v reducesTo_S8192_S_d0 h_S_) main_v4 main_cst_1
  let main_v6 : FVec F S8192 .f32 := broadcastInDim S8192 ![] bcast_S_S8192 main_v5
  let main_v7 : FVec F S8192 .f32 := Host.divf main_v4 main_v6
  let main_v8 : FVec F S8192 .f32 := fn_cumsum (F := F) main_v7
  let main_cst_2 : FVec F S_ .f32 := constant S_ .f32 0x45800000#32
  let main_v9 : FVec F S8192 .f32 := broadcastInDim S8192 ![] bcast_S_S8192 main_cst_2
  let main_v10 : FVec F S8192 .f32 := mulf main_v8 main_v9
  let main_v11 : IVec S8192 32 := fptosi 32 main_v10
  let main_c : IVec S_ 32 := constantI S_ 32 4095#32
  let main_v12 : IVec S8192 32 := broadcastInDim S8192 ![] bcast_S_S8192 main_c
  let main_v13 : IVec S8192 32 := minsi main_v11 main_v12
  let main_v14 : IVec S8191 32 := (extractStridedSlice S8191 ![1] · slices_S8192_S8191_1) main_v13
  let main_v15 : IVec S8191 32 := (extractStridedSlice S8191 ![0] · slices_S8192_S8191_0) main_v13
  let main_v16 : IVec S8191 1 := cmpi .sge main_v14 main_v15
  let main_c_3 : IVec S_ 1 := constantI S_ 1 1#1
  let main_v17 : IVec S_ 1 := (fun x v => Host.reduce IntOp.andi x v reducesTo_S8191_S_d0 h_S_) main_v16 main_c_3
  fn_part1 (F := F) main_v13 main_v17
-- ==== Pre_finite.lean ====
abbrev S8x256x4096 : Shape := ⟨3, ![8, 256, 4096]⟩
abbrev S256x256 : Shape := ⟨2, ![256, 256]⟩
abbrev S256 : Shape := ⟨1, ![256]⟩
abbrev S512x256 : Shape := ⟨2, ![512, 256]⟩
abbrev S512 : Shape := ⟨1, ![512]⟩
abbrev S256x1024 : Shape := ⟨2, ![256, 1024]⟩
abbrev S_ : Shape := ⟨0, ![]⟩

class Facts : Prop where
  bcast_S_S8x256x4096 : S_.BroadcastsInDim S8x256x4096 (![] : Fin 0 → Fin S8x256x4096.rank)
  reducesTo_S8x256x4096_S_d0_1_2 : S8x256x4096.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x1024 : S_.BroadcastsInDim S256x1024 (![] : Fin 0 → Fin S256x1024.rank)
  reducesTo_S256x1024_S_d0_1 : S256x1024.ReducesTo [0, 1] S_

variable [Facts]

def fn_part3 {F : FTy → Type} [FloatOps F] (main_arg11 : FVec F S256 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S512 .f32) (main_arg8 : FVec F S512 .f32) (main_arg9 : FVec F S512 .f32) (main_arg10 : FVec F S256x1024 .f32) (main_arg11 : FVec F S256 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S256x1024 .f32 := Host.absf main_arg10
  let main_cst_18 : FVec F S_ .f32 := constant S_ .f32 0x7F800000#32
  let main_v50 : FVec F S256x1024 .f32 := broadcastInDim S256x1024 ![] bcast_S_S256x1024 main_cst_18
  fn_part3 (F := F) main_arg11 main_v48 main_v49 main_v50

def fn_part1 {F : FTy → Type} [FloatOps F] (main_arg4 : FVec F S256 .f32) (main_arg5 : FVec F S256 .f32) (main_arg6 : FVec F S512x256 .f32) (main_arg7 : FVec F S512 .f32) (main_arg8 : FVec F S512 .f32) (main_arg9 : FVec F S512 .f32) (main_arg10 : FVec F S256x1024 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x256x4096 .f32) (main_arg1 : FVec F S8x256x4096 .f32) (main_arg2 : FVec F S256x256 .f32) (main_arg3 : FVec F S256 .f32) (main_arg4 : FVec F S256 .f32) (main_arg5 : FVec F S256 .f32) (main_arg6 : FVec F S512x256 .f32) (main_arg7 : FVec F S512 .f32) (main_arg8 : FVec F S512 .f32) (main_arg9 : FVec F S512 .f32) (main_arg10 : FVec F S256x1024 .f32) (main_arg11 : FVec F S256 .f32) (main_arg12 : FVec F S256 .f32) (main_arg13 : FVec F S256 .f32) : IVec S_ 1 :=
  let main_v0 : FVec F S8x256x4096 .f32 := Host.absf main_arg0
  let main_cst : FVec F S_ .f32 := constant S_ .f32 0x7F800000#32
  let main_v1 : FVec F S8x256x4096 .f32 := broadcastInDim S8x256x4096 ![] bcast_S_S8x256x4096 main_cst
  let main_v2 : IVec S8x256x4096 1 := cmpf .olt main_v0 main_v1
  let main_c : IVec S_ 1 := constantI S_ 1 1#1
  let main_v3 : IVec S_ 1 := (fun x v => Host.reduce IntOp.andi x v reducesTo_S8x256x4096_S_d0_1_2 h_S_) main_v2 main_c
  let main_v4 : FVec F S8x256x4096 .f32 := Host.absf main_arg1
  let main_cst_0 : FVec F S_ .f32 := constant S_ .f32 0x7F800000#32
  let main_v5 : FVec F S8x256x4096 .f32 := broadcastInDim S8x256x4096 ![] bcast_S_S8x256x4096 main_cst_0
  let main_v6 : IVec S8x256x4096 1 := cmpf .olt main_v4 main_v5
  let main_c_1 : IVec S_ 1 := constantI S_ 1 1#1
  let main_v7 : IVec S_ 1 := (fun x v => Host.reduce IntOp.andi x v reducesTo_S8x256x4096_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S8x256x8192 : Shape := ⟨3, ![8, 256, 8192]⟩
abbrev S1x256x8192 : Shape := ⟨3, ![1, 256, 8192]⟩
abbrev S_ : Shape := ⟨0, ![]⟩
abbrev S1x8192 : Shape := ⟨2, ![1, 8192]⟩
abbrev S8192 : Shape := ⟨1, ![8192]⟩
abbrev S8x256x4096 : Shape := ⟨3, ![8, 256, 4096]⟩
abbrev S4096 : Shape := ⟨1, ![4096]⟩
abbrev S32768 : Shape := ⟨1, ![32768]⟩
abbrev S16384 : Shape := ⟨1, ![16384]⟩
abbrev S1x1x8192 : Shape := ⟨3, ![1, 1, 8192]⟩
abbrev S16 : Shape := ⟨1, ![16]⟩
abbrev S1x1x4096 : Shape := ⟨3, ![1, 1, 4096]⟩

abbrev nBuf : Table → Nat
  | .hbm => 23
  | .local .scVector .vmem => 7
  | _ => 0

abbrev bufTy : (tb : Table) → Fin (nBuf tb) → BufTy
  | .hbm, ⟨0, _⟩ => ⟨S8x256x8192, .f32⟩
  | .hbm, ⟨1, _⟩ => ⟨S1x256x8192, .f32⟩
  | .hbm, ⟨2, _⟩ => ⟨S_, .f32⟩
  | .hbm, ⟨3, _⟩ => ⟨S1x8192, .f32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8x256x4096, .f32⟩
  | .local .scVector .vmem, ⟨0, _⟩ => ⟨S8192, .i32⟩
  | .local .scVector .vmem, ⟨1, _⟩ => ⟨S4096, .i32⟩
  | .local .scVector .vmem, ⟨2, _⟩ => ⟨S4096, .i32⟩
  | .local .scVector .vmem, ⟨3, _⟩ => ⟨S32768, .f32⟩
  | .local .scVector .vmem, ⟨4, _⟩ => ⟨S32768, .f32⟩
  | .local .scVector .vmem, ⟨5, _⟩ => ⟨S16384, .f32⟩
  | .local .scVector .vmem, ⟨6, _⟩ => ⟨S16384, .f32⟩
  | _, _ => ⟨S8x256x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0_scv : Ref sig .scVector := ⟨.hbm, 0, rfl⟩
abbrev main_v13_scv : Ref sig .scVector := ⟨.hbm, 21, rfl⟩
abbrev main_v14_scv : Ref sig .scVector := ⟨.hbm, 22, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c4_i32 : BitVec 32 := 4#32
  let v30 : BitVec 32 := Scalar.muli v29 c4_i32
  let v31 : BitVec 32 := Scalar.addi v30 c0_i32_10
  let c0_i32_12 : BitVec 32 := 0#32
  ![v19.toNat, v31.toNat, 0]
def k0_off2 (i : grid0.Coords) (c0_i32_83 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c1_i32_68 : BitVec 32 := 1#32
  let v143 : BitVec 32 := Scalar.addi v2 c1_i32_68
  let c0_i32_70 : BitVec 32 := 0#32
  let v145 : BitVec 1 := Scalar.cmpi .sgt v143 c0_i32_70
  let v146 : BitVec 32 := Scalar.extui v145
  let c0_i32_71 : BitVec 32 := 0#32
  let v147 : BitVec 1 := Scalar.cmpi .slt v143 c0_i32_71
  let v148 : BitVec 32 := Scalar.extui v147
  let v149 : BitVec 32 := Scalar.subi v146 v148
  let c64_i32_69 : BitVec 32 := 64#32
  let c0_i32_72 : BitVec 32 := 0#32
  let v150 : BitVec 1 := Scalar.cmpi .sgt c64_i32_69 c0_i32_72
  let v151 : BitVec 32 := Scalar.extui v150
  let c0_i32_73 : BitVec 32 := 0#32
  let v152 : BitVec 1 := Scalar.cmpi .slt c64_i32_69 c0_i32_73
  let v153 : BitVec 32 := Scalar.extui v152
  let v154 : BitVec 32 := Scalar.subi v151 v153
  let v155 : BitVec 1 := Scalar.cmpi .ne v149 v154
  let v156 : BitVec 32 := Scalar.remsi v143 c64_i32_69
  let c0_i32_74 : BitVec 32 := 0#32
  let v157 : BitVec 1 := Scalar.cmpi .ne v156 c0_i32_74
  let v158 : BitVec 1 := Scalar.andi v155 v157
  let v144 : BitVec 32 := Scalar.divsi v143 c64_i32_69
  let c1_i32_75 : BitVec 32 := 1#32
  let v159 : BitVec 32 := Scalar.subi v144 c1_i32_75
  let v160 : BitVec 32 := Scalar.select v158 v159 v144
  let c64_i32_76 : BitVec 32 := 64#32
  let c0_i32_77 : BitVec 32 := 0#32
  let v161 : BitVec 1 := Scalar.cmpi .eq c64_i32_76 c0_i32_77
  let c1_i32_78 : BitVec 32 := 1#32
  let v162 : BitVec 32 := Scalar.select v161 c1_i32_78 c64_i32_76
  let v163 : BitVec 32 := Scalar.remsi v143 v162
  let c0_i32_80 : BitVec 32 := 0#32
  let v165 : BitVec 1 := Scalar.cmpi .slt v163 c0_i32_80
  let c0_i32_81 : BitVec 32 := 0#32
  let v166 : BitVec 1 := Scalar.cmpi .slt v162 c0_i32_81
  let v167 : BitVec 1 := Scalar.xori v165 v166
  let c0_i32_79 : BitVec 32 := 0#32
  let v164 : BitVec 1 := Scalar.cmpi .ne v163 c0_i32_79
  let v168 : BitVec 1 := Scalar.andi v167 v164
  let v169 : BitVec 32 := Scalar.addi v163 v162
  let v170 : BitVec 32 := Scalar.select v168 v169 v163
  let c4_i32_82 : BitVec 32 := 4#32
  let v171 : BitVec 32 := Scalar.muli v170 c4_i32_82
  let v172 : BitVec 32 := Scalar.addi v171 c0_i32_83
  let c0_i32_85 : BitVec 32 := 0#32
  ![v160.toNat, v172.toNat, 0]
@[reducible] def k0_t1_loop : Scf.Loop 32 :=
  let c0_i32_145 : BitVec 32 := 0#32
  let c256_i32 : BitVec 32 := 256#32
  let v285 : BitVec 32 := Scalar.addi c0_i32_145 c256_i32
  let c1_i32_146 : BitVec 32 := 1#32
  ⟨c0_i32_145, v285, c1_i32_146⟩

def k0_chk1 (v859 : IVec S16 32) : Prop :=
  (∀ a x, ((![v859] : Fin 1 → IVec S16 32) a x).toNat < S8192.size a)
theorem k0_idx1_inb : ∀ (v859 : IVec S16 32) (k0_hw1 : k0_chk1 v859), ∀ a x, ((![v859] : Fin 1 → IVec S16 32) a x).toNat < S8192.size a := fun v859 k0_hw1 => k0_hw1

def k0_chk2 (v868 : IVec S16 32) : Prop :=
  (∀ a x, ((![v868] : Fin 1 → IVec S16 32) a x).toNat < S8192.size a)
theorem k0_idx2_inb : ∀ (v868 : IVec S16 32) (k0_hw2 : k0_chk2 v868), ∀ a x, ((![v868] : Fin 1 → IVec S16 32) a x).toNat < S8192.size a := fun v868 k0_hw2 => k0_hw2

def k0_chk3 (v877 : IVec S16 32) : Prop :=
  (∀ a x, ((![v877] : Fin 1 → IVec S16 32) a x).toNat < S8192.size a)
theorem k0_idx3_inb : ∀ (v877 : IVec S16 32) (k0_hw3 : k0_chk3 v877), ∀ a x, ((![v877] : Fin 1 → IVec S16 32) a x).toNat < S8192.size a := fun v877 k0_hw3 => k0_hw3

def k0_chk4 (v886 : IVec S16 32) : Prop :=
  (∀ a x, ((![v886] : Fin 1 → IVec S16 32) a x).toNat < S8192.size a)
theorem k0_idx4_inb : ∀ (v886 : IVec S16 32) (k0_hw4 : k0_chk4 v886), ∀ a x, ((![v886] : Fin 1 → IVec S16 32) a x).toNat < S8192.size a := fun v886 k0_hw4 => k0_hw4

def k0_chk5 (v895 : IVec S16 32) : Prop :=
  (∀ a x, ((![v895] : Fin 1 → IVec S16 32) a x).toNat < S8192.size a)
theorem k0_idx5_inb : ∀ (v895 : IVec S16 32) (k0_hw5 : k0_chk5 v895), ∀ a x, ((![v895] : Fin 1 → IVec S16 32) a x).toNat < S8192.size a := fun v895 k0_hw5 => k0_hw5

def k0_chk6 (v904 : IVec S16 32) : Prop :=
  (∀ a x, ((![v904] : Fin 1 → IVec S16 32) a x).toNat < S8192.size a)
theorem k0_idx6_inb : ∀ (v904 : IVec S16 32) (k0_hw6 : k0_chk6 v904), ∀ a x, ((![v904] : Fin 1 → IVec S16 32) a x).toNat < S8192.size a := fun v904 k0_hw6 => k0_hw6

def k0_chk7 (v913 : IVec S16 32) : Prop :=
  (∀ a x, ((![v913] : Fin 1 → IVec S16 32) a x).toNat < S8192.size a)
theorem k0_idx7_inb : ∀ (v913 : IVec S16 32) (k0_hw7 : k0_chk7 v913), ∀ a x, ((![v913] : Fin 1 → IVec S16 32) a x).toNat < S8192.size a := fun v913 k0_hw7 => k0_hw7

def k0_chk8 (v922 : IVec S16 32) : Prop :=
  (∀ a x, ((![v922] : Fin 1 → IVec S16 32) a x).toNat < S8192.size a)
theorem k0_idx8_inb : ∀ (v922 : IVec S16 32) (k0_hw8 : k0_chk8 v922), ∀ a x, ((![v922] : Fin 1 → IVec S16 32) a x).toNat < S8192.size a := fun v922 k0_hw8 => k0_hw8

def k0_chk9 (v931 : IVec S16 32) : Prop :=
  (∀ a x, ((![v931] : Fin 1 → IVec S16 32) a x).toNat < S8192.size a)
theorem k0_idx9_inb : ∀ (v931 : IVec S16 32) (k0_hw9 : k0_chk9 v931), ∀ a x, ((![v931] : Fin 1 → IVec S16 32) a x).toNat < S8192.size a := fun v931 k0_hw9 => k0_hw9

def k0_chk10 (v940 : IVec S16 32) : Prop :=
  (∀ a x, ((![v940] : Fin 1 → IVec S16 32) a x).toNat < S8192.size a)
theorem k0_idx10_inb : ∀ (v940 : IVec S16 32) (k0_hw10 : k0_chk10 v940), ∀ a x, ((![v940] : Fin 1 → IVec S16 32) a x).toNat < S8192.size a := fun v940 k0_hw10 => k0_hw10

def k0_chk11 (v949 : IVec S16 32) : Prop :=
  (∀ a x, ((![v949] : Fin 1 → IVec S16 32) a x).toNat < S8192.size a)
theorem k0_idx11_inb : ∀ (v949 : IVec S16 32) (k0_hw11 : k0_chk11 v949), ∀ a x, ((![v949] : Fin 1 → IVec S16 32) a x).toNat < S8192.size a := fun v949 k0_hw11 => k0_hw11

def k0_chk12 (v958 : IVec S16 32) : Prop :=
  (∀ a x, ((![v958] : Fin 1 → IVec S16 32) a x).toNat < S8192.size a)
theorem k0_idx12_inb : ∀ (v958 : IVec S16 32) (k0_hw12 : k0_chk12 v958), ∀ a x, ((![v958] : Fin 1 → IVec S16 32) a x).toNat < S8192.size a := fun v958 k0_hw12 => k0_hw12

def k0_chk13 (v967 : IVec S16 32) : Prop :=
  (∀ a x, ((![v967] : Fin 1 → IVec S16 32) a x).toNat < S8192.size a)
theorem k0_idx13_inb : ∀ (v967 : IVec S16 32) (k0_hw13 : k0_chk13 v967), ∀ a x, ((![v967] : Fin 1 → IVec S16 32) a x).toNat < S8192.size a := fun v967 k0_hw13 => k0_hw13

def k0_chk14 (v976 : IVec S16 32) : Prop :=
  (∀ a x, ((![v976] : Fin 1 → IVec S16 32) a x).toNat < S8192.size a)
theorem k0_idx14_inb : ∀ (v976 : IVec S16 32) (k0_hw14 : k0_chk14 v976), ∀ a x, ((![v976] : Fin 1 → IVec S16 32) a x).toNat < S8192.size a := fun v976 k0_hw14 => k0_hw14
def k0_off3 (k0_t1 : Fin k0_t1_loop.trips) : Fin 1 → Nat :=
  let c0_i32_459 : BitVec 32 := 0#32
  let c0_i32_145 : BitVec 32 := 0#32
  let c1_i32_146 : BitVec 32 := 1#32
  let arg16 : BitVec 32 := Scf.iv c0_i32_145 c1_i32_146 k0_t1
  let c1_i32_458 : BitVec 32 := 1#32
  let v848 : BitVec 32 := Scalar.muli arg16 c1_i32_458
  let v849 : BitVec 32 := Scalar.addi c0_i32_459 v848
  let c16_i32_499 : BitVec 32 := 16#32
  let v980 : BitVec 32 := Scalar.muli v849 c16_i32_499
  let v981 : Index := Scalar.indexCast v980
  ![v981.toNat]
@[reducible] def k0_t2_loop : Scf.Loop 32 :=
  let c0_i32_148 : BitVec 32 := 0#32
  let c256_i32_149 : BitVec 32 := 256#32
  let v286 : BitVec 32 := Scalar.addi c0_i32_148 c256_i32_149
  let c1_i32_150 : BitVec 32 := 1#32
  ⟨c0_i32_148, v286, c1_i32_150⟩
def k0_off4 (k0_t2 : Fin k0_t2_loop.trips) : Fin 1 → Nat :=
  let c0_i32_459 : BitVec 32 := 0#32
  let c0_i32_148 : BitVec 32 := 0#32
  let c1_i32_150 : BitVec 32 := 1#32
  let arg16 : BitVec 32 := Scf.iv c0_i32_148 c1_i32_150 k0_t2
  let c1_i32_458 : BitVec 32 := 1#32
  let v848 : BitVec 32 := Scalar.muli arg16 c1_i32_458
  let v849 : BitVec 32 := Scalar.addi c0_i32_459 v848
  let c16_i32_461 : BitVec 32 := 16#32
  let v853 : BitVec 32 := Scalar.muli v849 c16_i32_461
  let v854 : Index := Scalar.indexCast v853
  ![v854.toNat]

def k0_chk15 (v859 : IVec S16 32) : Prop :=
  (∀ a x, ((![v859] : Fin 1 → IVec S16 32) a x).toNat < S8192.size a)
theorem k0_idx15_inb : ∀ (v859 : IVec S16 32) (k0_hw15 : k0_chk15 v859), ∀ a x, ((![v859] : Fin 1 → IVec S16 32) a x).toNat < S8192.size a := fun v859 k0_hw15 => k0_hw15

def k0_chk16 (v862 : IVec S16 32) : Prop :=
  (∀ a x, ((![v862] : Fin 1 → IVec S16 32) a x).toNat < S8192.size a)
theorem k0_idx16_inb : ∀ (v862 : IVec S16 32) (k0_hw16 : k0_chk16 v862), ∀ a x, ((![v862] : Fin 1 → IVec S16 32) a x).toNat < S8192.size a := fun v862 k0_hw16 => k0_hw16

def k0_chk17 (v867 : IVec S16 32) : Prop :=
  (∀ a x, ((![v867] : Fin 1 → IVec S16 32) a x).toNat < S4096.size a)
theorem k0_idx17_inb : ∀ (v867 : IVec S16 32) (k0_hw17 : k0_chk17 v867), ∀ a x, ((![v867] : Fin 1 → IVec S16 32) a x).toNat < S4096.size a := fun v867 k0_hw17 => k0_hw17
def k0_off5 (k0_t2 : Fin k0_t2_loop.trips) : Fin 1 → Nat :=
  let c0_i32_459 : BitVec 32 := 0#32
  let c0_i32_148 : BitVec 32 := 0#32
  let c1_i32_150 : BitVec 32 := 1#32
  let arg16 : BitVec 32 := Scf.iv c0_i32_148 c1_i32_150 k0_t2
  let c1_i32_458 : BitVec 32 := 1#32
  let v848 : BitVec 32 := Scalar.muli arg16 c1_i32_458
  let v849 : BitVec 32 := Scalar.addi c0_i32_459 v848
  let c16_i32_471 : BitVec 32 := 16#32
  let v884 : BitVec 32 := Scalar.muli v849 c16_i32_471
  let v885 : Index := Scalar.indexCast v884
  ![v885.toNat]
@[reducible] def k0_t3_loop : Scf.Loop 32 :=
  let c0_i32_153 : BitVec 32 := 0#32
  let c8_i32 : BitVec 32 := 8#32
  let v287 : BitVec 32 := Scalar.addi c0_i32_153 c8_i32
  let c1_i32_154 : BitVec 32 := 1#32
  ⟨c0_i32_153, v287, c1_i32_154⟩
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_461 : BitVec 32 := 0#32
  let v852 : BitVec 1 := Scalar.cmpi .sgt v2 c0_i32_461
  let v853 : BitVec 32 := Scalar.extui v852
  let c0_i32_462 : BitVec 32 := 0#32
  let v854 : BitVec 1 := Scalar.cmpi .slt v2 c0_i32_462
  let v855 : BitVec 32 := Scalar.extui v854
  let v856 : BitVec 32 := Scalar.subi v853 v855
  let c64_i32_460 : BitVec 32 := 64#32
  let c0_i32_463 : BitVec 32 := 0#32
  let v857 : BitVec 1 := Scalar.cmpi .sgt c64_i32_460 c0_i32_463
  let v858 : BitVec 32 := Scalar.extui v857
  let c0_i32_464 : BitVec 32 := 0#32
  let v859 : BitVec 1 := Scalar.cmpi .slt c64_i32_460 c0_i32_464
  let v860 : BitVec 32 := Scalar.extui v859
  let v861 : BitVec 32 := Scalar.subi v858 v860
  let v862 : BitVec 1 := Scalar.cmpi .ne v856 v861
  let v863 : BitVec 32 := Scalar.remsi v2 c64_i32_460
  let c0_i32_465 : BitVec 32 := 0#32
  let v864 : BitVec 1 := Scalar.cmpi .ne v863 c0_i32_465
  let v865 : BitVec 1 := Scalar.andi v862 v864
  let v851 : BitVec 32 := Scalar.divsi v2 c64_i32_460
  let c1_i32_466 : BitVec 32 := 1#32
  let v866 : BitVec 32 := Scalar.subi v851 c1_i32_466
  let v867 : BitVec 32 := Scalar.select v865 v866 v851
  let c64_i32_467 : BitVec 32 := 64#32
  let c0_i32_468 : BitVec 32 := 0#32
  let v868 : BitVec 1 := Scalar.cmpi .eq c64_i32_467 c0_i32_468
  let c1_i32_469 : BitVec 32 := 1#32
  let v869 : BitVec 32 := Scalar.select v868 c1_i32_469 c64_i32_467
  let v870 : BitVec 32 := Scalar.remsi v2 v869
  let c0_i32_471 : BitVec 32 := 0#32
  let v872 : BitVec 1 := Scalar.cmpi .slt v870 c0_i32_471
  let c0_i32_472 : BitVec 32 := 0#32
  let v873 : BitVec 1 := Scalar.cmpi .slt v869 c0_i32_472
  let v874 : BitVec 1 := Scalar.xori v872 v873
  let c0_i32_470 : BitVec 32 := 0#32
  let v871 : BitVec 1 := Scalar.cmpi .ne v870 c0_i32_470
  let v875 : BitVec 1 := Scalar.andi v874 v871
  let v876 : BitVec 32 := Scalar.addi v870 v869
  let v877 : BitVec 32 := Scalar.select v875 v876 v870
  let c4_i32_473 : BitVec 32 := 4#32
  let v878 : BitVec 32 := Scalar.muli v877 c4_i32_473
  let c0_i32_474 : BitVec 32 := 0#32
  let v879 : BitVec 32 := Scalar.addi v878 c0_i32_474
  let c0_i32_476 : BitVec 32 := 0#32
  ![v867.toNat, v879.toNat, 0]
def k0_cond1 (k0_t3 : Fin k0_t3_loop.trips) : BitVec 1 :=
  let c2_i32_536 : BitVec 32 := 2#32
  let c0_i32_153 : BitVec 32 := 0#32
  let c1_i32_154 : BitVec 32 := 1#32
  let arg16 : BitVec 32 := Scf.iv c0_i32_153 c1_i32_154 k0_t3
  let v991 : BitVec 32 := Scalar.muli c2_i32_536 arg16
  let c0_i32_537 : BitVec 32 := 0#32
  let v992 : BitVec 32 := Scalar.addi v991 c0_i32_537
  let c2_i32_538 : BitVec 32 := 2#32
  let v993 : BitVec 1 := Scalar.cmpi .sge v992 c2_i32_538
  let v994 : BitVec 32 := Scalar.extui v993
  let c0_i32_539 : BitVec 32 := 0#32
  let v995 : BitVec 1 := Scalar.cmpi .ne v994 c0_i32_539
  v995

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_941 : BitVec 32 := 0#32
  let v1715 : BitVec 1 := Scalar.cmpi .sgt v2 c0_i32_941
  let v1716 : BitVec 32 := Scalar.extui v1715
  let c0_i32_942 : BitVec 32 := 0#32
  let v1717 : BitVec 1 := Scalar.cmpi .slt v2 c0_i32_942
  let v1718 : BitVec 32 := Scalar.extui v1717
  let v1719 : BitVec 32 := Scalar.subi v1716 v1718
  let c64_i32_940 : BitVec 32 := 64#32
  let c0_i32_943 : BitVec 32 := 0#32
  let v1720 : BitVec 1 := Scalar.cmpi .sgt c64_i32_940 c0_i32_943
  let v1721 : BitVec 32 := Scalar.extui v1720
  let c0_i32_944 : BitVec 32 := 0#32
  let v1722 : BitVec 1 := Scalar.cmpi .slt c64_i32_940 c0_i32_944
  let v1723 : BitVec 32 := Scalar.extui v1722
  let v1724 : BitVec 32 := Scalar.subi v1721 v1723
  let v1725 : BitVec 1 := Scalar.cmpi .ne v1719 v1724
  let v1726 : BitVec 32 := Scalar.remsi v2 c64_i32_940
  let c0_i32_945 : BitVec 32 := 0#32
  let v1727 : BitVec 1 := Scalar.cmpi .ne v1726 c0_i32_945
  let v1728 : BitVec 1 := Scalar.andi v1725 v1727
  let v1714 : BitVec 32 := Scalar.divsi v2 c64_i32_940
  let c1_i32_946 : BitVec 32 := 1#32
  let v1729 : BitVec 32 := Scalar.subi v1714 c1_i32_946
  let v1730 : BitVec 32 := Scalar.select v1728 v1729 v1714
  let c64_i32_947 : BitVec 32 := 64#32
  let c0_i32_948 : BitVec 32 := 0#32
  let v1731 : BitVec 1 := Scalar.cmpi .eq c64_i32_947 c0_i32_948
  let c1_i32_949 : BitVec 32 := 1#32
  let v1732 : BitVec 32 := Scalar.select v1731 c1_i32_949 c64_i32_947
  let v1733 : BitVec 32 := Scalar.remsi v2 v1732
  let c0_i32_951 : BitVec 32 := 0#32
  let v1735 : BitVec 1 := Scalar.cmpi .slt v1733 c0_i32_951
  let c0_i32_952 : BitVec 32 := 0#32
  let v1736 : BitVec 1 := Scalar.cmpi .slt v1732 c0_i32_952
  let v1737 : BitVec 1 := Scalar.xori v1735 v1736
  let c0_i32_950 : BitVec 32 := 0#32
  let v1734 : BitVec 1 := Scalar.cmpi .ne v1733 c0_i32_950
  let v1738 : BitVec 1 := Scalar.andi v1737 v1734
  let v1739 : BitVec 32 := Scalar.addi v1733 v1732
  let v1740 : BitVec 32 := Scalar.select v1738 v1739 v1733
  let c4_i32_953 : BitVec 32 := 4#32
  let v1741 : BitVec 32 := Scalar.muli v1740 c4_i32_953
  let c0_i32_954 : BitVec 32 := 0#32
  let v1742 : BitVec 32 := Scalar.addi v1741 c0_i32_954
  let c0_i32_956 : BitVec 32 := 0#32
  ![v1730.toNat, v1742.toNat, 0]
@[reducible] def k0_t4_loop : Scf.Loop 32 :=
  let c0_i32_540 : BitVec 32 := 0#32
  let c256_i32_541 : BitVec 32 := 256#32
  let v996 : BitVec 32 := Scalar.addi c0_i32_540 c256_i32_541
  let c1_i32_542 : BitVec 32 := 1#32
  ⟨c0_i32_540, v996, c1_i32_542⟩
def k0_off8 (k0_t4 : Fin k0_t4_loop.trips) : Fin 1 → Nat :=
  let c0_i32_941 : BitVec 32 := 0#32
  let c0_i32_540 : BitVec 32 := 0#32
  let c1_i32_542 : BitVec 32 := 1#32
  let arg17 : BitVec 32 := Scf.iv c0_i32_540 c1_i32_542 k0_t4
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1717 : Index := Scalar.indexCast v1716
  ![v1717.toNat]

def k0_chk18 (v1718 : IVec S16 32) : Prop :=
  (∀ a x, ((![v1718] : Fin 1 → IVec S16 32) a x).toNat < S32768.size a)
theorem k0_idx18_inb : ∀ (v1718 : IVec S16 32) (k0_hw18 : k0_chk18 v1718), ∀ a x, ((![v1718] : Fin 1 → IVec S16 32) a x).toNat < S32768.size a := fun v1718 k0_hw18 => k0_hw18
def k0_off9 (k0_t4 : Fin k0_t4_loop.trips) : Fin 1 → Nat :=
  let c0_i32_943 : BitVec 32 := 0#32
  let c0_i32_941 : BitVec 32 := 0#32
  let c0_i32_540 : BitVec 32 := 0#32
  let c1_i32_542 : BitVec 32 := 1#32
  let arg17 : BitVec 32 := Scf.iv c0_i32_540 c1_i32_542 k0_t4
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1720 : BitVec 32 := Scalar.addi c0_i32_943 v1716
  let v1721 : Index := Scalar.indexCast v1720
  ![v1721.toNat]

def k0_chk19 (v1724 : IVec S16 32) : Prop :=
  (∀ a x, ((![v1724] : Fin 1 → IVec S16 32) a x).toNat < S32768.size a)
theorem k0_idx19_inb : ∀ (v1724 : IVec S16 32) (k0_hw19 : k0_chk19 v1724), ∀ a x, ((![v1724] : Fin 1 → IVec S16 32) a x).toNat < S32768.size a := fun v1724 k0_hw19 => k0_hw19
def k0_off10 (k0_t4 : Fin k0_t4_loop.trips) : Fin 1 → Nat :=
  let c4096_i32_945 : BitVec 32 := 4096#32
  let c0_i32_941 : BitVec 32 := 0#32
  let c0_i32_540 : BitVec 32 := 0#32
  let c1_i32_542 : BitVec 32 := 1#32
  let arg17 : BitVec 32 := Scf.iv c0_i32_540 c1_i32_542 k0_t4
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1726 : BitVec 32 := Scalar.addi c4096_i32_945 v1716
  let v1727 : Index := Scalar.indexCast v1726
  ![v1727.toNat]

def k0_chk20 (v1730 : IVec S16 32) : Prop :=
  (∀ a x, ((![v1730] : Fin 1 → IVec S16 32) a x).toNat < S32768.size a)
theorem k0_idx20_inb : ∀ (v1730 : IVec S16 32) (k0_hw20 : k0_chk20 v1730), ∀ a x, ((![v1730] : Fin 1 → IVec S16 32) a x).toNat < S32768.size a := fun v1730 k0_hw20 => k0_hw20
def k0_off11 (k0_t4 : Fin k0_t4_loop.trips) : Fin 1 → Nat :=
  let c8192_i32_947 : BitVec 32 := 8192#32
  let c0_i32_941 : BitVec 32 := 0#32
  let c0_i32_540 : BitVec 32 := 0#32
  let c1_i32_542 : BitVec 32 := 1#32
  let arg17 : BitVec 32 := Scf.iv c0_i32_540 c1_i32_542 k0_t4
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1732 : BitVec 32 := Scalar.addi c8192_i32_947 v1716
  let v1733 : Index := Scalar.indexCast v1732
  ![v1733.toNat]

def k0_chk21 (v1736 : IVec S16 32) : Prop :=
  (∀ a x, ((![v1736] : Fin 1 → IVec S16 32) a x).toNat < S32768.size a)
theorem k0_idx21_inb : ∀ (v1736 : IVec S16 32) (k0_hw21 : k0_chk21 v1736), ∀ a x, ((![v1736] : Fin 1 → IVec S16 32) a x).toNat < S32768.size a := fun v1736 k0_hw21 => k0_hw21
def k0_off12 (k0_t4 : Fin k0_t4_loop.trips) : Fin 1 → Nat :=
  let c12288_i32_949 : BitVec 32 := 12288#32
  let c0_i32_941 : BitVec 32 := 0#32
  let c0_i32_540 : BitVec 32 := 0#32
  let c1_i32_542 : BitVec 32 := 1#32
  let arg17 : BitVec 32 := Scf.iv c0_i32_540 c1_i32_542 k0_t4
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1738 : BitVec 32 := Scalar.addi c12288_i32_949 v1716
  let v1739 : Index := Scalar.indexCast v1738
  ![v1739.toNat]
def k0_off13 (i : grid0.Coords) (k0_t3 : Fin k0_t3_loop.trips) (c0_i32_459 : BitVec 32) (c0_i32_558 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c2_i32_458 : BitVec 32 := 2#32
  let c0_i32_153 : BitVec 32 := 0#32
  let c1_i32_154 : BitVec 32 := 1#32
  let arg16 : BitVec 32 := Scf.iv c0_i32_153 c1_i32_154 k0_t3
  let v848 : BitVec 32 := Scalar.muli c2_i32_458 arg16
  let v849 : BitVec 32 := Scalar.addi v2 v848
  let v850 : BitVec 32 := Scalar.addi v849 c0_i32_459
  let c0_i32_545 : BitVec 32 := 0#32
  let v998 : BitVec 1 := Scalar.cmpi .sgt v850 c0_i32_545
  let v999 : BitVec 32 := Scalar.extui v998
  let c0_i32_546 : BitVec 32 := 0#32
  let v1000 : BitVec 1 := Scalar.cmpi .slt v850 c0_i32_546
  let v1001 : BitVec 32 := Scalar.extui v1000
  let v1002 : BitVec 32 := Scalar.subi v999 v1001
  let c64_i32_544 : BitVec 32 := 64#32
  let c0_i32_547 : BitVec 32 := 0#32
  let v1003 : BitVec 1 := Scalar.cmpi .sgt c64_i32_544 c0_i32_547
  let v1004 : BitVec 32 := Scalar.extui v1003
  let c0_i32_548 : BitVec 32 := 0#32
  let v1005 : BitVec 1 := Scalar.cmpi .slt c64_i32_544 c0_i32_548
  let v1006 : BitVec 32 := Scalar.extui v1005
  let v1007 : BitVec 32 := Scalar.subi v1004 v1006
  let v1008 : BitVec 1 := Scalar.cmpi .ne v1002 v1007
  let v1009 : BitVec 32 := Scalar.remsi v850 c64_i32_544
  let c0_i32_549 : BitVec 32 := 0#32
  let v1010 : BitVec 1 := Scalar.cmpi .ne v1009 c0_i32_549
  let v1011 : BitVec 1 := Scalar.andi v1008 v1010
  let v997 : BitVec 32 := Scalar.divsi v850 c64_i32_544
  let c1_i32_550 : BitVec 32 := 1#32
  let v1012 : BitVec 32 := Scalar.subi v997 c1_i32_550
  let v1013 : BitVec 32 := Scalar.select v1011 v1012 v997
  let c64_i32_551 : BitVec 32 := 64#32
  let c0_i32_552 : BitVec 32 := 0#32
  let v1014 : BitVec 1 := Scalar.cmpi .eq c64_i32_551 c0_i32_552
  let c1_i32_553 : BitVec 32 := 1#32
  let v1015 : BitVec 32 := Scalar.select v1014 c1_i32_553 c64_i32_551
  let v1016 : BitVec 32 := Scalar.remsi v850 v1015
  let c0_i32_555 : BitVec 32 := 0#32
  let v1018 : BitVec 1 := Scalar.cmpi .slt v1016 c0_i32_555
  let c0_i32_556 : BitVec 32 := 0#32
  let v1019 : BitVec 1 := Scalar.cmpi .slt v1015 c0_i32_556
  let v1020 : BitVec 1 := Scalar.xori v1018 v1019
  let c0_i32_554 : BitVec 32 := 0#32
  let v1017 : BitVec 1 := Scalar.cmpi .ne v1016 c0_i32_554
  let v1021 : BitVec 1 := Scalar.andi v1020 v1017
  let v1022 : BitVec 32 := Scalar.addi v1016 v1015
  let v1023 : BitVec 32 := Scalar.select v1021 v1022 v1016
  let c4_i32_557 : BitVec 32 := 4#32
  let v1024 : BitVec 32 := Scalar.muli v1023 c4_i32_557
  let v1025 : BitVec 32 := Scalar.addi v1024 c0_i32_558
  let c0_i32_560 : BitVec 32 := 0#32
  ![v1013.toNat, v1025.toNat, 0]
def k0_off14 (i : grid0.Coords) (k0_t3 : Fin k0_t3_loop.trips) (c0_i32_459 : BitVec 32) (c0_i32_637 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c2_i32_458 : BitVec 32 := 2#32
  let c0_i32_153 : BitVec 32 := 0#32
  let c1_i32_154 : BitVec 32 := 1#32
  let arg16 : BitVec 32 := Scf.iv c0_i32_153 c1_i32_154 k0_t3
  let v848 : BitVec 32 := Scalar.muli c2_i32_458 arg16
  let v849 : BitVec 32 := Scalar.addi v2 v848
  let v850 : BitVec 32 := Scalar.addi v849 c0_i32_459
  let c2_i32_620 : BitVec 32 := 2#32
  let v1137 : BitVec 32 := Scalar.addi v850 c2_i32_620
  let c16_i32_621 : BitVec 32 := 16#32
  let v1138 : BitVec 32 := Scalar.addi v2 c16_i32_621
  let c1_i32_622 : BitVec 32 := 1#32
  let v1139 : BitVec 32 := Scalar.subi v1138 c1_i32_622
  let v1140 : BitVec 32 := Scalar.minsi v1137 v1139
  let c0_i32_624 : BitVec 32 := 0#32
  let v1142 : BitVec 1 := Scalar.cmpi .sgt v1140 c0_i32_624
  let v1143 : BitVec 32 := Scalar.extui v1142
  let c0_i32_625 : BitVec 32 := 0#32
  let v1144 : BitVec 1 := Scalar.cmpi .slt v1140 c0_i32_625
  let v1145 : BitVec 32 := Scalar.extui v1144
  let v1146 : BitVec 32 := Scalar.subi v1143 v1145
  let c64_i32_623 : BitVec 32 := 64#32
  let c0_i32_626 : BitVec 32 := 0#32
  let v1147 : BitVec 1 := Scalar.cmpi .sgt c64_i32_623 c0_i32_626
  let v1148 : BitVec 32 := Scalar.extui v1147
  let c0_i32_627 : BitVec 32 := 0#32
  let v1149 : BitVec 1 := Scalar.cmpi .slt c64_i32_623 c0_i32_627
  let v1150 : BitVec 32 := Scalar.extui v1149
  let v1151 : BitVec 32 := Scalar.subi v1148 v1150
  let v1152 : BitVec 1 := Scalar.cmpi .ne v1146 v1151
  let v1153 : BitVec 32 := Scalar.remsi v1140 c64_i32_623
  let c0_i32_628 : BitVec 32 := 0#32
  let v1154 : BitVec 1 := Scalar.cmpi .ne v1153 c0_i32_628
  let v1155 : BitVec 1 := Scalar.andi v1152 v1154
  let v1141 : BitVec 32 := Scalar.divsi v1140 c64_i32_623
  let c1_i32_629 : BitVec 32 := 1#32
  let v1156 : BitVec 32 := Scalar.subi v1141 c1_i32_629
  let v1157 : BitVec 32 := Scalar.select v1155 v1156 v1141
  let c64_i32_630 : BitVec 32 := 64#32
  let c0_i32_631 : BitVec 32 := 0#32
  let v1158 : BitVec 1 := Scalar.cmpi .eq c64_i32_630 c0_i32_631
  let c1_i32_632 : BitVec 32 := 1#32
  let v1159 : BitVec 32 := Scalar.select v1158 c1_i32_632 c64_i32_630
  let v1160 : BitVec 32 := Scalar.remsi v1140 v1159
  let c0_i32_634 : BitVec 32 := 0#32
  let v1162 : BitVec 1 := Scalar.cmpi .slt v1160 c0_i32_634
  let c0_i32_635 : BitVec 32 := 0#32
  let v1163 : BitVec 1 := Scalar.cmpi .slt v1159 c0_i32_635
  let v1164 : BitVec 1 := Scalar.xori v1162 v1163
  let c0_i32_633 : BitVec 32 := 0#32
  let v1161 : BitVec 1 := Scalar.cmpi .ne v1160 c0_i32_633
  let v1165 : BitVec 1 := Scalar.andi v1164 v1161
  let v1166 : BitVec 32 := Scalar.addi v1160 v1159
  let v1167 : BitVec 32 := Scalar.select v1165 v1166 v1160
  let c4_i32_636 : BitVec 32 := 4#32
  let v1168 : BitVec 32 := Scalar.muli v1167 c4_i32_636
  let v1169 : BitVec 32 := Scalar.addi v1168 c0_i32_637
  let c0_i32_639 : BitVec 32 := 0#32
  ![v1157.toNat, v1169.toNat, 0]
def k0_cond2 (k0_t3 : Fin k0_t3_loop.trips) : BitVec 1 :=
  let c2_i32_777 : BitVec 32 := 2#32
  let c0_i32_153 : BitVec 32 := 0#32
  let c1_i32_154 : BitVec 32 := 1#32
  let arg16 : BitVec 32 := Scf.iv c0_i32_153 c1_i32_154 k0_t3
  let v1424 : BitVec 32 := Scalar.muli c2_i32_777 arg16
  let c1_i32_778 : BitVec 32 := 1#32
  let v1425 : BitVec 32 := Scalar.addi v1424 c1_i32_778
  let c2_i32_779 : BitVec 32 := 2#32
  let v1426 : BitVec 1 := Scalar.cmpi .sge v1425 c2_i32_779
  let v1427 : BitVec 32 := Scalar.extui v1426
  let c0_i32_780 : BitVec 32 := 0#32
  let v1428 : BitVec 1 := Scalar.cmpi .ne v1427 c0_i32_780
  v1428

def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_941 : BitVec 32 := 0#32
  let v1715 : BitVec 1 := Scalar.cmpi .sgt v2 c0_i32_941
  let v1716 : BitVec 32 := Scalar.extui v1715
  let c0_i32_942 : BitVec 32 := 0#32
  let v1717 : BitVec 1 := Scalar.cmpi .slt v2 c0_i32_942
  let v1718 : BitVec 32 := Scalar.extui v1717
  let v1719 : BitVec 32 := Scalar.subi v1716 v1718
  let c64_i32_940 : BitVec 32 := 64#32
  let c0_i32_943 : BitVec 32 := 0#32
  let v1720 : BitVec 1 := Scalar.cmpi .sgt c64_i32_940 c0_i32_943
  let v1721 : BitVec 32 := Scalar.extui v1720
  let c0_i32_944 : BitVec 32 := 0#32
  let v1722 : BitVec 1 := Scalar.cmpi .slt c64_i32_940 c0_i32_944
  let v1723 : BitVec 32 := Scalar.extui v1722
  let v1724 : BitVec 32 := Scalar.subi v1721 v1723
  let v1725 : BitVec 1 := Scalar.cmpi .ne v1719 v1724
  let v1726 : BitVec 32 := Scalar.remsi v2 c64_i32_940
  let c0_i32_945 : BitVec 32 := 0#32
  let v1727 : BitVec 1 := Scalar.cmpi .ne v1726 c0_i32_945
  let v1728 : BitVec 1 := Scalar.andi v1725 v1727
  let v1714 : BitVec 32 := Scalar.divsi v2 c64_i32_940
  let c1_i32_946 : BitVec 32 := 1#32
  let v1729 : BitVec 32 := Scalar.subi v1714 c1_i32_946
  let v1730 : BitVec 32 := Scalar.select v1728 v1729 v1714
  let c64_i32_947 : BitVec 32 := 64#32
  let c0_i32_948 : BitVec 32 := 0#32
  let v1731 : BitVec 1 := Scalar.cmpi .eq c64_i32_947 c0_i32_948
  let c1_i32_949 : BitVec 32 := 1#32
  let v1732 : BitVec 32 := Scalar.select v1731 c1_i32_949 c64_i32_947
  let v1733 : BitVec 32 := Scalar.remsi v2 v1732
  let c0_i32_951 : BitVec 32 := 0#32
  let v1735 : BitVec 1 := Scalar.cmpi .slt v1733 c0_i32_951
  let c0_i32_952 : BitVec 32 := 0#32
  let v1736 : BitVec 1 := Scalar.cmpi .slt v1732 c0_i32_952
  let v1737 : BitVec 1 := Scalar.xori v1735 v1736
  let c0_i32_950 : BitVec 32 := 0#32
  let v1734 : BitVec 1 := Scalar.cmpi .ne v1733 c0_i32_950
  let v1738 : BitVec 1 := Scalar.andi v1737 v1734
  let v1739 : BitVec 32 := Scalar.addi v1733 v1732
  let v1740 : BitVec 32 := Scalar.select v1738 v1739 v1733
  let c4_i32_953 : BitVec 32 := 4#32
  let v1741 : BitVec 32 := Scalar.muli v1740 c4_i32_953
  let c0_i32_954 : BitVec 32 := 0#32
  let v1742 : BitVec 32 := Scalar.addi v1741 c0_i32_954
  let c0_i32_956 : BitVec 32 := 0#32
  ![v1730.toNat, v1742.toNat, 0]
@[reducible] def k0_t5_loop : Scf.Loop 32 :=
  let c0_i32_781 : BitVec 32 := 0#32
  let c256_i32_782 : BitVec 32 := 256#32
  let v1429 : BitVec 32 := Scalar.addi c0_i32_781 c256_i32_782
  let c1_i32_783 : BitVec 32 := 1#32
  ⟨c0_i32_781, v1429, c1_i32_783⟩
def k0_off16 (k0_t5 : Fin k0_t5_loop.trips) : Fin 1 → Nat :=
  let c0_i32_941 : BitVec 32 := 0#32
  let c0_i32_781 : BitVec 32 := 0#32
  let c1_i32_783 : BitVec 32 := 1#32
  let arg17 : BitVec 32 := Scf.iv c0_i32_781 c1_i32_783 k0_t5
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1717 : Index := Scalar.indexCast v1716
  ![v1717.toNat]

def k0_chk22 (v1718 : IVec S16 32) : Prop :=
  (∀ a x, ((![v1718] : Fin 1 → IVec S16 32) a x).toNat < S32768.size a)
theorem k0_idx22_inb : ∀ (v1718 : IVec S16 32) (k0_hw22 : k0_chk22 v1718), ∀ a x, ((![v1718] : Fin 1 → IVec S16 32) a x).toNat < S32768.size a := fun v1718 k0_hw22 => k0_hw22
def k0_off17 (k0_t5 : Fin k0_t5_loop.trips) : Fin 1 → Nat :=
  let c0_i32_943 : BitVec 32 := 0#32
  let c0_i32_941 : BitVec 32 := 0#32
  let c0_i32_781 : BitVec 32 := 0#32
  let c1_i32_783 : BitVec 32 := 1#32
  let arg17 : BitVec 32 := Scf.iv c0_i32_781 c1_i32_783 k0_t5
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1720 : BitVec 32 := Scalar.addi c0_i32_943 v1716
  let v1721 : Index := Scalar.indexCast v1720
  ![v1721.toNat]

def k0_chk23 (v1724 : IVec S16 32) : Prop :=
  (∀ a x, ((![v1724] : Fin 1 → IVec S16 32) a x).toNat < S32768.size a)
theorem k0_idx23_inb : ∀ (v1724 : IVec S16 32) (k0_hw23 : k0_chk23 v1724), ∀ a x, ((![v1724] : Fin 1 → IVec S16 32) a x).toNat < S32768.size a := fun v1724 k0_hw23 => k0_hw23
def k0_off18 (k0_t5 : Fin k0_t5_loop.trips) : Fin 1 → Nat :=
  let c4096_i32_945 : BitVec 32 := 4096#32
  let c0_i32_941 : BitVec 32 := 0#32
  let c0_i32_781 : BitVec 32 := 0#32
  let c1_i32_783 : BitVec 32 := 1#32
  let arg17 : BitVec 32 := Scf.iv c0_i32_781 c1_i32_783 k0_t5
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1726 : BitVec 32 := Scalar.addi c4096_i32_945 v1716
  let v1727 : Index := Scalar.indexCast v1726
  ![v1727.toNat]

def k0_chk24 (v1730 : IVec S16 32) : Prop :=
  (∀ a x, ((![v1730] : Fin 1 → IVec S16 32) a x).toNat < S32768.size a)
theorem k0_idx24_inb : ∀ (v1730 : IVec S16 32) (k0_hw24 : k0_chk24 v1730), ∀ a x, ((![v1730] : Fin 1 → IVec S16 32) a x).toNat < S32768.size a := fun v1730 k0_hw24 => k0_hw24
def k0_off19 (k0_t5 : Fin k0_t5_loop.trips) : Fin 1 → Nat :=
  let c8192_i32_947 : BitVec 32 := 8192#32
  let c0_i32_941 : BitVec 32 := 0#32
  let c0_i32_781 : BitVec 32 := 0#32
  let c1_i32_783 : BitVec 32 := 1#32
  let arg17 : BitVec 32 := Scf.iv c0_i32_781 c1_i32_783 k0_t5
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1732 : BitVec 32 := Scalar.addi c8192_i32_947 v1716
  let v1733 : Index := Scalar.indexCast v1732
  ![v1733.toNat]

def k0_chk25 (v1736 : IVec S16 32) : Prop :=
  (∀ a x, ((![v1736] : Fin 1 → IVec S16 32) a x).toNat < S32768.size a)
theorem k0_idx25_inb : ∀ (v1736 : IVec S16 32) (k0_hw25 : k0_chk25 v1736), ∀ a x, ((![v1736] : Fin 1 → IVec S16 32) a x).toNat < S32768.size a := fun v1736 k0_hw25 => k0_hw25
def k0_off20 (k0_t5 : Fin k0_t5_loop.trips) : Fin 1 → Nat :=
  let c12288_i32_949 : BitVec 32 := 12288#32
  let c0_i32_941 : BitVec 32 := 0#32
  let c0_i32_781 : BitVec 32 := 0#32
  let c1_i32_783 : BitVec 32 := 1#32
  let arg17 : BitVec 32 := Scf.iv c0_i32_781 c1_i32_783 k0_t5
  let c1_i32_940 : BitVec 32 := 1#32
  let v1714 : BitVec 32 := Scalar.muli arg17 c1_i32_940
  let v1715 : BitVec 32 := Scalar.addi c0_i32_941 v1714
  let c16_i32_942 : BitVec 32 := 16#32
  let v1716 : BitVec 32 := Scalar.muli v1715 c16_i32_942
  let v1738 : BitVec 32 := Scalar.addi c12288_i32_949 v1716
  let v1739 : Index := Scalar.indexCast v1738
  ![v1739.toNat]
def k0_off21 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_233 : BitVec 32 := 0#32
  let v429 : BitVec 1 := Scalar.cmpi .sgt v2 c0_i32_233
  let v430 : BitVec 32 := Scalar.extui v429
  let c0_i32_234 : BitVec 32 := 0#32
  let v431 : BitVec 1 := Scalar.cmpi .slt v2 c0_i32_234
  let v432 : BitVec 32 := Scalar.extui v431
  let v433 : BitVec 32 := Scalar.subi v430 v432
  let c64_i32_232 : BitVec 32 := 64#32
  let c0_i32_235 : BitVec 32 := 0#32
  let v434 : BitVec 1 := Scalar.cmpi .sgt c64_i32_232 c0_i32_235
  let v435 : BitVec 32 := Scalar.extui v434
  let c0_i32_236 : BitVec 32 := 0#32
  let v436 : BitVec 1 := Scalar.cmpi .slt c64_i32_232 c0_i32_236
  let v437 : BitVec 32 := Scalar.extui v436
  let v438 : BitVec 32 := Scalar.subi v435 v437
  let v439 : BitVec 1 := Scalar.cmpi .ne v433 v438
  let v440 : BitVec 32 := Scalar.remsi v2 c64_i32_232
  let c0_i32_237 : BitVec 32 := 0#32
  let v441 : BitVec 1 := Scalar.cmpi .ne v440 c0_i32_237
  let v442 : BitVec 1 := Scalar.andi v439 v441
  let v428 : BitVec 32 := Scalar.divsi v2 c64_i32_232
  let c1_i32_238 : BitVec 32 := 1#32
  let v443 : BitVec 32 := Scalar.subi v428 c1_i32_238
  let v444 : BitVec 32 := Scalar.select v442 v443 v428
  let c64_i32_239 : BitVec 32 := 64#32
  let c0_i32_240 : BitVec 32 := 0#32
  let v445 : BitVec 1 := Scalar.cmpi .eq c64_i32_239 c0_i32_240
  let c1_i32_241 : BitVec 32 := 1#32
  let v446 : BitVec 32 := Scalar.select v445 c1_i32_241 c64_i32_239
  let v447 : BitVec 32 := Scalar.remsi v2 v446
  let c0_i32_243 : BitVec 32 := 0#32
  let v449 : BitVec 1 := Scalar.cmpi .slt v447 c0_i32_243
  let c0_i32_244 : BitVec 32 := 0#32
  let v450 : BitVec 1 := Scalar.cmpi .slt v446 c0_i32_244
  let v451 : BitVec 1 := Scalar.xori v449 v450
  let c0_i32_242 : BitVec 32 := 0#32
  let v448 : BitVec 1 := Scalar.cmpi .ne v447 c0_i32_242
  let v452 : BitVec 1 := Scalar.andi v451 v448
  let v453 : BitVec 32 := Scalar.addi v447 v446
  let v454 : BitVec 32 := Scalar.select v452 v453 v447
  let c4_i32_245 : BitVec 32 := 4#32
  let v455 : BitVec 32 := Scalar.muli v454 c4_i32_245
  let c0_i32_246 : BitVec 32 := 0#32
  let v456 : BitVec 32 := Scalar.addi v455 c0_i32_246
  let c0_i32_248 : BitVec 32 := 0#32
  ![v444.toNat, v456.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x256x8192 : Shape := ⟨3, ![8, 256, 8192]⟩
abbrev S_ : Shape := ⟨0, ![]⟩
abbrev S8x8192 : Shape := ⟨2, ![8, 8192]⟩
abbrev S1x8192 : Shape := ⟨2, ![1, 8192]⟩
abbrev S8192 : Shape := ⟨1, ![8192]⟩
abbrev S4096 : Shape := ⟨1, ![4096]⟩
abbrev S4096x1 : Shape := ⟨2, ![4096, 1]⟩
abbrev S4096x8192 : Shape := ⟨2, ![4096, 8192]⟩
abbrev S1 : Shape := ⟨1, ![1]⟩
abbrev S1x1 : Shape := ⟨2, ![1, 1]⟩
abbrev S8x256x4096 : Shape := ⟨3, ![8, 256, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8x256x8192, .f32⟩
  | .hbm, ⟨1, _⟩ => ⟨S_, .f32⟩
  | .hbm, ⟨2, _⟩ => ⟨S8x8192, .f32⟩
  | .hbm, ⟨3, _⟩ => ⟨S_, .f32⟩
  | .hbm, ⟨4, _⟩ => ⟨S8x8192, .f32⟩
  | .hbm, ⟨5, _⟩ => ⟨S8x8192, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S4096, .i32⟩
  | .hbm, ⟨23, _⟩ => ⟨S1x8192, .i32⟩
  | .hbm, ⟨24, _⟩ => ⟨S4096x1, .i32⟩
  | .hbm, ⟨25, _⟩ => ⟨S4096x8192, .i32⟩
  | .hbm, ⟨26, _⟩ => ⟨S4096x8192, .i32⟩
  | .hbm, ⟨27, _⟩ => ⟨S4096x8192, .i32⟩
  | .hbm, ⟨28, _⟩ => ⟨S4096x8192, .i32⟩
  | .hbm, ⟨29, _⟩ => ⟨S4096x8192, .i32⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S1x1, .i32⟩
  | .hbm, ⟨47, _⟩ => ⟨S4096x1, .i32⟩
  | .hbm, ⟨48, _⟩ => ⟨S4096x1, .i1⟩
  | .hbm, ⟨49, _⟩ => ⟨S4096x1, .i1⟩
  | .hbm, ⟨50, _⟩ => ⟨S_, .i1⟩
  | .hbm, ⟨51, _⟩ => ⟨S4096, .i1⟩
  | .hbm, ⟨52, _⟩ => ⟨S8x256x4096, .f32⟩
  | .hbm, ⟨53, _⟩ => ⟨S8x256x4096, .i1⟩
  | .hbm, ⟨54, _⟩ => ⟨S_, .f32⟩
  | .hbm, ⟨55, _⟩ => ⟨S8x256x4096, .f32⟩
  | .hbm, ⟨56, _⟩ => ⟨S8x256x4096, .f32⟩
  | _, _ => ⟨S8x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_c : Ref sig .tc := ⟨.hbm, 30, rfl⟩
abbrev main_call1_c_0 : Ref sig .tc := ⟨.hbm, 31, rfl⟩
abbrev main_call1_v1_0 : Ref sig .tc := ⟨.hbm, 32, rfl⟩
abbrev main_v21 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v22 : Ref sig .tc := ⟨.hbm, 56, rfl⟩

abbrev nD : Nat := 1
abbrev τ : Topo := Topo.v7x

variable {F : FTy → Type} [FloatOps F]
-- ==== Dense.lean ====
abbrev S8x256x4096 : Shape := ⟨3, ![8, 256, 4096]⟩
abbrev S256x256 : Shape := ⟨2, ![256, 256]⟩
abbrev S256 : Shape := ⟨1, ![256]⟩
abbrev S512x256 : Shape := ⟨2, ![512, 256]⟩
abbrev S512 : Shape := ⟨1, ![512]⟩
abbrev S256x1024 : Shape := ⟨2, ![256, 1024]⟩
abbrev S256x1 : Shape := ⟨2, ![256, 1]⟩
abbrev S512x1 : Shape := ⟨2, ![512, 1]⟩
abbrev S8x128x1 : Shape := ⟨3, ![8, 128, 1]⟩
abbrev S1x256x4096 : Shape := ⟨3, ![1, 256, 4096]⟩
abbrev S1x128x1 : Shape := ⟨3, ![1, 128, 1]⟩
abbrev S256x4096 : Shape := ⟨2, ![256, 4096]⟩
abbrev S32x256 : Shape := ⟨2, ![32, 256]⟩
abbrev S32x1 : Shape := ⟨2, ![32, 1]⟩
abbrev S32x512 : Shape := ⟨2, ![32, 512]⟩
abbrev S1x32x1 : Shape := ⟨3, ![1, 32, 1]⟩
abbrev S8x512x4096 : Shape := ⟨3, ![8, 512, 4096]⟩
abbrev S8x64x1 : Shape := ⟨3, ![8, 64, 1]⟩
abbrev S1x256x2048 : Shape := ⟨3, ![1, 256, 2048]⟩
abbrev S1x512x2048 : Shape := ⟨3, ![1, 512, 2048]⟩
abbrev S1x64x1 : Shape := ⟨3, ![1, 64, 1]⟩
abbrev S256x2048 : Shape := ⟨2, ![256, 2048]⟩
abbrev S128x1 : Shape := ⟨2, ![128, 1]⟩
abbrev S256x32 : Shape := ⟨2, ![256, 32]⟩
abbrev S512x32 : Shape := ⟨2, ![512, 32]⟩
abbrev S512x2048 : Shape := ⟨2, ![512, 2048]⟩
abbrev S256x512 : Shape := ⟨2, ![256, 512]⟩
abbrev S64x1 : Shape := ⟨2, ![64, 1]⟩

abbrev nBuf : Space → Nat
  | .hbm => 28
  | .vmem => 40
  | .smem => 0
  | _ => 0

abbrev bufTy : (tb : Table) → Fin (tcTables nBuf tb) → BufTy
  | .hbm, ⟨0, _⟩ => ⟨S8x256x4096, .f32⟩
  | .hbm, ⟨1, _⟩ => ⟨S8x256x4096, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S512x256, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S256x1024, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S512x1, .f32⟩
  | .hbm, ⟨16, _⟩ => ⟨S256x1, .f32⟩
  | .hbm, ⟨17, _⟩ => ⟨S8x128x1, .f32⟩
  | .hbm, ⟨18, _⟩ => ⟨S256x1, .f32⟩
  | .hbm, ⟨19, _⟩ => ⟨S256x1, .f32⟩
  | .hbm, ⟨20, _⟩ => ⟨S512x1, .f32⟩
  | .hbm, ⟨21, _⟩ => ⟨S512x1, .f32⟩
  | .hbm, ⟨22, _⟩ => ⟨S8x512x4096, .f32⟩
  | .hbm, ⟨23, _⟩ => ⟨S8x256x4096, .bf16⟩
  | .hbm, ⟨24, _⟩ => ⟨S8x64x1, .f32⟩
  | .hbm, ⟨25, _⟩ => ⟨S256x1, .f32⟩
  | .hbm, ⟨26, _⟩ => ⟨S256x1, .f32⟩
  | .hbm, ⟨27, _⟩ => ⟨S8x256x4096, .f32⟩
  | .local _ .vmem, ⟨0, _⟩ => ⟨S1x256x4096, .f32⟩
  | .local _ .vmem, ⟨1, _⟩ => ⟨S1x256x4096, .f32⟩
  | .local _ .vmem, ⟨2, _⟩ => ⟨S256x256, .f32⟩
  | .local _ .vmem, ⟨3, _⟩ => ⟨S256x1, .f32⟩
  | .local _ .vmem, ⟨4, _⟩ => ⟨S512x256, .f32⟩
  | .local _ .vmem, ⟨5, _⟩ => ⟨S512x1, .f32⟩
  | .local _ .vmem, ⟨6, _⟩ => ⟨S1x128x1, .f32⟩
  | .local _ .vmem, ⟨7, _⟩ => ⟨S1x128x1, .f32⟩
  | .local _ .vmem, ⟨8, _⟩ => ⟨S256x256, .f32⟩
  | .local _ .vmem, ⟨9, _⟩ => ⟨S256x1, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x128x1, .f32⟩
  | .local _ .vmem, ⟨15, _⟩ => ⟨S1x128x1, .f32⟩
  | .local _ .vmem, ⟨16, _⟩ => ⟨S256x256, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S512x256, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S256x1024, .f32⟩
  | .local _ .vmem, ⟨25, _⟩ => ⟨S256x1, .f32⟩
  | .local _ .vmem, ⟨26, _⟩ => ⟨S1x512x2048, .f32⟩
  | .local _ .vmem, ⟨27, _⟩ => ⟨S1x512x2048, .f32⟩
  | .local _ .vmem, ⟨28, _⟩ => ⟨S1x256x2048, .bf16⟩
  | .local _ .vmem, ⟨29, _⟩ => ⟨S1x256x2048, .bf16⟩
  | .local _ .vmem, ⟨30, _⟩ => ⟨S1x64x1, .f32⟩
  | .local _ .vmem, ⟨31, _⟩ => ⟨S1x64x1, .f32⟩
  | .local _ .vmem, ⟨32, _⟩ => ⟨S1x256x2048, .bf16⟩
  | .local _ .vmem, ⟨33, _⟩ => ⟨S1x256x2048, .bf16⟩
  | .local _ .vmem, ⟨34, _⟩ => ⟨S1x64x1, .f32⟩
  | .local _ .vmem, ⟨35, _⟩ => ⟨S1x64x1, .f32⟩
  | .local _ .vmem, ⟨36, _⟩ => ⟨S256x1, .f32⟩
  | .local _ .vmem, ⟨37, _⟩ => ⟨S256x1, .f32⟩
  | .local _ .vmem, ⟨38, _⟩ => ⟨S1x256x2048, .f32⟩
  | .local _ .vmem, ⟨39, _⟩ => ⟨S1x256x2048, .f32⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem13_1 : DmaSem sig := 25
abbrev cc1_sem14_0 : DmaSem sig := 26
abbrev cc1_sem14_1 : DmaSem sig := 27
abbrev cc1_sem15_0 : DmaSem sig := 28
abbrev cc1_sem15_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem4_1 : DmaSem sig := 37

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_12 : BitVec 32 := 0#32
  let v19 : BitVec 1 := Scalar.cmpi .eq arg1 c0_i32_12
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S256x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S256x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1x512x2048 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x256x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x64x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== DenseReferenceIdeal.lean ====
abbrev S8x256x4096 : Shape := ⟨3, ![8, 256, 4096]⟩
abbrev S256x256 : Shape := ⟨2, ![256, 256]⟩
abbrev S256 : Shape := ⟨1, ![256]⟩
abbrev S512x256 : Shape := ⟨2, ![512, 256]⟩
abbrev S512 : Shape := ⟨1, ![512]⟩
abbrev S256x1024 : Shape := ⟨2, ![256, 1024]⟩
abbrev S8x4096x256 : Shape := ⟨3, ![8, 4096, 256]⟩
abbrev S1x256x1 : Shape := ⟨3, ![1, 256, 1]⟩
abbrev S8x32x8x4096 : Shape := ⟨4, ![8, 32, 8, 4096]⟩
abbrev S_ : Shape := ⟨0, ![]⟩
abbrev S8x32 : Shape := ⟨2, ![8, 32]⟩
abbrev S8x32x1x1 : Shape := ⟨4, ![8, 32, 1, 1]⟩
abbrev S8x4096x512 : Shape := ⟨3, ![8, 4096, 512]⟩
abbrev S8x512x4096 : Shape := ⟨3, ![8, 512, 4096]⟩
abbrev S1x512x1 : Shape := ⟨3, ![1, 512, 1]⟩
abbrev S8x32x16x4096 : Shape := ⟨4, ![8, 32, 16, 4096]⟩
abbrev S8x1024x4096 : Shape := ⟨3, ![8, 1024, 4096]⟩

abbrev nBuf : Space → Nat
  | .hbm => 177
  | .vmem => 0
  | .smem => 0
  | _ => 0

abbrev hbmTy0_0 (i : Nat) : BufTy := match i % 128 with
  | 0 => ⟨S8x256x4096, .f32⟩
  | 1 => ⟨S8x256x4096, .f32⟩
  | 2 => ⟨S256x256, .f32⟩
  | 3 => ⟨S256, .f32⟩
  | 4 => ⟨S256, .f32⟩
  | 5 => ⟨S256, .f32⟩
  | 6 => ⟨S512x256, .f32⟩
  | 7 => ⟨S512, .f32⟩
  | 8 => ⟨S512, .f32⟩
  | 9 => ⟨S512, .f32⟩
  | 10 => ⟨S256x1024, .f32⟩
  | 11 => ⟨S256, .f32⟩
  | 12 => ⟨S256, .f32⟩
  | 13 => ⟨S256, .f32⟩
  | 14 => ⟨S8x4096x256, .f32⟩
  | 15 => ⟨S8x256x4096, .f32⟩
  | 16 => ⟨S1x256x1, .f32⟩
  | 17 => ⟨S8x256x4096, .f32⟩
  | 18 => ⟨S8x256x4096, .f32⟩
  | 19 => ⟨S8x32x8x4096, .f32⟩
  | 20 => ⟨S_, .f32⟩
  | 21 => ⟨S8x32, .f32⟩
  | 22 => ⟨S8x32x1x1, .f32⟩
  | 23 => ⟨S_, .f32⟩
  | 24 => ⟨S8x32x1x1, .f32⟩
  | 25 => ⟨S8x32x1x1, .f32⟩
  | 26 => ⟨S_, .i32⟩
  | 27 => ⟨S_, .f32⟩
  | 28 => ⟨S8x32, .f32⟩
  | 29 => ⟨S8x32x1x1, .f32⟩
  | 30 => ⟨S_, .f32⟩
  | 31 => ⟨S8x32x1x1, .f32⟩
  | 32 => ⟨S8x32x1x1, .f32⟩
  | 33 => ⟨S8x32x8x4096, .f32⟩
  | 34 => ⟨S8x32x8x4096, .f32⟩
  | 35 => ⟨S8x32x8x4096, .f32⟩
  | 36 => ⟨S_, .f32⟩
  | 37 => ⟨S_, .f32⟩
  | 38 => ⟨S_, .f32⟩
  | 39 => ⟨S_, .f32⟩
  | 40 => ⟨S8x32, .f32⟩
  | 41 => ⟨S8x32x1x1, .f32⟩
  | 42 => ⟨S8x32x1x1, .f32⟩
  | 43 => ⟨S8x32x1x1, .f32⟩
  | 44 => ⟨S_, .f32⟩
  | 45 => ⟨S_, .i1⟩
  | 46 => ⟨S_, .f32⟩
  | 47 => ⟨S_, .f32⟩
  | 48 => ⟨S8x32x1x1, .f32⟩
  | 49 => ⟨S8x32x1x1, .f32⟩
  | 50 => ⟨S8x32x8x4096, .f32⟩
  | 51 => ⟨S8x32x8x4096, .f32⟩
  | 52 => ⟨S_, .f32⟩
  | 53 => ⟨S8x32x1x1, .f32⟩
  | 54 => ⟨S8x32x1x1, .f32⟩
  | 55 => ⟨S8x32x1x1, .f32⟩
  | 56 => ⟨S8x32x8x4096, .f32⟩
  | 57 => ⟨S8x32x8x4096, .f32⟩
  | 58 => ⟨S8x256x4096, .f32⟩
  | 59 => ⟨S1x256x1, .f32⟩
  | 60 => ⟨S8x256x4096, .f32⟩
  | 61 => ⟨S8x256x4096, .f32⟩
  | 62 => ⟨S1x256x1, .f32⟩
  | 63 => ⟨S8x256x4096, .f32⟩
  | 64 => ⟨S8x256x4096, .f32⟩
  | 65 => ⟨S_, .f32⟩
  | 66 => ⟨S8x256x4096, .f32⟩
  | 67 => ⟨S8x256x4096, .f32⟩
  | 68 => ⟨S8x4096x512, .f32⟩
  | 69 => ⟨S8x512x4096, .f32⟩
  | 70 => ⟨S1x512x1, .f32⟩
  | 71 => ⟨S8x512x4096, .f32⟩
  | 72 => ⟨S8x512x4096, .f32⟩
  | 73 => ⟨S8x32x16x4096, .f32⟩
  | 74 => ⟨S_, .f32⟩
  | 75 => ⟨S8x32, .f32⟩
  | 76 => ⟨S8x32x1x1, .f32⟩
  | 77 => ⟨S_, .f32⟩
  | 78 => ⟨S8x32x1x1, .f32⟩
  | 79 => ⟨S8x32x1x1, .f32⟩
  | 80 => ⟨S_, .i32⟩
  | 81 => ⟨S_, .f32⟩
  | 82 => ⟨S8x32, .f32⟩
  | 83 => ⟨S8x32x1x1, .f32⟩
  | 84 => ⟨S_, .f32⟩
  | 85 => ⟨S8x32x1x1, .f32⟩
  | 86 => ⟨S8x32x1x1, .f32⟩
  | 87 => ⟨S8x32x16x4096, .f32⟩
  | 88 => ⟨S8x32x16x4096, .f32⟩
  | 89 => ⟨S8x32x16x4096, .f32⟩
  | 90 => ⟨S_, .f32⟩
  | 91 => ⟨S_, .f32⟩
  | 92 => ⟨S_, .f32⟩
  | 93 => ⟨S_, .f32⟩
  | 94 => ⟨S8x32, .f32⟩
  | 95 => ⟨S8x32x1x1, .f32⟩
  | 96 => ⟨S8x32x1x1, .f32⟩
  | 97 => ⟨S8x32x1x1, .f32⟩
  | 98 => ⟨S_, .f32⟩
  | 99 => ⟨S_, .i1⟩
  | 100 => ⟨S_, .f32⟩
  | 101 => ⟨S_, .f32⟩
  | 102 => ⟨S8x32x1x1, .f32⟩
  | 103 => ⟨S8x32x1x1, .f32⟩
  | 104 => ⟨S8x32x16x4096, .f32⟩
  | 105 => ⟨S8x32x16x4096, .f32⟩
  | 106 => ⟨S_, .f32⟩
  | 107 => ⟨S8x32x1x1, .f32⟩
  | 108 => ⟨S8x32x1x1, .f32⟩
  | 109 => ⟨S8x32x1x1, .f32⟩
  | 110 => ⟨S8x32x16x4096, .f32⟩
  | 111 => ⟨S8x32x16x4096, .f32⟩
  | 112 => ⟨S8x512x4096, .f32⟩
  | 113 => ⟨S1x512x1, .f32⟩
  | 114 => ⟨S8x512x4096, .f32⟩
  | 115 => ⟨S8x512x4096, .f32⟩
  | 116 => ⟨S1x512x1, .f32⟩
  | 117 => ⟨S8x512x4096, .f32⟩
  | 118 => ⟨S8x512x4096, .f32⟩
  | 119 => ⟨S_, .f32⟩
  | 120 => ⟨S8x512x4096, .f32⟩
  | 121 => ⟨S8x512x4096, .f32⟩
  | 122 => ⟨S8x1024x4096, .f32⟩
  | 123 => ⟨S8x4096x256, .f32⟩
  | 124 => ⟨S8x256x4096, .f32⟩
  | 125 => ⟨S1x256x1, .f32⟩
  | 126 => ⟨S8x256x4096, .f32⟩
  | 127 => ⟨S8x256x4096, .f32⟩
  | _ => ⟨S8x256x4096, .f32⟩

abbrev hbmTy0_1 (i : Nat) : BufTy := match i % 128 with
  | 0 => ⟨S8x32x8x4096, .f32⟩
  | 1 => ⟨S_, .f32⟩
  | 2 => ⟨S8x32, .f32⟩
  | 3 => ⟨S8x32x1x1, .f32⟩
  | 4 => ⟨S_, .f32⟩
  | 5 => ⟨S8x32x1x1, .f32⟩
  | 6 => ⟨S8x32x1x1, .f32⟩
  | 7 => ⟨S_, .i32⟩
  | 8 => ⟨S_, .f32⟩
  | 9 => ⟨S8x32, .f32⟩
  | 10 => ⟨S8x32x1x1, .f32⟩
  | 11 => ⟨S_, .f32⟩
  | 12 => ⟨S8x32x1x1, .f32⟩
  | 13 => ⟨S8x32x1x1, .f32⟩
  | 14 => ⟨S8x32x8x4096, .f32⟩
  | 15 => ⟨S8x32x8x4096, .f32⟩
  | 16 => ⟨S8x32x8x4096, .f32⟩
  | 17 => ⟨S_, .f32⟩
  | 18 => ⟨S_, .f32⟩
  | 19 => ⟨S_, .f32⟩
  | 20 => ⟨S_, .f32⟩
  | 21 => ⟨S8x32, .f32⟩
  | 22 => ⟨S8x32x1x1, .f32⟩
  | 23 => ⟨S8x32x1x1, .f32⟩
  | 24 => ⟨S8x32x1x1, .f32⟩
  | 25 => ⟨S_, .f32⟩
  | 26 => ⟨S_, .i1⟩
  | 27 => ⟨S_, .f32⟩
  | 28 => ⟨S_, .f32⟩
  | 29 => ⟨S8x32x1x1, .f32⟩
  | 30 => ⟨S8x32x1x1, .f32⟩
  | 31 => ⟨S8x32x8x4096, .f32⟩
  | 32 => ⟨S8x32x8x4096, .f32⟩
  | 33 => ⟨S_, .f32⟩
  | 34 => ⟨S8x32x1x1, .f32⟩
  | 35 => ⟨S8x32x1x1, .f32⟩
  | 36 => ⟨S8x32x1x1, .f32⟩
  | 37 => ⟨S8x32x8x4096, .f32⟩
  | 38 => ⟨S8x32x8x4096, .f32⟩
  | 39 => ⟨S8x256x4096, .f32⟩
  | 40 => ⟨S1x256x1, .f32⟩
  | 41 => ⟨S8x256x4096, .f32⟩
  | 42 => ⟨S8x256x4096, .f32⟩
  | 43 => ⟨S1x256x1, .f32⟩
  | 44 => ⟨S8x256x4096, .f32⟩
  | 45 => ⟨S8x256x4096, .f32⟩
  | 46 => ⟨S_, .f32⟩
  | 47 => ⟨S8x256x4096, .f32⟩
  | 48 => ⟨S8x256x4096, .f32⟩
  | _ => ⟨S8x256x4096, .f32⟩

abbrev hbmTy (i : Nat) : BufTy := match i / 128 with
  | 0 => hbmTy0_0 i
  | 1 => hbmTy0_1 i
  | _ => ⟨S8x256x4096, .f32⟩

abbrev bufTy : (tb : Table) → Fin (tcTables nBuf tb) → BufTy
  | .hbm, ⟨i, _⟩ => hbmTy i
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_call1_cst : Ref sig .tc := ⟨.hbm, 65, rfl⟩
abbrev main_call1_v0 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_v34 : Ref sig .tc := ⟨.hbm, 78, rfl⟩
abbrev main_v35 : Ref sig .tc := ⟨.hbm, 79, rfl⟩
abbrev main_c_4 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_cst_2 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_cst_3 : Ref sig .tc := ⟨.hbm, 98, rfl⟩
abbrev main_call2_v13 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_call3_cst : Ref sig .tc := ⟨.hbm, 119, rfl⟩
abbrev main_call3_v0 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_6 : Ref sig .tc := ⟨.hbm, 129, rfl⟩
abbrev main_v59 : Ref sig .tc := ⟨.hbm, 130, rfl⟩
abbrev main_v60 : Ref sig .tc := ⟨.hbm, 131, rfl⟩
abbrev main_cst_7 : Ref sig .tc := ⟨.hbm, 132, rfl⟩
abbrev main_v61 : Ref sig .tc := ⟨.hbm, 133, rfl⟩
abbrev main_v62 : Ref sig .tc := ⟨.hbm, 134, rfl⟩
abbrev main_c_8 : Ref sig .tc := ⟨.hbm, 135, rfl⟩
abbrev main_call4_cst : Ref sig .tc := ⟨.hbm, 136, rfl⟩
abbrev main_call4_v0 : Ref sig .tc := ⟨.hbm, 137, rfl⟩
abbrev main_call4_v1 : Ref sig .tc := ⟨.hbm, 138, rfl⟩
abbrev main_call4_cst_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_v7 : Ref sig .tc := ⟨.hbm, 145, rfl⟩
abbrev main_call4_cst_1 : Ref sig .tc := ⟨.hbm, 146, rfl⟩
abbrev main_call4_v8 : Ref sig .tc := ⟨.hbm, 147, rfl⟩
abbrev main_call4_cst_2 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_v12 : Ref sig .tc := ⟨.hbm, 152, rfl⟩
abbrev main_call4_cst_3 : Ref sig .tc := ⟨.hbm, 153, rfl⟩
abbrev main_call4_v13 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_cst_9 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_call5_cst : Ref sig .tc := ⟨.hbm, 174, rfl⟩
abbrev main_call5_v0 : Ref sig .tc := ⟨.hbm, 175, rfl⟩
abbrev main_v78 : Ref sig .tc := ⟨.hbm, 176, rfl⟩

abbrev nD : Nat := 1
abbrev τ : Topo := Topo.v7x

variable {F : FTy → Type} [FloatOps F]
-- ==== Proof.Search.lean ====
/-
  The arithmetic of the sampler, on natural numbers and on 32-bit words.

  A nondecreasing list `C` of 8192 numbers is searched for the position nearest to a number `t`: `firstAbove C t` is
  the first position whose value is above `t`, `nearest C t` the first position whose value is nearest to `t`. The
  kernel finds the first by 14 halving steps per lane (`Bnd`, `bnd_step`) and the second by comparing the two
  neighbours (`resolve_word`). `nearest_le`, `nearest_lt` say that `nearest` is the first minimiser of the distance.
-/
module

public import proofs.«01_k».proof.KernelIdeal

@[expose] public section

noncomputable section

namespace Cert.Proof.Search

open Idealize.ShloMosaic Cert.KernelIdeal

/-! ## On natural numbers -/

/-- `C` does not decrease over its first 8192 values, which are all below 4096. -/
def Srt (C : ℕ → ℕ) : Prop := (∀ i j, i ≤ j → j < 8192 → C i ≤ C j) ∧ ∀ i, i < 8192 → C i < 4096

/-- The first position whose value is above `t` (8192 if there is none). -/
def firstAbove (C : ℕ → ℕ) (t : ℕ) : ℕ := Nat.find (p := fun n => 8192 ≤ n ∨ t < C n) ⟨8192, .inl le_rfl⟩

theorem firstAbove_le (C : ℕ → ℕ) (t : ℕ) : firstAbove C t ≤ 8192 := Nat.find_min' _ (.inl le_rfl)

theorem lt_firstAbove {C : ℕ → ℕ} (hC : Srt C) (t : ℕ) {j : ℕ} (hj : j < 8192) : j < firstAbove C t ↔ C j ≤ t := by
  constructor
  · intro h
    have := Nat.find_min (p := fun n => 8192 ≤ n ∨ t < C n) ⟨8192, .inl le_rfl⟩ h
    omega
  · intro h
    by_contra hn
    rcases Nat.find_spec (p := fun n => 8192 ≤ n ∨ t < C n) ⟨8192, .inl le_rfl⟩ with h' | h'
    · exact absurd (lt_of_lt_of_le hj h') hn
    · have := hC.1 _ _ (not_lt.mp hn) hj
      exact absurd (lt_of_lt_of_le h' this) (by omega)

/-- The first position whose value is nearest to `t`, the way the kernel finds it: from the first position above `t`,
    the value before it and the value at it. -/
def nearest (C : ℕ → ℕ) (t : ℕ) : ℕ :=
  if firstAbove C t = 0 then 0
  else if firstAbove C t = 8192 ∨ t + t ≤ C (firstAbove C t) + C (firstAbove C t - 1) then
    (if C (firstAbove C t - 1) = 0 then 0 else firstAbove C (C (firstAbove C t - 1) - 1))
  else firstAbove C t

/-- The distance of two numbers. -/
def dist (a b : ℕ) : ℕ := (a - b) + (b - a)

theorem nearest_spec {C : ℕ → ℕ} (hC : Srt C) (t : ℕ) :
    nearest C t < 8192 ∧ (∀ j, j < 8192 → dist (C (nearest C t)) t ≤ dist (C j) t)
      ∧ ∀ j, j < nearest C t → dist (C (nearest C t)) t < dist (C j) t := by
  have hk := firstAbove_le C t
  have hlt := fun j (hj : j < 8192) => lt_firstAbove hC t hj
  unfold nearest
  generalize hK : firstAbove C t = k at *
  by_cases h0 : k = 0
  · subst h0
    rw [if_pos rfl]
    refine ⟨by omega, fun j hj => ?_, fun j hj => absurd hj (by omega)⟩
    have h1 := hC.1 0 j (by omega) hj
    have h2 := (hlt 0 (by omega)).not.mp (by omega)
    unfold dist; omega
  rw [if_neg h0]
  set a := C (k - 1) with ha
  have hat : a ≤ t := (hlt (k - 1) (by omega)).mp (by omega)
  -- the values before `k` are at most `a`
  have hle : ∀ j, j < k → C j ≤ a := fun j hj => hC.1 j (k - 1) (by omega) (by omega)
  by_cases hc : k = 8192 ∨ t + t ≤ C k + a
  · rw [if_pos hc]
    have key : ∀ f, f ≤ k - 1 → (∀ j, j < f → C j < a) → C f = a →
        f < 8192 ∧ (∀ j, j < 8192 → dist (C f) t ≤ dist (C j) t) ∧ ∀ j, j < f → dist (C f) t < dist (C j) t := by
      intro f hf hlo hfa
      refine ⟨by omega, fun j hj => ?_, fun j hj => ?_⟩
      · rw [hfa]
        by_cases hjk : j < k
        · have := hle j hjk; unfold dist; omega
        · have h1 := hC.1 k j (by omega) hj
          have h2 := (hlt j hj).not.mp hjk
          unfold dist; omega
      · rw [hfa]; have := hlo j hj; unfold dist; omega
    by_cases ha0 : a = 0
    · rw [if_pos ha0]
      refine key 0 (by omega) (fun j hj => absurd hj (by omega)) ?_
      have := hle 0 (by omega); omega
    · rw [if_neg ha0]
      have hlf := fun j (hj : j < 8192) => lt_firstAbove hC (a - 1) hj
      generalize firstAbove C (a - 1) = f at *
      have hfk : f ≤ k - 1 := by
        by_contra hn
        have := (hlf (k - 1) (by omega)).mp (by omega)
        omega
      refine key f hfk (fun j hj => ?_) ?_
      · have := (hlf j (by omega)).mp hj; omega
      · have h1 := (hlf f (by omega)).not.mp (by omega)
        have h2 := hle f (by omega)
        omega
  · rw [if_neg hc]
    refine ⟨by omega, fun j hj => ?_, fun j hj => ?_⟩
    · have h2 := (hlt k (by omega)).not.mp (by omega)
      by_cases hjk : j < k
      · have := hle j hjk; unfold dist; omega
      · have h1 := hC.1 k j (by omega) hj
        unfold dist; omega
    · have h2 := (hlt k (by omega)).not.mp (by omega)
      have := hle j hj; unfold dist; omega

theorem nearest_lt8192 {C : ℕ → ℕ} (hC : Srt C) (t : ℕ) : nearest C t < 8192 := (nearest_spec hC t).1

/-! ## On words -/

theorem toInt_small {v : BitVec 32} (h : v.toNat < 2 ^ 31) : v.toInt = v.toNat := by
  rw [BitVec.toInt_eq_toNat_cond]; split <;> omega

theorem slt_small {x y : BitVec 32} (hx : x.toNat < 2 ^ 31) (hy : y.toNat < 2 ^ 31) : x.slt y = decide (x.toNat < y.toNat) := by
  rw [BitVec.slt_eq_decide, toInt_small hx, toInt_small hy]; simp
theorem sle_small {x y : BitVec 32} (hx : x.toNat < 2 ^ 31) (hy : y.toNat < 2 ^ 31) : x.sle y = decide (x.toNat ≤ y.toNat) := by
  rw [BitVec.sle_eq_decide, toInt_small hx, toInt_small hy]; simp

theorem minsi_small {x y : BitVec 32} (hx : x.toNat < 2 ^ 31) (hy : y.toNat < 2 ^ 31) :
    (IntOp.minsi x y).toNat = min x.toNat y.toNat := by
  unfold IntOp.minsi; rw [slt_small hx hy]
  by_cases h : x.toNat < y.toNat
  · simp [h]; omega
  · simp [h]; omega

theorem ofBool_one (b : Bool) : (BitVec.ofBool b = 1) ↔ b = true := by cases b <;> decide

theorem select_word {α : Type} (b : Bool) (x y : α) : Scalar.select (BitVec.ofBool b) x y = if b then x else y := by
  unfold Scalar.select; cases b <;> simp

/-- What the search knows of the 16 lanes: the target is at the lane's position or less than `r` beyond it. -/
def Bnd (N : S16.Idx → ℕ) (cnt : IVec S16 32) (r : ℕ) : Prop :=
  ∀ l, (cnt l).toNat ≤ N l ∧ N l < (cnt l).toNat + r

/-- The word searched next by a lane, one below the candidate position. -/
def probe (cnt : IVec S16 32) (s : ℕ) : IVec S16 32 :=
  subi (minsi (addi cnt (broadcast S16 (BitVec.ofNat 32 s))) (broadcast S16 8192#32)) (broadcast S16 1#32)

theorem cand_toNat {c : BitVec 32} {s : ℕ} (hc : c.toNat ≤ 8192) (hs : s ≤ 8192) :
    (IntOp.minsi (IntOp.addi c (BitVec.ofNat 32 s)) 8192#32).toNat = min (c.toNat + s) 8192 := by
  have h1 : (IntOp.addi c (BitVec.ofNat 32 s)).toNat = c.toNat + s := by
    unfold IntOp.addi; rw [BitVec.toNat_add, BitVec.toNat_ofNat]; omega
  rw [minsi_small (by omega) (by decide), h1]; rfl

theorem probe_toNat {N : S16.Idx → ℕ} {cnt : IVec S16 32} {s : ℕ} (hN : ∀ l, N l ≤ 8192) (h : Bnd N cnt (2 * s))
    (hs : 1 ≤ s ∧ s ≤ 8192) (l : S16.Idx) : (probe cnt s l).toNat = min ((cnt l).toNat + s) 8192 - 1 := by
  have hc : (cnt l).toNat ≤ 8192 := (h l).1.trans (hN l)
  show (IntOp.subi (IntOp.minsi (IntOp.addi (cnt l) (BitVec.ofNat 32 s)) 8192#32) 1#32).toNat = _
  have := cand_toNat hc hs.2
  unfold IntOp.subi; rw [BitVec.toNat_sub, this]
  have : (1#32 : BitVec 32).toNat = 1 := rfl
  omega

theorem probe_lt {N : S16.Idx → ℕ} {cnt : IVec S16 32} {s : ℕ} (hN : ∀ l, N l ≤ 8192) (h : Bnd N cnt (2 * s)) (hs : 1 ≤ s ∧ s ≤ 8192) :
    ∀ a x, ((![probe cnt s] : Fin 1 → IVec S16 32) a x).toNat < S8192.size a := by
  intro a x
  obtain rfl : a = 0 := Subsingleton.elim _ _
  show (probe cnt s x).toNat < 8192
  rw [probe_toNat hN h hs]; omega

/-- The one index of a list of 8192 words whose position is `n` (below 8192). -/
def ix8 (n : ℕ) : S8192.Idx := fun a => ⟨n % 8192, by obtain rfl : a = 0 := Subsingleton.elim _ _; exact Nat.mod_lt _ (by decide)⟩
/-- The one index of a list of 4096 words whose position is `n` (below 4096). -/
def ix4 (n : ℕ) : S4096.Idx := fun a => ⟨n % 4096, by obtain rfl : a = 0 := Subsingleton.elim _ _; exact Nat.mod_lt _ (by decide)⟩

theorem ix8_val (j : S8192.Idx) : ix8 (j 0).val = j := by
  funext a; obtain rfl : a = 0 := Subsingleton.elim _ _
  exact Fin.ext (show (j 0).val % 8192 = (j 0).val from Nat.mod_eq_of_lt (j 0).isLt)
theorem ix4_val (j : S4096.Idx) : ix4 (j 0).val = j := by
  funext a; obtain rfl : a = 0 := Subsingleton.elim _ _
  exact Fin.ext (show (j 0).val % 4096 = (j 0).val from Nat.mod_eq_of_lt (j 0).isLt)

/-- The list's values as natural numbers, by position. -/
def vals (c : S8192.Idx → BitVec 32) (n : ℕ) : ℕ := (c (ix8 n)).toNat

theorem loadIdx_8 {F : FTy → Type} (c : S8192.Idx → BitVec 32) (v : IVec S16 32)
    (h : ∀ a x, ((![v] : Fin 1 → IVec S16 32) a x).toNat < S8192.size a) (l : S16.Idx) :
    (loadIdx (F := F) (e := .i32) (s := S8192) c ![v] h l : BitVec 32) = c (ix8 (v l).toNat) := by
  show c _ = c _
  congr 1; funext a; obtain rfl : a = 0 := Subsingleton.elim _ _
  exact Fin.ext (show (v l).toNat = (v l).toNat % 8192 from (Nat.mod_eq_of_lt (h 0 l)).symm)

/-- One halving step: the step of size `s` takes the distance `2 s` to `s`. -/
theorem bnd_step {F : FTy → Type} {c : S8192.Idx → BitVec 32} (hC : Srt (vals c)) {T : IVec S16 32} (hT : ∀ l, (T l).toNat < 4096)
    {cnt : IVec S16 32} {s : ℕ} (hs : 1 ≤ s ∧ s ≤ 8192)
    (h : Bnd (fun l => firstAbove (vals c) (T l).toNat) cnt (2 * s))
    (hp : ∀ a x, ((![probe cnt s] : Fin 1 → IVec S16 32) a x).toNat < S8192.size a) :
    Bnd (fun l => firstAbove (vals c) (T l).toNat)
      (select (cmpi .sle (loadIdx (F := F) (e := .i32) (s := S8192) c ![probe cnt s] hp) T)
        (minsi (addi cnt (broadcast S16 (BitVec.ofNat 32 s))) (broadcast S16 8192#32)) cnt) s := by
  intro l
  have hN : ∀ l, firstAbove (vals c) (T l).toNat ≤ 8192 := fun l => firstAbove_le _ _
  have hpr := probe_toNat hN h hs l
  have hl := h l
  have hc : (cnt l).toNat ≤ 8192 := hl.1.trans (hN l)
  have hcand := cand_toNat hc hs.2
  have hval : (loadIdx (F := F) (e := .i32) (s := S8192) c ![probe cnt s] hp l : BitVec 32).toNat
      = vals c (min ((cnt l).toNat + s) 8192 - 1) := by
    rw [loadIdx_8, hpr]; rfl
  have hb := hC.2 (min ((cnt l).toNat + s) 8192 - 1) (by omega)
  have hTl := hT l
  have hNl := hN l
  have hiff := lt_firstAbove hC (T l).toNat (j := min ((cnt l).toNat + s) 8192 - 1) (by omega)
  show (Scalar.select (BitVec.ofBool (BitVec.sle (loadIdx (F := F) (e := .i32) (s := S8192) c ![probe cnt s] hp l) (T l)))
      (IntOp.minsi (IntOp.addi (cnt l) (BitVec.ofNat 32 s)) 8192#32) (cnt l)).toNat ≤ _ ∧ _ < (Scalar.select (BitVec.ofBool (BitVec.sle (loadIdx (F := F) (e := .i32) (s := S8192) c ![probe cnt s] hp l) (T l)))
      (IntOp.minsi (IntOp.addi (cnt l) (BitVec.ofNat 32 s)) 8192#32) (cnt l)).toNat + s
  dsimp only at hl ⊢
  rw [select_word, sle_small (by omega) (by omega), hval]
  by_cases hv : vals c (min ((cnt l).toNat + s) 8192 - 1) ≤ (T l).toNat
  · simp only [hv, decide_true, if_true, hcand]
    have := hiff.mpr hv
    omega
  · simp only [hv, decide_false, Bool.false_eq_true, if_false]
    have := hiff.not.mpr hv
    omega

/-- After the last step the lane's position is the target. -/
theorem bnd_one {N : S16.Idx → ℕ} {cnt : IVec S16 32} (h : Bnd N cnt 1) (l : S16.Idx) : (cnt l).toNat = N l := by
  have := h l; omega

/-! ## The two neighbours -/

theorem loadIdx_4 {F : FTy → Type} (c : S4096.Idx → BitVec 32) (v : IVec S16 32)
    (h : ∀ a x, ((![v] : Fin 1 → IVec S16 32) a x).toNat < S4096.size a) (l : S16.Idx) :
    (loadIdx (F := F) (e := .i32) (s := S4096) c ![v] h l : BitVec 32) = c (ix4 (v l).toNat) := by
  show c _ = c _
  congr 1; funext a; obtain rfl : a = 0 := Subsingleton.elim _ _
  exact Fin.ext (show (v l).toNat = (v l).toNat % 4096 from (Nat.mod_eq_of_lt (h 0 l)).symm)

/-- One below `x`, and 0 below 0, as the kernel computes it. -/
theorem pred_toNat {x : BitVec 32} (h : x.toNat < 2 ^ 31) : (IntOp.maxsi (IntOp.subi x 1#32) 0#32).toNat = x.toNat - 1 := by
  unfold IntOp.maxsi IntOp.subi
  have h1 : (1#32 : BitVec 32).toNat = 1 := rfl
  by_cases h0 : x.toNat = 0
  · obtain rfl : x = 0#32 := BitVec.eq_of_toNat_eq (by rw [h0]; rfl)
    decide
  · have h2 : (x - 1#32).toNat = x.toNat - 1 := by rw [BitVec.toNat_sub, h1]; omega
    have h3 : BitVec.slt 0#32 (x - 1#32) = decide ((0#32 : BitVec 32).toNat < (x - 1#32).toNat) := slt_small (by decide) (by omega)
    have h4 : BitVec.slt (x - 1#32) 0#32 = decide ((x - 1#32).toNat < (0#32 : BitVec 32).toNat) := slt_small (by omega) (by decide)
    have n0 : (0#32 : BitVec 32).toNat = 0 := rfl
    simp only [h3, h4, n0]
    rw [← h2]
    by_cases h5 : 0 < (x - 1#32).toNat
    · simp only [h5, decide_true, if_true, Nat.not_lt_zero, decide_false, Bool.false_eq_true, if_false]
    · have h6 : (x - 1#32).toNat = 0 := by omega
      simp only [h6, lt_irrefl, decide_false, Bool.false_eq_true, if_false, n0]

/-- The word the kernel writes for a lane, from the first position above the lane's number `t`, the two neighbours'
    values and the first position of the lower neighbour's value. -/
theorem resolve_word {C : ℕ → ℕ} (hC : Srt C) {k v0 v1 f t : BitVec 32} (ht : t.toNat < 4096)
    (hk : k.toNat = firstAbove C t.toNat) (h0 : v0.toNat = C (k.toNat - 1)) (h1 : v1.toNat = C (min k.toNat 8191))
    (hf : f.toNat = firstAbove C (v0.toNat - 1)) :
    (Scalar.select (IntOp.cmpi .eq k 0#32) 0#32
      (Scalar.select (IntOp.ori (IntOp.cmpi .eq k 8192#32) (IntOp.cmpi .sle (IntOp.subi t v0) (IntOp.subi v1 t)))
        (Scalar.select (IntOp.cmpi .eq v0 0#32) 0#32 f) k)).toNat = nearest C t.toNat := by
  have hkl := firstAbove_le C t.toNat
  have e0 : ∀ x y : BitVec 32, (x == y) = decide (x.toNat = y.toNat) := fun x y => by
    rw [beq_eq_decide]; exact decide_eq_decide.mpr ⟨fun h => by rw [h], BitVec.eq_of_toNat_eq⟩
  have hlt := fun j (hj : j < 8192) => lt_firstAbove hC t.toNat hj
  have n0 : (0#32 : BitVec 32).toNat = 0 := rfl
  have n1 : (8192#32 : BitVec 32).toNat = 8192 := rfl
  unfold nearest
  simp only [IntOp.cmpi, select_word, e0, n0, n1]
  rw [← hk] at hlt hkl ⊢
  by_cases hk0 : k.toNat = 0
  · simp [hk0]
  simp only [hk0, decide_false, Bool.false_eq_true, if_false]
  have hv0 : v0.toNat ≤ t.toNat := by rw [h0]; exact (hlt _ (by omega)).mp (by omega)
  have hs : (IntOp.subi t v0).toNat = t.toNat - v0.toNat := by unfold IntOp.subi; rw [BitVec.toNat_sub]; omega
  have ho : ∀ a b : Bool, IntOp.ori (BitVec.ofBool a) (BitVec.ofBool b) = BitVec.ofBool (a || b) := by
    intro a b; cases a <;> cases b <;> rfl
  rw [ho, select_word]
  have hfa : (if decide (v0.toNat = 0) = true then 0#32 else f).toNat
      = if C (k.toNat - 1) = 0 then 0 else firstAbove C (C (k.toNat - 1) - 1) := by
    rw [← h0, ← hf]; by_cases h : v0.toNat = 0 <;> simp [h]
  by_cases hk8 : k.toNat = 8192
  · simp only [hk8, decide_true, Bool.true_or, if_true, true_or] at hfa ⊢
    exact hfa
  · have hkm : min k.toNat 8191 = k.toNat := by omega
    rw [hkm] at h1
    have hv1 : t.toNat < v1.toNat := by
      rw [h1]; have := (hlt k.toNat (by omega)).not.mp (by omega); omega
    have hv1' : v1.toNat < 4096 := by rw [h1]; exact hC.2 _ (by omega)
    have hs1 : (IntOp.subi v1 t).toNat = v1.toNat - t.toNat := by unfold IntOp.subi; rw [BitVec.toNat_sub]; omega
    rw [sle_small (by omega) (by omega), hs, hs1, ← h1]
    by_cases hle : t.toNat - v0.toNat ≤ v1.toNat - t.toNat
    · rw [if_pos (by simp [hle]), if_pos (c := _ ∨ _) (by rw [← h0]; omega)]; exact hfa
    · rw [if_neg (by simp [hle, hk8]), if_neg (c := _ ∨ _) (by rw [← h0]; omega)]

end Cert.Proof.Search

end
-- ==== Proof.Setup.lean ====
/-
  The sampler's launch as the SparseCore library sees it, and the names the other modules use: the arrays and
  scratches, the tile of a pair of coordinates, the resource algebra.
-/
module

public import proofs.«01_k».proof.Defs
public import proofs.«01_k».proof.Proof.Search
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Ring
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Samp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The resources of the whole device. -/
abbrev MM (F : FTy → Type) : Type := MT nD τ sig (HIx 1) (Elt F) ℕ UU ℕ

abbrev EH : Emb UH (MM F) := embL

/-! ## Arrays, scratches, tiles -/

abbrev aF : Memref sig .scVector .hbm S8x256x8192 .f32 := Memref.whole main_arg0_scv
abbrev aC : Memref sig .scVector .hbm S8192 .i32 := Memref.whole main_v13_scv
abbrev aO : Memref sig .scVector .hbm S8x256x4096 .f32 := Memref.whole main_v14_scv
abbrev bC : Memref sig .scVector .vmem S8192 .i32 := Memref.whole cc0_scratch0
abbrev bN : Memref sig .scVector .vmem S4096 .i32 := Memref.whole cc0_scratch1
abbrev bI : Memref sig .scVector .vmem S4096 .i32 := Memref.whole cc0_scratch2
abbrev rA : Memref sig .scVector .vmem S32768 .f32 := Memref.whole cc0_scratch3
abbrev rB : Memref sig .scVector .vmem S32768 .f32 := Memref.whole cc0_scratch4
abbrev oA : Memref sig .scVector .vmem S16384 .f32 := Memref.whole cc0_scratch5
abbrev oB : Memref sig .scVector .vmem S16384 .f32 := Memref.whole cc0_scratch6

/-- The features, the list searched and the gathered rows, as arrays of device `d`. -/
abbrev fLoc (d : Dev nD) : Loc nD τ sig := (SparseCore.T d).loc main_arg0
abbrev cLoc (d : Dev nD) : Loc nD τ sig := (SparseCore.T d).loc main_v13
abbrev oLoc (d : Dev nD) : Loc nD τ sig := (SparseCore.T d).loc main_v14

/-- The SparseCore and the tile of a pair of coordinates, and their thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Samp

end
-- ==== Proof.SearchParts.lean ====
/-
  The halving steps of one trip of a tile's binary search, in the three parts the body calls in turn.
-/
module

public import proofs.«01_k».proof.Proof.Setup

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

/-- The list searched, held whole by the tile at any share. -/
abbrev cPts (q : PosShare TreeShare) (c : S8192.Idx → BitVec 32) : sProp (MM F) := bC.view.loc (thr d L) ↦{q} c

omit [FloatOps F] in
/-- A gather from the list searched, at the head of a program. -/
theorem wp_gatherC {α : Type} {Q : α → sProp (MM F)} (q : PosShare TreeShare) (c : S8192.Idx → BitVec 32) {idxs : Fin S8192.rank → IVec S16 32}
    {h : ∀ a x, (idxs a x).toNat < S8192.size a} {hl : bC.view.Loads}
    {k : Vec F S16 .i32 → Prog (TpuEff nD τ sig (Elt F) Λ₀ (thr d L).2) α} {defs : Defs nD τ sig (Elt F) Λ₀} :
    cPts (F := F) d L q c
      ⊢ iprop((cPts (F := F) d L q c -∗ wp frame (wpE defs 𝒱₀ (thr d L) none) Set.univ (k (loadIdx (F := F) (e := .i32) (s := S8192) c idxs h)) Q)
        -∗ wp frame (wpE defs 𝒱₀ (thr d L) none) Set.univ (SparseCore.vectorLoadIdx bC idxs h hl >>= k) Q) := by
  have h := SparseCore.wp_vectorLoadIdx (defs := defs) (Q := Q) (k := k) (idxs := idxs) (h := h) (hl := hl) 𝒱₀ (thr d L) none Set.univ (base := bC) (S := Finset.univ) (q := q) (f := c) (Finset.subset_univ _)
  rw [show (bC.access (.whole S8192)).read (Elt F) c = c from Memref.read_access_whole _ _ _] at h
  exact h

/-- A step of the search in the kernel's words. -/
abbrev nxt (c : S8192.Idx → BitVec 32) (T cnt : IVec S16 32) (s : ℕ)
    (hp : ∀ a x, ((![probe cnt s] : Fin 1 → IVec S16 32) a x).toNat < S8192.size a) : IVec S16 32 :=
  select (cmpi .sle (loadIdx (F := F) (e := .i32) (s := S8192) c ![probe cnt s] hp) T)
    (minsi (addi cnt (broadcast S16 (BitVec.ofNat 32 s))) (broadcast S16 8192#32)) cnt

/-- The position each lane looks for. -/
abbrev tgt (c : S8192.Idx → BitVec 32) (T : IVec S16 32) (l : S16.Idx) : ℕ := firstAbove (vals c) (T l).toNat

theorem part1_wp (q : PosShare TreeShare) (c : S8192.Idx → BitVec 32) (hC : Srt (vals c)) (t : Fin k0_t1_loop.trips) (v284 T : IVec S16 32)
    (hTe : k0_pay1 v284 0#32 1#32 t = T) (hT : ∀ l, (T l).toNat < 4096) :
    cPts (F := F) d L q c
      ⊢ wp frame (wpE (defs₀ (F := F)) 𝒱₀ (thr d L) none) Set.univ (k0_part1 (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v284 0#32 1#32 t)
        fun r => iprop(⌜r.2.1 = T ∧ Bnd (tgt c T) r.2.2.1 (2 * 1024)
          ∧ r.2.2.2.1 = minsi (addi r.2.2.1 (broadcast S16 1024#32)) (broadcast S16 8192#32) ∧ r.2.2.2.2.1 = probe r.2.2.1 1024⌝ ∗ cPts d L q c) := by
  subst hTe
  have hN : ∀ l, tgt c (k0_pay1 v284 0#32 1#32 t) l ≤ 8192 := fun l => firstAbove_le _ _
  rw [k0_part1_eq_skeleton]; unfold k0_part1_skel
  iintro H
  sl_exec
  have b0 : Bnd (tgt c (k0_pay1 v284 0#32 1#32 t)) k0_pay2 (2 * 8192) := fun l => by
    have : (k0_pay2 l).toNat = 0 := rfl
    have := hN l; omega
  iapply (wp_gatherC d L q c) $$ H; iintro H
  have b1 := bnd_step (F := F) hC hT (s := 8192) (by decide) b0 (probe_lt hN b0 (by decide))
  sl_exec
  rw [wp_assume_of _ _ _ _ ?_]
  swap
  · exact probe_lt hN b1 (s := 4096) (by decide)
  iapply (wp_gatherC d L q c) $$ H; iintro H
  have b2 := bnd_step (F := F) hC hT (s := 4096) (by decide) b1 (probe_lt hN b1 (by decide))
  sl_exec
  rw [wp_assume_of _ _ _ _ ?_]
  swap
  · exact probe_lt hN b2 (s := 2048) (by decide)
  iapply (wp_gatherC d L q c) $$ H; iintro H
  have b3 := bnd_step (F := F) hC hT (s := 2048) (by decide) b2 (probe_lt hN b2 (by decide))
  sl_exec
  rw [wp_assume_of _ _ _ _ ?_]
  swap
  · exact probe_lt hN b3 (s := 1024) (by decide)
  sl_exec
  sl_step
  isplitr
  · ipureintro
    exact ⟨rfl, b3, rfl, rfl⟩
  · iexact H

theorem part2_wp (q : PosShare TreeShare) (c : S8192.Idx → BitVec 32) (hC : Srt (vals c)) (T cnt : IVec S16 32)
    (hT : ∀ l, (T l).toNat < 4096) (b0 : Bnd (tgt c T) cnt (2 * 1024)) (hw : k0_chk4 (probe cnt 1024)) :
    cPts (F := F) d L q c
      ⊢ wp frame (wpE (defs₀ (F := F)) 𝒱₀ (thr d L) none) Set.univ (k0_part2 (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 T cnt
          (minsi (addi cnt (broadcast S16 1024#32)) (broadcast S16 8192#32)) (probe cnt 1024) hw)
        fun r => iprop(⌜Bnd (tgt c T) r.1 (2 * 32) ∧ r.2.1 = addi r.1 (broadcast S16 32#32) ∧ r.2.2 = broadcast S16 8192#32⌝ ∗ cPts d L q c) := by
  have hN : ∀ l, tgt c T l ≤ 8192 := fun l => firstAbove_le _ _
  rw [k0_part2_eq_skeleton]; unfold k0_part2_skel
  iintro H
  iapply (wp_gatherC d L q c) $$ H; iintro H
  have b1 := bnd_step (F := F) hC hT (s := 1024) (by decide) b0 (probe_lt hN b0 (by decide))
  sl_exec
  rw [wp_assume_of _ _ _ _ ?_]
  swap
  · exact probe_lt hN b1 (s := 512) (by decide)
  iapply (wp_gatherC d L q c) $$ H; iintro H
  have b2 := bnd_step (F := F) hC hT (s := 512) (by decide) b1 (probe_lt hN b1 (by decide))
  sl_exec
  rw [wp_assume_of _ _ _ _ ?_]
  swap
  · exact probe_lt hN b2 (s := 256) (by decide)
  iapply (wp_gatherC d L q c) $$ H; iintro H
  have b3 := bnd_step (F := F) hC hT (s := 256) (by decide) b2 (probe_lt hN b2 (by decide))
  sl_exec
  rw [wp_assume_of _ _ _ _ ?_]
  swap
  · exact probe_lt hN b3 (s := 128) (by decide)
  iapply (wp_gatherC d L q c) $$ H; iintro H
  have b4 := bnd_step (F := F) hC hT (s := 128) (by decide) b3 (probe_lt hN b3 (by decide))
  sl_exec
  rw [wp_assume_of _ _ _ _ ?_]
  swap
  · exact probe_lt hN b4 (s := 64) (by decide)
  iapply (wp_gatherC d L q c) $$ H; iintro H
  have b5 := bnd_step (F := F) hC hT (s := 64) (by decide) b4 (probe_lt hN b4 (by decide))
  sl_exec
  sl_step
  isplitr
  · ipureintro
    exact ⟨b5, rfl, rfl⟩
  · iexact H

theorem part3_wp (q : PosShare TreeShare) (c : S8192.Idx → BitVec 32) (hC : Srt (vals c)) (T cnt : IVec S16 32)
    (hT : ∀ l, (T l).toNat < 4096) (b0 : Bnd (tgt c T) cnt (2 * 32)) :
    cPts (F := F) d L q c
      ⊢ wp frame (wpE (defs₀ (F := F)) 𝒱₀ (thr d L) none) Set.univ (k0_part3 (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 T cnt
          (addi cnt (broadcast S16 32#32)) (broadcast S16 8192#32))
        fun r => iprop(⌜Bnd (tgt c T) r (2 * 1)⌝ ∗ cPts d L q c) := by
  have hN : ∀ l, tgt c T l ≤ 8192 := fun l => firstAbove_le _ _
  rw [k0_part3_eq_skeleton]; unfold k0_part3_skel
  iintro H
  sl_exec
  rw [wp_assume_of _ _ _ _ ?_]
  swap
  · exact probe_lt hN b0 (s := 32) (by decide)
  iapply (wp_gatherC d L q c) $$ H; iintro H
  have b1 := bnd_step (F := F) hC hT (s := 32) (by decide) b0 (probe_lt hN b0 (by decide))
  sl_exec
  rw [wp_assume_of _ _ _ _ ?_]
  swap
  · exact probe_lt hN b1 (s := 16) (by decide)
  iapply (wp_gatherC d L q c) $$ H; iintro H
  have b2 := bnd_step (F := F) hC hT (s := 16) (by decide) b1 (probe_lt hN b1 (by decide))
  sl_exec
  rw [wp_assume_of _ _ _ _ ?_]
  swap
  · exact probe_lt hN b2 (s := 8) (by decide)
  iapply (wp_gatherC d L q c) $$ H; iintro H
  have b3 := bnd_step (F := F) hC hT (s := 8) (by decide) b2 (probe_lt hN b2 (by decide))
  sl_exec
  rw [wp_assume_of _ _ _ _ ?_]
  swap
  · exact probe_lt hN b3 (s := 4) (by decide)
  iapply (wp_gatherC d L q c) $$ H; iintro H
  have b4 := bnd_step (F := F) hC hT (s := 4) (by decide) b3 (probe_lt hN b3 (by decide))
  sl_exec
  rw [wp_assume_of _ _ _ _ ?_]
  swap
  · exact probe_lt hN b4 (s := 2) (by decide)
  iapply (wp_gatherC d L q c) $$ H; iintro H
  have b5 := bnd_step (F := F) hC hT (s := 2) (by decide) b4 (probe_lt hN b4 (by decide))
  sl_exec
  sl_step
  isplitr
  · ipureintro
    exact b5
  · iexact H

end Cert.Proof.Samp

end
-- ==== Proof.SearchLoop.lean ====
/-
  The first loop of a tile: the binary search. Trip `t` finds, for the 16 numbers from `16 t`, the first position of the
  list above each, and stores them.
-/
module

public import proofs.«01_k».proof.Proof.SearchParts

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

/-! ## A trip -/

/-- The counts, and the indices, held whole by the tile. -/
abbrev nPts (f : S4096.Idx → BitVec 32) : sProp (MM F) := bN.view.loc (thr d L) ↦{fullShare} f
abbrev iPts (f : S4096.Idx → BitVec 32) : sProp (MM F) := bI.view.loc (thr d L) ↦{fullShare} f

/-- The lanes' numbers of trip `t`. -/
abbrev lanes (t : ℕ) : IVec S16 32 := fun l => BitVec.ofNat 32 (16 * t + (l 0).val)

theorem lanes_lt {t : ℕ} (ht : t < 256) (l : S16.Idx) : (lanes t l).toNat = 16 * t + (l 0).val ∧ (lanes t l).toNat < 4096 := by
  have : (l 0).val < 16 := (l 0).isLt
  show (BitVec.ofNat 32 (16 * t + (l 0).val)).toNat = _ ∧ (BitVec.ofNat 32 (16 * t + (l 0).val)).toNat < 4096
  rw [BitVec.toNat_ofNat]; omega

omit [FloatOps F] in
theorem iv_word {t : ℕ} (ht : t < 256) :
    Scalar.muli (Scalar.addi 0#32 (Scalar.muli (Scf.iv 0#32 1#32 t) 1#32)) 16#32 = BitVec.ofNat 32 (16 * t) := by
  apply BitVec.eq_of_toNat_eq
  simp only [Scalar.muli, Scalar.addi, Scf.iv, IntOp.muli, IntOp.addi]
  simp
  omega

theorem trips1 : k0_t1_loop.trips = 256 := by decide
theorem trips2 : k0_t2_loop.trips = 256 := by decide

theorem pay1_eq (t : Fin k0_t1_loop.trips) : k0_pay1 (iota .scVector S16 32 [0] iota_S16_d0_w32_scVector) 0#32 1#32 t = lanes t.val := by
  have ht : t.val < 256 := trips1 ▸ t.isLt
  funext l
  show Scalar.muli (Scalar.addi 0#32 (Scalar.muli (Scf.iv 0#32 1#32 t.val) 1#32)) 16#32 + BitVec.ofNat 32 (0 * 16 + (l 0).val) = _
  rw [iv_word ht, Nat.zero_mul, Nat.zero_add]
  exact (BitVec.ofNat_add ..).symm

omit [FloatOps F] in
/-- A store of 16 words at position `16 t` of the counts. -/
theorem storeN_of_mem (f : S4096.Idx → BitVec 32) {off : Fin 1 → ℕ} {t : ℕ} (hoff : off = ![16 * t])
    (inb : ∀ a, off a + S16.size a ≤ S4096.size a) (w : S16.Idx → BitVec 32) (j : S4096.Idx) (l : S16.Idx) (hj : (j 0).val = 16 * t + (l 0).val) :
    bN.view.writes (Elt F) f [⟨Rect.unit (s := S4096) off S16.size inb, w⟩] j = w l :=
  View.read_writes_cons_unit_of_mem (Val := Elt F) bN.view f inb w [] j l hoff fun a => by
    obtain rfl : a = 0 := Subsingleton.elim _ _; exact hj
omit [FloatOps F] in
theorem storeN_of_not_mem (f : S4096.Idx → BitVec 32) {off : Fin 1 → ℕ} {t : ℕ} (hoff : off = ![16 * t])
    (inb : ∀ a, off a + S16.size a ≤ S4096.size a) (w : S16.Idx → BitVec 32) (j : S4096.Idx) (hj : (j 0).val < 16 * t ∨ 16 * t + 16 ≤ (j 0).val) :
    bN.view.writes (Elt F) f [⟨Rect.unit (s := S4096) off S16.size inb, w⟩] j = f j :=
  View.read_writes_cons_unit_of_not_mem (Val := Elt F) bN.view f inb w [] j hoff 0 hj

omit [FloatOps F] in
/-- A store of 16 words at position `16 t` of the indices. -/
theorem storeI_of_mem (f : S4096.Idx → BitVec 32) {off : Fin 1 → ℕ} {t : ℕ} (hoff : off = ![16 * t])
    (inb : ∀ a, off a + S16.size a ≤ S4096.size a) (w : S16.Idx → BitVec 32) (j : S4096.Idx) (l : S16.Idx) (hj : (j 0).val = 16 * t + (l 0).val) :
    bI.view.writes (Elt F) f [⟨Rect.unit (s := S4096) off S16.size inb, w⟩] j = w l :=
  View.read_writes_cons_unit_of_mem (Val := Elt F) bI.view f inb w [] j l hoff fun a => by
    obtain rfl : a = 0 := Subsingleton.elim _ _; exact hj
omit [FloatOps F] in
theorem storeI_of_not_mem (f : S4096.Idx → BitVec 32) {off : Fin 1 → ℕ} {t : ℕ} (hoff : off = ![16 * t])
    (inb : ∀ a, off a + S16.size a ≤ S4096.size a) (w : S16.Idx → BitVec 32) (j : S4096.Idx) (hj : (j 0).val < 16 * t ∨ 16 * t + 16 ≤ (j 0).val) :
    bI.view.writes (Elt F) f [⟨Rect.unit (s := S4096) off S16.size inb, w⟩] j = f j :=
  View.read_writes_cons_unit_of_not_mem (Val := Elt F) bI.view f inb w [] j hoff 0 hj

/-- The lane of a position, in the group of 16 that starts at `16 t`. -/
abbrev laneOf (n t : ℕ) : S16.Idx := fun a => ⟨(n - 16 * t) % 16, by obtain rfl : a = 0 := Subsingleton.elim _ _; exact Nat.mod_lt _ (by decide)⟩
theorem laneOf_val (n t : ℕ) (h : 16 * t ≤ n ∧ n < 16 * t + 16) : n = 16 * t + (laneOf n t 0).val := by
  show n = 16 * t + (n - 16 * t) % 16; omega

/-- The first `n` counts are done. -/
def cntOK (c : S8192.Idx → BitVec 32) (n : ℕ) (f : S4096.Idx → BitVec 32) : Prop :=
  ∀ j : S4096.Idx, (j 0).val < n → (f j).toNat = firstAbove (vals c) (j 0).val

theorem t1_trip (q : PosShare TreeShare) (c : S8192.Idx → BitVec 32) (hC : Srt (vals c)) (t : Fin k0_t1_loop.trips) (v2 v143 c64 c0 : BitVec 32)
    (f : S4096.Idx → BitVec 32) (hf : cntOK c (16 * t.val) f) :
    iprop(cPts (F := F) d L q c ∗ nPts d L f)
      ⊢ wp frame (wpE (defs₀ (F := F)) 𝒱₀ (thr d L) none) Set.univ (k0_t1_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0
          (iota .scVector S16 32 [0] iota_S16_d0_w32_scVector) t ⟨⟩)
        fun _ => iprop(cPts d L q c ∗ ∃ f', ⌜cntOK c (16 * (t.val + 1)) f'⌝ ∗ nPts d L f') := by
  have ht : t.val < 256 := trips1 ▸ t.isLt
  have hT : ∀ l, (lanes t.val l).toNat < 4096 := fun l => (lanes_lt ht l).2
  have hN : ∀ l, tgt c (lanes t.val) l ≤ 8192 := fun l => firstAbove_le _ _
  unfold k0_t1_body
  rw [wp_bind]
  iintro ⟨H, Hn⟩
  iapply (wp_wand frame _ Set.univ) $$ [H]
  · iapply (part1_wp d L q c hC t _ _ (pay1_eq t) hT); iexact H
  iintro %r ⟨%hr, H⟩
  obtain ⟨r1, r2, cnt, r4, r5, r6⟩ := r
  dsimp only at hr r6
  obtain ⟨rfl, b3, rfl, rfl⟩ := hr
  dsimp only
  rw [wp_bind]
  iapply (wp_wand frame _ Set.univ) $$ [H]
  · iapply (part2_wp d L q c hC _ _ hT b3 r6); iexact H
  iintro %r ⟨%hr, H⟩
  obtain ⟨r1', r2', r3'⟩ := r
  dsimp only at hr
  obtain ⟨b4, rfl, rfl⟩ := hr
  dsimp only
  rw [wp_bind]
  iapply (wp_wand frame _ Set.univ) $$ [H]
  · iapply (part3_wp d L q c hC _ _ hT b4); iexact H
  iintro %r ⟨%b5, H⟩
  have hw : k0_chk14 (k0_pay51 r) := probe_lt hN b5 (s := 1) (by decide)
  sl_exec
  iapply (wp_gatherC d L q c) $$ H; iintro H
  have b6 := bnd_one (bnd_step (F := F) hC hT (s := 1) (by decide) b5 (probe_lt hN b5 (by decide)))
  sl_exec
  sl_step
  isplitl [H]; · iexact H
  iexists _; isplitr
  swap
  · iexact Hn
  ipureintro
  intro j hj
  by_cases h : (j 0).val < 16 * t.val
  · rw [← hf j h]
    exact congrArg BitVec.toNat (storeN_of_not_mem (F := F) f (k0_off3_eq t) _ _ j (.inl h))
  · have hl := laneOf_val (j 0).val t.val (by omega)
    refine (congrArg BitVec.toNat (storeN_of_mem (F := F) f (k0_off3_eq t) _ _ j _ hl)).trans ?_
    refine (b6 _).trans ?_
    rw [(lanes_lt ht _).1, ← hl]

/-- The first loop leaves every count done. -/
theorem t1_wp (q : PosShare TreeShare) (c : S8192.Idx → BitVec 32) (hC : Srt (vals c)) (v2 v143 c64 c0 : BitVec 32) (f : S4096.Idx → BitVec 32) :
    iprop(cPts (F := F) d L q c ∗ nPts d L f)
      ⊢ wp frame (wpE (defs₀ (F := F)) 𝒱₀ (thr d L) none) Set.univ (Scf.Loop.for k0_t1_loop k0_t1_ok ⟨⟩ (k0_t1_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0
          (iota .scVector S16 32 [0] iota_S16_d0_w32_scVector)))
        fun _ => iprop(cPts d L q c ∗ ∃ f', ⌜cntOK c 4096 f'⌝ ∗ nPts d L f') := by
  iintro ⟨H, Hn⟩
  sl_for (fun (k : ℕ) (_ : Unit) => iprop(cPts (F := F) d L q c ∗ ∃ f', ⌜cntOK c (16 * k) f'⌝ ∗ nPts (F := F) d L f')) $$ [H Hn]
  case region =>
    intro k _
    iintro ⟨H, %f', %hf, Hn⟩
    iapply (t1_trip d L q c hC k v2 v143 c64 c0 f' hf)
    isplitl [H] <;> iassumption
  isplitl [H Hn]
  · isplitl [H]; · iexact H
    iexists f; isplitr
    · ipureintro; intro j hj; omega
    · iexact Hn
  iintro %_ ⟨H, %f', %hf, Hn⟩
  isplitl [H]; · iexact H
  iexists f'; isplitr
  · ipureintro; rw [show Scf.trips k0_t1_loop.lb k0_t1_loop.ub k0_t1_loop.st = 256 from trips1] at hf; exact hf
  · iexact Hn

/-! ## The second loop: the nearer of the two neighbours -/

omit [FloatOps F] in
/-- A gather from the counts, at the head of a program. -/
theorem wp_gatherN {α : Type} {Q : α → sProp (MM F)} (f : S4096.Idx → BitVec 32) {idxs : Fin S4096.rank → IVec S16 32}
    {h : ∀ a x, (idxs a x).toNat < S4096.size a} {hl : bN.view.Loads}
    {k : Vec F S16 .i32 → Prog (TpuEff nD τ sig (Elt F) Λ₀ (thr d L).2) α} {defs : Defs nD τ sig (Elt F) Λ₀} :
    nPts (F := F) d L f
      ⊢ iprop((nPts (F := F) d L f -∗ wp frame (wpE defs 𝒱₀ (thr d L) none) Set.univ (k (loadIdx (F := F) (e := .i32) (s := S4096) f idxs h)) Q)
        -∗ wp frame (wpE defs 𝒱₀ (thr d L) none) Set.univ (SparseCore.vectorLoadIdx bN idxs h hl >>= k) Q) := by
  have h := SparseCore.wp_vectorLoadIdx (defs := defs) (Q := Q) (k := k) (idxs := idxs) (h := h) (hl := hl) 𝒱₀ (thr d L) none Set.univ (base := bN) (S := Finset.univ) (q := fullShare) (f := f) (Finset.subset_univ _)
  rw [show (bN.access (.whole S4096)).read (Elt F) f = f from Memref.read_access_whole _ _ _] at h
  exact h

/-- The first `n` indices are done. -/
def idxOK (c : S8192.Idx → BitVec 32) (n : ℕ) (f : S4096.Idx → BitVec 32) : Prop :=
  ∀ j : S4096.Idx, (j 0).val < n → (f j).toNat = nearest (vals c) (j 0).val

section Resolve

variable {c : S8192.Idx → BitVec 32} (hC : Srt (vals c)) {kk : IVec S16 32} (hk : ∀ l, (kk l).toNat ≤ 8192)

include hk in
theorem pay53_toNat (l : S16.Idx) : (k0_pay53 (F := F) kk l).toNat = (kk l).toNat - 1 := pred_toNat (by have := hk l; omega)
include hk in
theorem pay54_toNat (l : S16.Idx) : (k0_pay54 (F := F) kk l).toNat = min (kk l).toNat 8191 := minsi_small (by have := hk l; omega) (show (8191#32 : BitVec 32).toNat < 2 ^ 31 by decide)

include hk in
theorem chk15 : k0_chk15 (k0_pay53 (F := F) kk) := by
  intro a x
  obtain rfl : a = 0 := Subsingleton.elim _ _
  show (k0_pay53 (F := F) kk x).toNat < 8192
  rw [pay53_toNat hk]; have := hk x; omega
include hk in
theorem chk16 : k0_chk16 (k0_pay54 (F := F) kk) := by
  intro a x
  obtain rfl : a = 0 := Subsingleton.elim _ _
  show (k0_pay54 (F := F) kk x).toNat < 8192
  rw [pay54_toNat hk]; have := hk x; omega

include hk in
theorem val15 (h : ∀ a x, ((![k0_pay53 (F := F) kk] : Fin 1 → IVec S16 32) a x).toNat < S8192.size a) (l : S16.Idx) :
    (loadIdx (F := F) (e := .i32) (s := S8192) c ![k0_pay53 (F := F) kk] h l : BitVec 32).toNat = vals c ((kk l).toNat - 1) := by
  rw [loadIdx_8, pay53_toNat hk]; rfl
include hk in
theorem val16 (h : ∀ a x, ((![k0_pay54 (F := F) kk] : Fin 1 → IVec S16 32) a x).toNat < S8192.size a) (l : S16.Idx) :
    (loadIdx (F := F) (e := .i32) (s := S8192) c ![k0_pay54 (F := F) kk] h l : BitVec 32).toNat = vals c (min (kk l).toNat 8191) := by
  rw [loadIdx_8, pay54_toNat hk]; rfl

variable {va : IVec S16 32} (hva : ∀ l, (va l).toNat < 4096)

include hva in
theorem pay55_toNat (l : S16.Idx) : (k0_pay55 (F := F) va l).toNat = (va l).toNat - 1 := pred_toNat (by have := hva l; omega)
include hva in
theorem chk17 : k0_chk17 (k0_pay55 (F := F) va) := by
  intro a x
  obtain rfl : a = 0 := Subsingleton.elim _ _
  show (k0_pay55 (F := F) va x).toNat < 4096
  rw [pay55_toNat hva]; have := hva x; omega

include hva in
theorem val17 {n : S4096.Idx → BitVec 32} (hn : cntOK c 4096 n)
    (h : ∀ a x, ((![k0_pay55 (F := F) va] : Fin 1 → IVec S16 32) a x).toNat < S4096.size a) (l : S16.Idx) :
    (loadIdx (F := F) (e := .i32) (s := S4096) n ![k0_pay55 (F := F) va] h l : BitVec 32).toNat = firstAbove (vals c) ((va l).toNat - 1) := by
  have := hva l
  rw [loadIdx_4, pay55_toNat hva, hn _ (by show (_ % 4096) < 4096; omega)]
  show firstAbove (vals c) (_ % 4096) = _
  rw [Nat.mod_eq_of_lt (by omega)]

include hC in
theorem pay56_toNat (t : Fin k0_t2_loop.trips) (hk' : ∀ l, (kk l).toNat = firstAbove (vals c) (lanes t.val l).toNat)
    (h0 : ∀ l, (va l).toNat = vals c ((kk l).toNat - 1)) {vb vf : IVec S16 32} (h1 : ∀ l, (vb l).toNat = vals c (min (kk l).toNat 8191))
    (hf : ∀ l, (vf l).toNat = firstAbove (vals c) ((va l).toNat - 1)) (l : S16.Idx) :
    (k0_pay56 (F := F) t kk va vb vf l).toNat = nearest (vals c) (lanes t.val l).toNat := by
  have ht : t.val < 256 := trips2 ▸ t.isLt
  have e : Scalar.muli (Scalar.addi 0#32 (Scalar.muli (Scf.iv 0#32 1#32 t.val) 1#32)) 16#32 + BitVec.ofNat 32 (0 * 16 + (l 0).val) = lanes t.val l := by
    rw [iv_word ht, Nat.zero_mul, Nat.zero_add]
    exact (BitVec.ofNat_add ..).symm
  rw [← resolve_word hC (lanes_lt ht l).2 (hk' l) (h0 l) (h1 l) (hf l), ← e]
  rfl

end Resolve

theorem t2_trip (q : PosShare TreeShare) (c : S8192.Idx → BitVec 32) (hC : Srt (vals c)) (t : Fin k0_t2_loop.trips) (v2 v143 c64 c0 : BitVec 32)
    (n : S4096.Idx → BitVec 32) (hn : cntOK c 4096 n) (f : S4096.Idx → BitVec 32) (hf : idxOK c (16 * t.val) f) :
    iprop(cPts (F := F) d L q c ∗ nPts d L n ∗ iPts d L f)
      ⊢ wp frame (wpE (defs₀ (F := F)) 𝒱₀ (thr d L) none) Set.univ (k0_t2_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0 t ⟨⟩)
        fun _ => iprop(cPts d L q c ∗ nPts d L n ∗ ∃ f', ⌜idxOK c (16 * (t.val + 1)) f'⌝ ∗ iPts d L f') := by
  have ht : t.val < 256 := trips2 ▸ t.isLt
  unfold k0_t2_body
  -- the counts of the trip's lanes
  have hk : ∀ l : S16.Idx, (View.readAt (Elt F) bN.view (Rect.unit (s := S4096) (k0_off4 t) S16.size (k0_off4_inb t)).toLoadRect n l : BitVec 32).toNat
      = firstAbove (vals c) (lanes t.val l).toNat := by
    intro l
    have hl : (l 0).val < 16 := (l 0).isLt
    rw [(lanes_lt ht l).1]
    have := hn (ix4 (16 * t.val + (l 0).val)) (by show (16 * t.val + (l 0).val) % 4096 < 4096; omega)
    rw [show ((ix4 (16 * t.val + (l 0).val)) 0).val = 16 * t.val + (l 0).val by show (16 * t.val + (l 0).val) % 4096 = _; omega] at this
    rw [← this]
    show (n ((Rect.unit (s := S4096) (k0_off4 t) S16.size (k0_off4_inb t)).emb l)).toNat = _
    congr 2; funext a; obtain rfl : a = 0 := Subsingleton.elim _ _
    apply Fin.ext
    show k0_off4 t 0 + 1 * (l 0).val = (16 * t.val + (l 0).val) % 4096
    rw [k0_off4_eq t]; show 16 * t.val + 1 * (l 0).val = _; omega
  have hk8 := fun l => (hk l).le.trans (firstAbove_le _ _)
  have h15 := chk15 (F := F) hk8
  have h16 := chk16 (F := F) hk8
  have va := fun h => val15 (F := F) (c := c) hk8 h
  have hva : ∀ h l, (loadIdx (F := F) (e := .i32) (s := S8192) c _ h l : BitVec 32).toNat < 4096 := fun h l => by
    rw [va h l]; exact hC.2 _ (by have := hk8 l; omega)
  have h17 := chk17 (F := F) (hva (k0_idx15_inb _ h15))
  iintro ⟨H, Hn, Hi⟩
  sl_exec
  iapply (wp_gatherC d L q c) $$ H; iintro H
  sl_exec
  iapply (wp_gatherC d L q c) $$ H; iintro H
  sl_exec
  iapply (wp_gatherN d L n) $$ Hn; iintro Hn
  sl_exec
  sl_step
  isplitl [H]; · iexact H
  isplitl [Hn]; · iexact Hn
  iexists _; isplitr
  swap
  · iexact Hi
  ipureintro
  intro j hj
  by_cases h : (j 0).val < 16 * t.val
  · rw [← hf j h]
    exact congrArg BitVec.toNat (storeI_of_not_mem (F := F) f (k0_off5_eq t) _ _ j (.inl h))
  · have hl := laneOf_val (j 0).val t.val (by omega)
    refine (congrArg BitVec.toNat (storeI_of_mem (F := F) f (k0_off5_eq t) _ _ j _ hl)).trans ?_
    refine (pay56_toNat (F := F) hC t hk (va _) (val16 (F := F) hk8 _) (val17 (F := F) (hva _) hn _) _).trans ?_
    rw [(lanes_lt ht _).1, ← hl]

/-- The second loop leaves every index done. -/
theorem t2_wp (q : PosShare TreeShare) (c : S8192.Idx → BitVec 32) (hC : Srt (vals c)) (v2 v143 c64 c0 : BitVec 32)
    (n : S4096.Idx → BitVec 32) (hn : cntOK c 4096 n) (f : S4096.Idx → BitVec 32) :
    iprop(cPts (F := F) d L q c ∗ nPts d L n ∗ iPts d L f)
      ⊢ wp frame (wpE (defs₀ (F := F)) 𝒱₀ (thr d L) none) Set.univ (Scf.Loop.for k0_t2_loop k0_t2_ok ⟨⟩ (k0_t2_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0))
        fun _ => iprop(cPts d L q c ∗ nPts d L n ∗ ∃ f', ⌜idxOK c 4096 f'⌝ ∗ iPts d L f') := by
  iintro ⟨H, Hn, Hi⟩
  sl_for (fun (k : ℕ) (_ : Unit) => iprop(cPts (F := F) d L q c ∗ nPts (F := F) d L n ∗ ∃ f', ⌜idxOK c (16 * k) f'⌝ ∗ iPts (F := F) d L f')) $$ [H Hn Hi]
  case region =>
    intro k _
    iintro ⟨H, Hn, %f', %hf, Hi⟩
    iapply (t2_trip d L q c hC k v2 v143 c64 c0 n hn f' hf)
    isplitl [H]; · iexact H
    isplitl [Hn] <;> iassumption
  isplitl [H Hn Hi]
  · isplitl [H]; · iexact H
    isplitl [Hn]; · iexact Hn
    iexists f; isplitr
    · ipureintro; intro j hj; omega
    · iexact Hi
  iintro %_ ⟨H, Hn, %f', %hf, Hi⟩
  isplitl [H]; · iexact H
  isplitl [Hn]; · iexact Hn
  iexists f'; isplitr
  · ipureintro; rw [show Scf.trips k0_t2_loop.lb k0_t2_loop.ub k0_t2_loop.st = 256 from trips2] at hf; exact hf
  · iexact Hi

end Cert.Proof.Samp

end
-- ==== Proof.GatherLoop.lean ====
/-
  The gathering loops of a tile: trip `t` reads 16 indices and moves, for each of the four rows of a buffer, the 16
  elements they name to the row's place in the other buffer.
-/
module

public import proofs.«01_k».proof.Proof.SearchLoop

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

/-- The one index of a list of 32768 elements whose position is `n` (below 32768). -/
def ix32 (n : ℕ) : S32768.Idx := fun a => ⟨n % 32768, by obtain rfl : a = 0 := Subsingleton.elim _ _; exact Nat.mod_lt _ (by decide)⟩
/-- The one index of a list of 16384 elements whose position is `n` (below 16384). -/
def ix16 (n : ℕ) : S16384.Idx := fun a => ⟨n % 16384, by obtain rfl : a = 0 := Subsingleton.elim _ _; exact Nat.mod_lt _ (by decide)⟩

/-- Four rows of 8192 elements gathered at 4096 indices. -/
def gath (rv : S32768.Idx → Elt F .f32) (f : S4096.Idx → BitVec 32) : S16384.Idx → Elt F .f32 :=
  fun j => rv (ix32 (8192 * ((j 0).val / 4096) + (f (ix4 ((j 0).val % 4096))).toNat))

/-- The gather of row `r` done for the indices before `n`. -/
def gathOK (rv : S32768.Idx → Elt F .f32) (f : S4096.Idx → BitVec 32) (n : ℕ) (g : S16384.Idx → Elt F .f32) : Prop :=
  ∀ j : S16384.Idx, (j 0).val % 4096 < n → g j = gath rv f j

omit [FloatOps F] in
theorem loadIdx_32 (c : S32768.Idx → Elt F .f32) (v : IVec S16 32)
    (h : ∀ a x, ((![v] : Fin 1 → IVec S16 32) a x).toNat < S32768.size a) (l : S16.Idx) :
    loadIdx (F := F) (e := .f32) (s := S32768) c ![v] h l = c (ix32 (v l).toNat) := by
  show c _ = c _
  congr 1; funext a; obtain rfl : a = 0 := Subsingleton.elim _ _
  exact Fin.ext (show (v l).toNat = (v l).toNat % 32768 from (Nat.mod_eq_of_lt (h 0 l)).symm)

omit [FloatOps F] in
/-- A load of 16 indices at position `16 t`. -/
theorem loadI (f : S4096.Idx → BitVec 32) {off : Fin 1 → ℕ} {t : ℕ} (ht : t < 256) (hoff : off = ![16 * t])
    (inb : ∀ a, off a + S16.size a ≤ S4096.size a) (l : S16.Idx) :
    (View.readAt (Elt F) bI.view (Rect.unit (s := S4096) off S16.size inb).toLoadRect f l : BitVec 32) = f (ix4 (16 * t + (l 0).val)) := by
  have hl : (l 0).val < 16 := (l 0).isLt
  show f ((Rect.unit (s := S4096) off S16.size inb).emb l) = _
  congr 1; funext a; obtain rfl : a = 0 := Subsingleton.elim _ _
  apply Fin.ext
  show off 0 + 1 * (l 0).val = (16 * t + (l 0).val) % 4096
  rw [hoff]; show 16 * t + 1 * (l 0).val = _; omega

theorem addi_toNat {v : IVec S16 32} (hv : ∀ l, (v l).toNat < 8192) {b : BitVec 32} (hb : b.toNat ≤ 24576) (l : S16.Idx) :
    (addi v (broadcast S16 b) l).toNat = (v l).toNat + b.toNat := by
  show (v l + b).toNat = _
  have := hv l
  rw [BitVec.toNat_add]; omega

theorem chk_of {v : IVec S16 32} (hv : ∀ l, (v l).toNat < 32768) : ∀ a x, ((![v] : Fin 1 → IVec S16 32) a x).toNat < S32768.size a := by
  intro a x; obtain rfl : a = 0 := Subsingleton.elim _ _; exact hv x
theorem chk_add {v : IVec S16 32} (hv : ∀ l, (v l).toNat < 8192) {b : BitVec 32} (hb : b.toNat ≤ 24576) :
    ∀ a x, ((![addi v (broadcast S16 b)] : Fin 1 → IVec S16 32) a x).toNat < S32768.size a :=
  chk_of fun l => by rw [addi_toNat hv hb]; have := hv l; omega

omit [FloatOps F] in
/-- A lane of a row's gather is what the gathered rows hold at its place. -/
theorem lane_gath (rv : S32768.Idx → Elt F .f32) (f : S4096.Idx → BitVec 32) (hf : ∀ j, (f j).toNat < 8192) {t : ℕ} (ht : t < 256) (r : ℕ) (hr : r < 4)
    (v : IVec S16 32) (hv : ∀ l, (v l).toNat = (f (ix4 (16 * t + (l 0).val))).toNat + 8192 * r)
    (h : ∀ a x, ((![v] : Fin 1 → IVec S16 32) a x).toNat < S32768.size a) (j : S16384.Idx) (l : S16.Idx)
    (hj : (j 0).val = 4096 * r + 16 * t + (l 0).val) :
    loadIdx (F := F) (e := .f32) (s := S32768) rv ![v] h l = gath rv f j := by
  have hl : (l 0).val < 16 := (l 0).isLt
  rw [loadIdx_32, hv l]
  unfold gath
  rw [show (j 0).val % 4096 = 16 * t + (l 0).val by omega, show (j 0).val / 4096 = r by omega, Nat.add_comm]

/-! ## The loop of buffer A -/

abbrev rvAPts (f : S32768.Idx → Elt F .f32) : sProp (MM F) := rA.view.loc (thr d L) ↦{fullShare} f
abbrev ovAPts (f : S16384.Idx → Elt F .f32) : sProp (MM F) := oA.view.loc (thr d L) ↦{fullShare} f

omit [FloatOps F] in
/-- A gather from the rows, at the head of a program. -/
theorem wp_gatherA {α : Type} {Q : α → sProp (MM F)} (f : S32768.Idx → Elt F .f32) {idxs : Fin S32768.rank → IVec S16 32}
    {h : ∀ a x, (idxs a x).toNat < S32768.size a} {hl : rA.view.Loads}
    {k : Vec F S16 .f32 → Prog (TpuEff nD τ sig (Elt F) Λ₀ (thr d L).2) α} {defs : Defs nD τ sig (Elt F) Λ₀} :
    rvAPts (F := F) d L f
      ⊢ iprop((rvAPts (F := F) d L f -∗ wp frame (wpE defs 𝒱₀ (thr d L) none) Set.univ (k (loadIdx (F := F) (e := .f32) (s := S32768) f idxs h)) Q)
        -∗ wp frame (wpE defs 𝒱₀ (thr d L) none) Set.univ (SparseCore.vectorLoadIdx rA idxs h hl >>= k) Q) := by
  have h := SparseCore.wp_vectorLoadIdx (defs := defs) (Q := Q) (k := k) (idxs := idxs) (h := h) (hl := hl) 𝒱₀ (thr d L) none Set.univ (base := rA) (S := Finset.univ) (q := fullShare) (f := f) (Finset.subset_univ _)
  rw [show (rA.access (.whole S32768)).read (Elt F) f = f from Memref.read_access_whole _ _ _] at h
  exact h

theorem trips4 : k0_t4_loop.trips = 256 := by decide

omit [FloatOps F] in
/-- The four stores of a trip, one to each row's place. -/
theorem storesA (rv : S32768.Idx → Elt F .f32) (f : S4096.Idx → BitVec 32) (g : S16384.Idx → Elt F .f32) {t : ℕ} (ht : t < 256) (hg : gathOK rv f (16 * t) g)
    {o0 o1 o2 o3 : Fin 1 → ℕ} (h0 : o0 = ![16 * t]) (h1 : o1 = ![16 * t + 4096]) (h2 : o2 = ![16 * t + 8192]) (h3 : o3 = ![16 * t + 12288])
    (i0 : ∀ a, o0 a + S16.size a ≤ S16384.size a) (i1 : ∀ a, o1 a + S16.size a ≤ S16384.size a)
    (i2 : ∀ a, o2 a + S16.size a ≤ S16384.size a) (i3 : ∀ a, o3 a + S16.size a ≤ S16384.size a)
    (w0 w1 w2 w3 : S16.Idx → Elt F .f32)
    (e0 : ∀ (j : S16384.Idx) (l : S16.Idx), (j 0).val = 4096 * 0 + 16 * t + (l 0).val → w0 l = gath rv f j)
    (e1 : ∀ (j : S16384.Idx) (l : S16.Idx), (j 0).val = 4096 * 1 + 16 * t + (l 0).val → w1 l = gath rv f j)
    (e2 : ∀ (j : S16384.Idx) (l : S16.Idx), (j 0).val = 4096 * 2 + 16 * t + (l 0).val → w2 l = gath rv f j)
    (e3 : ∀ (j : S16384.Idx) (l : S16.Idx), (j 0).val = 4096 * 3 + 16 * t + (l 0).val → w3 l = gath rv f j) :
    gathOK rv f (16 * (t + 1)) (oA.view.writes (Elt F) g
      [⟨Rect.unit (s := S16384) o3 S16.size i3, w3⟩, ⟨Rect.unit (s := S16384) o2 S16.size i2, w2⟩,
        ⟨Rect.unit (s := S16384) o1 S16.size i1, w1⟩, ⟨Rect.unit (s := S16384) o0 S16.size i0, w0⟩]) := by
  intro j hj
  have hj4 : (j 0).val < 16384 := (j 0).isLt
  show oA.view.read (Elt F) (oA.view.writes (Elt F) g
      [⟨Rect.unit (s := S16384) o3 S16.size i3, w3⟩, ⟨Rect.unit (s := S16384) o2 S16.size i2, w2⟩,
        ⟨Rect.unit (s := S16384) o1 S16.size i1, w1⟩, ⟨Rect.unit (s := S16384) o0 S16.size i0, w0⟩]) j = gath rv f j
  have hit : ∀ (n : ℕ) (off : Fin 1 → ℕ) (inb : ∀ a, off a + S16.size a ≤ S16384.size a) (w : S16.Idx → Elt F .f32) (Ls : List (View.Piece (Elt F) S16384 .f32)),
      off = ![n] → (n ≤ (j 0).val ∧ (j 0).val < n + 16) →
      oA.view.read (Elt F) (oA.view.writes (Elt F) g (⟨Rect.unit (s := S16384) off S16.size inb, w⟩ :: Ls)) j
        = w (fun a => ⟨((j 0).val - n) % 16, by obtain rfl : a = 0 := Subsingleton.elim _ _; exact Nat.mod_lt _ (by decide)⟩) := by
    intro n off inb w Ls ho hn
    refine View.read_writes_cons_unit_of_mem (Val := Elt F) oA.view g inb w Ls j _ ho fun a => ?_
    obtain rfl : a = 0 := Subsingleton.elim _ _
    show (j 0).val = n + ((j 0).val - n) % 16; omega
  have miss : ∀ (n : ℕ) (off : Fin 1 → ℕ) (inb : ∀ a, off a + S16.size a ≤ S16384.size a) (w : S16.Idx → Elt F .f32) (Ls : List (View.Piece (Elt F) S16384 .f32)),
      off = ![n] → ((j 0).val < n ∨ n + 16 ≤ (j 0).val) →
      oA.view.read (Elt F) (oA.view.writes (Elt F) g (⟨Rect.unit (s := S16384) off S16.size inb, w⟩ :: Ls)) j
        = oA.view.read (Elt F) (oA.view.writes (Elt F) g Ls) j := by
    intro n off inb w Ls ho hn
    exact View.read_writes_cons_unit_of_not_mem (Val := Elt F) oA.view g inb w Ls j ho 0 hn
  by_cases c3 : 16 * t + 12288 ≤ (j 0).val ∧ (j 0).val < 16 * t + 12288 + 16
  · rw [hit _ _ i3 w3 _ h3 c3]
    exact e3 j _ (show (j 0).val = 4096 * 3 + 16 * t + ((j 0).val - (16 * t + 12288)) % 16 by omega)
  rw [miss _ _ i3 w3 _ h3 (by omega)]
  by_cases c2 : 16 * t + 8192 ≤ (j 0).val ∧ (j 0).val < 16 * t + 8192 + 16
  · rw [hit _ _ i2 w2 _ h2 c2]
    exact e2 j _ (show (j 0).val = 4096 * 2 + 16 * t + ((j 0).val - (16 * t + 8192)) % 16 by omega)
  rw [miss _ _ i2 w2 _ h2 (by omega)]
  by_cases c1 : 16 * t + 4096 ≤ (j 0).val ∧ (j 0).val < 16 * t + 4096 + 16
  · rw [hit _ _ i1 w1 _ h1 c1]
    exact e1 j _ (show (j 0).val = 4096 * 1 + 16 * t + ((j 0).val - (16 * t + 4096)) % 16 by omega)
  rw [miss _ _ i1 w1 _ h1 (by omega)]
  by_cases c0 : 16 * t ≤ (j 0).val ∧ (j 0).val < 16 * t + 16
  · rw [hit _ _ i0 w0 _ h0 c0]
    exact e0 j _ (show (j 0).val = 4096 * 0 + 16 * t + ((j 0).val - 16 * t) % 16 by omega)
  rw [miss _ _ i0 w0 _ h0 (by omega)]
  exact hg j (by omega)

theorem t4_trip (rv : S32768.Idx → Elt F .f32) (f : S4096.Idx → BitVec 32) (hf : ∀ j, (f j).toNat < 8192) (t3 : Fin k0_t3_loop.trips) (v850 c0 c1 : BitVec 32) (t : Fin k0_t4_loop.trips)
    (g : S16384.Idx → Elt F .f32) (hg : gathOK rv f (16 * t.val) g) :
    iprop(iPts (F := F) d L f ∗ rvAPts d L rv ∗ ovAPts d L g)
      ⊢ wp frame (wpE (defs₀ (F := F)) 𝒱₀ (thr d L) none) Set.univ (k0_t4_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 t3 v850 c0 c1 t ⟨⟩)
        fun _ => iprop(iPts (F := F) d L f ∗ rvAPts d L rv ∗ ∃ g', ⌜gathOK rv f (16 * (t.val + 1)) g'⌝ ∗ ovAPts d L g') := by
  have ht : t.val < 256 := trips4 ▸ t.isLt
  have hv := loadI (F := F) f ht (k0_off8_eq t) (k0_off8_inb t)
  have hv8 : ∀ l, (View.readAt (Elt F) bI.view (Rect.unit (s := S4096) (k0_off8 t) S16.size (k0_off8_inb t)).toLoadRect f l : BitVec 32).toNat < 8192 :=
    fun l => by rw [hv l]; exact hf _
  have c0 : k0_chk18 (View.readAt (Elt F) bI.view (Rect.unit (s := S4096) (k0_off8 t) S16.size (k0_off8_inb t)).toLoadRect f) :=
    chk_of fun l => by have := hv8 l; omega
  have c1 : k0_chk19 (k0_pay44 (F := F) (View.readAt (Elt F) bI.view (Rect.unit (s := S4096) (k0_off8 t) S16.size (k0_off8_inb t)).toLoadRect f)) :=
    chk_add hv8 (b := 8192#32) (by decide)
  have c2 : k0_chk20 (k0_pay45 (F := F) (View.readAt (Elt F) bI.view (Rect.unit (s := S4096) (k0_off8 t) S16.size (k0_off8_inb t)).toLoadRect f)) :=
    chk_add hv8 (b := 16384#32) (by decide)
  have c3 : k0_chk21 (k0_pay46 (F := F) (View.readAt (Elt F) bI.view (Rect.unit (s := S4096) (k0_off8 t) S16.size (k0_off8_inb t)).toLoadRect f)) :=
    chk_add hv8 (b := 24576#32) (by decide)
  unfold k0_t4_body
  iintro ⟨Hi, Hr, Ho⟩
  sl_exec
  iapply (wp_gatherA d L rv) $$ Hr; iintro Hr
  sl_exec
  iapply (wp_gatherA d L rv) $$ Hr; iintro Hr
  sl_exec
  iapply (wp_gatherA d L rv) $$ Hr; iintro Hr
  sl_exec
  iapply (wp_gatherA d L rv) $$ Hr; iintro Hr
  sl_exec
  sl_step
  isplitl [Hi]; · iexact Hi
  isplitl [Hr]; · iexact Hr
  iexists _; isplitr
  swap
  · iexact Ho
  ipureintro
  refine storesA rv f g ht hg (k0_off9_eq t) (k0_off10_eq t) (k0_off11_eq t) (k0_off12_eq t) _ _ _ _ _ _ _ _ ?_ ?_ ?_ ?_
  · intro j l hj
    exact lane_gath rv f hf ht 0 (by decide) _ (fun l => by rw [hv l]; rfl) _ j l hj
  · intro j l hj
    exact lane_gath rv f hf ht 1 (by decide) _ (fun l => (addi_toNat hv8 (b := 8192#32) (by decide) l).trans (by rw [hv l]; rfl)) _ j l hj
  · intro j l hj
    exact lane_gath rv f hf ht 2 (by decide) _ (fun l => (addi_toNat hv8 (b := 16384#32) (by decide) l).trans (by rw [hv l]; rfl)) _ j l hj
  · intro j l hj
    exact lane_gath rv f hf ht 3 (by decide) _ (fun l => (addi_toNat hv8 (b := 24576#32) (by decide) l).trans (by rw [hv l]; rfl)) _ j l hj

/-- The loop leaves the four rows gathered. -/
theorem t4_wp (rv : S32768.Idx → Elt F .f32) (f : S4096.Idx → BitVec 32) (hf : ∀ j, (f j).toNat < 8192) (t3 : Fin k0_t3_loop.trips) (v850 c0 c1 : BitVec 32)
    (g : S16384.Idx → Elt F .f32) :
    iprop(iPts (F := F) d L f ∗ rvAPts d L rv ∗ ovAPts d L g)
      ⊢ wp frame (wpE (defs₀ (F := F)) 𝒱₀ (thr d L) none) Set.univ (Scf.Loop.for k0_t4_loop k0_t4_ok ⟨⟩ (k0_t4_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 t3 v850 c0 c1))
        fun _ => iprop(iPts (F := F) d L f ∗ rvAPts d L rv ∗ ovAPts d L (gath rv f)) := by
  iintro ⟨Hi, Hr, Ho⟩
  sl_for (fun (k : ℕ) (_ : Unit) => iprop(iPts (F := F) d L f ∗ rvAPts (F := F) d L rv ∗ ∃ g', ⌜gathOK rv f (16 * k) g'⌝ ∗ ovAPts (F := F) d L g')) $$ [Hi Hr Ho]
  case region =>
    intro k _
    iintro ⟨Hi, Hr, %g', %hg, Ho⟩
    iapply (t4_trip d L rv f hf t3 v850 c0 c1 k g' hg)
    isplitl [Hi]; · iexact Hi
    isplitl [Hr] <;> iassumption
  isplitl [Hi Hr Ho]
  · isplitl [Hi]; · iexact Hi
    isplitl [Hr]; · iexact Hr
    iexists g; isplitr
    · ipureintro; intro j hj; omega
    · iexact Ho
  iintro %_ ⟨Hi, Hr, %g', %hg, Ho⟩
  isplitl [Hi]; · iexact Hi
  isplitl [Hr]; · iexact Hr
  rw [show Scf.trips k0_t4_loop.lb k0_t4_loop.ub k0_t4_loop.st = 256 from trips4] at hg
  rw [show gath rv f = g' from funext fun j => (hg j (Nat.mod_lt _ (by decide))).symm]
  iexact Ho

/-! ## The loop of buffer B -/

abbrev rvBPts (f : S32768.Idx → Elt F .f32) : sProp (MM F) := rB.view.loc (thr d L) ↦{fullShare} f
abbrev ovBPts (f : S16384.Idx → Elt F .f32) : sProp (MM F) := oB.view.loc (thr d L) ↦{fullShare} f

omit [FloatOps F] in
/-- A gather from the rows, at the head of a program. -/
theorem wp_gatherB {α : Type} {Q : α → sProp (MM F)} (f : S32768.Idx → Elt F .f32) {idxs : Fin S32768.rank → IVec S16 32}
    {h : ∀ a x, (idxs a x).toNat < S32768.size a} {hl : rB.view.Loads}
    {k : Vec F S16 .f32 → Prog (TpuEff nD τ sig (Elt F) Λ₀ (thr d L).2) α} {defs : Defs nD τ sig (Elt F) Λ₀} :
    rvBPts (F := F) d L f
      ⊢ iprop((rvBPts (F := F) d L f -∗ wp frame (wpE defs 𝒱₀ (thr d L) none) Set.univ (k (loadIdx (F := F) (e := .f32) (s := S32768) f idxs h)) Q)
        -∗ wp frame (wpE defs 𝒱₀ (thr d L) none) Set.univ (SparseCore.vectorLoadIdx rB idxs h hl >>= k) Q) := by
  have h := SparseCore.wp_vectorLoadIdx (defs := defs) (Q := Q) (k := k) (idxs := idxs) (h := h) (hl := hl) 𝒱₀ (thr d L) none Set.univ (base := rB) (S := Finset.univ) (q := fullShare) (f := f) (Finset.subset_univ _)
  rw [show (rB.access (.whole S32768)).read (Elt F) f = f from Memref.read_access_whole _ _ _] at h
  exact h

theorem trips5 : k0_t5_loop.trips = 256 := by decide

omit [FloatOps F] in
/-- The four stores of a trip, one to each row's place. -/
theorem storesB (rv : S32768.Idx → Elt F .f32) (f : S4096.Idx → BitVec 32) (g : S16384.Idx → Elt F .f32) {t : ℕ} (ht : t < 256) (hg : gathOK rv f (16 * t) g)
    {o0 o1 o2 o3 : Fin 1 → ℕ} (h0 : o0 = ![16 * t]) (h1 : o1 = ![16 * t + 4096]) (h2 : o2 = ![16 * t + 8192]) (h3 : o3 = ![16 * t + 12288])
    (i0 : ∀ a, o0 a + S16.size a ≤ S16384.size a) (i1 : ∀ a, o1 a + S16.size a ≤ S16384.size a)
    (i2 : ∀ a, o2 a + S16.size a ≤ S16384.size a) (i3 : ∀ a, o3 a + S16.size a ≤ S16384.size a)
    (w0 w1 w2 w3 : S16.Idx → Elt F .f32)
    (e0 : ∀ (j : S16384.Idx) (l : S16.Idx), (j 0).val = 4096 * 0 + 16 * t + (l 0).val → w0 l = gath rv f j)
    (e1 : ∀ (j : S16384.Idx) (l : S16.Idx), (j 0).val = 4096 * 1 + 16 * t + (l 0).val → w1 l = gath rv f j)
    (e2 : ∀ (j : S16384.Idx) (l : S16.Idx), (j 0).val = 4096 * 2 + 16 * t + (l 0).val → w2 l = gath rv f j)
    (e3 : ∀ (j : S16384.Idx) (l : S16.Idx), (j 0).val = 4096 * 3 + 16 * t + (l 0).val → w3 l = gath rv f j) :
    gathOK rv f (16 * (t + 1)) (oB.view.writes (Elt F) g
      [⟨Rect.unit (s := S16384) o3 S16.size i3, w3⟩, ⟨Rect.unit (s := S16384) o2 S16.size i2, w2⟩,
        ⟨Rect.unit (s := S16384) o1 S16.size i1, w1⟩, ⟨Rect.unit (s := S16384) o0 S16.size i0, w0⟩]) := by
  intro j hj
  have hj4 : (j 0).val < 16384 := (j 0).isLt
  show oB.view.read (Elt F) (oB.view.writes (Elt F) g
      [⟨Rect.unit (s := S16384) o3 S16.size i3, w3⟩, ⟨Rect.unit (s := S16384) o2 S16.size i2, w2⟩,
        ⟨Rect.unit (s := S16384) o1 S16.size i1, w1⟩, ⟨Rect.unit (s := S16384) o0 S16.size i0, w0⟩]) j = gath rv f j
  have hit : ∀ (n : ℕ) (off : Fin 1 → ℕ) (inb : ∀ a, off a + S16.size a ≤ S16384.size a) (w : S16.Idx → Elt F .f32) (Ls : List (View.Piece (Elt F) S16384 .f32)),
      off = ![n] → (n ≤ (j 0).val ∧ (j 0).val < n + 16) →
      oB.view.read (Elt F) (oB.view.writes (Elt F) g (⟨Rect.unit (s := S16384) off S16.size inb, w⟩ :: Ls)) j
        = w (fun a => ⟨((j 0).val - n) % 16, by obtain rfl : a = 0 := Subsingleton.elim _ _; exact Nat.mod_lt _ (by decide)⟩) := by
    intro n off inb w Ls ho hn
    refine View.read_writes_cons_unit_of_mem (Val := Elt F) oB.view g inb w Ls j _ ho fun a => ?_
    obtain rfl : a = 0 := Subsingleton.elim _ _
    show (j 0).val = n + ((j 0).val - n) % 16; omega
  have miss : ∀ (n : ℕ) (off : Fin 1 → ℕ) (inb : ∀ a, off a + S16.size a ≤ S16384.size a) (w : S16.Idx → Elt F .f32) (Ls : List (View.Piece (Elt F) S16384 .f32)),
      off = ![n] → ((j 0).val < n ∨ n + 16 ≤ (j 0).val) →
      oB.view.read (Elt F) (oB.view.writes (Elt F) g (⟨Rect.unit (s := S16384) off S16.size inb, w⟩ :: Ls)) j
        = oB.view.read (Elt F) (oB.view.writes (Elt F) g Ls) j := by
    intro n off inb w Ls ho hn
    exact View.read_writes_cons_unit_of_not_mem (Val := Elt F) oB.view g inb w Ls j ho 0 hn
  by_cases c3 : 16 * t + 12288 ≤ (j 0).val ∧ (j 0).val < 16 * t + 12288 + 16
  · rw [hit _ _ i3 w3 _ h3 c3]
    exact e3 j _ (show (j 0).val = 4096 * 3 + 16 * t + ((j 0).val - (16 * t + 12288)) % 16 by omega)
  rw [miss _ _ i3 w3 _ h3 (by omega)]
  by_cases c2 : 16 * t + 8192 ≤ (j 0).val ∧ (j 0).val < 16 * t + 8192 + 16
  · rw [hit _ _ i2 w2 _ h2 c2]
    exact e2 j _ (show (j 0).val = 4096 * 2 + 16 * t + ((j 0).val - (16 * t + 8192)) % 16 by omega)
  rw [miss _ _ i2 w2 _ h2 (by omega)]
  by_cases c1 : 16 * t + 4096 ≤ (j 0).val ∧ (j 0).val < 16 * t + 4096 + 16
  · rw [hit _ _ i1 w1 _ h1 c1]
    exact e1 j _ (show (j 0).val = 4096 * 1 + 16 * t + ((j 0).val - (16 * t + 4096)) % 16 by omega)
  rw [miss _ _ i1 w1 _ h1 (by omega)]
  by_cases c0 : 16 * t ≤ (j 0).val ∧ (j 0).val < 16 * t + 16
  · rw [hit _ _ i0 w0 _ h0 c0]
    exact e0 j _ (show (j 0).val = 4096 * 0 + 16 * t + ((j 0).val - 16 * t) % 16 by omega)
  rw [miss _ _ i0 w0 _ h0 (by omega)]
  exact hg j (by omega)

theorem t5_trip (rv : S32768.Idx → Elt F .f32) (f : S4096.Idx → BitVec 32) (hf : ∀ j, (f j).toNat < 8192) (v2 : BitVec 32) (t3 : Fin k0_t3_loop.trips) (x1 x2 x3 x4 : BitVec 32) (t : Fin k0_t5_loop.trips)
    (g : S16384.Idx → Elt F .f32) (hg : gathOK rv f (16 * t.val) g) :
    iprop(iPts (F := F) d L f ∗ rvBPts d L rv ∗ ovBPts d L g)
      ⊢ wp frame (wpE (defs₀ (F := F)) 𝒱₀ (thr d L) none) Set.univ (k0_t5_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 t3 x1 x2 x3 x4 t ⟨⟩)
        fun _ => iprop(iPts (F := F) d L f ∗ rvBPts d L rv ∗ ∃ g', ⌜gathOK rv f (16 * (t.val + 1)) g'⌝ ∗ ovBPts d L g') := by
  have ht : t.val < 256 := trips5 ▸ t.isLt
  have hv := loadI (F := F) f ht (k0_off16_eq t) (k0_off16_inb t)
  have hv8 : ∀ l, (View.readAt (Elt F) bI.view (Rect.unit (s := S4096) (k0_off16 t) S16.size (k0_off16_inb t)).toLoadRect f l : BitVec 32).toNat < 8192 :=
    fun l => by rw [hv l]; exact hf _
  have c0 : k0_chk22 (View.readAt (Elt F) bI.view (Rect.unit (s := S4096) (k0_off16 t) S16.size (k0_off16_inb t)).toLoadRect f) :=
    chk_of fun l => by have := hv8 l; omega
  have c1 : k0_chk23 (k0_pay47 (F := F) (View.readAt (Elt F) bI.view (Rect.unit (s := S4096) (k0_off16 t) S16.size (k0_off16_inb t)).toLoadRect f)) :=
    chk_add hv8 (b := 8192#32) (by decide)
  have c2 : k0_chk24 (k0_pay48 (F := F) (View.readAt (Elt F) bI.view (Rect.unit (s := S4096) (k0_off16 t) S16.size (k0_off16_inb t)).toLoadRect f)) :=
    chk_add hv8 (b := 16384#32) (by decide)
  have c3 : k0_chk25 (k0_pay49 (F := F) (View.readAt (Elt F) bI.view (Rect.unit (s := S4096) (k0_off16 t) S16.size (k0_off16_inb t)).toLoadRect f)) :=
    chk_add hv8 (b := 24576#32) (by decide)
  unfold k0_t5_body
  iintro ⟨Hi, Hr, Ho⟩
  sl_exec
  iapply (wp_gatherB d L rv) $$ Hr; iintro Hr
  sl_exec
  iapply (wp_gatherB d L rv) $$ Hr; iintro Hr
  sl_exec
  iapply (wp_gatherB d L rv) $$ Hr; iintro Hr
  sl_exec
  iapply (wp_gatherB d L rv) $$ Hr; iintro Hr
  sl_exec
  sl_step
  isplitl [Hi]; · iexact Hi
  isplitl [Hr]; · iexact Hr
  iexists _; isplitr
  swap
  · iexact Ho
  ipureintro
  refine storesB rv f g ht hg (k0_off17_eq t) (k0_off18_eq t) (k0_off19_eq t) (k0_off20_eq t) _ _ _ _ _ _ _ _ ?_ ?_ ?_ ?_
  · intro j l hj
    exact lane_gath rv f hf ht 0 (by decide) _ (fun l => by rw [hv l]; rfl) _ j l hj
  · intro j l hj
    exact lane_gath rv f hf ht 1 (by decide) _ (fun l => (addi_toNat hv8 (b := 8192#32) (by decide) l).trans (by rw [hv l]; rfl)) _ j l hj
  · intro j l hj
    exact lane_gath rv f hf ht 2 (by decide) _ (fun l => (addi_toNat hv8 (b := 16384#32) (by decide) l).trans (by rw [hv l]; rfl)) _ j l hj
  · intro j l hj
    exact lane_gath rv f hf ht 3 (by decide) _ (fun l => (addi_toNat hv8 (b := 24576#32) (by decide) l).trans (by rw [hv l]; rfl)) _ j l hj

/-- The loop leaves the four rows gathered. -/
theorem t5_wp (rv : S32768.Idx → Elt F .f32) (f : S4096.Idx → BitVec 32) (hf : ∀ j, (f j).toNat < 8192) (v2 : BitVec 32) (t3 : Fin k0_t3_loop.trips) (x1 x2 x3 x4 : BitVec 32)
    (g : S16384.Idx → Elt F .f32) :
    iprop(iPts (F := F) d L f ∗ rvBPts d L rv ∗ ovBPts d L g)
      ⊢ wp frame (wpE (defs₀ (F := F)) 𝒱₀ (thr d L) none) Set.univ (Scf.Loop.for k0_t5_loop k0_t5_ok ⟨⟩ (k0_t5_body (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 t3 x1 x2 x3 x4))
        fun _ => iprop(iPts (F := F) d L f ∗ rvBPts d L rv ∗ ovBPts d L (gath rv f)) := by
  iintro ⟨Hi, Hr, Ho⟩
  sl_for (fun (k : ℕ) (_ : Unit) => iprop(iPts (F := F) d L f ∗ rvBPts (F := F) d L rv ∗ ∃ g', ⌜gathOK rv f (16 * k) g'⌝ ∗ ovBPts (F := F) d L g')) $$ [Hi Hr Ho]
  case region =>
    intro k _
    iintro ⟨Hi, Hr, %g', %hg, Ho⟩
    iapply (t5_trip d L rv f hf v2 t3 x1 x2 x3 x4 k g' hg)
    isplitl [Hi]; · iexact Hi
    isplitl [Hr] <;> iassumption
  isplitl [Hi Hr Ho]
  · isplitl [Hi]; · iexact Hi
    isplitl [Hr]; · iexact Hr
    iexists g; isplitr
    · ipureintro; intro j hj; omega
    · iexact Ho
  iintro %_ ⟨Hi, Hr, %g', %hg, Ho⟩
  isplitl [Hi]; · iexact Hi
  isplitl [Hr]; · iexact Hr
  rw [show Scf.trips k0_t5_loop.lb k0_t5_loop.ub k0_t5_loop.st = 256 from trips5] at hg
  rw [show gath rv f = g' from funext fun j => (hg j (Nat.mod_lt _ (by decide))).symm]
  iexact Ho

end Cert.Proof.Samp

end
-- ==== Proof.Rows.lean ====
/-
  The rows the tiles move: quad `q` (of 512) is the four channels `4 (q % 64) … 4 (q % 64) + 3` of batch `q / 64`, and a
  tile has 16 quads, from `base`. The offsets the tile's copies are at, in closed form.
-/
module

public import proofs.«01_k».proof.Proof.GatherLoop

@[expose] public section

noncomputable section

namespace Cert.Proof.Samp

open Cert.KernelIdeal Cert.KernelIdeal.Gen
open Idealize.ShloMosaic
open Cert.Proof.Search

/-- Where row `r` of quad `q` starts. -/
def rowOff (q r : ℕ) : Fin 3 → ℕ := ![q / 64, q % 64 * 4 + r, 0]

/-- The first quad of a tile. -/
def base (L : grid0.Coords) : ℕ := 16 * (2 * (L 1).val + (L 0).val)

theorem base_le (L : grid0.Coords) : base L ≤ 496 := by
  have h0 : (L 0).val < 2 := (L 0).isLt
  have h1 : (L 1).val < 16 := (L 1).isLt
  unfold base; omega

theorem trips3 : k0_t3_loop.trips = 8 := by decide

theorem coords_eq (L : grid0.Coords) : L = (fun | 0 => (L 0 : Fin 2) | 1 => (L 1 : Fin 16)) := by
  funext a; fin_cases a <;> rfl

set_option maxRecDepth 100000 in
theorem off1_all : ∀ (c : Fin 2) (s : Fin 16) (r : Fin 4),
    k0_off1 (fun | 0 => c | 1 => s) (BitVec.ofNat 32 r.val) = rowOff (16 * (2 * s.val + c.val)) r.val := by decide +kernel

set_option maxRecDepth 100000 in
theorem off14_all : ∀ (c : Fin 2) (s : Fin 16) (g : Fin 8) (b : Fin 2) (r : Fin 4),
    k0_off14 (fun | 0 => c | 1 => s) (g.cast trips3.symm) (BitVec.ofNat 32 b.val) (BitVec.ofNat 32 r.val) =
      rowOff (min (16 * (2 * s.val + c.val) + 2 * g.val + b.val + 2) (16 * (2 * s.val + c.val) + 15)) r.val := by decide +kernel

set_option maxRecDepth 100000 in
theorem off2_all : ∀ (c : Fin 2) (s : Fin 16) (r : Fin 4),
    k0_off2 (fun | 0 => c | 1 => s) (BitVec.ofNat 32 r.val) = rowOff (16 * (2 * s.val + c.val) + 1) r.val := by decide +kernel

set_option maxRecDepth 100000 in
theorem off13_all : ∀ (c : Fin 2) (s : Fin 16) (g : Fin 8) (b : Fin 2) (r : Fin 4),
    k0_off13 (fun | 0 => c | 1 => s) (g.cast trips3.symm) (BitVec.ofNat 32 b.val) (BitVec.ofNat 32 r.val) =
      rowOff (16 * (2 * s.val + c.val) + 2 * g.val + b.val) r.val := by decide +kernel

theorem cond1_all : ∀ g : Fin 8, (k0_cond1 (g.cast trips3.symm) = 1#1) ↔ 0 < g.val := by decide +kernel
theorem cond2_all : ∀ g : Fin 8, (k0_cond2 (g.cast trips3.symm) = 1#1) ↔ 0 < g.val := by decide +kernel

theorem off1_row (L : grid0.Coords) (r : Fin 4) : k0_off1 L (BitVec.ofNat 32 r.val) = rowOff (base L) r.val := by
  have h := off1_all (L 0) (L 1) r
  rw [← coords_eq L] at h; exact h
theorem off2_row (L : grid0.Coords) (r : Fin 4) : k0_off2 L (BitVec.ofNat 32 r.val) = rowOff (base L + 1) r.val := by
  have h := off2_all (L 0) (L 1) r
  rw [← coords_eq L] at h; exact h
theorem off13_row (L : grid0.Coords) (g : Fin k0_t3_loop.trips) (b : Fin 2) (r : Fin 4) :
    k0_off13 L g (BitVec.ofNat 32 b.val) (BitVec.ofNat 32 r.val) = rowOff (base L + 2 * g.val + b.val) r.val := by
  have h := off13_all (L 0) (L 1) (g.cast trips3) b r
  rw [← coords_eq L] at h; exact h
theorem off14_row (L : grid0.Coords) (g : Fin k0_t3_loop.trips) (b : Fin 2) (r : Fin 4) :
    k0_off14 L g (BitVec.ofNat 32 b.val) (BitVec.ofNat 32 r.val) = rowOff (min (base L + 2 * g.val + b.val + 2) (base L + 15)) r.val := by
  have h := off14_all (L 0) (L 1) (g.cast trips3) b r
  rw [← coords_eq L] at h; exact h
theorem cond1_iff (g : Fin k0_t3_loop.trips) : (k0_cond1 g = 1#1) ↔ 0 < g.val := cond1_all (g.cast trips3)
theorem cond2_iff (g : Fin k0_t3_loop.trips) : (k0_cond2 g = 1#1) ↔ 0 < g.val := cond2_all (g.cast trips3)

/-! ## Where the rows' elements are -/

/-- The element `(b, c, x)` of the features, -/
def ixF (b c x : ℕ) : S8x256x8192.Idx
  | 0 => ⟨b % 8, Nat.mod_lt _ (by decide)⟩
  | 1 => ⟨c % 256, Nat.mod_lt _ (by decide)⟩
  | 2 => ⟨x % 8192, Nat.mod_lt _ (by decide)⟩
/-- and of the samples. -/
def ixO (b c x : ℕ) : S8x256x4096.Idx
  | 0 => ⟨b % 8, Nat.mod_lt _ (by decide)⟩
  | 1 => ⟨c % 256, Nat.mod_lt _ (by decide)⟩
  | 2 => ⟨x % 4096, Nat.mod_lt _ (by decide)⟩

theorem rowOff_inbF {q r : ℕ} (hq : q < 512) (hr : r < 4) : ∀ a, rowOff q r a + S1x1x8192.size a ≤ S8x256x8192.size a := by
  intro a; fin_cases a
  · show q / 64 + 1 ≤ 8; omega
  · show q % 64 * 4 + r + 1 ≤ 256; omega
  · show 0 + 8192 ≤ 8192; omega
theorem rowOff_inbO {q r : ℕ} (hq : q < 512) (hr : r < 4) : ∀ a, rowOff q r a + S1x1x4096.size a ≤ S8x256x4096.size a := by
  intro a; fin_cases a
  · show q / 64 + 1 ≤ 8; omega
  · show q % 64 * 4 + r + 1 ≤ 256; omega
  · show 0 + 4096 ≤ 4096; omega

/-- A row of the features, as the tile's copies name it, -/
abbrev rowF (off : Fin 3 → ℕ) (inb : ∀ a, off a + S1x1x8192.size a ≤ S8x256x8192.size a) : Memref sig .scVector .hbm S8192 .f32 :=
  (aF.slice (Rect.unit (s := S8x256x8192) off S1x1x8192.size inb) (fun _ => rfl)).squeeze S8192 squeezes_S1x1x8192_S8192
/-- a row of the samples, -/
abbrev rowO (off : Fin 3 → ℕ) (inb : ∀ a, off a + S1x1x4096.size a ≤ S8x256x4096.size a) : Memref sig .scVector .hbm S4096 .f32 :=
  (aO.slice (Rect.unit (s := S8x256x4096) off S1x1x4096.size inb) (fun _ => rfl)).squeeze S4096 squeezes_S1x1x4096_S4096

/-- A vector behind two axes of one element. -/
theorem reshape_two {n : ℕ} (h : (⟨1, ![n]⟩ : Shape).numel = (⟨3, ![1, 1, n]⟩ : Shape).numel) (x : (⟨1, ![n]⟩ : Shape).Idx) :
    Shape.reshapeEquiv h x = Fin.cons ⟨0, Nat.one_pos⟩ (Fin.cons ⟨0, Nat.one_pos⟩ x) := by
  have h1 : (⟨1, ![n]⟩ : Shape).numel = (⟨2, ![1, n]⟩ : Shape).numel := by simp [Shape.numel]
  have h2 : (⟨2, ![1, n]⟩ : Shape).numel = (⟨3, ![1, 1, n]⟩ : Shape).numel := h1.symm.trans h
  rw [← Shape.reshapeEquiv_reshapeEquiv h2 h1 x, Shape.reshapeEquiv_cons_one h1 x]
  exact Shape.reshapeEquiv_cons_one h2 _

theorem rowF_emb {q r : ℕ} (hq : q < 512) (hr : r < 4) (inb) (x : S8192.Idx) :
    (rowF (rowOff q r) inb).view.emb x = ixF (q / 64) (q % 64 * 4 + r) (x 0).val := by
  show (Rect.unit (s := S8x256x8192) (rowOff q r) S1x1x8192.size inb).emb (Shape.reshapeEquiv _ x) = _
  rw [reshape_two]
  have hx : (x 0).val < 8192 := (x 0).isLt
  funext a; apply Fin.ext; fin_cases a
  · show q / 64 + 1 * 0 = q / 64 % 8; omega
  · show q % 64 * 4 + r + 1 * 0 = (q % 64 * 4 + r) % 256; omega
  · show 0 + 1 * (x 0).val = (x 0).val % 8192; omega
theorem rowO_emb {q r : ℕ} (hq : q < 512) (hr : r < 4) (inb) (x : S4096.Idx) :
    (rowO (rowOff q r) inb).view.emb x = ixO (q / 64) (q % 64 * 4 + r) (x 0).val := by
  show (Rect.unit (s := S8x256x4096) (rowOff q r) S1x1x4096.size inb).emb (Shape.reshapeEquiv _ x) = _
  rw [reshape_two]
  have hx : (x 0).val < 4096 := (x 0).isLt
  funext a; apply Fin.ext; fin_cases a
  · show q / 64 + 1 * 0 = q / 64 % 8; omega
  · show q % 64 * 4 + r + 1 * 0 = (q % 64 * 4 + r) % 256; omega
  · show 0 + 1 * (x 0).val = (x 0).val % 4096; omega

/-- The elements of a row of the samples. -/
theorem mem_rowO {q r : ℕ} (hq : q < 512) (hr : r < 4) (inb) (j : S8x256x4096.Idx) :
    j ∈ (rowO (rowOff q r) inb).view.set ↔ (j 0).val = q / 64 ∧ (j 1).val = q % 64 * 4 + r := by
  constructor
  · intro h
    obtain ⟨x, -, hx⟩ := Finset.mem_map.mp h
    have e := (rowO_emb hq hr inb x).symm.trans hx
    have e0 := congrArg Fin.val (congrFun e 0); have e1 := congrArg Fin.val (congrFun e 1)
    have d0 : q / 64 % 8 = (j 0).val := e0
    have d1 : (q % 64 * 4 + r) % 256 = (j 1).val := e1
    omega
  · rintro ⟨h0, h1⟩
    have h2 : (j 2).val < 4096 := (j 2).isLt
    refine Finset.mem_map.mpr ⟨ix4 (j 2).val, Finset.mem_univ _, (rowO_emb hq hr inb _).trans ?_⟩
    funext a; apply Fin.ext; fin_cases a
    · show q / 64 % 8 = (j 0).val; omega
    · show (q % 64 * 4 + r) % 256 = (j 1).val; omega
    · show (j 2).val % 4096 % 4096 = (j 2).val; omega

/-! ## The four pieces of a buffer -/

abbrev pieceA (off : Fin 1 → ℕ) (inb : ∀ a, off a + S8192.size a ≤ S32768.size a) : Memref sig .scVector .vmem S8192 .f32 :=
  rA.slice (Rect.unit (s := S32768) off S8192.size inb) (fun _ => rfl)
abbrev pieceB (off : Fin 1 → ℕ) (inb : ∀ a, off a + S8192.size a ≤ S32768.size a) : Memref sig .scVector .vmem S8192 .f32 :=
  rB.slice (Rect.unit (s := S32768) off S8192.size inb) (fun _ => rfl)
abbrev opieceA (off : Fin 1 → ℕ) (inb : ∀ a, off a + S4096.size a ≤ S16384.size a) : Memref sig .scVector .vmem S4096 .f32 :=
  oA.slice (Rect.unit (s := S16384) off S4096.size inb) (fun _ => rfl)
abbrev opieceB (off : Fin 1 → ℕ) (inb : ∀ a, off a + S4096.size a ≤ S16384.size a) : Memref sig .scVector .vmem S4096 .f32 :=
  oB.slice (Rect.unit (s := S16384) off S4096.size inb) (fun _ => rfl)

theorem pinb {r : ℕ} (hr : r < 4) : ∀ a, (![8192 * r] : Fin 1 → ℕ) a + S8192.size a ≤ S32768.size a := by
  intro a; obtain rfl : a = 0 := Subsingleton.elim _ _
  show 8192 * r + 8192 ≤ 32768; omega
theorem oinb {r : ℕ} (hr : r < 4) : ∀ a, (![4096 * r] : Fin 1 → ℕ) a + S4096.size a ≤ S16384.size a := by
  intro a; obtain rfl : a = 0 := Subsingleton.elim _ _
  show 4096 * r + 4096 ≤ 16384; omega

/-- The positions of piece `r`, of 8192 elements, -/
def pset (r : Fin 4) : Finset S32768.Idx := (Rect.unit (s := S32768) ![8192 * r.val] S8192.size (pinb r.isLt)).set
/-- and of 4096. -/
def oset (r : Fin 4) : Finset S16384.Idx := (Rect.unit (s := S16384) ![4096 * r.val] S4096.size (oinb r.isLt)).set

theorem mem_pset (r : Fin 4) (j : S32768.Idx) : j ∈ pset r ↔ 8192 * r.val ≤ (j 0).val ∧ (j 0).val < 8192 * r.val + 8192 :=
  Rect.mem_set_unit.trans ⟨fun h => h 0, fun h a => by obtain rfl : a = 0 := Subsingleton.elim _ _; exact h⟩
theorem mem_oset (r : Fin 4) (j : S16384.Idx) : j ∈ oset r ↔ 4096 * r.val ≤ (j 0).val ∧ (j 0).val < 4096 * r.val + 4096 :=
  Rect.mem_set_unit.trans ⟨fun h => h 0, fun h a => by obtain rfl : a = 0 := Subsingleton.elim _ _; exact h⟩

theorem pset_disj : ∀ t ∈ (Finset.univ : Finset (Fin 4)), ∀ t' ∈ (Finset.univ : Finset (Fin 4)), t ≠ t' → Disjoint (pset t) (pset t') := by
  intro t _ t' _ h
  refine Finset.disjoint_left.mpr fun j hj hj' => h (Fin.ext ?_)
  rw [mem_pset] at hj hj'; omega
theorem oset_disj : ∀ t ∈ (Finset.univ : Finset (Fin 4)), ∀ t' ∈ (Finset.univ : Finset (Fin 4)), t ≠ t' → Disjoint (oset t) (oset t') := by
  intro t _ t' _ h
  refine Finset.disjoint_left.mpr fun j hj hj' => h (Fin.ext ?_)
  rw [mem_oset] at hj hj'; omega
theorem pset_cover : (Finset.univ : Finset (Fin 4)).biUnion pset = Finset.univ := by
  refine Finset.eq_univ_of_forall fun j => Finset.mem_biUnion.mpr ?_
  have hj : (j 0).val < 32768 := (j 0).isLt
  exact ⟨⟨(j 0).val / 8192, by omega⟩, Finset.mem_univ _, (mem_pset _ j).mpr (by dsimp only; omega)⟩
theorem oset_cover : (Finset.univ : Finset (Fin 4)).biUnion oset = Finset.univ := by
  refine Finset.eq_univ_of_forall fun j => Finset.mem_biUnion.mpr ?_
  have hj : (j 0).val < 16384 := (j 0).isLt
  exact ⟨⟨(j 0).val / 4096, by omega⟩, Finset.mem_univ _, (mem_oset _ j).mpr (by dsimp only; omega)⟩

theorem piece_emb {r : ℕ} (hr : r < 4) (inb) (x : S8192.Idx) :
    (Rect.unit (s := S32768) ![8192 * r] S8192.size inb).emb x = ix32 (8192 * r + (x 0).val) := by
  have hx : (x 0).val < 8192 := (x 0).isLt
  funext a; obtain rfl : a = 0 := Subsingleton.elim _ _
  apply Fin.ext; show 8192 * r + 1 * (x 0).val = (8192 * r + (x 0).val) % 32768; omega
theorem opiece_emb {r : ℕ} (hr : r < 4) (inb) (x : S4096.Idx) :
    (Rect.unit (s := S16384) ![4096 * r] S4096.size inb).emb x = ix16 (4096 * r + (x 0).val) := by
  have hx : (x 0).val < 4096 := (x 0).isLt
  funext a; obtain rfl : a = 0 := Subsingleton.elim _ _
  apply Fin.ext; show 4096 * r + 1 * (x 0).val = (4096 * r + (x 0).val) % 16384; omega

/-! ## What the buffers hold -/

variable {F : FTy → Type}

/-- The four rows of quad `q`. -/
def rowsOf (x : S8x256x8192.Idx → Elt F .f32) (q : ℕ) : S32768.Idx → Elt F .f32 :=
  fun j => x (ixF (q / 64) (q % 64 * 4 + (j 0).val / 8192) ((j 0).val % 8192))

/-- The samples: every row at the same indices. -/
def sampled (x : S8x256x8192.Idx → Elt F .f32) (f : S4096.Idx → BitVec 32) : S8x256x4096.Idx → Elt F .f32 :=
  fun j => x (ixF (j 0).val (j 1).val (f (ix4 (j 2).val)).toNat)

end Cert.Proof.Samp

end
-- ==== Proof.Copies.lean ====
/-
  The copies of a tile. Each buffer has one DMA semaphore for the four rows that come in and one for the four that go
  out. A batch is four copies on one of them; its deliveries are stated when it is started: a row landed in its piece of
  the buffer, with the row of the features back, or a row of samples landed, with the piece back.
-/
module

public import proofs.«01_k».proof.Proof.Rows

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)

/-- The elements of row `r` of quad `q` of the features, -/
def rowSet (q r : ℕ) : Finset S8x256x8192.Idx := Finset.univ.filter fun j => (j 0).val = q / 64 ∧ (j 1).val = q % 64 * 4 + r
/-- and of the samples. -/
def outSet (q r : ℕ) : Finset S8x256x4096.Idx := Finset.univ.filter fun j => (j 0).val = q / 64 ∧ (j 1).val = q % 64 * 4 + r

theorem rowO_set {q r : ℕ} (hq : q < 512) (hr : r < 4) (inb) : (rowO (rowOff q r) inb).view.set = outSet q r := by
  ext j; rw [mem_rowO hq hr inb j]; unfold outSet; simp

theorem rowF_set {q r : ℕ} (hq : q < 512) (hr : r < 4) (inb) : (rowF (rowOff q r) inb).view.set = rowSet q r := by
  ext j
  constructor
  · intro h
    obtain ⟨y, -, hy⟩ := Finset.mem_map.mp h
    have e := (rowF_emb hq hr inb y).symm.trans hy
    have e0 := congrArg Fin.val (congrFun e 0); have e1 := congrArg Fin.val (congrFun e 1)
    have d0 : q / 64 % 8 = (j 0).val := e0
    have d1 : (q % 64 * 4 + r) % 256 = (j 1).val := e1
    exact Finset.mem_filter.mpr ⟨Finset.mem_univ _, by omega, by omega⟩
  · intro h
    obtain ⟨-, h0, h1⟩ := Finset.mem_filter.mp h
    have h2 : (j 2).val < 8192 := (j 2).isLt
    refine Finset.mem_map.mpr ⟨ix8 (j 2).val, Finset.mem_univ _, (rowF_emb hq hr inb _).trans ?_⟩
    funext a; apply Fin.ext; fin_cases a
    · show q / 64 % 8 = (j 0).val; omega
    · show (q % 64 * 4 + r) % 256 = (j 1).val; omega
    · show (j 2).val % 8192 % 8192 = (j 2).val; omega

/-- The features at a set of elements and a share; the samples at a set of elements. -/
abbrev fAt (S : Finset S8x256x8192.Idx) (q : PosShare TreeShare) : sProp (MM F) := aF.view.loc (thr d L) ↦[S]{q} x
abbrev oAt (S : Finset S8x256x4096.Idx) (g : S8x256x4096.Idx → Elt F .f32) : sProp (MM F) := aO.view.loc (thr d L) ↦[S]{fullShare} g

theorem bigSep_four (Φ : Fin 4 → sProp (MM F)) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A row of the features, carved out and put back. -/
theorem fAt_split (q r : ℕ) (s : PosShare TreeShare) :
    (fAt d L x Finset.univ s : sProp (MM F)) ⊣⊢ iprop(fAt d L x (rowSet q r) s ∗ fAt d L x (Finset.univ \ rowSet q r) s) :=
  pointsTo_split_subset (Finset.subset_univ _)

/-! ## Buffer A -/

section BufferA

/-- Row `r` of quad `q` landed, its source back at share `s r`. -/
def dinA (s : Fin 4 → PosShare TreeShare) (q : ℕ) (r : Fin 4) : sProp (MM F) :=
  iprop((rA.view.loc (thr d L) ↦[pset r]{fullShare} rowsOf x q) ∗ fAt d L x (rowSet q r.val) (s r))
/-- Row `r` of quad `q` of the samples landed, its source back. -/
def doutA (q : ℕ) (r : Fin 4) : sProp (MM F) :=
  iprop(oAt d L (outSet q r.val) (sampled x f) ∗ (oA.view.loc (thr d L) ↦[oset r]{fullShare} gath (rowsOf x q) f))

instance dinA_storable (s : Fin 4 → PosShare TreeShare) (q : ℕ) (r : Fin 4) : Storable (upEmb : UEmb _ (MM F)) (dinA d L x s q r) := by
  unfold dinA; infer_instance
instance doutA_storable (q : ℕ) (r : Fin 4) : Storable (upEmb : UEmb _ (MM F)) (doutA d L x f q r) := by
  unfold doutA; infer_instance

/-- The credit of a row in, and of a row out. -/
def ninA : ℕ := (pieceA ![0] inb_S32768_S8192_0).view.dmaCredit
def noutA : ℕ := (rowO (rowOff 0 0) (rowOff_inbO (by decide) (by decide))).view.dmaCredit

/-- Quad `q` coming in, `j` rows started and `u` units waited for. -/
def batInA (s : Fin 4 → PosShare TreeShare) (q j u : ℕ) : sProp (MM F) :=
  Transfers.Batch (countersEmb (U := UU)) (thr d L) (.dma cc0_scratch7.sem) (default : HIx 1) ninA (dinA d L x s q) j u
/-- Quad `q` going out. -/
def batOutA (q j u : ℕ) : sProp (MM F) :=
  Transfers.Batch (countersEmb (U := UU)) (thr d L) (.dma cc0_scratch9.sem) (default : HIx 1) noutA (doutA d L x f q) j u

abbrev semInA : sProp (MM F) := semVal (thr d L, SemLoc.dma cc0_scratch7.sem) 0
abbrev semOutA : sProp (MM F) := semVal (thr d L, SemLoc.dma cc0_scratch9.sem) 0

theorem ninA_amount (off : Fin 1 → ℕ) (inb : ∀ a, off a + S8192.size a ≤ S32768.size a) : (pieceA off inb).view.amount (SemLoc.dma cc0_scratch7.sem) = ninA := by unfold ninA; rfl
theorem ninA_credit (off : Fin 1 → ℕ) (inb : ∀ a, off a + S8192.size a ≤ S32768.size a) : (pieceA off inb).view.dmaCredit = ninA := by unfold ninA; rfl
theorem ninA_pos : 0 < ninA := by unfold ninA; exact sig.dmaCredit_pos _ _ _ _ _ (by decide)
theorem noutA_amount (off inb) : (rowO off inb).view.amount (SemLoc.dma cc0_scratch9.sem) = noutA := by unfold noutA; rfl
theorem noutA_credit (off inb) : (rowO off inb).view.dmaCredit = noutA := by unfold noutA; rfl
theorem noutA_pos : 0 < noutA := by unfold noutA; exact sig.dmaCredit_pos _ _ _ _ _ (by decide)

theorem batInA_alloc (s : Fin 4 → PosShare TreeShare) (q : ℕ) : semInA (F := F) d L ⊢ |={Set.univ}=> batInA d L x s q 0 0 :=
  Transfers.batch_alloc' (Lvl := ℕ) (countersEmb (U := UU)) (thr d L) (default : HIx 1) ninA (dinA d L x s q)
theorem batOutA_alloc (q : ℕ) : semOutA (F := F) d L ⊢ |={Set.univ}=> batOutA d L x f q 0 0 :=
  Transfers.batch_alloc' (Lvl := ℕ) (countersEmb (U := UU)) (thr d L) (default : HIx 1) noutA (doutA d L x f q)

theorem pieceA_set (r : ℕ) (hr : r < 4) (inb : ∀ a, (![8192 * r] : Fin 1 → ℕ) a + S8192.size a ≤ S32768.size a) :
    (pieceA ![8192 * r] inb).view.set = pset ⟨r, hr⟩ := View.set_slice_whole _ _
theorem opieceA_set (r : ℕ) (hr : r < 4) (inb : ∀ a, (![4096 * r] : Fin 1 → ℕ) a + S4096.size a ≤ S16384.size a) :
    (opieceA ![4096 * r] inb).view.set = oset ⟨r, hr⟩ := View.set_slice_whole _ _

/-- A row copied in is the row's part of the quad. -/
theorem landedA (q : ℕ) (hq : q < 512) (r : Fin 4) (inb : ∀ a, rowOff q r.val a + S1x1x8192.size a ≤ S8x256x8192.size a) (inbd : ∀ a, (![8192 * r.val] : Fin 1 → ℕ) a + S8192.size a ≤ S32768.size a) (fd : S32768.Idx → Elt F .f32) :
    ∀ j ∈ pset r, ((pieceA ![8192 * r.val] inbd).view.write (Elt F) fd
      (ReadAs.same.apply ((rowF (rowOff q r.val) inb).view.read (Elt F) x)) Finset.univ : S32768.Idx → Elt F .f32) j = rowsOf x q j := by
  intro j hj
  have hj' := (mem_pset r j).mp hj
  have hr := r.isLt
  have e : (pieceA ![8192 * r.val] inbd).view.emb (ix8 ((j 0).val - 8192 * r.val)) = j := by
    refine (piece_emb hr inbd _).trans ?_
    funext a; obtain rfl : a = 0 := Subsingleton.elim _ _
    apply Fin.ext
    show (8192 * r.val + ((j 0).val - 8192 * r.val) % 8192) % 32768 = (j 0).val
    omega
  rw [← e, View.write_emb_of_mem _ _ (Finset.mem_univ _)]
  show x ((rowF (rowOff q r.val) inb).view.emb (ix8 ((j 0).val - 8192 * r.val))) = _
  rw [rowF_emb hq hr inb, e]
  unfold rowsOf
  rw [show (j 0).val / 8192 = r.val by omega]
  rw [show ((ix8 ((j 0).val - 8192 * r.val)) 0).val = (j 0).val % 8192 from (show ((j 0).val - 8192 * r.val) % 8192 = _ by omega)]

/-- A row copied out is the row's part of the samples. -/
theorem putA (hf : ∀ j, (f j).toNat < 8192) (q : ℕ) (hq : q < 512) (r : Fin 4) (inb : ∀ a, rowOff q r.val a + S1x1x4096.size a ≤ S8x256x4096.size a) (inbd : ∀ a, (![4096 * r.val] : Fin 1 → ℕ) a + S4096.size a ≤ S16384.size a) (fd : S8x256x4096.Idx → Elt F .f32) :
    ∀ j ∈ outSet q r.val, (rowO (rowOff q r.val) inb).view.write (Elt F) fd
      (ReadAs.same.apply ((opieceA ![4096 * r.val] inbd).view.read (Elt F) (gath (rowsOf x q) f))) Finset.univ j = sampled x f j := by
  intro j hj
  obtain ⟨-, h0, h1⟩ := Finset.mem_filter.mp hj
  have hr := r.isLt
  have h2 : (j 2).val < 4096 := (j 2).isLt
  have e : (rowO (rowOff q r.val) inb).view.emb (ix4 (j 2).val) = j := by
    refine (rowO_emb hq hr inb _).trans ?_
    funext a; apply Fin.ext; fin_cases a
    · show q / 64 % 8 = (j 0).val; omega
    · show (q % 64 * 4 + r.val) % 256 = (j 1).val; omega
    · show (j 2).val % 4096 % 4096 = (j 2).val; omega
  rw [← e, View.write_emb_of_mem _ _ (Finset.mem_univ _), e]
  show gath (rowsOf x q) f ((Rect.unit (s := S16384) ![4096 * r.val] S4096.size inbd).emb (ix4 (j 2).val)) = _
  rw [opiece_emb hr inbd]
  have hx := hf (ix4 (j 2).val)
  show x (ixF (q / 64) (q % 64 * 4 + (8192 * ((4096 * r.val + (j 2).val % 4096) % 16384 / 4096) + (f (ix4 ((4096 * r.val + (j 2).val % 4096) % 16384 % 4096))).toNat) % 32768 / 8192)
      ((8192 * ((4096 * r.val + (j 2).val % 4096) % 16384 / 4096) + (f (ix4 ((4096 * r.val + (j 2).val % 4096) % 16384 % 4096))).toNat) % 32768 % 8192)) = _
  rw [show (4096 * r.val + (j 2).val % 4096) % 16384 / 4096 = r.val by omega, show (4096 * r.val + (j 2).val % 4096) % 16384 % 4096 = (j 2).val by omega]
  unfold sampled
  rw [show (8192 * r.val + (f (ix4 (j 2).val)).toNat) % 32768 / 8192 = r.val by omega,
    show (8192 * r.val + (f (ix4 (j 2).val)).toNat) % 32768 % 8192 = (f (ix4 (j 2).val)).toNat by omega, ← h0, ← h1]

/-- Starting row `j` of quad `q`. -/
theorem wp_inA {α : Type} {Q : α → sProp (MM F)} (s : Fin 4 → PosShare TreeShare) (q : ℕ) (hq : q < 512) (j : ℕ) (hj : j < 4)
    {offs : Fin 3 → ℕ} {inb : ∀ a, offs a + S1x1x8192.size a ≤ S8x256x8192.size a} (ho : offs = rowOff q j) {offd : Fin 1 → ℕ} {inbd : ∀ a, offd a + S8192.size a ≤ S32768.size a} (hd : offd = ![8192 * j]) (fd : S32768.Idx → Elt F .f32)
    {hsrc hdst hsem} {k : PUnit → Prog (TpuEff nD τ sig (Elt F) Λ₀ (thr d L).2) α} :
    iprop(fAt d L x Finset.univ (s ⟨j, hj⟩) ∗ (rA.view.loc (thr d L) ↦[pset ⟨j, hj⟩]{fullShare} fd) ∗ batInA d L x s q j 0)
      ⊢ iprop(((fAt d L x (Finset.univ \ rowSet q j) (s ⟨j, hj⟩) ∗ batInA d L x s q (j + 1) 0)
            -∗ wp frame (wpE (defs₀ (F := F)) 𝒱₀ (thr d L) none) Set.univ (k ⟨⟩) Q)
          -∗ wp frame (wpE (defs₀ (F := F)) 𝒱₀ (thr d L) none) Set.univ
            (.op (.enqueueDma (rowF offs inb) (.here (pieceA offd inbd)) (.dma cc0_scratch7.sem) hsrc hdst hsem) k) Q) := by
  subst ho; subst hd
  unfold batInA
  iintro ⟨Hf, Hr, HB⟩ Hk
  ihave Hf := (fAt_split d L x q j (s ⟨j, hj⟩)).1 $$ Hf
  icases Hf with ⟨Hrow, Hrest⟩
  have hD : iprop(((rA.view.loc (thr d L)) ↦[pset ⟨j, hj⟩]{fullShare} ((pieceA ![8192 * j] inbd).view.write (Elt F) fd
        (ReadAs.same.apply ((rowF (rowOff q j) inb).view.read (Elt F) x)) Finset.univ))
      ∗ (aF.view.loc (thr d L) ↦[(rowF (rowOff q j) inb).view.set]{s ⟨j, hj⟩} x)) ⊢ dinA d L x s q ⟨j, hj⟩ := by
    rw [pointsTo_congr (landedA x q hq ⟨j, hj⟩ inb inbd fd), rowF_set hq hj]
    exact Entails.rfl
  iapply (Transfers.wp_dmaBatch (countersEmb (U := UU)) 𝒱₀ (thr d L) none (Q := Q) (src := rowF (rowOff q j) inb) (dst := pieceA ![8192 * j] inbd)
    (via := ReadAs.same) (Sd := pset ⟨j, hj⟩) (default : HIx 1) ninA (ninA_amount _ _) (pieceA_set _ _ _).le hj (Nat.zero_le _) hD) $$ [Hrow Hr HB]
  · isplitl [Hrow]; · rw [rowF_set hq hj]; iexact Hrow
    isplitl [Hr]; · iexact Hr
    iexact HB
  iintro HB
  iapply Hk
  isplitl [Hrest]; · iexact Hrest
  iexact HB

/-- Starting row `j` of quad `q` out. -/
theorem wp_outA {α : Type} {Q : α → sProp (MM F)} (hf : ∀ j, (f j).toNat < 8192) (q : ℕ) (hq : q < 512) (j : ℕ) (hj : j < 4)
    {offd : Fin 3 → ℕ} {inbd : ∀ a, offd a + S1x1x4096.size a ≤ S8x256x4096.size a} (ho : offd = rowOff q j) {offs : Fin 1 → ℕ} {inb : ∀ a, offs a + S4096.size a ≤ S16384.size a} (hd : offs = ![4096 * j]) (fd : S8x256x4096.Idx → Elt F .f32)
    {hsrc hdst hsem} {k : PUnit → Prog (TpuEff nD τ sig (Elt F) Λ₀ (thr d L).2) α} :
    iprop(oAt d L (outSet q j) fd ∗ (oA.view.loc (thr d L) ↦[oset ⟨j, hj⟩]{fullShare} gath (rowsOf x q) f) ∗ batOutA d L x f q j 0)
      ⊢ iprop((batOutA d L x f q (j + 1) 0 -∗ wp frame (wpE (defs₀ (F := F)) 𝒱₀ (thr d L) none) Set.univ (k ⟨⟩) Q)
          -∗ wp frame (wpE (defs₀ (F := F)) 𝒱₀ (thr d L) none) Set.univ
            (.op (.enqueueDma (opieceA offs inb) (.here (rowO offd inbd)) (.dma cc0_scratch9.sem) hsrc hdst hsem) k) Q) := by
  subst ho; subst hd
  unfold batOutA
  iintro ⟨Ho, Hs, HB⟩ Hk
  have hD : iprop(((aO.view.loc (thr d L)) ↦[outSet q j]{fullShare} ((rowO (rowOff q j) inbd).view.write (Elt F) fd
        (ReadAs.same.apply ((opieceA ![4096 * j] inb).view.read (Elt F) (gath (rowsOf x q) f))) Finset.univ))
      ∗ (oA.view.loc (thr d L) ↦[(opieceA ![4096 * j] inb).view.set]{fullShare} gath (rowsOf x q) f)) ⊢ doutA d L x f q ⟨j, hj⟩ := by
    rw [pointsTo_congr (putA x f hf q hq ⟨j, hj⟩ inbd inb fd), opieceA_set j hj]
    exact Entails.rfl
  iapply (Transfers.wp_dmaBatch (countersEmb (U := UU)) 𝒱₀ (thr d L) none (Q := Q) (src := opieceA ![4096 * j] inb) (dst := rowO (rowOff q j) inbd)
    (via := ReadAs.same) (Sd := outSet q j) (default : HIx 1) noutA (noutA_amount _ _) (rowO_set hq hj inbd).le hj (Nat.zero_le _) hD) $$ [Ho Hs HB]
  · isplitl [Hs]; · rw [opieceA_set j hj]; iexact Hs
    isplitl [Ho]; · iexact Ho
    iexact HB
  iexact Hk

end BufferA

/-! ## Buffer B -/

section BufferB

/-- Row `r` of quad `q` landed, its source back at share `s r`. -/
def dinB (s : Fin 4 → PosShare TreeShare) (q : ℕ) (r : Fin 4) : sProp (MM F) :=
  iprop((rB.view.loc (thr d L) ↦[pset r]{fullShare} rowsOf x q) ∗ fAt d L x (rowSet q r.val) (s r))
/-- Row `r` of quad `q` of the samples landed, its source back. -/
def doutB (q : ℕ) (r : Fin 4) : sProp (MM F) :=
  iprop(oAt d L (outSet q r.val) (sampled x f) ∗ (oB.view.loc (thr d L) ↦[oset r]{fullShare} gath (rowsOf x q) f))

instance dinB_storable (s : Fin 4 → PosShare TreeShare) (q : ℕ) (r : Fin 4) : Storable (upEmb : UEmb _ (MM F)) (dinB d L x s q r) := by
  unfold dinB; infer_instance
instance doutB_storable (q : ℕ) (r : Fin 4) : Storable (upEmb : UEmb _ (MM F)) (doutB d L x f q r) := by
  unfold doutB; infer_instance

/-- The credit of a row in, and of a row out. -/
def ninB : ℕ := (pieceB ![0] inb_S32768_S8192_0).view.dmaCredit
def noutB : ℕ := (rowO (rowOff 0 0) (rowOff_inbO (by decide) (by decide))).view.dmaCredit

/-- Quad `q` coming in, `j` rows started and `u` units waited for. -/
def batInB (s : Fin 4 → PosShare TreeShare) (q j u : ℕ) : sProp (MM F) :=
  Transfers.Batch (countersEmb (U := UU)) (thr d L) (.dma cc0_scratch8.sem) (default : HIx 1) ninB (dinB d L x s q) j u
/-- Quad `q` going out. -/
def batOutB (q j u : ℕ) : sProp (MM F) :=
  Transfers.Batch (countersEmb (U := UU)) (thr d L) (.dma cc0_scratch10.sem) (default : HIx 1) noutB (doutB d L x f q) j u

abbrev semInB : sProp (MM F) := semVal (thr d L, SemLoc.dma cc0_scratch8.sem) 0
abbrev semOutB : sProp (MM F) := semVal (thr d L, SemLoc.dma cc0_scratch10.sem) 0

theorem ninB_amount (off : Fin 1 → ℕ) (inb : ∀ a, off a + S8192.size a ≤ S32768.size a) : (pieceB off inb).view.amount (SemLoc.dma cc0_scratch8.sem) = ninB := by unfold ninB; rfl
theorem ninB_credit (off : Fin 1 → ℕ) (inb : ∀ a, off a + S8192.size a ≤ S32768.size a) : (pieceB off inb).view.dmaCredit = ninB := by unfold ninB; rfl
theorem ninB_pos : 0 < ninB := by unfold ninB; exact sig.dmaCredit_pos _ _ _ _ _ (by decide)
theorem noutB_amount (off inb) : (rowO off inb).view.amount (SemLoc.dma cc0_scratch10.sem) = noutB := by unfold noutB; rfl
theorem noutB_credit (off inb) : (rowO off inb).view.dmaCredit = noutB := by unfold noutB; rfl
theorem noutB_pos : 0 < noutB := by unfold noutB; exact sig.dmaCredit_pos _ _ _ _ _ (by decide)

theorem batInB_alloc (s : Fin 4 → PosShare TreeShare) (q : ℕ) : semInB (F := F) d L ⊢ |={Set.univ}=> batInB d L x s q 0 0 :=
  Transfers.batch_alloc' (Lvl := ℕ) (countersEmb (U := UU)) (thr d L) (default : HIx 1) ninB (dinB d L x s q)
theorem batOutB_alloc (q : ℕ) : semOutB (F := F) d L ⊢ |={Set.univ}=> batOutB d L x f q 0 0 :=
  Transfers.batch_alloc' (Lvl := ℕ) (countersEmb (U := UU)) (thr d L) (default : HIx 1) noutB (doutB d L x f q)

theorem pieceB_set (r : ℕ) (hr : r < 4) (inb : ∀ a, (![8192 * r] : Fin 1 → ℕ) a + S8192.size a ≤ S32768.size a) :
    (pieceB ![8192 * r] inb).view.set = pset ⟨r, hr⟩ := View.set_slice_whole _ _
theorem opieceB_set (r : ℕ) (hr : r < 4) (inb : ∀ a, (![4096 * r] : Fin 1 → ℕ) a + S4096.size a ≤ S16384.size a) :
    (opieceB ![4096 * r] inb).view.set = oset ⟨r, hr⟩ := View.set_slice_whole _ _

/-- A row copied in is the row's part of the quad. -/
theorem landedB (q : ℕ) (hq : q < 512) (r : Fin 4) (inb : ∀ a, rowOff q r.val a + S1x1x8192.size a ≤ S8x256x8192.size a) (inbd : ∀ a, (![8192 * r.val] : Fin 1 → ℕ) a + S8192.size a ≤ S32768.size a) (fd : S32768.Idx → Elt F .f32) :
    ∀ j ∈ pset r, ((pieceB ![8192 * r.val] inbd).view.write (Elt F) fd
      (ReadAs.same.apply ((rowF (rowOff q r.val) inb).view.read (Elt F) x)) Finset.univ : S32768.Idx → Elt F .f32) j = rowsOf x q j := by
  intro j hj
  have hj' := (mem_pset r j).mp hj
  have hr := r.isLt
  have e : (pieceB ![8192 * r.val] inbd).view.emb (ix8 ((j 0).val - 8192 * r.val)) = j := by
    refine (piece_emb hr inbd _).trans ?_
    funext a; obtain rfl : a = 0 := Subsingleton.elim _ _
    apply Fin.ext
    show (8192 * r.val + ((j 0).val - 8192 * r.val) % 8192) % 32768 = (j 0).val
    omega
  rw [← e, View.write_emb_of_mem _ _ (Finset.mem_univ _)]
  show x ((rowF (rowOff q r.val) inb).view.emb (ix8 ((j 0).val - 8192 * r.val))) = _
  rw [rowF_emb hq hr inb, e]
  unfold rowsOf
  rw [show (j 0).val / 8192 = r.val by omega]
  rw [show ((ix8 ((j 0).val - 8192 * r.val)) 0).val = (j 0).val % 8192 from (show ((j 0).val - 8192 * r.val) % 8192 = _ by omega)]

/-- A row copied out is the row's part of the samples. -/
theorem putB (hf : ∀ j, (f j).toNat < 8192) (q : ℕ) (hq : q < 512) (r : Fin 4) (inb : ∀ a, rowOff q r.val a + S1x1x4096.size a ≤ S8x256x4096.size a) (inbd : ∀ a, (![4096 * r.val] : Fin 1 → ℕ) a + S4096.size a ≤ S16384.size a) (fd : S8x256x4096.Idx → Elt F .f32) :
    ∀ j ∈ outSet q r.val, (rowO (rowOff q r.val) inb).view.write (Elt F) fd
      (ReadAs.same.apply ((opieceB ![4096 * r.val] inbd).view.read (Elt F) (gath (rowsOf x q) f))) Finset.univ j = sampled x f j := by
  intro j hj
  obtain ⟨-, h0, h1⟩ := Finset.mem_filter.mp hj
  have hr := r.isLt
  have h2 : (j 2).val < 4096 := (j 2).isLt
  have e : (rowO (rowOff q r.val) inb).view.emb (ix4 (j 2).val) = j := by
    refine (rowO_emb hq hr inb _).trans ?_
    funext a; apply Fin.ext; fin_cases a
    · show q / 64 % 8 = (j 0).val; omega
    · show (q % 64 * 4 + r.val) % 256 = (j 1).val; omega
    · show (j 2).val % 4096 % 4096 = (j 2).val; omega
  rw [← e, View.write_emb_of_mem _ _ (Finset.mem_univ _), e]
  show gath (rowsOf x q) f ((Rect.unit (s := S16384) ![4096 * r.val] S4096.size inbd).emb (ix4 (j 2).val)) = _
  rw [opiece_emb hr inbd]
  have hx := hf (ix4 (j 2).val)
  show x (ixF (q / 64) (q % 64 * 4 + (8192 * ((4096 * r.val + (j 2).val % 4096) % 16384 / 4096) + (f (ix4 ((4096 * r.val + (j 2).val % 4096) % 16384 % 4096))).toNat) % 32768 / 8192)
      ((8192 * ((4096 * r.val + (j 2).val % 4096) % 16384 / 4096) + (f (ix4 ((4096 * r.val + (j 2).val % 4096) % 16384 % 4096))).toNat) % 32768 % 8192)) = _
  rw [show (4096 * r.val + (j 2).val % 4096) % 16384 / 4096 = r.val by omega, show (4096 * r.val + (j 2).val % 4096) % 16384 % 4096 = (j 2).val by omega]
  unfold sampled
  rw [show (8192 * r.val + (f (ix4 (j 2).val)).toNat) % 32768 / 8192 = r.val by omega,
    show (8192 * r.val + (f (ix4 (j 2).val)).toNat) % 32768 % 8192 = (f (ix4 (j 2).val)).toNat by omega, ← h0, ← h1]

/-- Starting row `j` of quad `q`. -/
theorem wp_inB {α : Type} {Q : α → sProp (MM F)} (s : Fin 4 → PosShare TreeShare) (q : ℕ) (hq : q < 512) (j : ℕ) (hj : j < 4)
    {offs : Fin 3 → ℕ} {inb : ∀ a, offs a + S1x1x8192.size a ≤ S8x256x8192.size a} (ho : offs = rowOff q j) {offd : Fin 1 → ℕ} {inbd : ∀ a, offd a + S8192.size a ≤ S32768.size a} (hd : offd = ![8192 * j]) (fd : S32768.Idx → Elt F .f32)
    {hsrc hdst hsem} {k : PUnit → Prog (TpuEff nD τ sig (Elt F) Λ₀ (thr d L).2) α} :
    iprop(fAt d L x Finset.univ (s ⟨j, hj⟩) ∗ (rB.view.loc (thr d L) ↦[pset ⟨j, hj⟩]{fullShare} fd) ∗ batInB d L x s q j 0)
      ⊢ iprop(((fAt d L x (Finset.univ \ rowSet q j) (s ⟨j, hj⟩) ∗ batInB d L x s q (j + 1) 0)
            -∗ wp frame (wpE (defs₀ (F := F)) 𝒱₀ (thr d L) none) Set.univ (k ⟨⟩) Q)
          -∗ wp frame (wpE (defs₀ (F := F)) 𝒱₀ (thr d L) none) Set.univ
            (.op (.enqueueDma (rowF offs inb) (.here (pieceB offd inbd)) (.dma cc0_scratch8.sem) hsrc hdst hsem) k) Q) := by
  subst ho; subst hd
  unfold batInB
  iintro ⟨Hf, Hr, HB⟩ Hk
  ihave Hf := (fAt_split d L x q j (s ⟨j, hj⟩)).1 $$ Hf
  icases Hf with ⟨Hrow, Hrest⟩
  have hD : iprop(((rB.view.loc (thr d L)) ↦[pset ⟨j, hj⟩]{fullShare} ((pieceB ![8192 * j] inbd).view.write (Elt F) fd
        (ReadAs.same.apply ((rowF (rowOff q j) inb).view.read (Elt F) x)) Finset.univ))
      ∗ (aF.view.loc (thr d L) ↦[(rowF (rowOff q j) inb).view.set]{s ⟨j, hj⟩} x)) ⊢ dinB d L x s q ⟨j, hj⟩ := by
    rw [pointsTo_congr (landedB x q hq ⟨j, hj⟩ inb inbd fd), rowF_set hq hj]
    exact Entails.rfl
  iapply (Transfers.wp_dmaBatch (countersEmb (U := UU)) 𝒱₀ (thr d L) none (Q := Q) (src := rowF (rowOff q j) inb) (dst := pieceB ![8192 * j] inbd)
    (via := ReadAs.same) (Sd := pset ⟨j, hj⟩) (default : HIx 1) ninB (ninB_amount _ _) (pieceB_set _ _ _).le hj (Nat.zero_le _) hD) $$ [Hrow Hr HB]
  · isplitl [Hrow]; · rw [rowF_set hq hj]; iexact Hrow
    isplitl [Hr]; · iexact Hr
    iexact HB
  iintro HB
  iapply Hk
  isplitl [Hrest]; · iexact Hrest
  iexact HB

/-- Starting row `j` of quad `q` out. -/
theorem wp_outB {α : Type} {Q : α → sProp (MM F)} (hf : ∀ j, (f j).toNat < 8192) (q : ℕ) (hq : q < 512) (j : ℕ) (hj : j < 4)
    {offd : Fin 3 → ℕ} {inbd : ∀ a, offd a + S1x1x4096.size a ≤ S8x256x4096.size a} (ho : offd = rowOff q j) {offs : Fin 1 → ℕ} {inb : ∀ a, offs a + S4096.size a ≤ S16384.size a} (hd : offs = ![4096 * j]) (fd : S8x256x4096.Idx → Elt F .f32)
    {hsrc hdst hsem} {k : PUnit → Prog (TpuEff nD τ sig (Elt F) Λ₀ (thr d L).2) α} :
    iprop(oAt d L (outSet q j) fd ∗ (oB.view.loc (thr d L) ↦[oset ⟨j, hj⟩]{fullShare} gath (rowsOf x q) f) ∗ batOutB d L x f q j 0)
      ⊢ iprop((batOutB d L x f q (j + 1) 0 -∗ wp frame (wpE (defs₀ (F := F)) 𝒱₀ (thr d L) none) Set.univ (k ⟨⟩) Q)
          -∗ wp frame (wpE (defs₀ (F := F)) 𝒱₀ (thr d L) none) Set.univ
            (.op (.enqueueDma (opieceB offs inb) (.here (rowO offd inbd)) (.dma cc0_scratch10.sem) hsrc hdst hsem) k) Q) := by
  subst ho; subst hd
  unfold batOutB
  iintro ⟨Ho, Hs, HB⟩ Hk
  have hD : iprop(((aO.view.loc (thr d L)) ↦[outSet q j]{fullShare} ((rowO (rowOff q j) inbd).view.write (Elt F) fd
        (ReadAs.same.apply ((opieceB ![4096 * j] inb).view.read (Elt F) (gath (rowsOf x q) f))) Finset.univ))
      ∗ (oB.view.loc (thr d L) ↦[(opieceB ![4096 * j] inb).view.set]{fullShare} gath (rowsOf x q) f)) ⊢ doutB d L x f q ⟨j, hj⟩ := by
    rw [pointsTo_congr (putB x f hf q hq ⟨j, hj⟩ inbd inb fd), opieceB_set j hj]
    exact Entails.rfl
  iapply (Transfers.wp_dmaBatch (countersEmb (U := UU)) 𝒱₀ (thr d L) none (Q := Q) (src := opieceB ![4096 * j] inb) (dst := rowO (rowOff q j) inbd)
    (via := ReadAs.same) (Sd := outSet q j) (default : HIx 1) noutB (noutB_amount _ _) (rowO_set hq hj inbd).le hj (Nat.zero_le _) hD) $$ [Ho Hs HB]
  · isplitl [Hs]; · rw [opieceB_set j hj]; iexact Hs
    isplitl [Ho]; · iexact Ho
    iexact HB
  iexact Hk

end BufferB

end Cert.Proof.Samp

end
-- ==== Proof.CopyWaits.lean ====
/-
  The waits of a tile's batches, and the buffers taken apart for the copies and put together after them.
-/
module

public import proofs.«01_k».proof.Proof.Copies

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

/-- The tile's promises, with the waits it has recorded: those of the start and waits of no round. -/
def owed : sProp (MM F) := iprop(∃ W', ⌜∀ p ∈ W', p ∈ W ∨ p.2 = none⌝ ∗ owes (thr d L) O W')

theorem owed_of {W' : Waits sig (HIx 1)} (h : ∀ p ∈ W', p ∈ W ∨ p.2 = none) (sm : SemLoc sig) :
    owes (thr d L) O (insert (sm, (default : HIx 1)) W') ⊢ owed (F := F) d L O W := by
  unfold owed
  iintro H
  iexists _; isplitr
  swap
  · iexact H
  ipureintro
  intro p hp
  rcases Finset.mem_insert.mp hp with rfl | hp
  · exact .inr rfl
  · exact h p hp

/-- What every wait of the tile may rely on. -/
abbrev mayWaits : sProp (MM F) := Transfers.MayWaits (thr d L) (default : HIx 1) O

/-- A row of samples in the output, at whatever it holds; a quad's rows of samples at their values. -/
abbrev anyOut (q r : ℕ) : sProp (MM F) := iprop(∃ g, oAt (F := F) d L (outSet q r) g)
def todoOut (q : ℕ) : sProp (MM F) := bigSep Finset.univ fun r : Fin 4 => anyOut (F := F) d L q r.val
def doneOut (q : ℕ) : sProp (MM F) := bigSep Finset.univ fun r : Fin 4 => oAt (F := F) d L (outSet q r.val) (sampled x f)
/-- The shares of the features a buffer's copies read at. -/
def fToks (s : Fin 4 → PosShare TreeShare) : sProp (MM F) := bigSep Finset.univ fun r : Fin 4 => fAt (F := F) d L x Finset.univ (s r)
/-- What is left of them while the rows of quad `q` come in. -/
def fRests (s : Fin 4 → PosShare TreeShare) (q : ℕ) : sProp (MM F) :=
  bigSep Finset.univ fun r : Fin 4 => fAt (F := F) d L x (Finset.univ \ rowSet q r.val) (s r)

theorem four_pieces {ℓ : Loc nD τ sig} (Kp : Fin 4 → Finset (Idx ℓ))
    (hd : ∀ t ∈ (Finset.univ : Finset (Fin 4)), ∀ t' ∈ (Finset.univ : Finset (Fin 4)), t ≠ t' → Disjoint (Kp t) (Kp t'))
    (hc : ∀ j, ∃ r, j ∈ Kp r) (g : Buf (Elt F) ℓ) :
    (ℓ ↦{fullShare} g : sProp (MM F)) = bigSep Finset.univ fun r : Fin 4 => (ℓ ↦[Kp r]{fullShare} g : sProp (MM F)) := by
  rw [← pointsTo_biUnion (Finset.univ : Finset (Fin 4)) Kp hd]
  congr 1
  ext j
  simp only [Finset.mem_univ, Finset.mem_biUnion, true_and, true_iff]
  exact hc j
theorem pset_all (j : S32768.Idx) : ∃ r, j ∈ pset r := by
  have h : j ∈ (Finset.univ : Finset (Fin 4)).biUnion pset := by rw [pset_cover]; exact Finset.mem_univ _
  obtain ⟨r, -, hr⟩ := Finset.mem_biUnion.mp h
  exact ⟨r, hr⟩
theorem oset_all (j : S16384.Idx) : ∃ r, j ∈ oset r := by
  have h : j ∈ (Finset.univ : Finset (Fin 4)).biUnion oset := by rw [oset_cover]; exact Finset.mem_univ _
  obtain ⟨r, -, hr⟩ := Finset.mem_biUnion.mp h
  exact ⟨r, hr⟩

theorem fToks_eq (s : Fin 4 → PosShare TreeShare) : fToks d L x s
    = iprop(fAt (F := F) d L x Finset.univ (s 0) ∗ fAt d L x Finset.univ (s 1) ∗ fAt d L x Finset.univ (s 2) ∗ fAt d L x Finset.univ (s 3)) := bigSep_four _
theorem fRests_eq (s : Fin 4 → PosShare TreeShare) (q : ℕ) : fRests d L x s q
    = iprop(fAt (F := F) d L x (Finset.univ \ rowSet q 0) (s 0) ∗ fAt d L x (Finset.univ \ rowSet q 1) (s 1)
      ∗ fAt d L x (Finset.univ \ rowSet q 2) (s 2) ∗ fAt d L x (Finset.univ \ rowSet q 3) (s 3)) := bigSep_four _
theorem todoOut_eq (q : ℕ) : todoOut (F := F) d L q = iprop(anyOut (F := F) d L q 0 ∗ anyOut (F := F) d L q 1 ∗ anyOut (F := F) d L q 2 ∗ anyOut (F := F) d L q 3) := bigSep_four _

theorem fRests_join (s : Fin 4 → PosShare TreeShare) (q : ℕ) :
    iprop((bigSep Finset.univ fun r : Fin 4 => fAt (F := F) d L x (rowSet q r.val) (s r)) ∗ fRests d L x s q) ⊢ fToks d L x s := by
  rw [fToks_eq, fRests_eq, bigSep_four]
  iintro ⟨⟨H0, H1, H2, H3⟩, R0, R1, R2, R3⟩
  isplitl [H0 R0]
  · iapply (fAt_split d L x q 0 (s 0)).2; isplitl [H0]; · iexact H0
    iexact R0
  isplitl [H1 R1]
  · iapply (fAt_split d L x q 1 (s 1)).2; isplitl [H1]; · iexact H1
    iexact R1
  isplitl [H2 R2]
  · iapply (fAt_split d L x q 2 (s 2)).2; isplitl [H2]; · iexact H2
    iexact R2
  · iapply (fAt_split d L x q 3 (s 3)).2; isplitl [H3]; · iexact H3
    iexact R3

/-! ## Buffer A -/

section BufferA

/-- The two buffers whole are their four pieces. -/
theorem rvA_pieces (g : S32768.Idx → Elt F .f32) : rvAPts d L g
    = bigSep Finset.univ fun r : Fin 4 => (rA.view.loc (thr d L) ↦[pset r]{fullShare} g : sProp (MM F)) := by
  unfold rvAPts
  exact four_pieces (ℓ := rA.view.loc (thr d L)) pset pset_disj pset_all g
theorem ovA_pieces (g : S16384.Idx → Elt F .f32) : ovAPts d L g
    = bigSep Finset.univ fun r : Fin 4 => (oA.view.loc (thr d L) ↦[oset r]{fullShare} g : sProp (MM F)) := by
  unfold ovAPts
  exact four_pieces (ℓ := oA.view.loc (thr d L)) oset oset_disj oset_all g

/-- A quad landed. -/
theorem batInA_end (s : Fin 4 → PosShare TreeShare) (q : ℕ) :
    bigSep Finset.univ (dinA (F := F) d L x s q) ⊢ iprop(rvAPts d L (rowsOf x q) ∗ bigSep Finset.univ fun r : Fin 4 => fAt (F := F) d L x (rowSet q r.val) (s r)) := by
  rw [rvA_pieces]
  unfold dinA
  rw [bigSep_four, bigSep_four, bigSep_four]
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem batOutA_end (q : ℕ) :
    bigSep Finset.univ (doutA (F := F) d L x f q) ⊢ iprop(doneOut d L x f q ∗ ovAPts d L (gath (rowsOf x q) f)) := by
  rw [ovA_pieces]
  unfold doutA doneOut
  rw [bigSep_four, bigSep_four, bigSep_four]
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption

/-- A wait of a quad coming in that is not the last, -/
theorem wp_waitInA {α : Type} {Q : α → sProp (MM F)} (s : Fin 4 → PosShare TreeShare) (q n : ℕ) (hn : n < 3)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(batInA d L x s q 4 (n * ninA) ∗ owed d L O W ∗ mayWaits d L O)
      ⊢ iprop(((batInA d L x s q 4 ((n + 1) * ninA) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch7.sem src (pieceA off inb) hsrc hdst) k) Q) := by
  unfold batInA
  rw [show (n + 1) * ninA = n * ninA + ninA from Nat.succ_mul _ _]
  have hlt : n * ninA + ninA < ninA * 4 := by have := ninA_pos; nlinarith
  conv_lhs => unfold owed
  iintro ⟨HB, ⟨%W', %hW, HO⟩, #Hmw⟩ Hk
  ihave Hm := (Transfers.MayWaits.elim (.dma cc0_scratch7.sem)) $$ Hmw
  iapply (Transfers.wp_waitBatchO (countersEmb (U := UU)) 𝒱₀ (thr d L) none (Q := Q) (default : HIx 1) (ninA_credit off inb) hlt) $$ [HB HO Hm]
  · isplitl [HB]; · iexact HB
    isplitl [HO]; · iexact HO
    iexact Hm
  iintro ⟨HB, HO⟩
  iapply Hk
  isplitl [HB]; · iexact HB
  iapply (owed_of d L O W hW); iexact HO

/-- and the last. -/
theorem wp_waitInLastA {α : Type} {Q : α → sProp (MM F)} (s : Fin 4 → PosShare TreeShare) (q : ℕ)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(batInA d L x s q 4 (3 * ninA) ∗ fRests d L x s q ∗ owed d L O W ∗ mayWaits d L O)
      ⊢ iprop(((rvAPts d L (rowsOf x q) ∗ fToks d L x s ∗ semInA d L ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch7.sem src (pieceA off inb) hsrc hdst) k) Q) := by
  unfold batInA
  have heq : 3 * ninA + ninA = ninA * 4 := by omega
  conv_lhs => unfold owed
  iintro ⟨HB, HR, ⟨%W', %hW, HO⟩, #Hmw⟩ Hk
  ihave Hm := (Transfers.MayWaits.elim (.dma cc0_scratch7.sem)) $$ Hmw
  iapply (Transfers.wp_waitBatchLastO (countersEmb (U := UU)) 𝒱₀ (thr d L) none (Q := Q) (default : HIx 1) (ninA_credit off inb) ninA_pos heq) $$ [HB HO Hm]
  · isplitl [HB]; · iexact HB
    isplitl [HO]; · iexact HO
    iexact Hm
  iintro ⟨HD, HS, HO⟩
  ihave HD := (batInA_end d L x s q) $$ HD
  icases HD with ⟨Hrv, Hrow⟩
  iapply Hk
  isplitl [Hrv]; · iexact Hrv
  isplitl [Hrow HR]
  · iapply (fRests_join d L x s q); isplitl [Hrow] <;> iassumption
  isplitl [HS]; · iexact HS
  iapply (owed_of d L O W hW); iexact HO

/-- A wait of a quad going out that is not the last, -/
theorem wp_waitOutA {α : Type} {Q : α → sProp (MM F)} (q n : ℕ) (hn : n < 3)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(batOutA d L x f q 4 (n * noutA) ∗ owed d L O W ∗ mayWaits d L O)
      ⊢ iprop(((batOutA d L x f q 4 ((n + 1) * noutA) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch9.sem src (rowO off inb) hsrc hdst) k) Q) := by
  unfold batOutA
  rw [show (n + 1) * noutA = n * noutA + noutA from Nat.succ_mul _ _]
  have hlt : n * noutA + noutA < noutA * 4 := by have := noutA_pos; nlinarith
  conv_lhs => unfold owed
  iintro ⟨HB, ⟨%W', %hW, HO⟩, #Hmw⟩ Hk
  ihave Hm := (Transfers.MayWaits.elim (.dma cc0_scratch9.sem)) $$ Hmw
  iapply (Transfers.wp_waitBatchO (countersEmb (U := UU)) 𝒱₀ (thr d L) none (Q := Q) (default : HIx 1) (noutA_credit off inb) hlt) $$ [HB HO Hm]
  · isplitl [HB]; · iexact HB
    isplitl [HO]; · iexact HO
    iexact Hm
  iintro ⟨HB, HO⟩
  iapply Hk
  isplitl [HB]; · iexact HB
  iapply (owed_of d L O W hW); iexact HO

/-- and the last. -/
theorem wp_waitOutLastA {α : Type} {Q : α → sProp (MM F)} (q : ℕ)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(batOutA d L x f q 4 (3 * noutA) ∗ owed d L O W ∗ mayWaits d L O)
      ⊢ iprop(((doneOut d L x f q ∗ ovAPts d L (gath (rowsOf x q) f) ∗ semOutA d L ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch9.sem src (rowO off inb) hsrc hdst) k) Q) := by
  unfold batOutA
  have heq : 3 * noutA + noutA = noutA * 4 := by omega
  conv_lhs => unfold owed
  iintro ⟨HB, ⟨%W', %hW, HO⟩, #Hmw⟩ Hk
  ihave Hm := (Transfers.MayWaits.elim (.dma cc0_scratch9.sem)) $$ Hmw
  iapply (Transfers.wp_waitBatchLastO (countersEmb (U := UU)) 𝒱₀ (thr d L) none (Q := Q) (default : HIx 1) (noutA_credit off inb) noutA_pos heq) $$ [HB HO Hm]
  · isplitl [HB]; · iexact HB
    isplitl [HO]; · iexact HO
    iexact Hm
  iintro ⟨HD, HS, HO⟩
  ihave HD := (batOutA_end d L x f q) $$ HD
  icases HD with ⟨Hrow, Hov⟩
  iapply Hk
  isplitl [Hrow]; · iexact Hrow
  isplitl [Hov]; · iexact Hov
  isplitl [HS]; · iexact HS
  iapply (owed_of d L O W hW); iexact HO

end BufferA

/-! ## Buffer B -/

section BufferB

/-- The two buffers whole are their four pieces. -/
theorem rvB_pieces (g : S32768.Idx → Elt F .f32) : rvBPts d L g
    = bigSep Finset.univ fun r : Fin 4 => (rB.view.loc (thr d L) ↦[pset r]{fullShare} g : sProp (MM F)) := by
  unfold rvBPts
  exact four_pieces (ℓ := rB.view.loc (thr d L)) pset pset_disj pset_all g
theorem ovB_pieces (g : S16384.Idx → Elt F .f32) : ovBPts d L g
    = bigSep Finset.univ fun r : Fin 4 => (oB.view.loc (thr d L) ↦[oset r]{fullShare} g : sProp (MM F)) := by
  unfold ovBPts
  exact four_pieces (ℓ := oB.view.loc (thr d L)) oset oset_disj oset_all g

/-- A quad landed. -/
theorem batInB_end (s : Fin 4 → PosShare TreeShare) (q : ℕ) :
    bigSep Finset.univ (dinB (F := F) d L x s q) ⊢ iprop(rvBPts d L (rowsOf x q) ∗ bigSep Finset.univ fun r : Fin 4 => fAt (F := F) d L x (rowSet q r.val) (s r)) := by
  rw [rvB_pieces]
  unfold dinB
  rw [bigSep_four, bigSep_four, bigSep_four]
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem batOutB_end (q : ℕ) :
    bigSep Finset.univ (doutB (F := F) d L x f q) ⊢ iprop(doneOut d L x f q ∗ ovBPts d L (gath (rowsOf x q) f)) := by
  rw [ovB_pieces]
  unfold doutB doneOut
  rw [bigSep_four, bigSep_four, bigSep_four]
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption

/-- A wait of a quad coming in that is not the last, -/
theorem wp_waitInB {α : Type} {Q : α → sProp (MM F)} (s : Fin 4 → PosShare TreeShare) (q n : ℕ) (hn : n < 3)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(batInB d L x s q 4 (n * ninB) ∗ owed d L O W ∗ mayWaits d L O)
      ⊢ iprop(((batInB d L x s q 4 ((n + 1) * ninB) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch8.sem src (pieceB off inb) hsrc hdst) k) Q) := by
  unfold batInB
  rw [show (n + 1) * ninB = n * ninB + ninB from Nat.succ_mul _ _]
  have hlt : n * ninB + ninB < ninB * 4 := by have := ninB_pos; nlinarith
  conv_lhs => unfold owed
  iintro ⟨HB, ⟨%W', %hW, HO⟩, #Hmw⟩ Hk
  ihave Hm := (Transfers.MayWaits.elim (.dma cc0_scratch8.sem)) $$ Hmw
  iapply (Transfers.wp_waitBatchO (countersEmb (U := UU)) 𝒱₀ (thr d L) none (Q := Q) (default : HIx 1) (ninB_credit off inb) hlt) $$ [HB HO Hm]
  · isplitl [HB]; · iexact HB
    isplitl [HO]; · iexact HO
    iexact Hm
  iintro ⟨HB, HO⟩
  iapply Hk
  isplitl [HB]; · iexact HB
  iapply (owed_of d L O W hW); iexact HO

/-- and the last. -/
theorem wp_waitInLastB {α : Type} {Q : α → sProp (MM F)} (s : Fin 4 → PosShare TreeShare) (q : ℕ)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(batInB d L x s q 4 (3 * ninB) ∗ fRests d L x s q ∗ owed d L O W ∗ mayWaits d L O)
      ⊢ iprop(((rvBPts d L (rowsOf x q) ∗ fToks d L x s ∗ semInB d L ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch8.sem src (pieceB off inb) hsrc hdst) k) Q) := by
  unfold batInB
  have heq : 3 * ninB + ninB = ninB * 4 := by omega
  conv_lhs => unfold owed
  iintro ⟨HB, HR, ⟨%W', %hW, HO⟩, #Hmw⟩ Hk
  ihave Hm := (Transfers.MayWaits.elim (.dma cc0_scratch8.sem)) $$ Hmw
  iapply (Transfers.wp_waitBatchLastO (countersEmb (U := UU)) 𝒱₀ (thr d L) none (Q := Q) (default : HIx 1) (ninB_credit off inb) ninB_pos heq) $$ [HB HO Hm]
  · isplitl [HB]; · iexact HB
    isplitl [HO]; · iexact HO
    iexact Hm
  iintro ⟨HD, HS, HO⟩
  ihave HD := (batInB_end d L x s q) $$ HD
  icases HD with ⟨Hrv, Hrow⟩
  iapply Hk
  isplitl [Hrv]; · iexact Hrv
  isplitl [Hrow HR]
  · iapply (fRests_join d L x s q); isplitl [Hrow] <;> iassumption
  isplitl [HS]; · iexact HS
  iapply (owed_of d L O W hW); iexact HO

/-- A wait of a quad going out that is not the last, -/
theorem wp_waitOutB {α : Type} {Q : α → sProp (MM F)} (q n : ℕ) (hn : n < 3)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(batOutB d L x f q 4 (n * noutB) ∗ owed d L O W ∗ mayWaits d L O)
      ⊢ iprop(((batOutB d L x f q 4 ((n + 1) * noutB) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch10.sem src (rowO off inb) hsrc hdst) k) Q) := by
  unfold batOutB
  rw [show (n + 1) * noutB = n * noutB + noutB from Nat.succ_mul _ _]
  have hlt : n * noutB + noutB < noutB * 4 := by have := noutB_pos; nlinarith
  conv_lhs => unfold owed
  iintro ⟨HB, ⟨%W', %hW, HO⟩, #Hmw⟩ Hk
  ihave Hm := (Transfers.MayWaits.elim (.dma cc0_scratch10.sem)) $$ Hmw
  iapply (Transfers.wp_waitBatchO (countersEmb (U := UU)) 𝒱₀ (thr d L) none (Q := Q) (default : HIx 1) (noutB_credit off inb) hlt) $$ [HB HO Hm]
  · isplitl [HB]; · iexact HB
    isplitl [HO]; · iexact HO
    iexact Hm
  iintro ⟨HB, HO⟩
  iapply Hk
  isplitl [HB]; · iexact HB
  iapply (owed_of d L O W hW); iexact HO

/-- and the last. -/
theorem wp_waitOutLastB {α : Type} {Q : α → sProp (MM F)} (q : ℕ)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(batOutB d L x f q 4 (3 * noutB) ∗ owed d L O W ∗ mayWaits d L O)
      ⊢ iprop(((doneOut d L x f q ∗ ovBPts d L (gath (rowsOf x q) f) ∗ semOutB d L ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch10.sem src (rowO off inb) hsrc hdst) k) Q) := by
  unfold batOutB
  have heq : 3 * noutB + noutB = noutB * 4 := by omega
  conv_lhs => unfold owed
  iintro ⟨HB, ⟨%W', %hW, HO⟩, #Hmw⟩ Hk
  ihave Hm := (Transfers.MayWaits.elim (.dma cc0_scratch10.sem)) $$ Hmw
  iapply (Transfers.wp_waitBatchLastO (countersEmb (U := UU)) 𝒱₀ (thr d L) none (Q := Q) (default : HIx 1) (noutB_credit off inb) noutB_pos heq) $$ [HB HO Hm]
  · isplitl [HB]; · iexact HB
    isplitl [HO]; · iexact HO
    iexact Hm
  iintro ⟨HD, HS, HO⟩
  ihave HD := (batOutB_end d L x f q) $$ HD
  icases HD with ⟨Hrow, Hov⟩
  iapply Hk
  isplitl [Hrow]; · iexact Hrow
  isplitl [Hov]; · iexact Hov
  isplitl [HS]; · iexact HS
  iapply (owed_of d L O W hW); iexact HO

end BufferB

end Cert.Proof.Samp

end
-- ==== Proof.Streams.lean ====
/-
  The states of a tile's four streams of copies, and one copy's step of each: a quad of rows on its way in or out.
-/
module

public import proofs.«01_k».proof.Proof.CopyWaits

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

/-! ## Buffer A -/

section BufferA

/-- `j` of quad `q`'s four copies in are issued; -/
def inPA (s : Fin 4 → PosShare TreeShare) (q j : ℕ) : sProp (MM F) :=
  iprop(batInA d L x s q j 0 ∗ bigSep Finset.univ fun r : Fin 4 =>
    if r.val < j then fAt (F := F) d L x (Finset.univ \ rowSet q r.val) (s r)
    else iprop(fAt d L x Finset.univ (s r) ∗ ∃ fd, (rA.view.loc (thr d L) ↦[pset r]{fullShare} fd : sProp (MM F))))
/-- all are, and `j` are waited for; -/
def inWA (s : Fin 4 → PosShare TreeShare) (q j : ℕ) : sProp (MM F) := iprop(batInA d L x s q 4 (j * ninA) ∗ fRests d L x s q)
/-- the quad is in the buffer. -/
def inDA (s : Fin 4 → PosShare TreeShare) (q : ℕ) : sProp (MM F) := iprop(rvAPts d L (rowsOf x q) ∗ fToks d L x s ∗ semInA d L)
/-- `j` of quad `q`'s four copies out are issued; -/
def outPA (q j : ℕ) : sProp (MM F) :=
  iprop(batOutA d L x f q j 0 ∗ bigSep Finset.univ fun r : Fin 4 =>
    if r.val < j then iprop(emp)
    else iprop(anyOut (F := F) d L q r.val ∗ (oA.view.loc (thr d L) ↦[oset r]{fullShare} gath (rowsOf x q) f : sProp (MM F))))
/-- all are, and `j` are waited for; -/
def outWA (q j : ℕ) : sProp (MM F) := batOutA d L x f q 4 (j * noutA)
/-- the samples are in the output, and the buffer is free. -/
def outDA (q : ℕ) : sProp (MM F) := iprop(doneOut d L x f q ∗ (∃ g, ovAPts (F := F) d L g) ∗ semOutA d L)

theorem inPA_start (s : Fin 4 → PosShare TreeShare) (q : ℕ) (g : S32768.Idx → Elt F .f32) :
    iprop(rvAPts d L g ∗ fToks d L x s ∗ semInA d L) ⊢ |={Set.univ}=> inPA d L x s q 0 := by
  rw [rvA_pieces]
  unfold fToks inPA
  simp only [Nat.not_lt_zero, if_false]
  rw [bigSep_four, bigSep_four, bigSep_four]
  iintro ⟨⟨R0, R1, R2, R3⟩, ⟨F0, F1, F2, F3⟩, Hs⟩
  imod (batInA_alloc d L x s q) $$ Hs with HB
  imodintro
  isplitl [HB]; · iexact HB
  isplitl [R0 F0]
  · isplitl [F0]; · iexact F0
    iexists g; iexact R0
  isplitl [R1 F1]
  · isplitl [F1]; · iexact F1
    iexists g; iexact R1
  isplitl [R2 F2]
  · isplitl [F2]; · iexact F2
    iexists g; iexact R2
  · isplitl [F3]; · iexact F3
    iexists g; iexact R3

theorem outPA_start (q : ℕ) :
    iprop(todoOut (F := F) d L q ∗ ovAPts d L (gath (rowsOf x q) f) ∗ semOutA d L) ⊢ |={Set.univ}=> outPA d L x f q 0 := by
  rw [ovA_pieces]
  unfold todoOut outPA
  simp only [Nat.not_lt_zero, if_false]
  rw [bigSep_four, bigSep_four, bigSep_four]
  iintro ⟨⟨R0, R1, R2, R3⟩, ⟨F0, F1, F2, F3⟩, Hs⟩
  imod (batOutA_alloc d L x f q) $$ Hs with HB
  imodintro
  isplitl [HB]; · iexact HB
  isplitl [R0 F0]
  · isplitl [R0]; · iexact R0
    iexact F0
  isplitl [R1 F1]
  · isplitl [R1]; · iexact R1
    iexact F1
  isplitl [R2 F2]
  · isplitl [R2]; · iexact R2
    iexact F2
  · isplitl [R3]; · iexact R3
    iexact F3

theorem inPA_end (s : Fin 4 → PosShare TreeShare) (q : ℕ) : inPA d L x s q 4 ⊢ inWA d L x s q 0 := by
  unfold inPA inWA fRests
  rw [Nat.zero_mul]
  refine sep_mono Entails.rfl (Entails.of_eq (bigSep_congr fun r _ => ?_))
  rw [if_pos r.isLt]
theorem outPA_end (q : ℕ) : outPA d L x f q 4 ⊢ outWA d L x f q 0 := by
  unfold outPA outWA
  rw [Nat.zero_mul]
  iintro ⟨H, -⟩; iexact H

/-- The next copy of a quad in, -/
theorem stepInA {α : Type} {Q : α → sProp (MM F)} (s : Fin 4 → PosShare TreeShare) (q : ℕ) (hq : q < 512) (j : ℕ) (hj : j < 4)
    {offs : Fin 3 → ℕ} {inb : ∀ a, offs a + S1x1x8192.size a ≤ S8x256x8192.size a} (ho : offs = rowOff q j) {offd : Fin 1 → ℕ} {inbd : ∀ a, offd a + S8192.size a ≤ S32768.size a} (hd : offd = ![8192 * j])
    {hsrc hdst hsem} {k : PUnit → Prog (TpuEff nD τ sig (Elt F) Λ₀ (thr d L).2) α} :
    inPA d L x s q j
      ⊢ iprop((inPA d L x s q (j + 1) -∗ wp frame (wpE (defs₀ (F := F)) 𝒱₀ (thr d L) none) Set.univ (k ⟨⟩) Q)
          -∗ wp frame (wpE (defs₀ (F := F)) 𝒱₀ (thr d L) none) Set.univ
            (.op (.enqueueDma (rowF offs inb) (.here (pieceA offd inbd)) (.dma cc0_scratch7.sem) hsrc hdst hsem) k) Q) := by
  unfold inPA
  rw [SparseCore.bigSep_erase' (Finset.mem_univ (⟨j, hj⟩ : Fin 4)), SparseCore.bigSep_erase' (s := Finset.univ) (i := (⟨j, hj⟩ : Fin 4)) (Finset.mem_univ _)]
  rw [if_neg (show ¬ (⟨j, hj⟩ : Fin 4).val < j from lt_irrefl j), if_pos (show (⟨j, hj⟩ : Fin 4).val < j + 1 from Nat.lt_succ_self j)]
  iintro ⟨HB, ⟨Hf, %fd, Hr⟩, Hrest⟩ Hk
  iapply (wp_inA d L x s q hq j hj ho hd fd) $$ [HB Hf Hr]
  · isplitl [Hf]; · iexact Hf
    isplitl [Hr]; · iexact Hr
    iexact HB
  iintro ⟨Hf, HB⟩
  iapply Hk
  isplitl [HB]; · iexact HB
  isplitl [Hf]; · iexact Hf
  iapply (Entails.of_eq (bigSep_congr (s := (Finset.univ : Finset (Fin 4)).erase ⟨j, hj⟩) fun r hr => ?_)) $$ Hrest
  have hne : r.val ≠ j := fun h => Finset.ne_of_mem_erase hr (Fin.ext h)
  by_cases hlt : r.val < j
  · rw [if_pos hlt, if_pos (by omega)]
  · rw [if_neg hlt, if_neg (by omega)]

/-- the next copy out, -/
theorem stepOutA {α : Type} {Q : α → sProp (MM F)} (hf : ∀ j, (f j).toNat < 8192) (q : ℕ) (hq : q < 512) (j : ℕ) (hj : j < 4)
    {offd : Fin 3 → ℕ} {inbd : ∀ a, offd a + S1x1x4096.size a ≤ S8x256x4096.size a} (ho : offd = rowOff q j) {offs : Fin 1 → ℕ} {inb : ∀ a, offs a + S4096.size a ≤ S16384.size a} (hd : offs = ![4096 * j])
    {hsrc hdst hsem} {k : PUnit → Prog (TpuEff nD τ sig (Elt F) Λ₀ (thr d L).2) α} :
    outPA d L x f q j
      ⊢ iprop((outPA d L x f q (j + 1) -∗ wp frame (wpE (defs₀ (F := F)) 𝒱₀ (thr d L) none) Set.univ (k ⟨⟩) Q)
          -∗ wp frame (wpE (defs₀ (F := F)) 𝒱₀ (thr d L) none) Set.univ
            (.op (.enqueueDma (opieceA offs inb) (.here (rowO offd inbd)) (.dma cc0_scratch9.sem) hsrc hdst hsem) k) Q) := by
  unfold outPA
  rw [SparseCore.bigSep_erase' (Finset.mem_univ (⟨j, hj⟩ : Fin 4)), SparseCore.bigSep_erase' (s := Finset.univ) (i := (⟨j, hj⟩ : Fin 4)) (Finset.mem_univ _)]
  rw [if_neg (show ¬ (⟨j, hj⟩ : Fin 4).val < j from lt_irrefl j), if_pos (show (⟨j, hj⟩ : Fin 4).val < j + 1 from Nat.lt_succ_self j)]
  iintro ⟨HB, ⟨⟨%fd, Hf⟩, Hr⟩, Hrest⟩ Hk
  iapply (wp_outA d L x f hf q hq j hj ho hd fd) $$ [HB Hf Hr]
  · isplitl [Hf]; · iexact Hf
    isplitl [Hr]; · iexact Hr
    iexact HB
  iintro HB
  iapply Hk
  isplitl [HB]; · iexact HB
  isplitr; · iempintro
  iapply (Entails.of_eq (bigSep_congr (s := (Finset.univ : Finset (Fin 4)).erase ⟨j, hj⟩) fun r hr => ?_)) $$ Hrest
  have hne : r.val ≠ j := fun h => Finset.ne_of_mem_erase hr (Fin.ext h)
  by_cases hlt : r.val < j
  · rw [if_pos hlt, if_pos (by omega)]
  · rw [if_neg hlt, if_neg (by omega)]

/-- the next wait for a quad in, -/
theorem waitInA {α : Type} {Q : α → sProp (MM F)} (s : Fin 4 → PosShare TreeShare) (q n : ℕ) (hn : n < 3)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(inWA d L x s q n ∗ owed d L O W ∗ mayWaits d L O)
      ⊢ iprop(((inWA d L x s q (n + 1) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch7.sem src (pieceA off inb) hsrc hdst) k) Q) := by
  unfold inWA
  iintro ⟨⟨HB, HR⟩, HO, #Hmw⟩ Hk
  iapply (wp_waitInA d L x O W s q n hn) $$ [HB HO]
  · isplitl [HB]; · iexact HB
    isplitl [HO]; · iexact HO
    iexact Hmw
  iintro ⟨HB, HO⟩
  iapply Hk
  isplitr [HO]
  · isplitl [HB] <;> iassumption
  iexact HO
theorem waitInLastA {α : Type} {Q : α → sProp (MM F)} (s : Fin 4 → PosShare TreeShare) (q : ℕ)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(inWA d L x s q 3 ∗ owed d L O W ∗ mayWaits d L O)
      ⊢ iprop(((inDA d L x s q ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch7.sem src (pieceA off inb) hsrc hdst) k) Q) := by
  unfold inWA inDA
  iintro ⟨⟨HB, HR⟩, HO, #Hmw⟩ Hk
  iapply (wp_waitInLastA d L x O W s q) $$ [HB HR HO]
  · isplitl [HB]; · iexact HB
    isplitl [HR]; · iexact HR
    isplitl [HO]; · iexact HO
    iexact Hmw
  iintro ⟨H1, H2, H3, HO⟩
  iapply Hk
  isplitr [HO]
  · isplitl [H1]; · iexact H1
    isplitl [H2] <;> iassumption
  iexact HO

/-- and for a quad out. -/
theorem waitOutA {α : Type} {Q : α → sProp (MM F)} (q n : ℕ) (hn : n < 3)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(outWA d L x f q n ∗ owed d L O W ∗ mayWaits d L O)
      ⊢ iprop(((outWA d L x f q (n + 1) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch9.sem src (rowO off inb) hsrc hdst) k) Q) :=
  wp_waitOutA d L x f O W q n hn
theorem waitOutLastA {α : Type} {Q : α → sProp (MM F)} (q : ℕ)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(outWA d L x f q 3 ∗ owed d L O W ∗ mayWaits d L O)
      ⊢ iprop(((outDA d L x f q ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch9.sem src (rowO off inb) hsrc hdst) k) Q) := by
  unfold outWA outDA
  iintro H Hk
  iapply (wp_waitOutLastA d L x f O W q) $$ H
  iintro ⟨H1, H2, H3, HO⟩
  iapply Hk
  isplitr [HO]
  · isplitl [H1]; · iexact H1
    isplitl [H2]
    · iexists _; iexact H2
    iexact H3
  iexact HO

end BufferA

/-! ## Buffer B -/

section BufferB

/-- `j` of quad `q`'s four copies in are issued; -/
def inPB (s : Fin 4 → PosShare TreeShare) (q j : ℕ) : sProp (MM F) :=
  iprop(batInB d L x s q j 0 ∗ bigSep Finset.univ fun r : Fin 4 =>
    if r.val < j then fAt (F := F) d L x (Finset.univ \ rowSet q r.val) (s r)
    else iprop(fAt d L x Finset.univ (s r) ∗ ∃ fd, (rB.view.loc (thr d L) ↦[pset r]{fullShare} fd : sProp (MM F))))
/-- all are, and `j` are waited for; -/
def inWB (s : Fin 4 → PosShare TreeShare) (q j : ℕ) : sProp (MM F) := iprop(batInB d L x s q 4 (j * ninB) ∗ fRests d L x s q)
/-- the quad is in the buffer. -/
def inDB (s : Fin 4 → PosShare TreeShare) (q : ℕ) : sProp (MM F) := iprop(rvBPts d L (rowsOf x q) ∗ fToks d L x s ∗ semInB d L)
/-- `j` of quad `q`'s four copies out are issued; -/
def outPB (q j : ℕ) : sProp (MM F) :=
  iprop(batOutB d L x f q j 0 ∗ bigSep Finset.univ fun r : Fin 4 =>
    if r.val < j then iprop(emp)
    else iprop(anyOut (F := F) d L q r.val ∗ (oB.view.loc (thr d L) ↦[oset r]{fullShare} gath (rowsOf x q) f : sProp (MM F))))
/-- all are, and `j` are waited for; -/
def outWB (q j : ℕ) : sProp (MM F) := batOutB d L x f q 4 (j * noutB)
/-- the samples are in the output, and the buffer is free. -/
def outDB (q : ℕ) : sProp (MM F) := iprop(doneOut d L x f q ∗ (∃ g, ovBPts (F := F) d L g) ∗ semOutB d L)

theorem inPB_start (s : Fin 4 → PosShare TreeShare) (q : ℕ) (g : S32768.Idx → Elt F .f32) :
    iprop(rvBPts d L g ∗ fToks d L x s ∗ semInB d L) ⊢ |={Set.univ}=> inPB d L x s q 0 := by
  rw [rvB_pieces]
  unfold fToks inPB
  simp only [Nat.not_lt_zero, if_false]
  rw [bigSep_four, bigSep_four, bigSep_four]
  iintro ⟨⟨R0, R1, R2, R3⟩, ⟨F0, F1, F2, F3⟩, Hs⟩
  imod (batInB_alloc d L x s q) $$ Hs with HB
  imodintro
  isplitl [HB]; · iexact HB
  isplitl [R0 F0]
  · isplitl [F0]; · iexact F0
    iexists g; iexact R0
  isplitl [R1 F1]
  · isplitl [F1]; · iexact F1
    iexists g; iexact R1
  isplitl [R2 F2]
  · isplitl [F2]; · iexact F2
    iexists g; iexact R2
  · isplitl [F3]; · iexact F3
    iexists g; iexact R3

theorem outPB_start (q : ℕ) :
    iprop(todoOut (F := F) d L q ∗ ovBPts d L (gath (rowsOf x q) f) ∗ semOutB d L) ⊢ |={Set.univ}=> outPB d L x f q 0 := by
  rw [ovB_pieces]
  unfold todoOut outPB
  simp only [Nat.not_lt_zero, if_false]
  rw [bigSep_four, bigSep_four, bigSep_four]
  iintro ⟨⟨R0, R1, R2, R3⟩, ⟨F0, F1, F2, F3⟩, Hs⟩
  imod (batOutB_alloc d L x f q) $$ Hs with HB
  imodintro
  isplitl [HB]; · iexact HB
  isplitl [R0 F0]
  · isplitl [R0]; · iexact R0
    iexact F0
  isplitl [R1 F1]
  · isplitl [R1]; · iexact R1
    iexact F1
  isplitl [R2 F2]
  · isplitl [R2]; · iexact R2
    iexact F2
  · isplitl [R3]; · iexact R3
    iexact F3

theorem inPB_end (s : Fin 4 → PosShare TreeShare) (q : ℕ) : inPB d L x s q 4 ⊢ inWB d L x s q 0 := by
  unfold inPB inWB fRests
  rw [Nat.zero_mul]
  refine sep_mono Entails.rfl (Entails.of_eq (bigSep_congr fun r _ => ?_))
  rw [if_pos r.isLt]
theorem outPB_end (q : ℕ) : outPB d L x f q 4 ⊢ outWB d L x f q 0 := by
  unfold outPB outWB
  rw [Nat.zero_mul]
  iintro ⟨H, -⟩; iexact H

/-- The next copy of a quad in, -/
theorem stepInB {α : Type} {Q : α → sProp (MM F)} (s : Fin 4 → PosShare TreeShare) (q : ℕ) (hq : q < 512) (j : ℕ) (hj : j < 4)
    {offs : Fin 3 → ℕ} {inb : ∀ a, offs a + S1x1x8192.size a ≤ S8x256x8192.size a} (ho : offs = rowOff q j) {offd : Fin 1 → ℕ} {inbd : ∀ a, offd a + S8192.size a ≤ S32768.size a} (hd : offd = ![8192 * j])
    {hsrc hdst hsem} {k : PUnit → Prog (TpuEff nD τ sig (Elt F) Λ₀ (thr d L).2) α} :
    inPB d L x s q j
      ⊢ iprop((inPB d L x s q (j + 1) -∗ wp frame (wpE (defs₀ (F := F)) 𝒱₀ (thr d L) none) Set.univ (k ⟨⟩) Q)
          -∗ wp frame (wpE (defs₀ (F := F)) 𝒱₀ (thr d L) none) Set.univ
            (.op (.enqueueDma (rowF offs inb) (.here (pieceB offd inbd)) (.dma cc0_scratch8.sem) hsrc hdst hsem) k) Q) := by
  unfold inPB
  rw [SparseCore.bigSep_erase' (Finset.mem_univ (⟨j, hj⟩ : Fin 4)), SparseCore.bigSep_erase' (s := Finset.univ) (i := (⟨j, hj⟩ : Fin 4)) (Finset.mem_univ _)]
  rw [if_neg (show ¬ (⟨j, hj⟩ : Fin 4).val < j from lt_irrefl j), if_pos (show (⟨j, hj⟩ : Fin 4).val < j + 1 from Nat.lt_succ_self j)]
  iintro ⟨HB, ⟨Hf, %fd, Hr⟩, Hrest⟩ Hk
  iapply (wp_inB d L x s q hq j hj ho hd fd) $$ [HB Hf Hr]
  · isplitl [Hf]; · iexact Hf
    isplitl [Hr]; · iexact Hr
    iexact HB
  iintro ⟨Hf, HB⟩
  iapply Hk
  isplitl [HB]; · iexact HB
  isplitl [Hf]; · iexact Hf
  iapply (Entails.of_eq (bigSep_congr (s := (Finset.univ : Finset (Fin 4)).erase ⟨j, hj⟩) fun r hr => ?_)) $$ Hrest
  have hne : r.val ≠ j := fun h => Finset.ne_of_mem_erase hr (Fin.ext h)
  by_cases hlt : r.val < j
  · rw [if_pos hlt, if_pos (by omega)]
  · rw [if_neg hlt, if_neg (by omega)]

/-- the next copy out, -/
theorem stepOutB {α : Type} {Q : α → sProp (MM F)} (hf : ∀ j, (f j).toNat < 8192) (q : ℕ) (hq : q < 512) (j : ℕ) (hj : j < 4)
    {offd : Fin 3 → ℕ} {inbd : ∀ a, offd a + S1x1x4096.size a ≤ S8x256x4096.size a} (ho : offd = rowOff q j) {offs : Fin 1 → ℕ} {inb : ∀ a, offs a + S4096.size a ≤ S16384.size a} (hd : offs = ![4096 * j])
    {hsrc hdst hsem} {k : PUnit → Prog (TpuEff nD τ sig (Elt F) Λ₀ (thr d L).2) α} :
    outPB d L x f q j
      ⊢ iprop((outPB d L x f q (j + 1) -∗ wp frame (wpE (defs₀ (F := F)) 𝒱₀ (thr d L) none) Set.univ (k ⟨⟩) Q)
          -∗ wp frame (wpE (defs₀ (F := F)) 𝒱₀ (thr d L) none) Set.univ
            (.op (.enqueueDma (opieceB offs inb) (.here (rowO offd inbd)) (.dma cc0_scratch10.sem) hsrc hdst hsem) k) Q) := by
  unfold outPB
  rw [SparseCore.bigSep_erase' (Finset.mem_univ (⟨j, hj⟩ : Fin 4)), SparseCore.bigSep_erase' (s := Finset.univ) (i := (⟨j, hj⟩ : Fin 4)) (Finset.mem_univ _)]
  rw [if_neg (show ¬ (⟨j, hj⟩ : Fin 4).val < j from lt_irrefl j), if_pos (show (⟨j, hj⟩ : Fin 4).val < j + 1 from Nat.lt_succ_self j)]
  iintro ⟨HB, ⟨⟨%fd, Hf⟩, Hr⟩, Hrest⟩ Hk
  iapply (wp_outB d L x f hf q hq j hj ho hd fd) $$ [HB Hf Hr]
  · isplitl [Hf]; · iexact Hf
    isplitl [Hr]; · iexact Hr
    iexact HB
  iintro HB
  iapply Hk
  isplitl [HB]; · iexact HB
  isplitr; · iempintro
  iapply (Entails.of_eq (bigSep_congr (s := (Finset.univ : Finset (Fin 4)).erase ⟨j, hj⟩) fun r hr => ?_)) $$ Hrest
  have hne : r.val ≠ j := fun h => Finset.ne_of_mem_erase hr (Fin.ext h)
  by_cases hlt : r.val < j
  · rw [if_pos hlt, if_pos (by omega)]
  · rw [if_neg hlt, if_neg (by omega)]

/-- the next wait for a quad in, -/
theorem waitInB {α : Type} {Q : α → sProp (MM F)} (s : Fin 4 → PosShare TreeShare) (q n : ℕ) (hn : n < 3)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(inWB d L x s q n ∗ owed d L O W ∗ mayWaits d L O)
      ⊢ iprop(((inWB d L x s q (n + 1) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch8.sem src (pieceB off inb) hsrc hdst) k) Q) := by
  unfold inWB
  iintro ⟨⟨HB, HR⟩, HO, #Hmw⟩ Hk
  iapply (wp_waitInB d L x O W s q n hn) $$ [HB HO]
  · isplitl [HB]; · iexact HB
    isplitl [HO]; · iexact HO
    iexact Hmw
  iintro ⟨HB, HO⟩
  iapply Hk
  isplitr [HO]
  · isplitl [HB] <;> iassumption
  iexact HO
theorem waitInLastB {α : Type} {Q : α → sProp (MM F)} (s : Fin 4 → PosShare TreeShare) (q : ℕ)
    {src : Memref sig (thr d L).2.kind .hbm S8192 .f32} {off : Fin 1 → ℕ} {inb : ∀ a, off a + S8192.size a ≤ S32768.size a} {hsrc hdst}
    {k : PUnit → Prog (TpuEff nD τ sig (Elt F) Λ₀ (thr d L).2) α} :
    iprop(inWB d L x s q 3 ∗ owed d L O W ∗ mayWaits d L O)
      ⊢ iprop(((inDB d L x s q ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch8.sem src (pieceB off inb) hsrc hdst) k) Q) := by
  unfold inWB inDB
  iintro ⟨⟨HB, HR⟩, HO, #Hmw⟩ Hk
  iapply (wp_waitInLastB d L x O W s q) $$ [HB HR HO]
  · isplitl [HB]; · iexact HB
    isplitl [HR]; · iexact HR
    isplitl [HO]; · iexact HO
    iexact Hmw
  iintro ⟨H1, H2, H3, HO⟩
  iapply Hk
  isplitr [HO]
  · isplitl [H1]; · iexact H1
    isplitl [H2] <;> iassumption
  iexact HO

/-- and for a quad out. -/
theorem waitOutB {α : Type} {Q : α → sProp (MM F)} (q n : ℕ) (hn : n < 3)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(outWB d L x f q n ∗ owed d L O W ∗ mayWaits d L O)
      ⊢ iprop(((outWB d L x f q (n + 1) ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch10.sem src (rowO off inb) hsrc hdst) k) Q) :=
  wp_waitOutB d L x f O W q n hn
theorem waitOutLastB {α : Type} {Q : α → sProp (MM F)} (q : ℕ)
    {src : Memref sig (thr d L).2.kind .vmem S4096 .f32} {off : Fin 3 → ℕ} {inb : ∀ a, off a + S1x1x4096.size a ≤ S8x256x4096.size a} {hsrc hdst}
    {k : PUnit → Prog (TpuEff nD τ sig (Elt F) Λ₀ (thr d L).2) α} :
    iprop(outWB d L x f q 3 ∗ owed d L O W ∗ mayWaits d L O)
      ⊢ iprop(((outDB d L x f q ∗ owed d L O W) -∗ wp frame (wpE (defs₀ (F := F)) 𝒱₀ (thr d L) none) Set.univ (k ⟨⟩) Q)
        -∗ wp frame (wpE (defs₀ (F := F)) 𝒱₀ (thr d L) none) Set.univ (.op (.waitDma2 cc0_scratch10.sem src (rowO off inb) hsrc hdst) k) Q) := by
  unfold outWB outDB
  iintro H Hk
  iapply (wp_waitOutLastB d L x f O W q) $$ H
  iintro ⟨H1, H2, H3, HO⟩
  iapply Hk
  isplitr [HO]
  · isplitl [H1]; · iexact H1
    isplitl [H2]
    · iexists _; iexact H2
    iexact H3
  iexact HO

end BufferB

end Cert.Proof.Samp

end
-- ==== Proof.Parts1.lean ====
/-
  The stretches of a tile's body that issue or wait for copies of one stream.
-/
module

public import proofs.«01_k».proof.Proof.Streams

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

theorem p4_wp (v2 : BitVec 32) (k0_t3 : Fin k0_t3_loop.trips) (k0_h1 : k0_cond1 k0_t3 = 1#1) (q : ℕ) :
    iprop(outWA d L x f q 0 ∗ owed d L O W ∗ mayWaits d L O)
      ⊢ wp frame (wpE (defs₀ (F := F)) 𝒱₀ (thr d L) none) Set.univ (k0_part4 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h1) fun _ => iprop(outWA d L x f q 1 ∗ owed d L O W) := by
  rw [k0_part4_eq_skeleton]; unfold k0_part4_skel
  iintro ⟨HS, HO, #Hmw⟩
  sl_exec
  iapply (waitOutA d L x f O W q 0 (by decide)) $$ [HS HO]
  · isplitl [HS]; · iexact HS
    isplitl [HO]; · iexact HO
    iexact Hmw
  iintro ⟨HS, HO⟩
  sl_exec
  sl_step
  isplitl [HS]; · iexact HS
  iexact HO

theorem p5_wp (v2 : BitVec 32) (k0_t3 : Fin k0_t3_loop.trips) (k0_h1 : k0_cond1 k0_t3 = 1#1) (c64_i32_959 : BitVec 32) (v1749 : BitVec 32) (v1751 : BitVec 32) (q : ℕ) :
    iprop(outWA d L x f q 1 ∗ owed d L O W ∗ mayWaits d L O)
      ⊢ wp frame (wpE (defs₀ (F := F)) 𝒱₀ (thr d L) none) Set.univ (k0_part5 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h1 c64_i32_959 v1749 v1751) fun _ => iprop(outWA d L x f q 2 ∗ owed d L O W) := by
  rw [k0_part5_eq_skeleton]; unfold k0_part5_skel
  iintro ⟨HS, HO, #Hmw⟩
  sl_exec
  iapply (waitOutA d L x f O W q 1 (by decide)) $$ [HS HO]
  · isplitl [HS]; · iexact HS
    isplitl [HO]; · iexact HO
    iexact Hmw
  iintro ⟨HS, HO⟩
  sl_exec
  sl_step
  isplitl [HS]; · iexact HS
  iexact HO

theorem p6_wp (v2 : BitVec 32) (k0_t3 : Fin k0_t3_loop.trips) (k0_h1 : k0_cond1 k0_t3 = 1#1) (c64_i32_978 : BitVec 32) (v1784 : BitVec 32) (v1789 : BitVec 32) (c0_i32_981 : BitVec 32) (q : ℕ) :
    iprop(outWA d L x f q 2 ∗ owed d L O W ∗ mayWaits d L O)
      ⊢ wp frame (wpE (defs₀ (F := F)) 𝒱₀ (thr d L) none) Set.univ (k0_part6 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h1 c64_i32_978 v1784 v1789 c0_i32_981) fun _ => iprop(outWA d L x f q 3 ∗ owed d L O W) := by
  rw [k0_part6_eq_skeleton]; unfold k0_part6_skel
  iintro ⟨HS, HO, #Hmw⟩
  sl_exec
  iapply (waitOutA d L x f O W q 2 (by decide)) $$ [HS HO]
  · isplitl [HS]; · iexact HS
    isplitl [HO]; · iexact HO
    iexact Hmw
  iintro ⟨HS, HO⟩
  sl_exec
  sl_step
  isplitl [HS]; · iexact HS
  iexact HO

theorem p7_wp (v2 : BitVec 32) (k0_t3 : Fin k0_t3_loop.trips) (k0_h2 : k0_cond2 k0_t3 = 1#1) (q : ℕ) :
    iprop(outWB d L x f q 0 ∗ owed d L O W ∗ mayWaits d L O)
      ⊢ wp frame (wpE (defs₀ (F := F)) 𝒱₀ (thr d L) none) Set.univ (k0_part7 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h2) fun _ => iprop(outWB d L x f q 1 ∗ owed d L O W) := by
  rw [k0_part7_eq_skeleton]; unfold k0_part7_skel
  iintro ⟨HS, HO, #Hmw⟩
  sl_exec
  iapply (waitOutB d L x f O W q 0 (by decide)) $$ [HS HO]
  · isplitl [HS]; · iexact HS
    isplitl [HO]; · iexact HO
    iexact Hmw
  iintro ⟨HS, HO⟩
  sl_exec
  sl_step
  isplitl [HS]; · iexact HS
  iexact HO

theorem p8_wp (v2 : BitVec 32) (k0_t3 : Fin k0_t3_loop.trips) (k0_h2 : k0_cond2 k0_t3 = 1#1) (c64_i32_959 : BitVec 32) (v1749 : BitVec 32) (v1751 : BitVec 32) (q : ℕ) :
    iprop(outWB d L x f q 1 ∗ owed d L O W ∗ mayWaits d L O)
      ⊢ wp frame (wpE (defs₀ (F := F)) 𝒱₀ (thr d L) none) Set.univ (k0_part8 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h2 c64_i32_959 v1749 v1751) fun _ => iprop(outWB d L x f q 2 ∗ owed d L O W) := by
  rw [k0_part8_eq_skeleton]; unfold k0_part8_skel
  iintro ⟨HS, HO, #Hmw⟩
  sl_exec
  iapply (waitOutB d L x f O W q 1 (by decide)) $$ [HS HO]
  · isplitl [HS]; · iexact HS
    isplitl [HO]; · iexact HO
    iexact Hmw
  iintro ⟨HS, HO⟩
  sl_exec
  sl_step
  isplitl [HS]; · iexact HS
  iexact HO

theorem p9_wp (v2 : BitVec 32) (k0_t3 : Fin k0_t3_loop.trips) (k0_h2 : k0_cond2 k0_t3 = 1#1) (c64_i32_978 : BitVec 32) (v1784 : BitVec 32) (v1789 : BitVec 32) (c0_i32_981 : BitVec 32) (q : ℕ) :
    iprop(outWB d L x f q 2 ∗ owed d L O W ∗ mayWaits d L O)
      ⊢ wp frame (wpE (defs₀ (F := F)) 𝒱₀ (thr d L) none) Set.univ (k0_part9 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 k0_h2 c64_i32_978 v1784 v1789 c0_i32_981) fun _ => iprop(outWB d L x f q 3 ∗ owed d L O W) := by
  rw [k0_part9_eq_skeleton]; unfold k0_part9_skel
  iintro ⟨HS, HO, #Hmw⟩
  sl_exec
  iapply (waitOutB d L x f O W q 2 (by decide)) $$ [HS HO]
  · isplitl [HS]; · iexact HS
    isplitl [HO]; · iexact HO
    iexact Hmw
  iintro ⟨HS, HO⟩
  sl_exec
  sl_step
  isplitl [HS]; · iexact HS
  iexact HO

theorem p11_wp (v2 : BitVec 32) (s : Fin 4 → PosShare TreeShare) (q : ℕ) :
    iprop(inWA d L x s q 0 ∗ owed d L O W ∗ mayWaits d L O)
      ⊢ wp frame (wpE (defs₀ (F := F)) 𝒱₀ (thr d L) none) Set.univ (k0_part11 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => iprop(inWA d L x s q 2 ∗ owed d L O W) := by
  rw [k0_part11_eq_skeleton]; unfold k0_part11_skel
  iintro ⟨HS, HO, #Hmw⟩
  sl_exec
  iapply (waitInA d L x O W s q 0 (by decide)) $$ [HS HO]
  · isplitl [HS]; · iexact HS
    isplitl [HO]; · iexact HO
    iexact Hmw
  iintro ⟨HS, HO⟩
  sl_exec
  iapply (waitInA d L x O W s q 1 (by decide)) $$ [HS HO]
  · isplitl [HS]; · iexact HS
    isplitl [HO]; · iexact HO
    iexact Hmw
  iintro ⟨HS, HO⟩
  sl_exec
  sl_step
  isplitl [HS]; · iexact HS
  iexact HO

theorem p12_wp (v2 : BitVec 32) (c64_i32_498 : BitVec 32) (v921 : BitVec 32) (v922 : BitVec 1) (s : Fin 4 → PosShare TreeShare) (q : ℕ) :
    iprop(inWA d L x s q 2 ∗ owed d L O W ∗ mayWaits d L O)
      ⊢ wp frame (wpE (defs₀ (F := F)) 𝒱₀ (thr d L) none) Set.univ (k0_part12 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_498 v921 v922) fun _ => iprop(inWA d L x s q 3 ∗ owed d L O W) := by
  rw [k0_part12_eq_skeleton]; unfold k0_part12_skel
  iintro ⟨HS, HO, #Hmw⟩
  sl_exec
  iapply (waitInA d L x O W s q 2 (by decide)) $$ [HS HO]
  · isplitl [HS]; · iexact HS
    isplitl [HO]; · iexact HO
    iexact Hmw
  iintro ⟨HS, HO⟩
  sl_exec
  sl_step
  isplitl [HS]; · iexact HS
  iexact HO

theorem p15_wp (k0_t3 : Fin k0_t3_loop.trips) (v850 : BitVec 32) (c64_i32_563 : BitVec 32) (v1032 : BitVec 32) (c0_i32_564 : BitVec 32) (hf : ∀ j, (f j).toNat < 8192) (q : ℕ) (hq : q < 512) (ho1 : k0_off13 L k0_t3 0#32 1#32 = rowOff q 1) :
    outPA d L x f q 1
      ⊢ wp frame (wpE (defs₀ (F := F)) 𝒱₀ (thr d L) none) Set.univ (k0_part15 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v850 c64_i32_563 v1032 c0_i32_564) fun _ => outPA d L x f q 2 := by
  rw [k0_part15_eq_skeleton]; unfold k0_part15_skel
  iintro HS
  sl_exec
  iapply (stepOutA d L x f hf q hq 1 (by decide) ho1 rfl) $$ [HS]
  · iexact HS
  iintro HS
  sl_exec
  sl_step
  iexact HS

theorem p16_wp (k0_t3 : Fin k0_t3_loop.trips) (v850 : BitVec 32) (c64_i32_582 : BitVec 32) (v1067 : BitVec 32) (v1069 : BitVec 32) (v1071 : BitVec 32) (hf : ∀ j, (f j).toNat < 8192) (q : ℕ) (hq : q < 512) (ho2 : k0_off13 L k0_t3 0#32 2#32 = rowOff q 2) :
    outPA d L x f q 2
      ⊢ wp frame (wpE (defs₀ (F := F)) 𝒱₀ (thr d L) none) Set.univ (k0_part16 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v850 c64_i32_582 v1067 v1069 v1071) fun _ => outPA d L x f q 3 := by
  rw [k0_part16_eq_skeleton]; unfold k0_part16_skel
  iintro HS
  sl_exec
  iapply (stepOutA d L x f hf q hq 2 (by decide) ho2 rfl) $$ [HS]
  · iexact HS
  iintro HS
  sl_exec
  sl_step
  iexact HS

theorem p17_wp (v2 : BitVec 32) (k0_t3 : Fin k0_t3_loop.trips) (v850 : BitVec 32) (c64_i32_601 : BitVec 32) (v1102 : BitVec 32) (v1107 : BitVec 32) (v1109 : BitVec 32) (c0_i32_605 : BitVec 32) (hf : ∀ j, (f j).toNat < 8192) (q : ℕ) (hq : q < 512) (ho3 : k0_off13 L k0_t3 0#32 3#32 = rowOff q 3) :
    outPA d L x f q 3
      ⊢ wp frame (wpE (defs₀ (F := F)) 𝒱₀ (thr d L) none) Set.univ (k0_part17 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 v850 c64_i32_601 v1102 v1107 v1109 c0_i32_605) fun _ => outPA d L x f q 4 := by
  rw [k0_part17_eq_skeleton]; unfold k0_part17_skel
  iintro HS
  sl_exec
  iapply (stepOutA d L x f hf q hq 3 (by decide) ho3 rfl) $$ [HS]
  · iexact HS
  iintro HS
  sl_exec
  sl_step
  iexact HS

theorem p18_wp (k0_t3 : Fin k0_t3_loop.trips) (v1140 : BitVec 32) (c64_i32_623 : BitVec 32) (v1141 : BitVec 32) (v1146 : BitVec 32) (v1147 : BitVec 1) (s : Fin 4 → PosShare TreeShare) (q : ℕ) (hq : q < 512) (ho0 : k0_off14 L k0_t3 0#32 0#32 = rowOff q 0) :
    inPA d L x s q 0
      ⊢ wp frame (wpE (defs₀ (F := F)) 𝒱₀ (thr d L) none) Set.univ (k0_part18 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1140 c64_i32_623 v1141 v1146 v1147) fun _ => inPA d L x s q 1 := by
  rw [k0_part18_eq_skeleton]; unfold k0_part18_skel
  iintro HS
  sl_exec
  iapply (stepInA d L x s q hq 0 (by decide) ho0 rfl) $$ [HS]
  · iexact HS
  iintro HS
  sl_exec
  sl_step
  iexact HS

theorem p19_wp (k0_t3 : Fin k0_t3_loop.trips) (v1140 : BitVec 32) (c64_i32_642 : BitVec 32) (v1176 : BitVec 32) (v1181 : BitVec 32) (v1186 : BitVec 32) (s : Fin 4 → PosShare TreeShare) (q : ℕ) (hq : q < 512) (ho1 : k0_off14 L k0_t3 0#32 1#32 = rowOff q 1) :
    inPA d L x s q 1
      ⊢ wp frame (wpE (defs₀ (F := F)) 𝒱₀ (thr d L) none) Set.univ (k0_part19 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1140 c64_i32_642 v1176 v1181 v1186) fun _ => inPA d L x s q 2 := by
  rw [k0_part19_eq_skeleton]; unfold k0_part19_skel
  iintro HS
  sl_exec
  iapply (stepInA d L x s q hq 1 (by decide) ho1 rfl) $$ [HS]
  · iexact HS
  iintro HS
  sl_exec
  sl_step
  iexact HS

theorem p20_wp (k0_t3 : Fin k0_t3_loop.trips) (v1140 : BitVec 32) (v1211 : BitVec 32) (v1225 : BitVec 1) (s : Fin 4 → PosShare TreeShare) (q : ℕ) (hq : q < 512) (ho2 : k0_off14 L k0_t3 0#32 2#32 = rowOff q 2) :
    inPA d L x s q 2
      ⊢ wp frame (wpE (defs₀ (F := F)) 𝒱₀ (thr d L) none) Set.univ (k0_part20 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1140 v1211 v1225) fun _ => inPA d L x s q 3 := by
  rw [k0_part20_eq_skeleton]; unfold k0_part20_skel
  iintro HS
  sl_exec
  iapply (stepInA d L x s q hq 2 (by decide) ho2 rfl) $$ [HS]
  · iexact HS
  iintro HS
  sl_exec
  sl_step
  iexact HS

theorem p21_wp (v2 : BitVec 32) (k0_t3 : Fin k0_t3_loop.trips) (arg16 : BitVec 32) (v1140 : BitVec 32) (c64_i32_687 : BitVec 32) (c0_i32_688 : BitVec 32) (s : Fin 4 → PosShare TreeShare) (q : ℕ) (hq : q < 512) (ho3 : k0_off14 L k0_t3 0#32 3#32 = rowOff q 3) :
    inPA d L x s q 3
      ⊢ wp frame (wpE (defs₀ (F := F)) 𝒱₀ (thr d L) none) Set.univ (k0_part21 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 arg16 v1140 c64_i32_687 c0_i32_688) fun _ => inPA d L x s q 4 := by
  rw [k0_part21_eq_skeleton]; unfold k0_part21_skel
  iintro HS
  sl_exec
  iapply (stepInA d L x s q hq 3 (by decide) ho3 rfl) $$ [HS]
  · iexact HS
  iintro HS
  sl_exec
  sl_step
  iexact HS

theorem p22_wp (v2 : BitVec 32) (c64_i32_708 : BitVec 32) (c0_i32_709 : BitVec 32) (s : Fin 4 → PosShare TreeShare) (q : ℕ) :
    iprop(inWB d L x s q 0 ∗ owed d L O W ∗ mayWaits d L O)
      ⊢ wp frame (wpE (defs₀ (F := F)) 𝒱₀ (thr d L) none) Set.univ (k0_part22 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_708 c0_i32_709) fun _ => iprop(inWB d L x s q 1 ∗ owed d L O W) := by
  rw [k0_part22_eq_skeleton]; unfold k0_part22_skel
  iintro ⟨HS, HO, #Hmw⟩
  sl_exec
  iapply (waitInB d L x O W s q 0 (by decide)) $$ [HS HO]
  · isplitl [HS]; · iexact HS
    isplitl [HO]; · iexact HO
    iexact Hmw
  iintro ⟨HS, HO⟩
  sl_exec
  sl_step
  isplitl [HS]; · iexact HS
  iexact HO

theorem p23_wp (v2 : BitVec 32) (v1337 : BitVec 32) (v1338 : BitVec 32) (c0_i32_730 : BitVec 32) (s : Fin 4 → PosShare TreeShare) (q : ℕ) :
    iprop(inWB d L x s q 1 ∗ owed d L O W ∗ mayWaits d L O)
      ⊢ wp frame (wpE (defs₀ (F := F)) 𝒱₀ (thr d L) none) Set.univ (k0_part23 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v1337 v1338 c0_i32_730) fun _ => iprop(inWB d L x s q 2 ∗ owed d L O W) := by
  rw [k0_part23_eq_skeleton]; unfold k0_part23_skel
  iintro ⟨HS, HO, #Hmw⟩
  sl_exec
  iapply (waitInB d L x O W s q 1 (by decide)) $$ [HS HO]
  · isplitl [HS]; · iexact HS
    isplitl [HO]; · iexact HO
    iexact Hmw
  iintro ⟨HS, HO⟩
  sl_exec
  sl_step
  isplitl [HS]; · iexact HS
  iexact HO

theorem p24_wp (v2 : BitVec 32) (v1372 : BitVec 32) (v1373 : BitVec 32) (v1374 : BitVec 1) (v1375 : BitVec 1) (v1376 : BitVec 1) (s : Fin 4 → PosShare TreeShare) (q : ℕ) :
    iprop(inWB d L x s q 2 ∗ owed d L O W ∗ mayWaits d L O)
      ⊢ wp frame (wpE (defs₀ (F := F)) 𝒱₀ (thr d L) none) Set.univ (k0_part24 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v1372 v1373 v1374 v1375 v1376) fun _ => iprop(inWB d L x s q 3 ∗ owed d L O W) := by
  rw [k0_part24_eq_skeleton]; unfold k0_part24_skel
  iintro ⟨HS, HO, #Hmw⟩
  sl_exec
  iapply (waitInB d L x O W s q 2 (by decide)) $$ [HS HO]
  · isplitl [HS]; · iexact HS
    isplitl [HO]; · iexact HO
    iexact Hmw
  iintro ⟨HS, HO⟩
  sl_exec
  sl_step
  isplitl [HS]; · iexact HS
  iexact HO

theorem p26_wp (k0_t3 : Fin k0_t3_loop.trips) (v1283 : BitVec 32) (v1448 : BitVec 32) (v1449 : BitVec 32) (hf : ∀ j, (f j).toNat < 8192) (q : ℕ) (hq : q < 512) (ho0 : k0_off13 L k0_t3 1#32 0#32 = rowOff q 0) :
    outPB d L x f q 0
      ⊢ wp frame (wpE (defs₀ (F := F)) 𝒱₀ (thr d L) none) Set.univ (k0_part26 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1283 v1448 v1449) fun _ => outPB d L x f q 1 := by
  rw [k0_part26_eq_skeleton]; unfold k0_part26_skel
  iintro HS
  sl_exec
  iapply (stepOutB d L x f hf q hq 0 (by decide) ho0 rfl) $$ [HS]
  · iexact HS
  iintro HS
  sl_exec
  sl_step
  iexact HS

theorem p27_wp (k0_t3 : Fin k0_t3_loop.trips) (v1283 : BitVec 32) (v1483 : BitVec 32) (v1484 : BitVec 32) (v1485 : BitVec 1) (v1486 : BitVec 1) (c0_i32_816 : BitVec 32) (hf : ∀ j, (f j).toNat < 8192) (q : ℕ) (hq : q < 512) (ho1 : k0_off13 L k0_t3 1#32 1#32 = rowOff q 1) :
    outPB d L x f q 1
      ⊢ wp frame (wpE (defs₀ (F := F)) 𝒱₀ (thr d L) none) Set.univ (k0_part27 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1283 v1483 v1484 v1485 v1486 c0_i32_816) fun _ => outPB d L x f q 2 := by
  rw [k0_part27_eq_skeleton]; unfold k0_part27_skel
  iintro HS
  sl_exec
  iapply (stepOutB d L x f hf q hq 1 (by decide) ho1 rfl) $$ [HS]
  · iexact HS
  iintro HS
  sl_exec
  sl_step
  iexact HS

theorem p28_wp (k0_t3 : Fin k0_t3_loop.trips) (v1283 : BitVec 32) (v1526 : BitVec 32) (hf : ∀ j, (f j).toNat < 8192) (q : ℕ) (hq : q < 512) (ho2 : k0_off13 L k0_t3 1#32 2#32 = rowOff q 2) :
    outPB d L x f q 2
      ⊢ wp frame (wpE (defs₀ (F := F)) 𝒱₀ (thr d L) none) Set.univ (k0_part28 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1283 v1526) fun _ => outPB d L x f q 3 := by
  rw [k0_part28_eq_skeleton]; unfold k0_part28_skel
  iintro HS
  sl_exec
  iapply (stepOutB d L x f hf q hq 2 (by decide) ho2 rfl) $$ [HS]
  · iexact HS
  iintro HS
  sl_exec
  sl_step
  iexact HS

theorem p29_wp (v2 : BitVec 32) (k0_t3 : Fin k0_t3_loop.trips) (v1283 : BitVec 32) (hf : ∀ j, (f j).toNat < 8192) (q : ℕ) (hq : q < 512) (ho3 : k0_off13 L k0_t3 1#32 3#32 = rowOff q 3) :
    outPB d L x f q 3
      ⊢ wp frame (wpE (defs₀ (F := F)) 𝒱₀ (thr d L) none) Set.univ (k0_part29 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 v1283) fun _ => outPB d L x f q 4 := by
  rw [k0_part29_eq_skeleton]; unfold k0_part29_skel
  iintro HS
  sl_exec
  iapply (stepOutB d L x f hf q hq 3 (by decide) ho3 rfl) $$ [HS]
  · iexact HS
  iintro HS
  sl_exec
  sl_step
  iexact HS

theorem p30_wp (k0_t3 : Fin k0_t3_loop.trips) (v1573 : BitVec 32) (v1601 : BitVec 32) (c0_i32_878 : BitVec 32) (s : Fin 4 → PosShare TreeShare) (q : ℕ) (hq : q < 512) (ho0 : k0_off14 L k0_t3 1#32 0#32 = rowOff q 0) :
    inPB d L x s q 0
      ⊢ wp frame (wpE (defs₀ (F := F)) 𝒱₀ (thr d L) none) Set.univ (k0_part30 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1573 v1601 c0_i32_878) fun _ => inPB d L x s q 1 := by
  rw [k0_part30_eq_skeleton]; unfold k0_part30_skel
  iintro HS
  sl_exec
  iapply (stepInB d L x s q hq 0 (by decide) ho0 rfl) $$ [HS]
  · iexact HS
  iintro HS
  sl_exec
  sl_step
  iexact HS

theorem p31_wp (k0_t3 : Fin k0_t3_loop.trips) (v1573 : BitVec 32) (s : Fin 4 → PosShare TreeShare) (q : ℕ) (hq : q < 512) (ho1 : k0_off14 L k0_t3 1#32 1#32 = rowOff q 1) :
    inPB d L x s q 1
      ⊢ wp frame (wpE (defs₀ (F := F)) 𝒱₀ (thr d L) none) Set.univ (k0_part31 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v1573) fun _ => inPB d L x s q 2 := by
  rw [k0_part31_eq_skeleton]; unfold k0_part31_skel
  iintro HS
  sl_exec
  iapply (stepInB d L x s q hq 1 (by decide) ho1 rfl) $$ [HS]
  · iexact HS
  iintro HS
  sl_exec
  sl_step
  iexact HS

end Cert.Proof.Samp

end
-- ==== Proof.Parts3.lean ====
/-
  The stretches of a loop trip that gather, and those that do so once a quad before has left its buffer.
-/
module

public import proofs.«01_k».proof.Proof.Parts1

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

/-- Buffer A of samples free; -/
def freeA : sProp (MM F) := iprop((∃ g, ovAPts (F := F) d L g) ∗ semOutA d L)
/-- at the start of trip `g`: free at the first, else with the quad of the trip before on its way out. -/
def slotA (g q : ℕ) : sProp (MM F) := if 0 < g then outWA d L x f q 0 else freeA d L
/-- What a trip gains of the trip before. -/
def prevA (g q : ℕ) : sProp (MM F) := if 0 < g then doneOut d L x f q else iprop(emp)

/-- Buffer B of samples free; -/
def freeB : sProp (MM F) := iprop((∃ g, ovBPts (F := F) d L g) ∗ semOutB d L)
/-- at the start of trip `g`: free at the first, else with the quad of the trip before on its way out. -/
def slotB (g q : ℕ) : sProp (MM F) := if 0 < g then outWB d L x f q 0 else freeB d L
/-- What a trip gains of the trip before. -/
def prevB (g q : ℕ) : sProp (MM F) := if 0 < g then doneOut d L x f q else iprop(emp)

theorem p10_wp (v2 : BitVec 32) (c0_i32_153 : BitVec 32) (c1_i32_154 : BitVec 32) (k0_t3 : Fin k0_t3_loop.trips) : (iprop(emp) : sProp (MM F)) ⊢ wp frame (wpE (defs₀ (F := F)) 𝒱₀ (thr d L) none) Set.univ (k0_part10 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c0_i32_153 c1_i32_154 k0_t3) fun _ => iprop(emp) := by
  rw [k0_part10_eq_skeleton]; unfold k0_part10_skel
  iintro HS
  sl_exec
  sl_step
  iexact HS

theorem p33_wp  : (iprop(emp) : sProp (MM F)) ⊢ wp frame (wpE (defs₀ (F := F)) 𝒱₀ (thr d L) none) Set.univ (k0_part33 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 ) fun _ => iprop(emp) := by
  rw [k0_part33_eq_skeleton]; unfold k0_part33_skel
  iintro HS
  sl_exec
  sl_step
  iexact HS

theorem p13_wp (v2 : BitVec 32) (k0_t3 : Fin k0_t3_loop.trips) (arg16 : BitVec 32) (c64_i32_517 : BitVec 32) (v956 : BitVec 32) (v961 : BitVec 32) (s : Fin 4 → PosShare TreeShare) (q q' : ℕ) :
    iprop(inWA d L x s q 3 ∗ slotA d L x f k0_t3.val q' ∗ owed d L O W ∗ mayWaits d L O)
      ⊢ wp frame (wpE (defs₀ (F := F)) 𝒱₀ (thr d L) none) Set.univ (k0_part13 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 arg16 c64_i32_517 v956 v961) fun _ =>
        iprop(inDA d L x s q ∗ prevA d L x f k0_t3.val q' ∗ freeA d L ∗ owed d L O W) := by
  rw [k0_part13_eq_skeleton]; unfold k0_part13_skel
  iintro ⟨HS, HW, HO, #Hmw⟩
  sl_exec
  iapply (waitInLastA d L x O W s q) $$ [HS HO]
  · isplitl [HS]; · iexact HS
    isplitl [HO]; · iexact HO
    iexact Hmw
  iintro ⟨HS, HO⟩
  by_cases hc : k0_cond1 k0_t3 = 1#1
  · rw [dif_pos hc]
    have hg : 0 < k0_t3.val := (cond1_iff k0_t3).mp hc
    simp only [slotA, prevA, if_pos hg]
    rw [wp_bind]
    iapply (wp_wand frame _ Set.univ) $$ [HW HO]
    · iapply (p4_wp d L x f O W _ _ _ q')
      isplitl [HW]; · iexact HW
      isplitl [HO]; · iexact HO
      iexact Hmw
    iintro %r ⟨HW, HO⟩
    rw [wp_bind]
    iapply (wp_wand frame _ Set.univ) $$ [HW HO]
    · iapply (p5_wp d L x f O W _ _ _ _ _ _ q')
      isplitl [HW]; · iexact HW
      isplitl [HO]; · iexact HO
      iexact Hmw
    iintro %r ⟨HW, HO⟩
    rw [wp_bind]
    iapply (wp_wand frame _ Set.univ) $$ [HW HO]
    · iapply (p6_wp d L x f O W _ _ _ _ _ _ _ q')
      isplitl [HW]; · iexact HW
      isplitl [HO]; · iexact HO
      iexact Hmw
    iintro %r ⟨HW, HO⟩
    iapply (waitOutLastA d L x f O W q') $$ [HW HO]
    · isplitl [HW]; · iexact HW
      isplitl [HO]; · iexact HO
      iexact Hmw
    iintro ⟨HW, HO⟩
    ihave HW := (Entails.of_eq (show outDA d L x f q' = iprop(doneOut d L x f q' ∗ freeA d L) from rfl)) $$ HW
    icases HW with ⟨HP, HF⟩
    rw [Prog.bind]
    sl_step
    isplitl [HS]; · iexact HS
    isplitl [HP]; · iexact HP
    isplitl [HF]; · iexact HF
    iexact HO
  · rw [dif_neg hc]
    have hg : ¬ 0 < k0_t3.val := fun h => hc ((cond1_iff k0_t3).mpr h)
    simp only [slotA, prevA, if_neg hg]
    ihave HF := (Entails.rfl (P := freeA (F := F) d L)) $$ HW
    sl_step
    isplitl [HS]; · iexact HS
    isplitr; · iempintro
    isplitl [HF]; · iexact HF
    iexact HO

theorem p25_wp (v2 : BitVec 32) (k0_t3 : Fin k0_t3_loop.trips) (arg16 : BitVec 32) (v1283 : BitVec 32) (v1415 : BitVec 32) (c4_i32_771 : BitVec 32) (s : Fin 4 → PosShare TreeShare) (q q' : ℕ) (hf : ∀ j, (f j).toNat < 8192) :
    iprop(inWB d L x s q 3 ∗ slotB d L x f k0_t3.val q' ∗ iPts (F := F) d L f ∗ owed d L O W ∗ mayWaits d L O)
      ⊢ wp frame (wpE (defs₀ (F := F)) 𝒱₀ (thr d L) none) Set.univ (k0_part25 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 k0_t3 arg16 v1283 v1415 c4_i32_771) fun _ =>
        iprop(inDB d L x s q ∗ prevB d L x f k0_t3.val q' ∗ (iPts (F := F) d L f ∗ ovBPts d L (gath (rowsOf x q) f) ∗ semOutB d L) ∗ owed d L O W) := by
  rw [k0_part25_eq_skeleton]; unfold k0_part25_skel
  iintro ⟨HS, HW, HI, HO, #Hmw⟩
  sl_exec
  iapply (waitInLastB d L x O W s q) $$ [HS HO]
  · isplitl [HS]; · iexact HS
    isplitl [HO]; · iexact HO
    iexact Hmw
  iintro ⟨HS, HO⟩
  by_cases hc : k0_cond2 k0_t3 = 1#1
  · rw [dif_pos hc]
    have hg : 0 < k0_t3.val := (cond2_iff k0_t3).mp hc
    simp only [slotB, prevB, if_pos hg]
    rw [wp_bind]
    iapply (wp_wand frame _ Set.univ) $$ [HW HO]
    · iapply (p7_wp d L x f O W _ _ _ q')
      isplitl [HW]; · iexact HW
      isplitl [HO]; · iexact HO
      iexact Hmw
    iintro %r ⟨HW, HO⟩
    rw [wp_bind]
    iapply (wp_wand frame _ Set.univ) $$ [HW HO]
    · iapply (p8_wp d L x f O W _ _ _ _ _ _ q')
      isplitl [HW]; · iexact HW
      isplitl [HO]; · iexact HO
      iexact Hmw
    iintro %r ⟨HW, HO⟩
    rw [wp_bind]
    iapply (wp_wand frame _ Set.univ) $$ [HW HO]
    · iapply (p9_wp d L x f O W _ _ _ _ _ _ _ q')
      isplitl [HW]; · iexact HW
      isplitl [HO]; · iexact HO
      iexact Hmw
    iintro %r ⟨HW, HO⟩
    iapply (waitOutLastB d L x f O W q') $$ [HW HO]
    · isplitl [HW]; · iexact HW
      isplitl [HO]; · iexact HO
      iexact Hmw
    iintro ⟨HW, HO⟩
    ihave HW := (Entails.of_eq (show outDB d L x f q' = iprop(doneOut d L x f q' ∗ freeB d L) from rfl)) $$ HW
    icases HW with ⟨HP, HF⟩
    rw [Prog.bind]
    unfold freeB inDB
    icases HF with ⟨⟨%g0, HF⟩, Hsem⟩
    icases HS with ⟨Hrv, Htk, Hsi⟩
    rw [wp_bind]
    iapply (wp_wand frame _ Set.univ) $$ [HI Hrv HF]
    · iapply (t5_wp d L (rowsOf x q) f hf v2 k0_t3 _ _ _ _ g0)
      isplitl [HI]; · iexact HI
      isplitl [Hrv]; · iexact Hrv
      iexact HF
    iintro %r ⟨HI, Hrv, HF⟩
    sl_step
    isplitl [Hrv Htk Hsi]
    · isplitl [Hrv]; · iexact Hrv
      isplitl [Htk] <;> iassumption
    isplitl [HP]; · iexact HP
    isplitl [HI HF Hsem]
    · isplitl [HI]; · iexact HI
      isplitl [HF] <;> iassumption
    iexact HO
  · rw [dif_neg hc]
    have hg : ¬ 0 < k0_t3.val := fun h => hc ((cond2_iff k0_t3).mpr h)
    simp only [slotB, prevB, if_neg hg]
    ihave HF := (Entails.rfl (P := freeB (F := F) d L)) $$ HW
    unfold freeB inDB
    icases HF with ⟨⟨%g0, HF⟩, Hsem⟩
    icases HS with ⟨Hrv, Htk, Hsi⟩
    rw [wp_bind]
    iapply (wp_wand frame _ Set.univ) $$ [HI Hrv HF]
    · iapply (t5_wp d L (rowsOf x q) f hf v2 k0_t3 _ _ _ _ g0)
      isplitl [HI]; · iexact HI
      isplitl [Hrv]; · iexact Hrv
      iexact HF
    iintro %r ⟨HI, Hrv, HF⟩
    sl_step
    isplitl [Hrv Htk Hsi]
    · isplitl [Hrv]; · iexact Hrv
      isplitl [Htk] <;> iassumption
    isplitr; · iempintro
    isplitl [HI HF Hsem]
    · isplitl [HI]; · iexact HI
      isplitl [HF] <;> iassumption
    iexact HO

theorem p14_wp (k0_t3 : Fin k0_t3_loop.trips) (v850 : BitVec 32) (c0_i32_540 : BitVec 32) (c1_i32_542 : BitVec 32) (s : Fin 4 → PosShare TreeShare) (hf : ∀ j, (f j).toNat < 8192) (q : ℕ) (hq : q < 512)
    (ho0 : k0_off13 L k0_t3 0#32 0#32 = rowOff q 0) :
    iprop(inDA d L x s q ∗ freeA d L ∗ iPts (F := F) d L f ∗ todoOut d L q)
      ⊢ wp frame (wpE (defs₀ (F := F)) 𝒱₀ (thr d L) none) Set.univ (k0_part14 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 k0_t3 v850 c0_i32_540 c1_i32_542) fun _ => iprop(inDA d L x s q ∗ iPts (F := F) d L f ∗ outPA d L x f q 1) := by
  rw [k0_part14_eq_skeleton]; unfold k0_part14_skel freeA inDA
  iintro ⟨⟨Hrv, Htk, Hsi⟩, ⟨⟨%g0, HF⟩, Hsem⟩, HI, Hto⟩
  rw [wp_bind]
  iapply (wp_wand frame _ Set.univ) $$ [HI Hrv HF]
  · iapply (t4_wp d L (rowsOf x q) f hf k0_t3 _ _ _ g0)
    isplitl [HI]; · iexact HI
    isplitl [Hrv]; · iexact Hrv
    iexact HF
  iintro %r ⟨HI, Hrv, HF⟩
  imod (outPA_start d L x f q) $$ [Hto HF Hsem] with HP
  · isplitl [Hto]; · iexact Hto
    isplitl [HF] <;> iassumption
  sl_exec
  iapply (stepOutA d L x f hf q hq 0 (by decide) ho0 rfl) $$ [HP]
  · iexact HP
  iintro HP
  sl_exec
  sl_step
  isplitl [Hrv Htk Hsi]
  · isplitl [Hrv]; · iexact Hrv
    isplitl [Htk] <;> iassumption
  isplitl [HI] <;> iassumption

end Cert.Proof.Samp

end
-- ==== Proof.Trip.lean ====
/-
  A trip of the loop over the pairs of quads, and the loop.
-/
module

public import proofs.«01_k».proof.Proof.Parts3

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

/-- The quad trip `g` samples with buffer `b`, -/
def qOut (L : grid0.Coords) (g b : ℕ) : ℕ := base L + 2 * g + b
/-- and the quad that is in, or on its way into, that buffer as the trip starts (past the tile's last quad: that one again). -/
def qIn (L : grid0.Coords) (g b : ℕ) : ℕ := min (base L + 2 * g + b) (base L + 15)
theorem qOut_lt (L : grid0.Coords) {g b : ℕ} (hg : g < 8) (hb : b < 2) : qOut L g b < 512 := by
  have := base_le L
  unfold qOut; omega
theorem qIn_lt (L : grid0.Coords) (g b : ℕ) : qIn L g b < 512 := by
  have := base_le L
  unfold qIn; omega
theorem qIn_eq (L : grid0.Coords) {g b : ℕ} (hg : g < 8) (hb : b < 2) : qIn L g b = qOut L g b := by
  unfold qIn qOut; omega
theorem off13_q (L : grid0.Coords) (g : Fin k0_t3_loop.trips) (b : Fin 2) (r : Fin 4) :
    k0_off13 L g (BitVec.ofNat 32 b.val) (BitVec.ofNat 32 r.val) = rowOff (qOut L g.val b.val) r.val := off13_row L g b r
theorem off14_q (L : grid0.Coords) (g : Fin k0_t3_loop.trips) (b : Fin 2) (r : Fin 4) :
    k0_off14 L g (BitVec.ofNat 32 b.val) (BitVec.ofNat 32 r.val) = rowOff (qIn L (g.val + 1) b.val) r.val := by
  rw [off14_row L g b r]
  unfold qIn
  congr 2
  omega

theorem p32_wp (v2 : BitVec 32) (c0_i32_153 : BitVec 32) (c1_i32_154 : BitVec 32) (k0_t3 : Fin k0_t3_loop.trips) (sA sB : Fin 4 → PosShare TreeShare) (hf : ∀ j, (f j).toNat < 8192) (qa qb : ℕ) :
    iprop(iPts (F := F) d L f ∗ inWA d L x sA (qOut L k0_t3.val 0) 0 ∗ inWB d L x sB (qOut L k0_t3.val 1) 0 ∗ slotA d L x f k0_t3.val qa ∗ slotB d L x f k0_t3.val qb
        ∗ todoOut d L (qOut L k0_t3.val 0) ∗ todoOut d L (qOut L k0_t3.val 1) ∗ owed d L O W ∗ mayWaits d L O)
      ⊢ wp frame (wpE (defs₀ (F := F)) 𝒱₀ (thr d L) none) Set.univ (k0_part32 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c0_i32_153 c1_i32_154 k0_t3) fun _ =>
        iprop(iPts (F := F) d L f ∗ inWA d L x sA (qIn L (k0_t3.val + 1) 0) 0 ∗ inPB d L x sB (qIn L (k0_t3.val + 1) 1) 3 ∗ outWA d L x f (qOut L k0_t3.val 0) 0 ∗ outWB d L x f (qOut L k0_t3.val 1) 0
          ∗ prevA d L x f k0_t3.val qa ∗ prevB d L x f k0_t3.val qb ∗ owed d L O W) := by
  rw [k0_part32_eq_skeleton]; unfold k0_part32_skel
  have hq0 := qOut_lt L (lt_of_lt_of_eq k0_t3.isLt trips3) (show 0 < 2 by decide)
  have hq1 := qOut_lt L (lt_of_lt_of_eq k0_t3.isLt trips3) (show 1 < 2 by decide)
  have hn0 := qIn_lt L (k0_t3.val + 1) 0
  have hn1 := qIn_lt L (k0_t3.val + 1) 1
  iintro ⟨HI, HA, HB, SA, SB, TA, TB, HO, #Hmw⟩
  rw [wp_bind]
  iapply (wp_wand frame _ Set.univ) $$ []
  · iapply (p10_wp d L   _ _ _ _)
    iempintro
  iintro %r -
  obtain ⟨_, _⟩ := r
  dsimp only
  rw [wp_bind]
  iapply (wp_wand frame _ Set.univ) $$ [HA HO]
  · iapply (p11_wp d L x O W _ sA (qOut L k0_t3.val 0))
    isplitl [HA]; · iexact HA
    isplitl [HO]; · iexact HO
    iexact Hmw
  iintro %r ⟨HA, HO⟩
  obtain ⟨_, _, _⟩ := r
  dsimp only
  rw [wp_bind]
  iapply (wp_wand frame _ Set.univ) $$ [HA HO]
  · iapply (p12_wp d L x O W _ _ _ _ sA (qOut L k0_t3.val 0))
    isplitl [HA]; · iexact HA
    isplitl [HO]; · iexact HO
    iexact Hmw
  iintro %r ⟨HA, HO⟩
  obtain ⟨_, _, _⟩ := r
  dsimp only
  rw [wp_bind]
  iapply (wp_wand frame _ Set.univ) $$ [HA SA HO]
  · iapply (p13_wp d L x f O W _ _ _ _ _ _ sA (qOut L k0_t3.val 0) qa)
    isplitl [HA]; · iexact HA
    isplitl [SA]; · iexact SA
    isplitl [HO]; · iexact HO
    iexact Hmw
  iintro %r ⟨HA, PA, FA, HO⟩
  obtain ⟨_, _⟩ := r
  dsimp only
  rw [wp_bind]
  iapply (wp_wand frame _ Set.univ) $$ [HA FA HI TA]
  · iapply (p14_wp d L x f _ _ _ _ sA hf (qOut L k0_t3.val 0) hq0 (off13_q L k0_t3 0 0))
    isplitl [HA]; · iexact HA
    isplitl [FA]; · iexact FA
    isplitl [HI]; · iexact HI
    iexact TA
  iintro %r ⟨HA, HI, OA⟩
  obtain ⟨_, _, _⟩ := r
  dsimp only
  rw [wp_bind]
  iapply (wp_wand frame _ Set.univ) $$ [OA]
  · iapply (p15_wp d L x f _ _ _ _ _ hf (qOut L k0_t3.val 0) hq0 (off13_q L k0_t3 0 1))
    iexact OA
  iintro %r OA
  obtain ⟨_, _, _, _⟩ := r
  dsimp only
  rw [wp_bind]
  iapply (wp_wand frame _ Set.univ) $$ [OA]
  · iapply (p16_wp d L x f _ _ _ _ _ _ hf (qOut L k0_t3.val 0) hq0 (off13_q L k0_t3 0 2))
    iexact OA
  iintro %r OA
  obtain ⟨_, _, _, _, _⟩ := r
  dsimp only
  rw [wp_bind]
  iapply (wp_wand frame _ Set.univ) $$ [OA]
  · iapply (p17_wp d L x f _ _ _ _ _ _ _ _ hf (qOut L k0_t3.val 0) hq0 (off13_q L k0_t3 0 3))
    iexact OA
  iintro %r OA
  obtain ⟨_, _, _, _, _⟩ := r
  dsimp only
  ihave OA := (outPA_end d L x f (qOut L k0_t3.val 0)) $$ OA
  ihave HA := (Entails.of_eq (show inDA d L x sA (qOut L k0_t3.val 0) = iprop(rvAPts d L (rowsOf x (qOut L k0_t3.val 0)) ∗ fToks d L x sA ∗ semInA d L) from rfl)) $$ HA
  imod (inPA_start d L x sA (qIn L (k0_t3.val + 1) 0) (rowsOf x (qOut L k0_t3.val 0))) $$ HA with HA
  rw [wp_bind]
  iapply (wp_wand frame _ Set.univ) $$ [HA]
  · iapply (p18_wp d L x _ _ _ _ _ _ sA (qIn L (k0_t3.val + 1) 0) hn0 (off14_q L k0_t3 0 0))
    iexact HA
  iintro %r HA
  obtain ⟨_, _, _, _⟩ := r
  dsimp only
  rw [wp_bind]
  iapply (wp_wand frame _ Set.univ) $$ [HA]
  · iapply (p19_wp d L x _ _ _ _ _ _ sA (qIn L (k0_t3.val + 1) 0) hn0 (off14_q L k0_t3 0 1))
    iexact HA
  iintro %r HA
  obtain ⟨_, _⟩ := r
  dsimp only
  rw [wp_bind]
  iapply (wp_wand frame _ Set.univ) $$ [HA]
  · iapply (p20_wp d L x _ _ _ _ sA (qIn L (k0_t3.val + 1) 0) hn0 (off14_q L k0_t3 0 2))
    iexact HA
  iintro %r HA
  obtain ⟨_, _⟩ := r
  dsimp only
  rw [wp_bind]
  iapply (wp_wand frame _ Set.univ) $$ [HA]
  · iapply (p21_wp d L x _ _ _ _ _ _ sA (qIn L (k0_t3.val + 1) 0) hn0 (off14_q L k0_t3 0 3))
    iexact HA
  iintro %r HA
  obtain ⟨_, _, _⟩ := r
  dsimp only
  ihave HA := (inPA_end d L x sA (qIn L (k0_t3.val + 1) 0)) $$ HA
  rw [wp_bind]
  iapply (wp_wand frame _ Set.univ) $$ [HB HO]
  · iapply (p22_wp d L x O W _ _ _ sB (qOut L k0_t3.val 1))
    isplitl [HB]; · iexact HB
    isplitl [HO]; · iexact HO
    iexact Hmw
  iintro %r ⟨HB, HO⟩
  obtain ⟨_, _, _⟩ := r
  dsimp only
  rw [wp_bind]
  iapply (wp_wand frame _ Set.univ) $$ [HB HO]
  · iapply (p23_wp d L x O W _ _ _ _ sB (qOut L k0_t3.val 1))
    isplitl [HB]; · iexact HB
    isplitl [HO]; · iexact HO
    iexact Hmw
  iintro %r ⟨HB, HO⟩
  obtain ⟨_, _, _, _, _⟩ := r
  dsimp only
  rw [wp_bind]
  iapply (wp_wand frame _ Set.univ) $$ [HB HO]
  · iapply (p24_wp d L x O W _ _ _ _ _ _ sB (qOut L k0_t3.val 1))
    isplitl [HB]; · iexact HB
    isplitl [HO]; · iexact HO
    iexact Hmw
  iintro %r ⟨HB, HO⟩
  obtain ⟨_, _⟩ := r
  dsimp only
  rw [wp_bind]
  iapply (wp_wand frame _ Set.univ) $$ [HB SB HI HO]
  · iapply (p25_wp d L x f O W _ _ _ _ _ _ sB (qOut L k0_t3.val 1) qb hf)
    isplitl [HB]; · iexact HB
    isplitl [SB]; · iexact SB
    isplitl [HI]; · iexact HI
    isplitl [HO]; · iexact HO
    iexact Hmw
  iintro %r ⟨HB, PB, ⟨HI, OV, SM⟩, HO⟩
  obtain ⟨_, _⟩ := r
  dsimp only
  imod (outPB_start d L x f (qOut L k0_t3.val 1)) $$ [TB OV SM] with OB
  · isplitl [TB]; · iexact TB
    isplitl [OV] <;> iassumption
  rw [wp_bind]
  iapply (wp_wand frame _ Set.univ) $$ [OB]
  · iapply (p26_wp d L x f _ _ _ _ hf (qOut L k0_t3.val 1) hq1 (off13_q L k0_t3 1 0))
    iexact OB
  iintro %r OB
  obtain ⟨_, _, _, _, _⟩ := r
  dsimp only
  rw [wp_bind]
  iapply (wp_wand frame _ Set.univ) $$ [OB]
  · iapply (p27_wp d L x f _ _ _ _ _ _ _ hf (qOut L k0_t3.val 1) hq1 (off13_q L k0_t3 1 1))
    iexact OB
  iintro %r OB
  rw [wp_bind]
  iapply (wp_wand frame _ Set.univ) $$ [OB]
  · iapply (p28_wp d L x f _ _ _ hf (qOut L k0_t3.val 1) hq1 (off13_q L k0_t3 1 2))
    iexact OB
  iintro %r OB
  rw [wp_bind]
  iapply (wp_wand frame _ Set.univ) $$ [OB]
  · iapply (p29_wp d L x f _ _ _ hf (qOut L k0_t3.val 1) hq1 (off13_q L k0_t3 1 3))
    iexact OB
  iintro %r OB
  obtain ⟨_, _, _⟩ := r
  dsimp only
  ihave OB := (outPB_end d L x f (qOut L k0_t3.val 1)) $$ OB
  ihave HB := (Entails.of_eq (show inDB d L x sB (qOut L k0_t3.val 1) = iprop(rvBPts d L (rowsOf x (qOut L k0_t3.val 1)) ∗ fToks d L x sB ∗ semInB d L) from rfl)) $$ HB
  imod (inPB_start d L x sB (qIn L (k0_t3.val + 1) 1) (rowsOf x (qOut L k0_t3.val 1))) $$ HB with HB
  rw [wp_bind]
  iapply (wp_wand frame _ Set.univ) $$ [HB]
  · iapply (p30_wp d L x _ _ _ _ sB (qIn L (k0_t3.val + 1) 1) hn1 (off14_q L k0_t3 1 0))
    iexact HB
  iintro %r HB
  rw [wp_bind]
  iapply (wp_wand frame _ Set.univ) $$ [HB]
  · iapply (p31_wp d L x _ _ sB (qIn L (k0_t3.val + 1) 1) hn1 (off14_q L k0_t3 1 1))
    iexact HB
  iintro %r HB
  iapply (stepInB d L x sB (qIn L (k0_t3.val + 1) 1) hn1 2 (by decide) (off14_q L k0_t3 1 2) rfl) $$ [HB]
  · iexact HB
  iintro HB
  rw [Prog.bind]
  sl_step
  isplitl [HI]; · iexact HI
  isplitl [HA]; · iexact HA
  isplitl [HB]; · iexact HB
  isplitl [OA]; · iexact OA
  isplitl [OB]; · iexact OB
  isplitl [PA]; · iexact PA
  isplitl [PB]; · iexact PB
  iexact HO

theorem t3_trip (v2 v143 c64 c0 : BitVec 32) (sA sB : Fin 4 → PosShare TreeShare) (hf : ∀ j, (f j).toNat < 8192) (qa qb : ℕ) (k0_t3 : Fin k0_t3_loop.trips) :
    iprop(iPts (F := F) d L f ∗ inWA d L x sA (qOut L k0_t3.val 0) 0 ∗ inWB d L x sB (qOut L k0_t3.val 1) 0 ∗ slotA d L x f k0_t3.val qa ∗ slotB d L x f k0_t3.val qb
        ∗ todoOut d L (qOut L k0_t3.val 0) ∗ todoOut d L (qOut L k0_t3.val 1) ∗ owed d L O W ∗ mayWaits d L O)
      ⊢ wp frame (wpE (defs₀ (F := F)) 𝒱₀ (thr d L) none) Set.univ (k0_t3_body L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0 k0_t3 ()) fun _ =>
        iprop(iPts (F := F) d L f ∗ inWA d L x sA (qIn L (k0_t3.val + 1) 0) 0 ∗ inWB d L x sB (qIn L (k0_t3.val + 1) 1) 0 ∗ outWA d L x f (qOut L k0_t3.val 0) 0 ∗ outWB d L x f (qOut L k0_t3.val 1) 0
          ∗ prevA d L x f k0_t3.val qa ∗ prevB d L x f k0_t3.val qb ∗ owed d L O W) := by
  unfold k0_t3_body
  have hn1 := qIn_lt L (k0_t3.val + 1) 1
  iintro H
  rw [wp_bind]
  iapply (wp_wand frame _ Set.univ) $$ [H]
  · iapply (p32_wp d L x f O W _ _ _ _ sA sB hf qa qb); iexact H
  iintro %r ⟨HI, HA, HB, OA, OB, PA, PB, HO⟩
  obtain ⟨_, _, _, _, _⟩ := r
  dsimp only
  iapply (stepInB d L x sB (qIn L (k0_t3.val + 1) 1) hn1 3 (by decide) (off14_q L k0_t3 1 3) rfl) $$ [HB]
  · iexact HB
  iintro HB
  ihave HB := (inPB_end d L x sB (qIn L (k0_t3.val + 1) 1)) $$ HB
  rw [Prog.bind]
  sl_step
  isplitl [HI]; · iexact HI
  isplitl [HA]; · iexact HA
  isplitl [HB]; · iexact HB
  isplitl [OA]; · iexact OA
  isplitl [OB]; · iexact OB
  isplitl [PA]; · iexact PA
  isplitl [PB]; · iexact PB
  iexact HO

end Cert.Proof.Samp

end
-- ==== Proof.TripLoop.lean ====
/-
  The loop over the pairs of quads.
-/
module

public import proofs.«01_k».proof.Proof.Trip

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

/-- The output of the pairs from `g` on, untouched; -/
def todoS (g : ℕ) : sProp (MM F) :=
  bigSep (Ring.rangeSet 8 g 8) fun k : Fin 8 => iprop(todoOut (F := F) d L (qOut L k.val 0) ∗ todoOut (F := F) d L (qOut L k.val 1))
/-- of the pairs before `g`, sampled. -/
def doneS (g : ℕ) : sProp (MM F) :=
  bigSep (Ring.rangeSet 8 0 g) fun k : Fin 8 => iprop(doneOut d L x f (qOut L k.val 0) ∗ doneOut d L x f (qOut L k.val 1))

theorem todoS_head {g : ℕ} (hg : g < 8) : todoS (F := F) d L g
    = iprop((todoOut (F := F) d L (qOut L g 0) ∗ todoOut (F := F) d L (qOut L g 1)) ∗ todoS (F := F) d L (g + 1)) := Ring.bigSep_rangeSet_head hg hg
theorem doneS_zero : doneS d L x f 0 = (iprop(emp) : sProp (MM F)) := Ring.bigSep_rangeSet_empty (le_refl _)
theorem doneS_next {g : ℕ} (hg : g < 8) : doneS d L x f (g + 1)
    = iprop((doneOut d L x f (qOut L g 0) ∗ doneOut d L x f (qOut L g 1)) ∗ doneS (F := F) d L x f g) :=
  Ring.bigSep_rangeSet_last (Nat.succ_pos g) hg

theorem doneS_step {g : ℕ} (hg : g < 8) :
    iprop(doneS d L x f (g - 1) ∗ prevA d L x f g (qOut L (g - 1) 0) ∗ prevB d L x f g (qOut L (g - 1) 1)) ⊢ doneS (F := F) d L x f g := by
  rcases g with _ | g
  · simp only [prevA, prevB, lt_irrefl, if_false]
    iintro ⟨H, -, -⟩; iexact H
  · simp only [prevA, prevB, if_pos (Nat.succ_pos g), Nat.add_sub_cancel]
    rw [doneS_next d L x f (show g < 8 by omega)]
    iintro ⟨H, HA, HB⟩
    isplitl [HA HB]
    · isplitl [HA] <;> iassumption
    iexact H

theorem t3_wp (v2 v143 c64 c0 : BitVec 32) (sA sB : Fin 4 → PosShare TreeShare) (hf : ∀ j, (f j).toNat < 8192) :
    iprop(iPts (F := F) d L f ∗ inWA d L x sA (qIn L 0 0) 0 ∗ inWB d L x sB (qIn L 0 1) 0 ∗ freeA d L ∗ freeB d L
        ∗ todoS d L 0 ∗ owed d L O W ∗ mayWaits d L O)
      ⊢ wp frame (wpE (defs₀ (F := F)) 𝒱₀ (thr d L) none) Set.univ (Scf.Loop.for k0_t3_loop k0_t3_ok ⟨⟩ (k0_t3_body L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64 c0)) fun _ =>
        iprop(iPts (F := F) d L f ∗ inWA d L x sA (qIn L 8 0) 0 ∗ inWB d L x sB (qIn L 8 1) 0
          ∗ outWA d L x f (qOut L 7 0) 0 ∗ outWB d L x f (qOut L 7 1) 0 ∗ doneS d L x f 7 ∗ owed d L O W) := by
  iintro ⟨HI, HA, HB, FA, FB, HT, HO, #Hmw⟩
  sl_for (fun (k : ℕ) (_ : Unit) => iprop(iPts (F := F) d L f ∗ inWA d L x sA (qIn L k 0) 0 ∗ inWB d L x sB (qIn L k 1) 0
    ∗ slotA d L x f k (qOut L (k - 1) 0) ∗ slotB d L x f k (qOut L (k - 1) 1) ∗ todoS d L k ∗ doneS d L x f (k - 1) ∗ owed d L O W ∗ mayWaits d L O)) $$ [HI HA HB FA FB HT HO]
  case region =>
    intro k _
    have hk : k.val < 8 := lt_of_lt_of_eq k.isLt trips3
    rw [todoS_head d L hk, qIn_eq L hk (show 0 < 2 by decide), qIn_eq L hk (show 1 < 2 by decide)]
    iintro ⟨HI, HA, HB, FA, FB, ⟨⟨TA, TB⟩, HT⟩, HD, HO, #Hmw⟩
    iapply (wp_wand frame _ Set.univ) $$ [HI HA HB FA FB TA TB HO]
    · iapply (t3_trip d L x f O W v2 v143 c64 c0 sA sB hf (qOut L (k.val - 1) 0) (qOut L (k.val - 1) 1) k)
      isplitl [HI]; · iexact HI
      isplitl [HA]; · iexact HA
      isplitl [HB]; · iexact HB
      isplitl [FA]; · iexact FA
      isplitl [FB]; · iexact FB
      isplitl [TA]; · iexact TA
      isplitl [TB]; · iexact TB
      isplitl [HO]; · iexact HO
      iexact Hmw
    iintro %r ⟨HI, HA, HB, OA, OB, PA, PB, HO⟩
    rw [Nat.add_sub_cancel]
    simp only [slotA, slotB, if_pos (Nat.succ_pos k.val)]
    isplitl [HI]; · iexact HI
    isplitl [HA]; · iexact HA
    isplitl [HB]; · iexact HB
    isplitl [OA]; · iexact OA
    isplitl [OB]; · iexact OB
    isplitl [HT]; · iexact HT
    isplitl [HD PA PB]
    · iapply (doneS_step d L x f hk)
      isplitl [HD]; · iexact HD
      isplitl [PA] <;> iassumption
    isplitl [HO]; · iexact HO
    iexact Hmw
  isplitl [HI HA HB FA FB HT HO]
  · simp only [slotA, slotB, lt_irrefl, if_false]
    rw [Nat.zero_sub, doneS_zero]
    isplitl [HI]; · iexact HI
    isplitl [HA]; · iexact HA
    isplitl [HB]; · iexact HB
    isplitl [FA]; · iexact FA
    isplitl [FB]; · iexact FB
    isplitl [HT]; · iexact HT
    isplitr; · iempintro
    isplitl [HO]; · iexact HO
    iexact Hmw
  rw [show Scf.trips k0_t3_loop.lb k0_t3_loop.ub k0_t3_loop.st = 8 from trips3]
  simp only [slotA, slotB, if_pos (show 0 < 8 by decide)]
  iintro %_ ⟨HI, HA, HB, OA, OB, -, HD, HO, -⟩
  isplitl [HI]; · iexact HI
  isplitl [HA]; · iexact HA
  isplitl [HB]; · iexact HB
  isplitl [OA]; · iexact OA
  isplitl [OB]; · iexact OB
  isplitl [HD]; · iexact HD
  iexact HO

end Cert.Proof.Samp

end
-- ==== Proof.Middle.lean ====
/-
  The middle of a tile's body: the list fetched, searched and resolved, and the quads sampled.
-/
module

public import proofs.«01_k».proof.Proof.TripLoop

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32)
variable (O : CellTallies nD τ sig (HIx 1)) (W : Waits sig (HIx 1))

/-- The columns a list leads to: of each target the nearest value's. -/
def colsOf (c : S8192.Idx → BitVec 32) : S4096.Idx → BitVec 32 := fun j => BitVec.ofNat 32 (nearest (vals c) (j 0).val)

theorem colsOf_toNat (c : S8192.Idx → BitVec 32) (hC : Srt (vals c)) (j : S4096.Idx) : (colsOf c j).toNat = nearest (vals c) (j 0).val := by
  have h := nearest_lt8192 hC (j 0).val
  unfold colsOf
  rw [BitVec.toNat_ofNat, Nat.mod_eq_of_lt (by omega)]
theorem colsOf_lt (c : S8192.Idx → BitVec 32) (hC : Srt (vals c)) (j : S4096.Idx) : (colsOf c j).toNat < 8192 := by
  rw [colsOf_toNat c hC]; exact nearest_lt8192 hC _
theorem eq_colsOf (c : S8192.Idx → BitVec 32) (hC : Srt (vals c)) (f : S4096.Idx → BitVec 32) (hf : idxOK c 4096 f) : f = colsOf c := by
  funext j
  apply BitVec.eq_of_toNat_eq
  rw [colsOf_toNat c hC]
  exact hf j (j 0).isLt

/-- The list, as an array read at a share. -/
abbrev listAt (q : PosShare TreeShare) (c : S8192.Idx → BitVec 32) : sProp (MM F) := aC.view.loc (thr d L) ↦{q} c
abbrev semL : sProp (MM F) := semVal (thr d L, SemLoc.dma cc0_scoped0.sem) 0

theorem p40_wp (v2 : BitVec 32) (v143 : BitVec 32) (c64_i32_133 : BitVec 32) (c0_i32_134 : BitVec 32) (sA sB : Fin 4 → PosShare TreeShare) (qc : PosShare TreeShare) (c : S8192.Idx → BitVec 32) (hC : Srt (vals c))
    (ho3 : k0_off2 L 3#32 = rowOff (qIn L 0 1) 3) (cb : S8192.Idx → BitVec 32) (n i : S4096.Idx → BitVec 32) :
    iprop(listAt (F := F) d L qc c ∗ cPts d L fullShare cb ∗ semL d L ∗ nPts d L n ∗ iPts d L i
        ∗ inWA d L x sA (qIn L 0 0) 0 ∗ inPB d L x sB (qIn L 0 1) 3 ∗ freeA d L ∗ freeB d L ∗ todoS d L 0 ∗ owed d L O W ∗ Transfers.MayWaits (thr d L) (default : HIx 1) O)
      ⊢ wp frame (wpE (defs₀ (F := F)) 𝒱₀ (thr d L) none) Set.univ (k0_part40 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v143 c64_i32_133 c0_i32_134) fun _ =>
        iprop((∃ cb, cPts (F := F) d L fullShare cb) ∗ semL d L ∗ (∃ n, nPts (F := F) d L n) ∗ iPts d L (colsOf c)
          ∗ inWA d L x sA (qIn L 8 0) 0 ∗ inWB d L x sB (qIn L 8 1) 0
          ∗ outWA d L x (colsOf c) (qOut L 7 0) 0 ∗ outWB d L x (colsOf c) (qOut L 7 1) 0 ∗ doneS d L x (colsOf c) 7 ∗ owed d L O W) := by
  rw [k0_part40_eq_skeleton]; unfold k0_part40_skel owed
  iintro ⟨HL, HC, HS, HN, HI, HA, HB, FA, FB, HT, ⟨%W', %hW, HO⟩, #Hmw⟩
  iapply (stepInB d L x sB (qIn L 0 1) (qIn_lt L 0 1) 3 (by decide) ho3 rfl) $$ [HB]
  · iexact HB
  iintro HB
  ihave HB := (inPB_end d L x sB (qIn L 0 1)) $$ HB
  rw [Prog.bind]
  ihave Hm := (Transfers.MayWaits.elim (.dma cc0_scoped0.sem)) $$ Hmw
  sl_exec
  ihave HC := (Entails.of_eq (congrArg (fun w => (bC.view.loc (thr d L) ↦{fullShare} w : sProp (MM F))) (View.write_whole_univ cc0_scratch0 cb _))) $$ HC
  rw [wp_bind]
  iapply (wp_wand frame _ Set.univ) $$ [HC HN]
  · iapply (t1_wp d L fullShare c hC v2 v143 _ _ n)
    isplitl [HC]; · iexact HC
    iexact HN
  iintro %_ ⟨HC, %n', %hn, HN⟩
  rw [wp_bind]
  iapply (wp_wand frame _ Set.univ) $$ [HC HN HI]
  · iapply (t2_wp d L fullShare c hC v2 v143 _ _ n' hn i)
    isplitl [HC]; · iexact HC
    isplitl [HN] <;> iassumption
  iintro %_ ⟨HC, HN, %f, %hf, HI⟩
  obtain rfl : f = colsOf c := eq_colsOf c hC f hf
  rw [wp_bind]
  iapply (wp_wand frame _ Set.univ) $$ [HI HA HB FA FB HT HO]
  · iapply (t3_wp d L x (colsOf c) O W v2 v143 _ _ sA sB (colsOf_lt c hC))
    isplitl [HI]; · iexact HI
    isplitl [HA]; · iexact HA
    isplitl [HB]; · iexact HB
    isplitl [FA]; · iexact FA
    isplitl [FB]; · iexact FB
    isplitl [HT]; · iexact HT
    isplitl [HO]
    · iapply (owed_of d L O W hW); iexact HO
    iexact Hmw
  iintro %_ ⟨HI, HA, HB, OA, OB, HD, HO⟩
  sl_exec
  sl_step
  isplitl [HC]; · iexists _; iexact HC
  isplitl [HS]; · iexact HS
  isplitl [HN]; · iexists _; iexact HN
  isplitl [HI]; · iexact HI
  isplitl [HA]; · iexact HA
  isplitl [HB]; · iexact HB
  isplitl [OA]; · iexact OA
  isplitl [OB]; · iexact OB
  isplitl [HD]; · iexact HD
  unfold owed
  iexact HO

end Cert.Proof.Samp

end
-- ==== Proof.Parts2.lean ====
/-
  The stretches of a tile's body that issue or wait for copies of one stream.
-/
module

public import proofs.«01_k».proof.Proof.Streams

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32) (f : S4096.Idx → BitVec 32)
variable (O : CellTallies nD τ sig (HIx 1)) (W : Waits sig (HIx 1))

theorem p34_wp (v2 : BitVec 32) (s : Fin 4 → PosShare TreeShare) (q : ℕ) (hq : q < 512) (ho0 : k0_off1 L 0#32 = rowOff q 0) (ho1 : k0_off1 L 1#32 = rowOff q 1) :
    inPA d L x s q 0
      ⊢ wp frame (wpE (defs₀ (F := F)) 𝒱₀ (thr d L) none) Set.univ (k0_part34 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => inPA d L x s q 2 := by
  rw [k0_part34_eq_skeleton]; unfold k0_part34_skel
  iintro HS
  sl_exec
  iapply (stepInA d L x s q hq 0 (by decide) ho0 rfl) $$ [HS]
  · iexact HS
  iintro HS
  sl_exec
  iapply (stepInA d L x s q hq 1 (by decide) ho1 rfl) $$ [HS]
  · iexact HS
  iintro HS
  sl_exec
  sl_step
  iexact HS

theorem p35_wp (v2 : BitVec 32) (c64_i32_33 : BitVec 32) (v73 : BitVec 32) (c0_i32_34 : BitVec 32) (s : Fin 4 → PosShare TreeShare) (q : ℕ) (hq : q < 512) (ho2 : k0_off1 L 2#32 = rowOff q 2) :
    inPA d L x s q 2
      ⊢ wp frame (wpE (defs₀ (F := F)) 𝒱₀ (thr d L) none) Set.univ (k0_part35 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_33 v73 c0_i32_34) fun _ => inPA d L x s q 3 := by
  rw [k0_part35_eq_skeleton]; unfold k0_part35_skel
  iintro HS
  sl_exec
  iapply (stepInA d L x s q hq 2 (by decide) ho2 rfl) $$ [HS]
  · iexact HS
  iintro HS
  sl_exec
  sl_step
  iexact HS

theorem p36_wp (v2 : BitVec 32) (c64_i32_51 : BitVec 32) (v108 : BitVec 32) (v110 : BitVec 32) (v112 : BitVec 32) (s : Fin 4 → PosShare TreeShare) (q : ℕ) (hq : q < 512) (ho3 : k0_off1 L 3#32 = rowOff q 3) :
    inPA d L x s q 3
      ⊢ wp frame (wpE (defs₀ (F := F)) 𝒱₀ (thr d L) none) Set.univ (k0_part36 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_51 v108 v110 v112) fun _ => inPA d L x s q 4 := by
  rw [k0_part36_eq_skeleton]; unfold k0_part36_skel
  iintro HS
  sl_exec
  iapply (stepInA d L x s q hq 3 (by decide) ho3 rfl) $$ [HS]
  · iexact HS
  iintro HS
  sl_exec
  sl_step
  iexact HS

theorem p37_wp (v143 : BitVec 32) (c64_i32_69 : BitVec 32) (v144 : BitVec 32) (v149 : BitVec 32) (v150 : BitVec 1) (s : Fin 4 → PosShare TreeShare) (q : ℕ) (hq : q < 512) (ho0 : k0_off2 L 0#32 = rowOff q 0) :
    inPB d L x s q 0
      ⊢ wp frame (wpE (defs₀ (F := F)) 𝒱₀ (thr d L) none) Set.univ (k0_part37 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v143 c64_i32_69 v144 v149 v150) fun _ => inPB d L x s q 1 := by
  rw [k0_part37_eq_skeleton]; unfold k0_part37_skel
  iintro HS
  sl_exec
  iapply (stepInB d L x s q hq 0 (by decide) ho0 rfl) $$ [HS]
  · iexact HS
  iintro HS
  sl_exec
  sl_step
  iexact HS

theorem p38_wp (v143 : BitVec 32) (c64_i32_88 : BitVec 32) (v179 : BitVec 32) (v184 : BitVec 32) (v189 : BitVec 32) (s : Fin 4 → PosShare TreeShare) (q : ℕ) (hq : q < 512) (ho1 : k0_off2 L 1#32 = rowOff q 1) :
    inPB d L x s q 1
      ⊢ wp frame (wpE (defs₀ (F := F)) 𝒱₀ (thr d L) none) Set.univ (k0_part38 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v143 c64_i32_88 v179 v184 v189) fun _ => inPB d L x s q 2 := by
  rw [k0_part38_eq_skeleton]; unfold k0_part38_skel
  iintro HS
  sl_exec
  iapply (stepInB d L x s q hq 1 (by decide) ho1 rfl) $$ [HS]
  · iexact HS
  iintro HS
  sl_exec
  sl_step
  iexact HS

theorem p39_wp (v143 : BitVec 32) (v214 : BitVec 32) (v228 : BitVec 1) (s : Fin 4 → PosShare TreeShare) (q : ℕ) (hq : q < 512) (ho2 : k0_off2 L 2#32 = rowOff q 2) :
    inPB d L x s q 2
      ⊢ wp frame (wpE (defs₀ (F := F)) 𝒱₀ (thr d L) none) Set.univ (k0_part39 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v143 v214 v228) fun _ => inPB d L x s q 3 := by
  rw [k0_part39_eq_skeleton]; unfold k0_part39_skel
  iintro HS
  sl_exec
  iapply (stepInB d L x s q hq 2 (by decide) ho2 rfl) $$ [HS]
  · iexact HS
  iintro HS
  sl_exec
  sl_step
  iexact HS

theorem p41_wp (v2 : BitVec 32) (c64_i32_156 : BitVec 32) (v288 : BitVec 32) (v293 : BitVec 32) (s : Fin 4 → PosShare TreeShare) (q : ℕ) :
    iprop(inWA d L x s q 0 ∗ owed d L O W ∗ mayWaits d L O)
      ⊢ wp frame (wpE (defs₀ (F := F)) 𝒱₀ (thr d L) none) Set.univ (k0_part41 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_156 v288 v293) fun _ => iprop(inWA d L x s q 1 ∗ owed d L O W) := by
  rw [k0_part41_eq_skeleton]; unfold k0_part41_skel
  iintro ⟨HS, HO, #Hmw⟩
  sl_exec
  iapply (waitInA d L x O W s q 0 (by decide)) $$ [HS HO]
  · isplitl [HS]; · iexact HS
    isplitl [HO]; · iexact HO
    iexact Hmw
  iintro ⟨HS, HO⟩
  sl_exec
  sl_step
  isplitl [HS]; · iexact HS
  iexact HO

theorem p42_wp (v2 : BitVec 32) (c64_i32_175 : BitVec 32) (v323 : BitVec 32) (v328 : BitVec 32) (v330 : BitVec 32) (v331 : BitVec 1) (s : Fin 4 → PosShare TreeShare) (q : ℕ) :
    iprop(inWA d L x s q 1 ∗ owed d L O W ∗ mayWaits d L O)
      ⊢ wp frame (wpE (defs₀ (F := F)) 𝒱₀ (thr d L) none) Set.univ (k0_part42 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_175 v323 v328 v330 v331) fun _ => iprop(inWA d L x s q 2 ∗ owed d L O W) := by
  rw [k0_part42_eq_skeleton]; unfold k0_part42_skel
  iintro ⟨HS, HO, #Hmw⟩
  sl_exec
  iapply (waitInA d L x O W s q 1 (by decide)) $$ [HS HO]
  · isplitl [HS]; · iexact HS
    isplitl [HO]; · iexact HO
    iexact Hmw
  iintro ⟨HS, HO⟩
  sl_exec
  sl_step
  isplitl [HS]; · iexact HS
  iexact HO

theorem p43_wp (v2 : BitVec 32) (v358 : BitVec 32) (v369 : BitVec 1) (v370 : BitVec 32) (c0_i32_199 : BitVec 32) (s : Fin 4 → PosShare TreeShare) (q : ℕ) :
    iprop(inWA d L x s q 2 ∗ owed d L O W ∗ mayWaits d L O)
      ⊢ wp frame (wpE (defs₀ (F := F)) 𝒱₀ (thr d L) none) Set.univ (k0_part43 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v358 v369 v370 c0_i32_199) fun _ => iprop(inWA d L x s q 3 ∗ owed d L O W) := by
  rw [k0_part43_eq_skeleton]; unfold k0_part43_skel
  iintro ⟨HS, HO, #Hmw⟩
  sl_exec
  iapply (waitInA d L x O W s q 2 (by decide)) $$ [HS HO]
  · isplitl [HS]; · iexact HS
    isplitl [HO]; · iexact HO
    iexact Hmw
  iintro ⟨HS, HO⟩
  sl_exec
  sl_step
  isplitl [HS]; · iexact HS
  iexact HO

theorem p44_wp (v2 : BitVec 32) (s : Fin 4 → PosShare TreeShare) (q : ℕ) :
    iprop(inWA d L x s q 3 ∗ owed d L O W ∗ mayWaits d L O)
      ⊢ wp frame (wpE (defs₀ (F := F)) 𝒱₀ (thr d L) none) Set.univ (k0_part44 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => iprop(inDA d L x s q ∗ owed d L O W) := by
  rw [k0_part44_eq_skeleton]; unfold k0_part44_skel
  iintro ⟨HS, HO, #Hmw⟩
  sl_exec
  iapply (waitInLastA d L x O W s q) $$ [HS HO]
  · isplitl [HS]; · iexact HS
    isplitl [HO]; · iexact HO
    iexact Hmw
  iintro ⟨HS, HO⟩
  sl_exec
  sl_step
  isplitl [HS]; · iexact HS
  iexact HO

theorem p45_wp (v2 : BitVec 32) (v446 : BitVec 32) (q : ℕ) :
    iprop(outWA d L x f q 0 ∗ owed d L O W ∗ mayWaits d L O)
      ⊢ wp frame (wpE (defs₀ (F := F)) 𝒱₀ (thr d L) none) Set.univ (k0_part45 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v446) fun _ => iprop(outWA d L x f q 1 ∗ owed d L O W) := by
  rw [k0_part45_eq_skeleton]; unfold k0_part45_skel
  iintro ⟨HS, HO, #Hmw⟩
  sl_exec
  iapply (waitOutA d L x f O W q 0 (by decide)) $$ [HS HO]
  · isplitl [HS]; · iexact HS
    isplitl [HO]; · iexact HO
    iexact Hmw
  iintro ⟨HS, HO⟩
  sl_exec
  sl_step
  isplitl [HS]; · iexact HS
  iexact HO

theorem p46_wp (v2 : BitVec 32) (v481 : BitVec 32) (v482 : BitVec 32) (v483 : BitVec 1) (v484 : BitVec 1) (q : ℕ) :
    iprop(outWA d L x f q 1 ∗ owed d L O W ∗ mayWaits d L O)
      ⊢ wp frame (wpE (defs₀ (F := F)) 𝒱₀ (thr d L) none) Set.univ (k0_part46 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v481 v482 v483 v484) fun _ => iprop(outWA d L x f q 2 ∗ owed d L O W) := by
  rw [k0_part46_eq_skeleton]; unfold k0_part46_skel
  iintro ⟨HS, HO, #Hmw⟩
  sl_exec
  iapply (waitOutA d L x f O W q 1 (by decide)) $$ [HS HO]
  · isplitl [HS]; · iexact HS
    isplitl [HO]; · iexact HO
    iexact Hmw
  iintro ⟨HS, HO⟩
  sl_exec
  sl_step
  isplitl [HS]; · iexact HS
  iexact HO

theorem p47_wp (v2 : BitVec 32) (v517 : BitVec 32) (v522 : BitVec 1) (v523 : BitVec 32) (q : ℕ) :
    iprop(outWA d L x f q 2 ∗ owed d L O W ∗ mayWaits d L O)
      ⊢ wp frame (wpE (defs₀ (F := F)) 𝒱₀ (thr d L) none) Set.univ (k0_part47 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v517 v522 v523) fun _ => iprop(outWA d L x f q 3 ∗ owed d L O W) := by
  rw [k0_part47_eq_skeleton]; unfold k0_part47_skel
  iintro ⟨HS, HO, #Hmw⟩
  sl_exec
  iapply (waitOutA d L x f O W q 2 (by decide)) $$ [HS HO]
  · isplitl [HS]; · iexact HS
    isplitl [HO]; · iexact HO
    iexact Hmw
  iintro ⟨HS, HO⟩
  sl_exec
  sl_step
  isplitl [HS]; · iexact HS
  iexact HO

theorem p48_wp (v2 : BitVec 32) (q : ℕ) :
    iprop(outWA d L x f q 3 ∗ owed d L O W ∗ mayWaits d L O)
      ⊢ wp frame (wpE (defs₀ (F := F)) 𝒱₀ (thr d L) none) Set.univ (k0_part48 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => iprop(outDA d L x f q ∗ owed d L O W) := by
  rw [k0_part48_eq_skeleton]; unfold k0_part48_skel
  iintro ⟨HS, HO, #Hmw⟩
  sl_exec
  iapply (waitOutLastA d L x f O W q) $$ [HS HO]
  · isplitl [HS]; · iexact HS
    isplitl [HO]; · iexact HO
    iexact Hmw
  iintro ⟨HS, HO⟩
  sl_exec
  sl_step
  isplitl [HS]; · iexact HS
  iexact HO

theorem p49_wp (v2 : BitVec 32) (s : Fin 4 → PosShare TreeShare) (q : ℕ) :
    iprop(inWB d L x s q 0 ∗ owed d L O W ∗ mayWaits d L O)
      ⊢ wp frame (wpE (defs₀ (F := F)) 𝒱₀ (thr d L) none) Set.univ (k0_part49 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => iprop(inWB d L x s q 1 ∗ owed d L O W) := by
  rw [k0_part49_eq_skeleton]; unfold k0_part49_skel
  iintro ⟨HS, HO, #Hmw⟩
  sl_exec
  iapply (waitInB d L x O W s q 0 (by decide)) $$ [HS HO]
  · isplitl [HS]; · iexact HS
    isplitl [HO]; · iexact HO
    iexact Hmw
  iintro ⟨HS, HO⟩
  sl_exec
  sl_step
  isplitl [HS]; · iexact HS
  iexact HO

theorem p50_wp (v2 : BitVec 32) (s : Fin 4 → PosShare TreeShare) (q : ℕ) :
    iprop(inWB d L x s q 1 ∗ owed d L O W ∗ mayWaits d L O)
      ⊢ wp frame (wpE (defs₀ (F := F)) 𝒱₀ (thr d L) none) Set.univ (k0_part50 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2) fun _ => iprop(inWB d L x s q 3 ∗ owed d L O W) := by
  rw [k0_part50_eq_skeleton]; unfold k0_part50_skel
  iintro ⟨HS, HO, #Hmw⟩
  sl_exec
  iapply (waitInB d L x O W s q 1 (by decide)) $$ [HS HO]
  · isplitl [HS]; · iexact HS
    isplitl [HO]; · iexact HO
    iexact Hmw
  iintro ⟨HS, HO⟩
  sl_exec
  iapply (waitInB d L x O W s q 2 (by decide)) $$ [HS HO]
  · isplitl [HS]; · iexact HS
    isplitl [HO]; · iexact HO
    iexact Hmw
  iintro ⟨HS, HO⟩
  sl_exec
  sl_step
  isplitl [HS]; · iexact HS
  iexact HO

theorem p51_wp (v2 : BitVec 32) (c64_i32_363 : BitVec 32) (v673 : BitVec 32) (v674 : BitVec 1) (s : Fin 4 → PosShare TreeShare) (q : ℕ) :
    iprop(inWB d L x s q 3 ∗ owed d L O W ∗ mayWaits d L O)
      ⊢ wp frame (wpE (defs₀ (F := F)) 𝒱₀ (thr d L) none) Set.univ (k0_part51 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_363 v673 v674) fun _ => iprop(inDB d L x s q ∗ owed d L O W) := by
  rw [k0_part51_eq_skeleton]; unfold k0_part51_skel
  iintro ⟨HS, HO, #Hmw⟩
  sl_exec
  iapply (waitInLastB d L x O W s q) $$ [HS HO]
  · isplitl [HS]; · iexact HS
    isplitl [HO]; · iexact HO
    iexact Hmw
  iintro ⟨HS, HO⟩
  sl_exec
  sl_step
  isplitl [HS]; · iexact HS
  iexact HO

theorem p52_wp (v2 : BitVec 32) (c64_i32_382 : BitVec 32) (v708 : BitVec 32) (v713 : BitVec 32) (q : ℕ) :
    iprop(outWB d L x f q 0 ∗ owed d L O W ∗ mayWaits d L O)
      ⊢ wp frame (wpE (defs₀ (F := F)) 𝒱₀ (thr d L) none) Set.univ (k0_part52 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_382 v708 v713) fun _ => iprop(outWB d L x f q 1 ∗ owed d L O W) := by
  rw [k0_part52_eq_skeleton]; unfold k0_part52_skel
  iintro ⟨HS, HO, #Hmw⟩
  sl_exec
  iapply (waitOutB d L x f O W q 0 (by decide)) $$ [HS HO]
  · isplitl [HS]; · iexact HS
    isplitl [HO]; · iexact HO
    iexact Hmw
  iintro ⟨HS, HO⟩
  sl_exec
  sl_step
  isplitl [HS]; · iexact HS
  iexact HO

theorem p53_wp (v2 : BitVec 32) (c64_i32_401 : BitVec 32) (v743 : BitVec 32) (v748 : BitVec 32) (v750 : BitVec 32) (v751 : BitVec 1) (q : ℕ) :
    iprop(outWB d L x f q 1 ∗ owed d L O W ∗ mayWaits d L O)
      ⊢ wp frame (wpE (defs₀ (F := F)) 𝒱₀ (thr d L) none) Set.univ (k0_part53 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 c64_i32_401 v743 v748 v750 v751) fun _ => iprop(outWB d L x f q 2 ∗ owed d L O W) := by
  rw [k0_part53_eq_skeleton]; unfold k0_part53_skel
  iintro ⟨HS, HO, #Hmw⟩
  sl_exec
  iapply (waitOutB d L x f O W q 1 (by decide)) $$ [HS HO]
  · isplitl [HS]; · iexact HS
    isplitl [HO]; · iexact HO
    iexact Hmw
  iintro ⟨HS, HO⟩
  sl_exec
  sl_step
  isplitl [HS]; · iexact HS
  iexact HO

theorem p54_wp (v2 : BitVec 32) (v778 : BitVec 32) (v789 : BitVec 1) (v790 : BitVec 32) (c0_i32_425 : BitVec 32) (q : ℕ) :
    iprop(outWB d L x f q 2 ∗ owed d L O W ∗ mayWaits d L O)
      ⊢ wp frame (wpE (defs₀ (F := F)) 𝒱₀ (thr d L) none) Set.univ (k0_part54 L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0 v2 v778 v789 v790 c0_i32_425) fun _ => iprop(outWB d L x f q 3 ∗ owed d L O W) := by
  rw [k0_part54_eq_skeleton]; unfold k0_part54_skel
  iintro ⟨HS, HO, #Hmw⟩
  sl_exec
  iapply (waitOutB d L x f O W q 2 (by decide)) $$ [HS HO]
  · isplitl [HS]; · iexact HS
    isplitl [HO]; · iexact HO
    iexact Hmw
  iintro ⟨HS, HO⟩
  sl_exec
  sl_step
  isplitl [HS]; · iexact HS
  iexact HO

end Cert.Proof.Samp

end
-- ==== Proof.Tile.lean ====
/-
  A tile's body.
-/
module

public import proofs.«01_k».proof.Proof.Middle
public import proofs.«01_k».proof.Proof.Parts2

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

variable (x : S8x256x8192.Idx → Elt F .f32)
variable (O : CellTallies nD τ sig (HIx 1)) (W : Waits sig (HIx 1))

theorem off1_q (L : grid0.Coords) (r : Fin 4) : k0_off1 L (BitVec.ofNat 32 r.val) = rowOff (qIn L 0 0) r.val := by
  rw [off1_row L r]
  unfold qIn
  congr 1
  omega
theorem off2_q (L : grid0.Coords) (r : Fin 4) : k0_off2 L (BitVec.ofNat 32 r.val) = rowOff (qIn L 0 1) r.val := by
  rw [off2_row L r]
  unfold qIn
  congr 1
  omega

/-- A tile's scratches, at whatever they hold, and its counters at zero. -/
def scratch : sProp (MM F) :=
  iprop((∃ cb, cPts (F := F) d L fullShare cb) ∗ (∃ n, nPts (F := F) d L n) ∗ (∃ i, iPts (F := F) d L i)
    ∗ (∃ g, rvAPts (F := F) d L g) ∗ (∃ g, rvBPts (F := F) d L g) ∗ (∃ g, ovAPts (F := F) d L g) ∗ (∃ g, ovBPts (F := F) d L g))
def sems : sProp (MM F) :=
  iprop(semInA (F := F) d L ∗ semInB (F := F) d L ∗ semOutA (F := F) d L ∗ semOutB (F := F) d L ∗ semL (F := F) d L)

theorem tile_run (sA sB : Fin 4 → PosShare TreeShare) (qc : PosShare TreeShare) (c : S8192.Idx → BitVec 32) (hC : Srt (vals c)) :
    iprop(fToks d L x sA ∗ fToks d L x sB ∗ listAt (F := F) d L qc c ∗ todoS d L 0 ∗ scratch d L ∗ sems d L ∗ owed d L O W ∗ mayWaits d L O)
      ⊢ wp frame (wpE (defs₀ (F := F)) 𝒱₀ (thr d L) none) Set.univ (cc0_samp (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0) fun _ =>
        iprop(doneS d L x (colsOf c) 8 ∗ scratch d L ∗ sems d L ∗ owed d L O W) := by
  rw [cc0_samp_eq_skeleton]; unfold cc0_samp_skel scratch sems
  have hi0 := qIn_lt L 0 0
  have hi1 := qIn_lt L 0 1
  iintro ⟨KA, KB, HL, HT, ⟨⟨%cb, HC⟩, ⟨%n, HN⟩, ⟨%i, HI⟩, ⟨%ga, RA⟩, ⟨%gb, RB⟩, XA, XB⟩, ⟨S1, S2, S3, S4, S5⟩, HO, #Hmw⟩
  rw [wp_bind]
  iapply (wp_wand frame _ Set.univ) $$ []
  · iapply (p33_wp d L   )
    iempintro
  iintro %r -
  imod (inPA_start d L x sA (qIn L 0 0) ga) $$ [RA KA S1] with HA
  · isplitl [RA]; · iexact RA
    isplitl [KA] <;> iassumption
  rw [wp_bind]
  iapply (wp_wand frame _ Set.univ) $$ [HA]
  · iapply (p34_wp d L x _ sA (qIn L 0 0) hi0 (off1_q L 0) (off1_q L 1))
    iexact HA
  iintro %r HA
  obtain ⟨_, _, _⟩ := r
  dsimp only
  rw [wp_bind]
  iapply (wp_wand frame _ Set.univ) $$ [HA]
  · iapply (p35_wp d L x _ _ _ _ sA (qIn L 0 0) hi0 (off1_q L 2))
    iexact HA
  iintro %r HA
  obtain ⟨_, _, _, _⟩ := r
  dsimp only
  rw [wp_bind]
  iapply (wp_wand frame _ Set.univ) $$ [HA]
  · iapply (p36_wp d L x _ _ _ _ _ sA (qIn L 0 0) hi0 (off1_q L 3))
    iexact HA
  iintro %r HA
  obtain ⟨_, _, _, _, _⟩ := r
  dsimp only
  ihave HA := (inPA_end d L x sA (qIn L 0 0)) $$ HA
  imod (inPB_start d L x sB (qIn L 0 1) gb) $$ [RB KB S2] with HB
  · isplitl [RB]; · iexact RB
    isplitl [KB] <;> iassumption
  rw [wp_bind]
  iapply (wp_wand frame _ Set.univ) $$ [HB]
  · iapply (p37_wp d L x _ _ _ _ _ sB (qIn L 0 1) hi1 (off2_q L 0))
    iexact HB
  iintro %r HB
  obtain ⟨_, _, _, _⟩ := r
  dsimp only
  rw [wp_bind]
  iapply (wp_wand frame _ Set.univ) $$ [HB]
  · iapply (p38_wp d L x _ _ _ _ _ sB (qIn L 0 1) hi1 (off2_q L 1))
    iexact HB
  iintro %r HB
  obtain ⟨_, _⟩ := r
  dsimp only
  rw [wp_bind]
  iapply (wp_wand frame _ Set.univ) $$ [HB]
  · iapply (p39_wp d L x _ _ _ sB (qIn L 0 1) hi1 (off2_q L 2))
    iexact HB
  iintro %r HB
  obtain ⟨_, _⟩ := r
  dsimp only
  ihave FA := (Entails.rfl (P := freeA (F := F) d L)) $$ [XA S3]
  · unfold freeA; isplitl [XA] <;> iassumption
  ihave FB := (Entails.rfl (P := freeB (F := F) d L)) $$ [XB S4]
  · unfold freeB; isplitl [XB] <;> iassumption
  rw [wp_bind]
  iapply (wp_wand frame _ Set.univ) $$ [HL HC S5 HN HI HA HB FA FB HT HO]
  · iapply (p40_wp d L x O W _ _ _ _ sA sB qc c hC (off2_q L 3) cb n i)
    isplitl [HL]; · iexact HL
    isplitl [HC]; · iexact HC
    isplitl [S5]; · iexact S5
    isplitl [HN]; · iexact HN
    isplitl [HI]; · iexact HI
    isplitl [HA]; · iexact HA
    isplitl [HB]; · iexact HB
    isplitl [FA]; · iexact FA
    isplitl [FB]; · iexact FB
    isplitl [HT]; · iexact HT
    isplitl [HO]; · iexact HO
    iexact Hmw
  iintro %r ⟨HC, S5, HN, HI, HA, HB, OA, OB, HD, HO⟩
  obtain ⟨_, _, _⟩ := r
  dsimp only
  rw [wp_bind]
  iapply (wp_wand frame _ Set.univ) $$ [HA HO]
  · iapply (p41_wp d L x O W _ _ _ _ sA (qIn L 8 0))
    isplitl [HA]; · iexact HA
    isplitl [HO]; · iexact HO
    iexact Hmw
  iintro %r ⟨HA, HO⟩
  obtain ⟨_, _, _, _, _⟩ := r
  dsimp only
  rw [wp_bind]
  iapply (wp_wand frame _ Set.univ) $$ [HA HO]
  · iapply (p42_wp d L x O W _ _ _ _ _ _ sA (qIn L 8 0))
    isplitl [HA]; · iexact HA
    isplitl [HO]; · iexact HO
    iexact Hmw
  iintro %r ⟨HA, HO⟩
  obtain ⟨_, _, _, _⟩ := r
  dsimp only
  rw [wp_bind]
  iapply (wp_wand frame _ Set.univ) $$ [HA HO]
  · iapply (p43_wp d L x O W _ _ _ _ _ sA (qIn L 8 0))
    isplitl [HA]; · iexact HA
    isplitl [HO]; · iexact HO
    iexact Hmw
  iintro %r ⟨HA, HO⟩
  rw [wp_bind]
  iapply (wp_wand frame _ Set.univ) $$ [HA HO]
  · iapply (p44_wp d L x O W _ sA (qIn L 8 0))
    isplitl [HA]; · iexact HA
    isplitl [HO]; · iexact HO
    iexact Hmw
  iintro %r ⟨HA, HO⟩
  rw [wp_bind]
  iapply (wp_wand frame _ Set.univ) $$ [OA HO]
  · iapply (p45_wp d L x (colsOf c) O W _ _ (qOut L 7 0))
    isplitl [OA]; · iexact OA
    isplitl [HO]; · iexact HO
    iexact Hmw
  iintro %r ⟨OA, HO⟩
  obtain ⟨_, _, _, _⟩ := r
  dsimp only
  rw [wp_bind]
  iapply (wp_wand frame _ Set.univ) $$ [OA HO]
  · iapply (p46_wp d L x (colsOf c) O W _ _ _ _ _ (qOut L 7 0))
    isplitl [OA]; · iexact OA
    isplitl [HO]; · iexact HO
    iexact Hmw
  iintro %r ⟨OA, HO⟩
  obtain ⟨_, _, _⟩ := r
  dsimp only
  rw [wp_bind]
  iapply (wp_wand frame _ Set.univ) $$ [OA HO]
  · iapply (p47_wp d L x (colsOf c) O W _ _ _ _ (qOut L 7 0))
    isplitl [OA]; · iexact OA
    isplitl [HO]; · iexact HO
    iexact Hmw
  iintro %r ⟨OA, HO⟩
  rw [wp_bind]
  iapply (wp_wand frame _ Set.univ) $$ [OA HO]
  · iapply (p48_wp d L x (colsOf c) O W _ (qOut L 7 0))
    isplitl [OA]; · iexact OA
    isplitl [HO]; · iexact HO
    iexact Hmw
  iintro %r ⟨OA, HO⟩
  rw [wp_bind]
  iapply (wp_wand frame _ Set.univ) $$ [HB HO]
  · iapply (p49_wp d L x O W _ sB (qIn L 8 1))
    isplitl [HB]; · iexact HB
    isplitl [HO]; · iexact HO
    iexact Hmw
  iintro %r ⟨HB, HO⟩
  rw [wp_bind]
  iapply (wp_wand frame _ Set.univ) $$ [HB HO]
  · iapply (p50_wp d L x O W _ sB (qIn L 8 1))
    isplitl [HB]; · iexact HB
    isplitl [HO]; · iexact HO
    iexact Hmw
  iintro %r ⟨HB, HO⟩
  obtain ⟨_, _, _⟩ := r
  dsimp only
  rw [wp_bind]
  iapply (wp_wand frame _ Set.univ) $$ [HB HO]
  · iapply (p51_wp d L x O W _ _ _ _ sB (qIn L 8 1))
    isplitl [HB]; · iexact HB
    isplitl [HO]; · iexact HO
    iexact Hmw
  iintro %r ⟨HB, HO⟩
  obtain ⟨_, _, _⟩ := r
  dsimp only
  rw [wp_bind]
  iapply (wp_wand frame _ Set.univ) $$ [OB HO]
  · iapply (p52_wp d L x (colsOf c) O W _ _ _ _ (qOut L 7 1))
    isplitl [OB]; · iexact OB
    isplitl [HO]; · iexact HO
    iexact Hmw
  iintro %r ⟨OB, HO⟩
  obtain ⟨_, _, _, _, _⟩ := r
  dsimp only
  rw [wp_bind]
  iapply (wp_wand frame _ Set.univ) $$ [OB HO]
  · iapply (p53_wp d L x (colsOf c) O W _ _ _ _ _ _ (qOut L 7 1))
    isplitl [OB]; · iexact OB
    isplitl [HO]; · iexact HO
    iexact Hmw
  iintro %r ⟨OB, HO⟩
  obtain ⟨_, _, _, _⟩ := r
  dsimp only
  rw [wp_bind]
  iapply (wp_wand frame _ Set.univ) $$ [OB HO]
  · iapply (p54_wp d L x (colsOf c) O W _ _ _ _ _ (qOut L 7 1))
    isplitl [OB]; · iexact OB
    isplitl [HO]; · iexact HO
    iexact Hmw
  iintro %r ⟨OB, HO⟩
  iapply (waitOutLastB d L x (colsOf c) O W (qOut L 7 1)) $$ [OB HO]
  · isplitl [OB]; · iexact OB
    isplitl [HO]; · iexact HO
    iexact Hmw
  iintro ⟨OB, HO⟩
  rw [Prog.bind]
  unfold inDA inDB outDA outDB
  icases HA with ⟨RA, -, S1⟩
  icases HB with ⟨RB, -, S2⟩
  icases OA with ⟨DA, XA, S3⟩
  icases OB with ⟨DB, XB, S4⟩
  rw [doneS_next d L x (colsOf c) (show 7 < 8 by decide)]
  sl_step
  isplitl [HD DA DB]
  · isplitl [DA DB]
    · isplitl [DA] <;> iassumption
    iexact HD
  isplitl [HC HN HI RA RB XA XB]
  · isplitl [HC]; · iexact HC
    isplitl [HN]; · iexact HN
    isplitl [HI]; · iexists _; iexact HI
    isplitl [RA]; · iexists _; iexact RA
    isplitl [RB]; · iexists _; iexact RB
    isplitl [XA] <;> iassumption
  isplitl [S1 S2 S3 S4 S5]
  · isplitl [S1]; · iexact S1
    isplitl [S2]; · iexact S2
    isplitl [S3]; · iexact S3
    isplitl [S4] <;> iassumption
  iexact HO

end Cert.Proof.Samp

end
-- ==== Proof.Shares.lean ====
/-
  The output array dealt to the two SparseCores, to the tiles of each, and to the rows of each tile.
-/
module

public import proofs.«01_k».proof.Proof.Tile

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

/-- A points-to over a set is the points-tos over its parts, each element in exactly one. -/
theorem pts_split {ℓ : Loc nD τ sig} {I : Type} [Fintype I] (A : Finset (Idx ℓ)) (Kp : I → Finset (Idx ℓ))
    (hd : ∀ i i' j, j ∈ Kp i → j ∈ Kp i' → i = i') (hc : ∀ j, j ∈ A ↔ ∃ i, j ∈ Kp i) (g : Buf (Elt F) ℓ) :
    (ℓ ↦[A]{fullShare} g : sProp (MM F)) = bigSep Finset.univ fun i : I => (ℓ ↦[Kp i]{fullShare} g : sProp (MM F)) := by
  rw [← pointsTo_biUnion (Finset.univ : Finset I) Kp fun i _ i' _ hne => Finset.disjoint_left.mpr fun j hj hj' => hne (hd i i' j hj hj')]
  congr 1
  ext j
  simp only [Finset.mem_univ, Finset.mem_biUnion, true_and]
  exact hc j

theorem pts_two {ℓ : Loc nD τ sig} (A B : Finset (Idx ℓ)) (hd : ∀ j, j ∈ A → j ∉ B) (g : Buf (Elt F) ℓ) :
    (ℓ ↦[A ∪ B]{fullShare} g : sProp (MM F)) = iprop((ℓ ↦[A]{fullShare} g) ∗ (ℓ ↦[B]{fullShare} g)) :=
  BI.equiv_iff.mp ⟨(pointsTo_union (Finset.disjoint_left.mpr hd)).1, (pointsTo_union (Finset.disjoint_left.mpr hd)).2⟩

/-- The quad of channels a row of the output is in. -/
def quad (j : S8x256x4096.Idx) : ℕ := (j 0).val * 64 + (j 1).val / 4

theorem quad_lt (j : S8x256x4096.Idx) : quad j < 512 := by
  have h0 : (j 0).val < 8 := (j 0).isLt
  have h1 : (j 1).val < 256 := (j 1).isLt
  unfold quad; omega

/-- The rows of a SparseCore, of a tile, of a pair of quads and of a quad. -/
def coreSet (c : ℕ) : Finset S8x256x4096.Idx := Finset.univ.filter fun j => quad j / 16 % 2 = c
def tileSet (c i : ℕ) : Finset S8x256x4096.Idx := Finset.univ.filter fun j => quad j / 16 = 2 * i + c
def quadSet (q : ℕ) : Finset S8x256x4096.Idx := Finset.univ.filter fun j => quad j = q

theorem mem_outSet {q r : ℕ} (hr : r < 4) (j : S8x256x4096.Idx) : j ∈ outSet q r ↔ quad j = q ∧ (j 1).val % 4 = r := by
  have h0 : (j 0).val < 8 := (j 0).isLt
  have h1 : (j 1).val < 256 := (j 1).isLt
  unfold outSet quad
  simp only [Finset.mem_filter, Finset.mem_univ, true_and]
  omega

variable (d : Dev nD)

theorem out_cores (g : Buf (Elt F) (oLoc d)) :
    (oLoc d ↦{fullShare} g : sProp (MM F)) = bigSep Finset.univ fun c : Fin 2 => (oLoc d ↦[coreSet c.val]{fullShare} g : sProp (MM F)) := by
  refine pts_split (ℓ := oLoc d) Finset.univ (fun c : Fin 2 => coreSet c.val) ?_ ?_ g
  · intro c c' j h h'
    have h := (Finset.mem_filter.mp h).2
    have h' := (Finset.mem_filter.mp h').2
    exact Fin.ext (h.symm.trans h')
  · intro j
    refine ⟨fun _ => ⟨⟨quad j / 16 % 2, Nat.mod_lt _ (by decide)⟩, Finset.mem_filter.mpr ⟨Finset.mem_univ _, rfl⟩⟩, fun _ => Finset.mem_univ _⟩

theorem out_tiles (c : ℕ) (hc : c < 2) (g : Buf (Elt F) (oLoc d)) :
    (oLoc d ↦[coreSet c]{fullShare} g : sProp (MM F)) = bigSep Finset.univ fun i : Fin 16 => (oLoc d ↦[tileSet c i.val]{fullShare} g : sProp (MM F)) := by
  refine pts_split (ℓ := oLoc d) (coreSet c) (fun i : Fin 16 => tileSet c i.val) ?_ ?_ g
  · intro i i' j h h'
    have h := (Finset.mem_filter.mp h).2
    have h' := (Finset.mem_filter.mp h').2
    exact Fin.ext (by omega)
  · intro j
    have hq := quad_lt j
    constructor
    · intro h
      have h := (Finset.mem_filter.mp h).2
      exact ⟨⟨quad j / 32, by omega⟩, Finset.mem_filter.mpr ⟨Finset.mem_univ _, show quad j / 16 = 2 * (quad j / 32) + c by omega⟩⟩
    · rintro ⟨i, h⟩
      have h := (Finset.mem_filter.mp h).2
      exact Finset.mem_filter.mpr ⟨Finset.mem_univ _, by omega⟩

theorem out_quad (q : ℕ) (g : Buf (Elt F) (oLoc d)) :
    (oLoc d ↦[quadSet q]{fullShare} g : sProp (MM F)) = bigSep Finset.univ fun r : Fin 4 => (oLoc d ↦[outSet q r.val]{fullShare} g : sProp (MM F)) := by
  refine pts_split (ℓ := oLoc d) (quadSet q) (fun r : Fin 4 => outSet q r.val) ?_ ?_ g
  · intro r r' j h h'
    have h := ((mem_outSet r.isLt j).mp h).2
    have h' := ((mem_outSet r'.isLt j).mp h').2
    exact Fin.ext (h.symm.trans h')
  · intro j
    constructor
    · intro h
      have h := (Finset.mem_filter.mp h).2
      exact ⟨⟨(j 1).val % 4, Nat.mod_lt _ (by decide)⟩, (mem_outSet (Nat.mod_lt _ (by decide)) j).mpr ⟨h, rfl⟩⟩
    · rintro ⟨r, h⟩
      exact Finset.mem_filter.mpr ⟨Finset.mem_univ _, ((mem_outSet r.isLt j).mp h).1⟩

theorem out_pairs (L : grid0.Coords) (g : Buf (Elt F) (oLoc d)) :
    (oLoc d ↦[tileSet (L 0).val (L 1).val]{fullShare} g : sProp (MM F))
      = bigSep Finset.univ fun k : Fin 8 => iprop((oLoc d ↦[quadSet (qOut L k.val 0)]{fullShare} g) ∗ (oLoc d ↦[quadSet (qOut L k.val 1)]{fullShare} g)) := by
  have h2 : ∀ k : Fin 8, iprop((oLoc d ↦[quadSet (qOut L k.val 0)]{fullShare} g) ∗ (oLoc d ↦[quadSet (qOut L k.val 1)]{fullShare} g))
      = (oLoc d ↦[quadSet (qOut L k.val 0) ∪ quadSet (qOut L k.val 1)]{fullShare} g : sProp (MM F)) := by
    intro k
    refine (pts_two (ℓ := oLoc d) (quadSet (qOut L k.val 0)) (quadSet (qOut L k.val 1)) ?_ g).symm
    intro j h h'
    have h := (Finset.mem_filter.mp h).2
    have h' := (Finset.mem_filter.mp h').2
    unfold qOut at h h'
    omega
  rw [bigSep_congr fun k _ => h2 k]
  refine pts_split (ℓ := oLoc d) (tileSet (L 0).val (L 1).val) (fun k : Fin 8 => quadSet (qOut L k.val 0) ∪ quadSet (qOut L k.val 1)) ?_ ?_ g
  · intro k k' j h h'
    apply Fin.ext
    rcases Finset.mem_union.mp h with h | h <;> rcases Finset.mem_union.mp h' with h' | h' <;>
      (have h := (Finset.mem_filter.mp h).2; have h' := (Finset.mem_filter.mp h').2; unfold qOut at h h'; omega)
  · intro j
    constructor
    · intro h
      have h := (Finset.mem_filter.mp h).2
      refine ⟨⟨quad j % 16 / 2, by omega⟩, ?_⟩
      rcases Nat.mod_two_eq_zero_or_one (quad j) with e | e
      · exact Finset.mem_union_left _ (Finset.mem_filter.mpr ⟨Finset.mem_univ _, by unfold qOut base; dsimp only; omega⟩)
      · exact Finset.mem_union_right _ (Finset.mem_filter.mpr ⟨Finset.mem_univ _, by unfold qOut base; dsimp only; omega⟩)
    · rintro ⟨k, h⟩
      have hk := k.isLt
      refine Finset.mem_filter.mpr ⟨Finset.mem_univ _, ?_⟩
      rcases Finset.mem_union.mp h with h | h <;>
        (have h := (Finset.mem_filter.mp h).2; unfold qOut base at h; omega)

theorem any_of (L : grid0.Coords) (q r : ℕ) (g : Buf (Elt F) (oLoc d)) :
    (oLoc d ↦[outSet q r]{fullShare} g : sProp (MM F)) ⊢ anyOut d L q r := by
  unfold anyOut
  iintro H; iexists g; iexact H

/-- A tile's part of the output, dealt to its rows; -/
theorem todo_of (L : grid0.Coords) (g : Buf (Elt F) (oLoc d)) :
    (oLoc d ↦[tileSet (L 0).val (L 1).val]{fullShare} g : sProp (MM F)) ⊢ todoS d L 0 := by
  rw [out_pairs d L g]
  unfold todoS
  rw [Ring.rangeSet_univ]
  refine bigSep_mono fun k _ => ?_
  rw [out_quad, out_quad]
  unfold todoOut
  refine sep_mono (bigSep_mono fun r _ => ?_) (bigSep_mono fun r _ => ?_)
  · exact any_of d L _ _ g
  · exact any_of d L _ _ g

theorem of_row (L : grid0.Coords) (q r : ℕ) (x : S8x256x8192.Idx → Elt F .f32) (f : S4096.Idx → BitVec 32) :
    oAt d L (outSet q r) (sampled x f) ⊢ (oLoc d ↦[outSet q r]{fullShare} (sampled x f : Buf (Elt F) (oLoc d)) : sProp (MM F)) := by
  iintro H; iexact H

/-- and, every row sampled, joined. -/
theorem of_done (L : grid0.Coords) (x : S8x256x8192.Idx → Elt F .f32) (f : S4096.Idx → BitVec 32) :
    doneS d L x f 8 ⊢ (oLoc d ↦[tileSet (L 0).val (L 1).val]{fullShare} (sampled x f : Buf (Elt F) (oLoc d)) : sProp (MM F)) := by
  rw [out_pairs d L]
  unfold doneS
  rw [Ring.rangeSet_univ]
  refine bigSep_mono fun k _ => ?_
  rw [out_quad, out_quad]
  unfold doneOut
  exact sep_mono (bigSep_mono fun r _ => of_row d L _ _ x f) (bigSep_mono fun r _ => of_row d L _ _ x f)

end Cert.Proof.Samp

end
-- ==== Proof.Body.lean ====
/-
  The sampler as the launch sees it: what each call gives a SparseCore and a tile and takes back, and that a tile's
  body meets it.
-/
module

public import proofs.«01_k».proof.Proof.Shares

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

variable (d : Dev nD) (L : grid0.Coords)

/-! ## A tile's own buffers and counters -/

theorem cell_own (s : DmaSem sig) (h : (SemLoc.dma s : SemLoc sig).isScoped .scVector = true) : ((thr d L, SemLoc.dma s) : GSem nD τ sig) ∈ ownCells (thr d L) :=
  mem_ownCells.mpr ⟨rfl, h⟩
theorem cell_ne {s t : DmaSem sig} (h : s ≠ t) : ((thr d L, SemLoc.dma s) : GSem nD τ sig) ≠ (thr d L, SemLoc.dma t) := by
  intro e; exact h (SemLoc.dma.inj (Prod.mk.inj e).2)
def restSems : sProp (MM F) := bigSep ((((((ownCells (thr d L)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scratch10.sem) : GSem nD τ sig)).erase ((thr d L, SemLoc.dma cc0_scoped0.sem) : GSem nD τ sig)) fun g => semVal g 0
theorem ownSems_eq : (ownSems0 (thr d L) : sProp (MM F)) = iprop(semVal ((thr d L, SemLoc.dma cc0_scratch7.sem) : GSem nD τ sig) 0 ∗ semVal ((thr d L, SemLoc.dma cc0_scratch8.sem) : GSem nD τ sig) 0 ∗ semVal ((thr d L, SemLoc.dma cc0_scratch9.sem) : GSem nD τ sig) 0 ∗ semVal ((thr d L, SemLoc.dma cc0_scratch10.sem) : GSem nD τ sig) 0 ∗ semVal ((thr d L, SemLoc.dma cc0_scoped0.sem) : GSem nD τ sig) 0 ∗ restSems d L) := by
  unfold SparseCore.Cfg.ownSems0 restSems
  rw [SparseCore.bigSep_erase' (cell_own d L cc0_scratch7.sem (by decide)),
    SparseCore.bigSep_erase' (Finset.mem_erase.mpr ⟨cell_ne d L (show (cc0_scratch8.sem : DmaSem sig) ≠ cc0_scratch7.sem by decide), (cell_own d L cc0_scratch8.sem (by decide))⟩),
    SparseCore.bigSep_erase' (Finset.mem_erase.mpr ⟨cell_ne d L (show (cc0_scratch9.sem : DmaSem sig) ≠ cc0_scratch8.sem by decide), (Finset.mem_erase.mpr ⟨cell_ne d L (show (cc0_scratch9.sem : DmaSem sig) ≠ cc0_scratch7.sem by decide), (cell_own d L cc0_scratch9.sem (by decide))⟩)⟩),
    SparseCore.bigSep_erase' (Finset.mem_erase.mpr ⟨cell_ne d L (show (cc0_scratch10.sem : DmaSem sig) ≠ cc0_scratch9.sem by decide), (Finset.mem_erase.mpr ⟨cell_ne d L (show (cc0_scratch10.sem : DmaSem sig) ≠ cc0_scratch8.sem by decide), (Finset.mem_erase.mpr ⟨cell_ne d L (show (cc0_scratch10.sem : DmaSem sig) ≠ cc0_scratch7.sem by decide), (cell_own d L cc0_scratch10.sem (by decide))⟩)⟩)⟩),
    SparseCore.bigSep_erase' (Finset.mem_erase.mpr ⟨cell_ne d L (show (cc0_scoped0.sem : DmaSem sig) ≠ cc0_scratch10.sem by decide), (Finset.mem_erase.mpr ⟨cell_ne d L (show (cc0_scoped0.sem : DmaSem sig) ≠ cc0_scratch9.sem by decide), (Finset.mem_erase.mpr ⟨cell_ne d L (show (cc0_scoped0.sem : DmaSem sig) ≠ cc0_scratch8.sem by decide), (Finset.mem_erase.mpr ⟨cell_ne d L (show (cc0_scoped0.sem : DmaSem sig) ≠ cc0_scratch7.sem by decide), (cell_own d L cc0_scoped0.sem (by decide))⟩)⟩)⟩)⟩)]

theorem ref_ne {r s : Ref sig .scVector} (h : r ≠ s) : (Proc.scVector (cV L) (jV L)).devRef r ≠ (Proc.scVector (cV L) (jV L)).devRef s :=
  fun e => h (Proc.devRef_injective _ e)
def restBufs : sProp (MM F) := bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)
theorem ownBufs_eq : (ownBufs (thr d L) : sProp (MM F)) = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ restBufs d L) := by
  unfold SparseCore.Cfg.ownBufs restBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne L (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨ref_ne L (show (cc0_scratch2 : Ref sig .scVector) ≠ cc0_scratch1 by decide), (Finset.mem_erase.mpr ⟨ref_ne L (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨ref_ne L (show (cc0_scratch3 : Ref sig .scVector) ≠ cc0_scratch2 by decide), (Finset.mem_erase.mpr ⟨ref_ne L (show (cc0_scratch3 : Ref sig .scVector) ≠ cc0_scratch1 by decide), (Finset.mem_erase.mpr ⟨ref_ne L (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨ref_ne L (show (cc0_scratch4 : Ref sig .scVector) ≠ cc0_scratch3 by decide), (Finset.mem_erase.mpr ⟨ref_ne L (show (cc0_scratch4 : Ref sig .scVector) ≠ cc0_scratch2 by decide), (Finset.mem_erase.mpr ⟨ref_ne L (show (cc0_scratch4 : Ref sig .scVector) ≠ cc0_scratch1 by decide), (Finset.mem_erase.mpr ⟨ref_ne L (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨ref_ne L (show (cc0_scratch5 : Ref sig .scVector) ≠ cc0_scratch4 by decide), (Finset.mem_erase.mpr ⟨ref_ne L (show (cc0_scratch5 : Ref sig .scVector) ≠ cc0_scratch3 by decide), (Finset.mem_erase.mpr ⟨ref_ne L (show (cc0_scratch5 : Ref sig .scVector) ≠ cc0_scratch2 by decide), (Finset.mem_erase.mpr ⟨ref_ne L (show (cc0_scratch5 : Ref sig .scVector) ≠ cc0_scratch1 by decide), (Finset.mem_erase.mpr ⟨ref_ne L (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩),
    SparseCore.bigSep_erase' (Finset.mem_erase.mpr ⟨ref_ne L (show (cc0_scratch6 : Ref sig .scVector) ≠ cc0_scratch5 by decide), (Finset.mem_erase.mpr ⟨ref_ne L (show (cc0_scratch6 : Ref sig .scVector) ≠ cc0_scratch4 by decide), (Finset.mem_erase.mpr ⟨ref_ne L (show (cc0_scratch6 : Ref sig .scVector) ≠ cc0_scratch3 by decide), (Finset.mem_erase.mpr ⟨ref_ne L (show (cc0_scratch6 : Ref sig .scVector) ≠ cc0_scratch2 by decide), (Finset.mem_erase.mpr ⟨ref_ne L (show (cc0_scratch6 : Ref sig .scVector) ≠ cc0_scratch1 by decide), (Finset.mem_erase.mpr ⟨ref_ne L (show (cc0_scratch6 : Ref sig .scVector) ≠ cc0_scratch0 by decide), (SparseCore.Cfg.mem_ownRefs_of_owner (p := Proc.scVector (cV L) (jV L)) (b := ((Proc.scVector (cV L) (jV L)).devRef cc0_scratch6)) rfl)⟩)⟩)⟩)⟩)⟩)⟩)]

theorem scratch_of : (ownBufs (thr d L) : sProp (MM F)) ⊢ iprop(scratch d L ∗ restBufs d L) := by
  rw [ownBufs_eq]
  unfold scratch
  iintro ⟨⟨%f0, H0⟩, ⟨%f1, H1⟩, ⟨%f2, H2⟩, ⟨%f3, H3⟩, ⟨%f4, H4⟩, ⟨%f5, H5⟩, ⟨%f6, H6⟩, HR⟩
  isplitr [HR]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f6; iexact H6
  iexact HR
theorem scratch_back : iprop(scratch d L ∗ restBufs d L) ⊢ (ownBufs (thr d L) : sProp (MM F)) := by
  rw [ownBufs_eq]
  unfold scratch
  iintro ⟨⟨⟨%f0, H0⟩, ⟨%f1, H1⟩, ⟨%f2, H2⟩, ⟨%f3, H3⟩, ⟨%f4, H4⟩, ⟨%f5, H5⟩, %f6, H6⟩, HR⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  iexact HR

theorem sems_of : (ownSems0 (thr d L) : sProp (MM F)) ⊢ iprop(sems d L ∗ restSems d L) := by
  rw [ownSems_eq]
  unfold sems
  iintro ⟨H0, H1, H2, H3, H4, HR⟩
  isplitr [HR]
  · isplitl [H0]; · iexact H0
    isplitl [H1]; · iexact H1
    isplitl [H2]; · iexact H2
    isplitl [H3]; · iexact H3
    iexact H4
  iexact HR
theorem sems_back : iprop(sems d L ∗ restSems d L) ⊢ (ownSems0 (thr d L) : sProp (MM F)) := by
  rw [ownSems_eq]
  unfold sems
  iintro ⟨⟨H0, H1, H2, H3, H4⟩, HR⟩
  isplitl [H0]; · iexact H0
  isplitl [H1]; · iexact H1
  isplitl [H2]; · iexact H2
  isplitl [H3]; · iexact H3
  isplitl [H4]; · iexact H4
  iexact HR

/-! ## What a tile is handed, and hands back -/

variable (m : (ℓ : Loc nD τ sig) → Buf (Elt F) ℓ) (cv : (d : Dev nD) → Buf (Elt F) (cLoc d))

/-- The features' contents and the list's, as a tile reads them. -/
abbrev featOf : S8x256x8192.Idx → Elt F .f32 := m (fLoc d)
abbrev listOf : S8192.Idx → BitVec 32 := cv d
/-- What every output row ends as. -/
abbrev outOf : Buf (Elt F) (oLoc d) := sampled (featOf d m) (colsOf (listOf (F := F) d cv))

/-- The read shares of a SparseCore and of a tile. -/
abbrev qCore (c : ℕ) : PosShare TreeShare := Transfers.shareTokN fullShare c
abbrev qTile (c i : ℕ) : PosShare TreeShare := Transfers.shareTokN (qCore c) i

def toTile (c i : ℕ) : sProp (MM F) :=
  iprop((fLoc d ↦{qTile c i} m (fLoc d)) ∗ (cLoc d ↦{qTile c i} cv d) ∗ (oLoc d ↦[tileSet c i]{fullShare} m (oLoc d)))
def ofTile (c i : ℕ) : sProp (MM F) := (oLoc d ↦[tileSet c i]{fullShare} outOf d m cv)
def toCore (c : ℕ) : sProp (MM F) :=
  iprop((fLoc d ↦{qCore c} m (fLoc d)) ∗ (cLoc d ↦{qCore c} cv d) ∗ (oLoc d ↦[coreSet c]{fullShare} m (oLoc d)))
def ofCore (c : ℕ) : sProp (MM F) := (oLoc d ↦[coreSet c]{fullShare} outOf d m cv)

instance toTile_storable (c i : ℕ) : BI.Storable (upEmb : UEmb _ (MM F)) (toTile d m cv c i) := by unfold toTile; infer_instance
instance ofTile_storable (c i : ℕ) : BI.Storable (upEmb : UEmb _ (MM F)) (ofTile d m cv c i) := by unfold ofTile; infer_instance
instance toCore_storable (c : ℕ) : BI.Storable (upEmb : UEmb _ (MM F)) (toCore d m cv c) := by unfold toCore; infer_instance
instance ofCore_storable (c : ℕ) : BI.Storable (upEmb : UEmb _ (MM F)) (ofCore d m cv c) := by unfold ofCore; infer_instance

theorem tile_body (hC : Srt (vals (listOf (F := F) d cv))) (O : CellTallies nD τ sig (HIx 1)) (W : Waits sig (HIx 1)) (hO : ∀ g, O g none = 0) :
    iprop(levAts (K (F := F)).L (K (F := F)).lev ∗ emp ∗ toTile d m cv (L 0).val (L 1).val
        ∗ scopedBufs (thr d L) ∗ scopedSems0 (thr d L) ∗ owes (thr d L) O W)
      ⊢ wp frame (wpE (defs₀ (F := F)) 𝒱₀ (thr d L) none) Set.univ (cc0_samp (F := F) L aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0) fun _ =>
        iprop(ofTile d m cv (L 0).val (L 1).val ∗ scopedBufs (thr d L) ∗ scopedSems0 (thr d L)
          ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L)]
  unfold toTile ofTile
  iintro ⟨#Hlv, -, ⟨Hf, Hc, Ho⟩, HB0, HS0, HO⟩
  ihave HB1 := (scratch_of d L) $$ HB0
  icases HB1 with ⟨HB, HBR⟩
  ihave HS1 := (sems_of d L) $$ HS0
  icases HS1 with ⟨HS, HSR⟩
  ihave Hmw := ((K (F := F)).mayWaits_none (thr := thr d L) hO) $$ Hlv
  ihave Hf1 := (Transfers.pointsTo_toks_split (qTile (L 0).val (L 1).val) 4) $$ Hf
  icases Hf1 with ⟨Hf, HfA⟩
  ihave Hf2 := (Transfers.pointsTo_toks_split (Transfers.shareDrop (qTile (L 0).val (L 1).val) 4) 4) $$ Hf
  icases Hf2 with ⟨-, HfB⟩
  ihave Hot := (todo_of d L (m (oLoc d))) $$ Ho
  iapply (wp_wand frame _ Set.univ) $$ [HfA HfB Hc Hot HB HS HO Hmw]
  · iapply (tile_run d L (featOf d m) O W (Transfers.shareTok (qTile (L 0).val (L 1).val) 4)
      (Transfers.shareTok (Transfers.shareDrop (qTile (L 0).val (L 1).val) 4) 4) (qTile (L 0).val (L 1).val) (listOf (F := F) d cv) hC)
    isplitl [HfA]; · unfold fToks; iexact HfA
    isplitl [HfB]; · unfold fToks; iexact HfB
    isplitl [Hc]; · iexact Hc
    isplitl [Hot]; · iexact Hot
    isplitl [HB]; · iexact HB
    isplitl [HS]; · iexact HS
    isplitl [HO]
    · unfold owed
      iexists W; isplitr
      · ipureintro; exact fun p hp => .inl hp
      iexact HO
    iexact Hmw
  iintro %r ⟨HD, HB, HS, HO⟩
  isplitl [HD]
  · iapply (of_done d L (featOf d m) (colsOf (listOf (F := F) d cv))); iexact HD
  isplitl [HB HBR]
  · iapply (scratch_back d L)
    isplitl [HB] <;> iassumption
  isplitl [HS HSR]
  · iapply (sems_back d L)
    isplitl [HS] <;> iassumption
  unfold owed
  iexact HO

end Cert.Proof.Samp

end
-- ==== Proof.Launch.lean ====
/-
  The launch: the host operations that compute the list searched, the call on the two SparseCores, and the run of the
  whole program, its result at the sampled rows.
-/
module

public import proofs.«01_k».proof.Proof.Body
public import Idealize.ShloMosaic.Lib.Pipeline.Frame

@[expose] public section

noncomputable section

namespace Cert.Proof.Samp

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Search

variable {F : FTy → Type} [FloatOps F]

open Idealize.ShloMosaic.Rounds
open StableHlo (held held_sub_split)

variable (m : (ℓ : Loc nD τ sig) → Buf (Elt F) ℓ) (ρ : Dev nD → PrngReg)

/-! ## The list searched -/

/-- The host operations before the call. -/
abbrev hostOps : List (HloOp τ sig (Elt F)) :=
  [StableHlo.unary main_arg0 main_v0 ((extractStridedSlice S1x256x8192 ![0, 0, 0] · slices_S8x256x8192_S1x256x8192_0_0_0) : (⟨S8x256x8192, .f32⟩ : BufTy).Contents (Elt F) → (⟨S1x256x8192, .f32⟩ : BufTy).Contents (Elt F)),
   StableHlo.nullary main_cst (constant S_ .f32 0x00000000#32),
   StableHlo.binary main_v0 main_cst main_v1 ((fun x v => Host.reduceAdd x v reducesTo_S1x256x8192_S1x8192_d1 h_S_) : (⟨S1x256x8192, .f32⟩ : BufTy).Contents (Elt F) → (⟨S_, .f32⟩ : BufTy).Contents (Elt F) → (⟨S1x8192, .f32⟩ : BufTy).Contents (Elt F)),
   StableHlo.nullary main_cst_0 (constant S_ .f32 0x43800000#32),
   StableHlo.unary main_cst_0 main_v2 (broadcastInDim S1x8192 ![] bcast_S_S1x8192 : (⟨S_, .f32⟩ : BufTy).Contents (Elt F) → (⟨S1x8192, .f32⟩ : BufTy).Contents (Elt F)),
   StableHlo.binary main_v1 main_v2 main_v3 (Host.divf : (⟨S1x8192, .f32⟩ : BufTy).Contents (Elt F) → (⟨S1x8192, .f32⟩ : BufTy).Contents (Elt F) → (⟨S1x8192, .f32⟩ : BufTy).Contents (Elt F)),
   StableHlo.reshape main_v3 main_v4 (rfl : (.f32 : EltTy) = .f32) shapeCasts_S1x8192_S8192,
   StableHlo.nullary main_cst_1 (constant S_ .f32 0x00000000#32),
   StableHlo.binary main_v4 main_cst_1 main_v5 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
   StableHlo.unary main_v5 main_v6 (broadcastInDim S8192 ![] bcast_S_S8192 : (⟨S_, .f32⟩ : BufTy).Contents (Elt F) → (⟨S8192, .f32⟩ : BufTy).Contents (Elt F)),
   StableHlo.binary main_v4 main_v6 main_v7 (Host.divf : (⟨S8192, .f32⟩ : BufTy).Contents (Elt F) → (⟨S8192, .f32⟩ : BufTy).Contents (Elt F) → (⟨S8192, .f32⟩ : BufTy).Contents (Elt F)),
   StableHlo.TRef.nullary main_call0_call0.cst (constant S_ .f32 0x00000000#32),
   StableHlo.TRef.unary main_call0_call0.cst main_call0_call0.v0 (broadcastInDim S_ ![] bcast_S_S_),
   StableHlo.TRef.binary (.of main_v7) main_call0_call0.v0 main_call0_call0.v1 (fun x v => Host.reduceWindowAdd ![8192] ![1] ![8191] ![0] x v reduceWindows_S8192_S8192_w8192s1p8191_0 h_S_),
   StableHlo.nullary main_cst_2 (constant S_ .f32 0x45800000#32),
   StableHlo.unary main_cst_2 main_v9 (broadcastInDim S8192 ![] bcast_S_S8192 : (⟨S_, .f32⟩ : BufTy).Contents (Elt F) → (⟨S8192, .f32⟩ : BufTy).Contents (Elt F)),
   StableHlo.binary main_v8 main_v9 main_v10 (mulf : (⟨S8192, .f32⟩ : BufTy).Contents (Elt F) → (⟨S8192, .f32⟩ : BufTy).Contents (Elt F) → (⟨S8192, .f32⟩ : BufTy).Contents (Elt F)),
   StableHlo.unary main_v10 main_v11 (fptosi 32 : (⟨S8192, .f32⟩ : BufTy).Contents (Elt F) → (⟨S8192, .i32⟩ : BufTy).Contents (Elt F)),
   StableHlo.nullary main_c (constantI S_ 32 4095#32),
   StableHlo.unary main_c main_v12 (broadcastInDim S8192 ![] bcast_S_S8192 : (⟨S_, .i32⟩ : BufTy).Contents (Elt F) → (⟨S8192, .i32⟩ : BufTy).Contents (Elt F)),
   StableHlo.binary main_v11 main_v12 main_v13 (minsi : (⟨S8192, .i32⟩ : BufTy).Contents (Elt F) → (⟨S8192, .i32⟩ : BufTy).Contents (Elt F) → (⟨S8192, .i32⟩ : BufTy).Contents (Elt F))]

theorem main_split (d : Dev nD) : main (F := F) d = (StableHlo.seq (hostOps (F := F)) >>= fun _ => sc.run d 0 >>= fun _ => pure ⟨⟩) := rfl

/-- What every buffer holds before the call. -/
def V1 (d : Dev nD) : Valuation τ sig (Elt F) := StableHlo.after (hostOps (F := F)) fun b => m (d, b)
/-- The list searched. -/
def cdfOf (d : Dev nD) : Buf (Elt F) (cLoc d) := V1 m d (Proc.devRef .tc (main_v13 : Ref sig .tc))

theorem hostOps_tc : (hostOps (F := F)).Forall fun op => op.bufs ⊆ StableHlo.tcRefs τ sig := by
  simp [hostOps]
theorem hostOps_sub : ∀ op ∈ hostOps (F := F), op.bufs ⊆ Pipeline.ucRefs τ sig := fun op h =>
  Pipeline.sub_ucRefs op (List.forall_iff_forall_mem.mp hostOps_tc op h)
theorem hostOps_fresh : ∀ op ∈ hostOps (F := F), op.fresh = ∅ := by
  intro op h
  simp only [hostOps, List.mem_cons, List.not_mem_nil, or_false] at h
  rcases h with rfl | rfl | rfl | rfl | rfl | rfl | rfl | rfl | rfl | rfl | rfl | rfl | rfl | rfl | rfl | rfl | rfl | rfl | rfl | rfl | rfl <;> rfl

abbrev fRef : DevRef τ sig := Proc.devRef .tc (main_arg0 : Ref sig .tc)
abbrev cRef : DevRef τ sig := Proc.devRef .tc (main_v13 : Ref sig .tc)
abbrev oRef : DevRef τ sig := Proc.devRef .tc (main_v14 : Ref sig .tc)

/-- The buffers the host operations write, in order. -/
def written : List (Ref sig .tc) := [main_v0, main_cst, main_v1, main_cst_0, main_v2, main_v3, main_v4, main_cst_1, main_v5, main_v6, main_v7, main_call0_call0_cst, main_call0_call0_v0, main_v8, main_cst_2, main_v9, main_v10, main_v11, main_c, main_v12, main_v13]
theorem hostOps_writes : (hostOps (F := F)).Forall fun op => op.writes ⊆ (written.map (Proc.devRef (τ := τ) .tc)).toFinset :=
  StableHlo.forall_writes_sub_of_map rfl

theorem V1_f (d : Dev nD) : V1 m d fRef = m (fLoc d) :=
  StableHlo.after_of_writes_sub hostOps (fun b => m (d, b)) hostOps_writes (by decide)
theorem V1_o (d : Dev nD) : V1 m d oRef = m (oLoc d) :=
  StableHlo.after_of_writes_sub hostOps (fun b => m (d, b)) hostOps_writes (by decide)

theorem three_sub : ({fRef, cRef, oRef} : Finset (DevRef τ sig)) ⊆ Pipeline.ucRefs τ sig := by
  decide

theorem held_three (d : Dev nD) : (held (T d) {fRef, cRef, oRef} (V1 m d) : sProp (MM F))
    = iprop((fLoc d ↦{fullShare} m (fLoc d)) ∗ (cLoc d ↦{fullShare} cdfOf m d) ∗ (oLoc d ↦{fullShare} m (oLoc d))) := by
  unfold held
  rw [SparseCore.bigSep_insert' (by decide), SparseCore.bigSep_insert' (by decide), bigSep_singleton, V1_f, V1_o]
  rfl

/-! ## What the calls carry -/

def P : (K (F := F)).Pay (nD := nD) (Val := Elt F) (Name := ℕ) (U := UU) where
  st := fun q d c => match q with | 0 => toCore d m (cdfOf m) c.val
  dn := fun q d c => match q with | 0 => ofCore d m (cdfOf m) c.val
  go := fun q d c i => match q with | 0 => toTile d m (cdfOf m) c.val i.val
  td := fun q d c i => match q with | 0 => ofTile d m (cdfOf m) c.val i.val
  x := fun _ _ => iprop(emp)

instance P_storable : (P (F := F) m).IsStorable where
  st q d c := match q with
    | 0 => (inferInstance : BI.Storable (upEmb : UEmb _ (MM F)) (toCore d m (cdfOf m) c.val))
  dn q d c := match q with
    | 0 => (inferInstance : BI.Storable (upEmb : UEmb _ (MM F)) (ofCore d m (cdfOf m) c.val))
  go q d c i := match q with
    | 0 => (inferInstance : BI.Storable (upEmb : UEmb _ (MM F)) (toTile d m (cdfOf m) c.val i.val))
  td q d c i := match q with
    | 0 => (inferInstance : BI.Storable (upEmb : UEmb _ (MM F)) (ofTile d m (cdfOf m) c.val i.val))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_samp (F := F) (coordsV c s) aF (Memref.isWhole_whole _) aC (Memref.isWhole_whole _) aO (Memref.isWhole_whole _) bC (Memref.isWhole_whole _) bN (Memref.isWhole_whole _) bI (Memref.isWhole_whole _) rA (Memref.isWhole_whole _) rB (Memref.isWhole_whole _) oA (Memref.isWhole_whole _) oB (Memref.isWhole_whole _) cc0_scratch7 cc0_scratch8 cc0_scratch9 cc0_scratch10 cc0_scoped0) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every device's list is sorted, its words below 4096. -/
def ListsOK : Prop := ∀ d, Srt (vals (listOf (F := F) d (cdfOf m)))

theorem tileObl (hC : ListsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m (cdfOf m) (hC d) O W hO).trans (wp_mono frame _ _ fun _ => obl_post)

/-! ## A SparseCore's part, dealt to its tiles and joined -/

theorem vecSplit : (K (F := F)).VecSplit' (P m) 0 := by
  intro d c
  show toCore d m (cdfOf m) c.val ⊢ |={Set.univ}=> iprop(
      (bigSep Finset.univ fun i : Fin 16 => toTile d m (cdfOf m) c.val i.val)
      ∗ ((bigSep Finset.univ fun i : Fin 16 => ofTile d m (cdfOf m) c.val i.val) -∗ ofCore d m (cdfOf m) c.val))
  unfold toCore toTile ofTile ofCore
  rw [bigSep_sep', bigSep_sep', out_tiles d c.val c.isLt, out_tiles d c.val c.isLt]
  iintro ⟨Hf, Hc, Ho⟩
  ihave Hf1 := (Transfers.pointsTo_toks_split (qCore c.val) 16) $$ Hf
  icases Hf1 with ⟨-, Hf⟩
  ihave Hc1 := (Transfers.pointsTo_toks_split (qCore c.val) 16) $$ Hc
  icases Hc1 with ⟨-, Hc⟩
  imodintro
  isplitl [Hf Hc Ho]
  · isplitl [Hf]; · iexact Hf
    isplitl [Hc]; · iexact Hc
    iexact Ho
  iintro H; iexact H

/-! ## The launch element -/

def u₀ : UU := (initOf (K (F := F)).hsCells (K (F := F)).hsToks, 1)

theorem all_emp {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [all_emp]; iempintro
  unfold P; dsimp only
  rw [show (bigSep Finset.univ fun _ : Thread nD τ => bigSep Finset.univ fun _ : Fin 1 => (iprop(emp) : sProp (MM F))) = iprop(emp) from by
    rw [bigSep_congr fun _ _ => all_emp _, all_emp]]
  iempintro

/-! ## @main -/

theorem st0_eq (d : Dev nD) : (bigSep Finset.univ fun c : Fin ((K (F := F)).nCore 0) => (P m).st 0 d c)
    = bigSep Finset.univ fun c : Fin 2 => toCore d m (cdfOf m) c.val := rfl
theorem dn0_eq (d : Dev nD) : (bigSep Finset.univ fun c : Fin ((K (F := F)).nCore 0) => (P m).dn 0 d c)
    = bigSep Finset.univ fun c : Fin 2 => ofCore d m (cdfOf m) c.val := rfl

/-- What @main leaves: the features as they were, the output at the sampled rows. -/
abbrev FIN (d : Dev nD) : sProp (MM F) :=
  iprop((fLoc d ↦{Transfers.shareDrop fullShare 2} m (fLoc d)) ∗ (oLoc d ↦{fullShare} outOf d m (cdfOf m)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split]
  iintro ⟨#Hctx, Hst, ⟨Hb, Hub, Hts, -⟩, -⟩
  ihave Hheld := (Entails.of_eq (Pipeline.unscopedBufs_held (Ix := HIx 1) (Name := ℕ) (U := UU) (Lvl := ℕ) d (fun b => m (d, b)))) $$ Hub
  iapply (StableHlo.wp_seq 𝒱 none Set.univ d (Pipeline.ucRefs τ sig) _ (hostOps (F := F)) hostOps_sub hostOps_fresh _) $$ [Hb Hheld]
  · isplitl [Hb] <;> iassumption
  iintro ⟨Hb, Hheld⟩
  ihave Hh := (Entails.of_eq (held_sub_split (T d) three_sub (V1 m d))) $$ [Hheld]
  · iexact Hheld
  icases Hh with ⟨H3, -⟩
  ihave H3' := (Entails.of_eq (held_three m d)) $$ H3
  icases H3' with ⟨Hf, Hc, Ho⟩
  ihave Hf1 := (Transfers.pointsTo_toks_split fullShare 2) $$ Hf
  icases Hf1 with ⟨Hfk, Hf⟩
  ihave Hc1 := (Transfers.pointsTo_toks_split fullShare 2) $$ Hc
  icases Hc1 with ⟨-, Hc⟩
  ihave Ho1 := (Entails.of_eq (out_cores d (m (oLoc d)))) $$ Ho
  rw [wp_bind]
  iapply ((K (F := F)).wp_run (D (F := F)) 𝒱 (EH := EH) (P := P m) κ d 0) $$ [Hst Hf Hc Ho1 Hb Hts Hfk]
  isplitr; · iexact Hctx
  isplitl [Hst]; · iexact Hst
  isplitl [Hf Hc Ho1]
  · rw [st0_eq]
    unfold toCore
    rw [bigSep_sep', bigSep_sep']
    isplitl [Hf]; · iexact Hf
    isplitl [Hc]; · iexact Hc
    iexact Ho1
  iintro ⟨Hst, Hdn⟩
  ihave Hdn' := (Entails.of_eq (dn0_eq m d)) $$ Hdn
  ihave Ho := (Entails.of_eq (out_cores d (outOf d m (cdfOf m))).symm) $$ [Hdn']
  · iexact Hdn'
  rw [wp_pure]
  imodintro
  isplitl [Hst]; · iexact Hst
  isplitl [Hfk Ho]
  · isplitl [Hfk] <;> iassumption
  isplitl [Hb] <;> iassumption

def fq (d : Dev nD) (s' : Phys nD τ sig (Elt F)) : Prop :=
  s'.mem.mem (fLoc d) = m (fLoc d) ∧ s'.mem.mem (oLoc d) = outOf d m (cdfOf m)

theorem hfin (d : Dev nD) (s' : Phys nD τ sig (Elt F)) : iprop(FIN m d ∗ SI s') ⊢ (⌜fq m d s'⌝ : sProp (MM F)) := by
  iintro ⟨⟨Hi, Hx⟩, HSI⟩
  ihave H := (persistent_entails_right (SI_pointsTo_agree (st := s') (ℓ := fLoc d) (I := Finset.univ) (q := Transfers.shareDrop fullShare 2) (f := m (fLoc d)))) $$ [HSI Hi]
  · isplitl [HSI] <;> iassumption
  icases H with ⟨%h1, HSI, -⟩
  ihave H := (SI_pointsTo_agree (st := s') (ℓ := oLoc d) (I := Finset.univ) (q := fullShare) (f := outOf d m (cdfOf m))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (fLoc c) = m (fLoc c) ∧ r.2.mem (oLoc c) = outOf c m (cdfOf m)) ∧ r.2.sem = fun _ => 0

theorem run_main [∀ e, Nonempty (Elt F e)] (hC : ListsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hC)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Samp

end
-- ==== Proof.Twin.lean ====
/-
  The program as printed and its reading at the extended reals are one text: a run of the one is a run of the other.
-/
module

public import proofs.«01_k».proof.Proof.Launch
public import proofs.«01_k».proof.Kernel
public import proofs.«01_k».proof.Proof.Gen.Kernel

@[expose] public section

noncomputable section

namespace Cert.Proof

open Idealize.ShloMosaic

variable {F : FTy → Type} [FloatOps F]

theorem threads_eq : Cert.Kernel.threads (F := F) = Cert.KernelIdeal.threads (F := F) := rfl
theorem defs_eq : Cert.Kernel.defs (F := F) = Cert.KernelIdeal.defs (F := F) := rfl

end Cert.Proof

end
-- ==== Proof.RefRun.lean ====
/-
  The reference's run: what its result holds, as one term over the features.
-/
module

public import proofs.«01_k».proof.ReferenceIdeal
public import proofs.«01_k».proof.Proof.Gen.ReferenceIdeal
public import Idealize.ShloMosaic.Lib.StableHlo.RunRead
public import Idealize.ShloMosaic.Lib.Claim
public import Idealize.ShloMosaic.Lib.Quiescent

@[expose] public section

noncomputable section

namespace Cert.Proof.Ref

open Cert.ReferenceIdeal Cert.ReferenceIdeal.Gen
open Idealize.ShloMosaic
open Idealize.SL.Sem

variable {F : FTy → Type} [FloatOps F]

/-- The mean over the channels, its first batch. -/
def meanRow (x : FVec F S8x256x8192 .f32) : FVec F S1x8192 .f32 :=
  extractStridedSlice S1x8192 ![0, 0] (Host.divf (Host.reduceAdd x (constant S_ .f32 0x00000000#32) reducesTo_S8x256x8192_S8x8192_d1 h_S_)
    (broadcastInDim S8x8192 ![] bcast_S_S8x8192 (constant S_ .f32 0x43800000#32))) slices_S8x8192_S1x8192_0_0

/-- The list of words, from the mean. -/
def words (v : FVec F S1x8192 .f32) : IVec S8192 32 :=
  minsi (fptosi 32 (mulf
      (Host.reduceWindowAdd ![8192] ![1] ![8191] ![0]
        (Host.divf (shapeCast S8192 v shapeCasts_S1x8192_S8192)
          (broadcastInDim S8192 ![] bcast_S_S8192
            (Host.reduceAdd (shapeCast S8192 v shapeCasts_S1x8192_S8192) (constant S_ .f32 0x00000000#32) reducesTo_S8192_S_d0 h_S_)))
        (broadcastInDim S_ ![] bcast_S_S_ (constant S_ .f32 0x00000000#32)) reduceWindows_S8192_S8192_w8192s1p8191_0 h_S_)
      (broadcastInDim S8192 ![] bcast_S_S8192 (constant S_ .f32 0x45800000#32))))
    (broadcastInDim S8192 ![] bcast_S_S8192 (constantI S_ 32 4095#32))

/-- The distances of every word of the list from every target. -/
def dists (c : IVec S8192 32) : IVec S4096x8192 32 :=
  absi (subi (broadcastInDim S4096x8192 ![0, 1] bcast_S1x8192_S4096x8192_0_1 (broadcastInDim S1x8192 ![1] bcast_S8192_S1x8192_1 c))
    (broadcastInDim S4096x8192 ![0, 1] bcast_S4096x1_S4096x8192_0_1 (broadcastInDim S4096x1 ![0] bcast_S4096_S4096x1_0 (iotaInDim S4096 32 0))))

/-- For each target the first position of the least distance. -/
def firsts (c : IVec S8192 32) : IVec S4096 32 := fun j =>
  (Host.reduce2 reducer_argmin_i32_i32 (dists c) (iotaInDim S4096x8192 32 1) (constantI S_ 32 2147483647#32) (constantI S_ 32 0#32)
    reducesTo_S4096x8192_S4096_d1 h_S_ j).2

/-- The positions taken, a negative one counted from the end. -/
def wrapped (f : IVec S4096 32) : IVec S4096x1 32 :=
  broadcastInDim S4096x1 ![0] bcast_S4096_S4096x1_0
    (select (cmpi .slt f (broadcastInDim S4096 ![] bcast_S_S4096 (constantI S_ 32 0#32)))
      (addi f (broadcastInDim S4096 ![] bcast_S_S4096 (constantI S_ 32 8192#32))) f)

/-- Which of the positions taken are in range. -/
def inRange (w : IVec S4096x1 32) : IVec S4096 1 :=
  Host.reduce IntOp.andi
    (andi (cmpi .sge w (broadcastInDim S4096x1 ![] bcast_S_S4096x1 (constantI S_ 32 0#32)))
      (cmpi .sle w (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_

/-- The features at the positions taken. -/
def takeRows (x : FVec F S8x256x8192 .f32) (f : IVec S4096 32) : FVec F S8x256x4096 .f32 :=
  select (broadcastInDim S8x256x4096 ![2] bcast_S4096_S8x256x4096_2 (inRange (wrapped f)))
    (Host.gather gather_S8x256x8192_S4096x1_S8x256x4096_01_2_n_n_2_1_82561 x (wrapped f))
    (broadcastInDim S8x256x4096 ![] bcast_S_S8x256x4096 (constant S_ .f32 0x7FC00000#32))

theorem run (m : (ℓ : Loc nD τ sig) → Buf (Elt F) ℓ) (ρ : Dev nD → PrngReg) :
    θ_run (defs (F := F)) (onTc (τ := τ) (main (F := F))) ⟨m, fun _ => 0, ρ⟩ (fun r => ∀ d : Dev nD,
      r.2.mem ((d.tc : Thread nD τ).loc main_v22) = takeRows (m ((d.tc : Thread nD τ).loc main_arg0)) (firsts (words (meanRow (m ((d.tc : Thread nD τ).loc main_arg0)))))
        ∧ r.2.mem ((d.tc : Thread nD τ).loc main_arg0) = m ((d.tc : Thread nD τ).loc main_arg0)) := by
  hlo_run
  simp only [StableHlo.TRef.ofBuf_toBuf]
  rfl

theorem frame (m : (ℓ : Loc nD τ sig) → Buf (Elt F) ℓ) (ρ : Dev nD → PrngReg) :
    θ_run (defs (F := F)) (onTc (τ := τ) (main (F := F))) ⟨m, fun _ => 0, ρ⟩ (fun r => (∀ d : Dev nD,
      r.2.mem ((d.tc : Thread nD τ).loc main_arg0) = m ((d.tc : Thread nD τ).loc main_arg0)) ∧ r.2.sem = fun _ => 0) :=
  θ_run_mono (run m ρ) fun r h => ⟨fun d => (h d).2, sem_eq_zero_of_no_sems rfl _⟩

end Cert.Proof.Ref

end
-- ==== Proof.LeastPair.lean ====
/-
  The reference's reducer: folded over pairs (a value, its position) it gives the least value and the first position of it.
-/
module

public import proofs.«01_k».proof.Proof.RefRun
public import proofs.«01_k».proof.Proof.Middle
public import Idealize.ShloMosaic.Lib.ReduceAll
public import Idealize.ShloMosaic.PureOps.Reduce

@[expose] public section

noncomputable section

namespace Cert.Proof.Ref

open Cert.ReferenceIdeal Cert.ReferenceIdeal.Gen
open Idealize.ShloMosaic
open Cert.Proof.Search
open Cert.Proof.Samp (colsOf colsOf_toNat colsOf_lt sampled ixF)

variable {F : FTy → Type} [FloatOps F]

/-! ## The least pair -/

/-- The order the reference's reducer goes by: the value, then the position. -/
def Le (a b : BitVec 32 × BitVec 32) : Prop := a.1.toInt < b.1.toInt ∨ (a.1 = b.1 ∧ a.2.toInt ≤ b.2.toInt)

theorem red_eq (a b : BitVec 32 × BitVec 32) : reducer_argmin_i32_i32 a b
    = (if a.1.toInt < b.1.toInt then a.1 else b.1, if a.1.toInt < b.1.toInt ∨ (a.1 = b.1 ∧ a.2.toInt < b.2.toInt) then a.2 else b.2) := by
  unfold reducer_argmin_i32_i32
  have h1 : IntOp.cmpi .slt a.1 b.1 = BitVec.ofBool (decide (a.1.toInt < b.1.toInt)) := rfl
  have h2 : IntOp.cmpi .ne a.1 a.1 = 0#1 := by simp [IntOp.cmpi]
  have h3 : IntOp.cmpi .eq a.1 b.1 = BitVec.ofBool (decide (a.1 = b.1)) := by
    unfold IntOp.cmpi; congr 1
  have h4 : IntOp.cmpi .slt a.2 b.2 = BitVec.ofBool (decide (a.2.toInt < b.2.toInt)) := rfl
  simp only [h1, h2, h3, h4]
  by_cases p : a.1.toInt < b.1.toInt <;> by_cases q : a.1 = b.1 <;> by_cases r : a.2.toInt < b.2.toInt <;>
    simp [p, q, r, IntOp.ori, IntOp.andi, Scalar.select]

theorem red_cases (a b : BitVec 32 × BitVec 32) : reducer_argmin_i32_i32 a b = a ∨ reducer_argmin_i32_i32 a b = b := by
  rw [red_eq]
  by_cases p : a.1.toInt < b.1.toInt
  · left; simp [p]
  · by_cases q : a.1 = b.1 ∧ a.2.toInt < b.2.toInt
    · left; rw [if_neg p, if_pos (.inr q)]; exact Prod.ext q.1.symm rfl
    · right; simp only [p, q, or_self, if_false]

theorem red_left {t b : BitVec 32 × BitVec 32} (h : Le t b) : reducer_argmin_i32_i32 t b = t := by
  rw [red_eq]
  rcases h with h | ⟨h, h'⟩
  · simp [h]
  · have p : ¬ t.1.toInt < b.1.toInt := by rw [h]; omega
    by_cases q : t.2.toInt < b.2.toInt
    · rw [if_neg p, if_pos (.inr ⟨h, q⟩)]; exact Prod.ext h.symm rfl
    · have e : t.2 = b.2 := BitVec.eq_of_toInt_eq (by omega)
      simp only [p, q, and_false, or_self, if_false]
      exact Prod.ext h.symm e.symm

theorem red_right {a t : BitVec 32 × BitVec 32} (h : Le t a) : reducer_argmin_i32_i32 a t = t := by
  rw [red_eq]
  have p : ¬ a.1.toInt < t.1.toInt := by rcases h with h | ⟨h, -⟩ <;> [omega; (rw [h]; omega)]
  have q : ¬ (a.1 = t.1 ∧ a.2.toInt < t.2.toInt) := by
    rintro ⟨q, q'⟩
    rcases h with h | ⟨-, h⟩ <;> [(rw [q] at h; omega); omega]
  simp only [p, q, or_self, if_false]

/-- The fold of the reducer is the least pair met. -/
theorem fold_least {t : BitVec 32 × BitVec 32} : ∀ (l : List (BitVec 32 × BitVec 32)) (a : BitVec 32 × BitVec 32),
    (a = t ∨ t ∈ l) → Le t a → (∀ p ∈ l, Le t p) → l.foldl reducer_argmin_i32_i32 a = t
  | [], a, h, _, _ => h.resolve_right List.not_mem_nil
  | b :: l, a, h, ha, hl => by
    rw [List.foldl_cons]
    have hb := hl b List.mem_cons_self
    refine fold_least l _ ?_ ?_ fun p hp => hl p (List.mem_cons_of_mem _ hp)
    · rcases h with rfl | h
      · exact .inl (red_left hb)
      · rcases List.mem_cons.mp h with rfl | h
        · exact .inl (red_right ha)
        · exact .inr h
    · rcases red_cases a b with e | e <;> rw [e] <;> assumption

/-- The pairs the reducer folds over at `j` are those of the positions over `j`. -/
theorem mem_fiber {s t : Shape} {axes : List (Fin s.rank)} (x y : s.Idx → BitVec 32) (h : s.ReducesTo axes t) (j : t.Idx) (p : BitVec 32 × BitVec 32) :
    p ∈ Host.argReduceFiber x y h j ↔ ∃ i, h.drop i = j ∧ (x i, y i) = p := by
  unfold Host.argReduceFiber
  rw [List.mem_map]
  constructor
  · rintro ⟨n, hn, e⟩
    exact ⟨_, of_decide_eq_true (List.mem_filter.mp hn).2, e⟩
  · rintro ⟨i, hi, e⟩
    refine ⟨s.rowMajor i, List.mem_filter.mpr ⟨List.mem_finRange _, ?_⟩, ?_⟩
    · rw [Equiv.symm_apply_apply]; exact decide_eq_true hi
    · rw [Equiv.symm_apply_apply]; exact e

/-- Reduced by the reducer from a pair no less, a pair list's value at `j` is its least pair over `j`. -/
theorem reduce_least {s t u : Shape} {axes : List (Fin s.rank)} (x y : s.Idx → BitVec 32) (ix iy : u.Idx → BitVec 32) (h : s.ReducesTo axes t)
    (hu : 0 < u.numel) (j : t.Idx) (i : s.Idx) (hi : h.drop i = j) (h0 : Le (x i, y i) (ix (Shape.Idx.first hu), iy (Shape.Idx.first hu)))
    (hl : ∀ i', h.drop i' = j → Le (x i, y i) (x i', y i')) : Host.reduce2 reducer_argmin_i32_i32 x y ix iy h hu j = (x i, y i) := by
  rw [Host.reduce2_eq_foldl_fiber]
  refine fold_least _ _ (.inr ((mem_fiber ..).mpr ⟨i, hi, rfl⟩)) h0 fun p hp => ?_
  obtain ⟨i', hi', rfl⟩ := (mem_fiber ..).mp hp
  exact hl i' hi'

end Cert.Proof.Ref

end
-- ==== Proof.RefValue.lean ====
/-
  The reference's value: over a sorted list of small words its first position of the least distance is the one the search
  finds, and its rows taken are the features at those positions.
-/
module

public import proofs.«01_k».proof.Proof.LeastPair
public import proofs.«01_k».proof.Proof.Middle
public import Idealize.ShloMosaic.Lib.ReduceAll
public import Idealize.ShloMosaic.PureOps.Reduce

@[expose] public section

noncomputable section

namespace Cert.Proof.Ref

open Cert.ReferenceIdeal Cert.ReferenceIdeal.Gen
open Idealize.ShloMosaic
open Cert.Proof.Search
open Cert.Proof.Samp (colsOf colsOf_toNat colsOf_lt sampled ixF)

variable {F : FTy → Type} [FloatOps F]

/-! ## The distances -/

theorem abs_diff {a b : BitVec 32} (ha : a.toNat < 4096) (hb : b.toNat < 4096) :
    (IntOp.absi (IntOp.subi a b)).toInt = Search.dist a.toNat b.toNat := by
  have e : (IntOp.subi a b).toNat = (2 ^ 32 - b.toNat + a.toNat) % 2 ^ 32 := BitVec.toNat_sub a b
  have d : (IntOp.absi (IntOp.subi a b)).toNat = Search.dist a.toNat b.toNat := by
    unfold IntOp.absi Search.dist
    rw [BitVec.msb_eq_decide]
    by_cases h : 2 ^ 31 ≤ (IntOp.subi a b).toNat
    · rw [if_pos (decide_eq_true h), BitVec.toNat_neg]; omega
    · rw [if_neg (by simpa using h)]; omega
  rw [toInt_small (by rw [d]; unfold Search.dist; omega), d]

theorem word_toInt {n : ℕ} (hn : n < 8192) : (BitVec.ofNat 32 n).toInt = n := by
  have e : (BitVec.ofNat 32 n).toNat = n := by rw [BitVec.toNat_ofNat]; omega
  rw [toInt_small (by rw [e]; omega), e]

/-- The index of row `t`, column `k` of the distances. -/
def ixD (t k : ℕ) : S4096x8192.Idx
  | 0 => ⟨t % 4096, Nat.mod_lt _ (by decide)⟩
  | 1 => ⟨k % 8192, Nat.mod_lt _ (by decide)⟩

theorem dists_toInt (c : IVec S8192 32) (hC : Srt (vals c)) (i : S4096x8192.Idx) :
    (dists c i).toInt = Search.dist (vals c (i 1).val) (i 0).val := by
  have e : dists c i = IntOp.absi (IntOp.subi (c (ix8 (i 1).val)) (BitVec.ofNat 32 (i 0).val)) := by
    have h : c (ix8 (i 1).val) = broadcastInDim S4096x8192 ![0, 1] bcast_S1x8192_S4096x8192_0_1 (broadcastInDim S1x8192 ![1] bcast_S8192_S1x8192_1 c) i := by
      refine congrArg c (funext fun a => ?_)
      obtain rfl : a = 0 := Subsingleton.elim _ _
      exact Fin.ext (Nat.mod_eq_of_lt (i 1).isLt)
    rw [h]; rfl
  have h0 : (i 0).val < 4096 := (i 0).isLt
  have h1 : (BitVec.ofNat 32 (i 0).val).toNat = (i 0).val := by rw [BitVec.toNat_ofNat]; omega
  rw [e, abs_diff (hC.2 _ (i 1).isLt) (by rw [h1]; exact h0), h1]
  rfl

theorem drop_row (i : S4096x8192.Idx) : (reducesTo_S4096x8192_S4096_d1.drop i 0).val = (i 0).val := rfl

theorem below_top {v : BitVec 32} {n : ℕ} (h : v.toInt = n) (hn : n < 4096) : v.toInt < (2147483647#32 : BitVec 32).toInt := by
  rw [h, show (2147483647#32 : BitVec 32).toInt = 2147483647 from by decide]; omega

theorem dist_lt {a b : ℕ} (ha : a < 4096) (hb : b < 4096) : Search.dist a b < 4096 := by unfold Search.dist; omega

/-- The pair at the nearest position is no more than the pair at any other. -/
theorem le_of_nearest {v v' : BitVec 32} {d d' k k' : ℕ} (hv : v.toInt = d) (hv' : v'.toInt = d') (hk : k < 8192) (hk' : k' < 8192)
    (hle : d ≤ d') (hlt : k' < k → d < d') : Le (v, BitVec.ofNat 32 k) (v', BitVec.ofNat 32 k') := by
  unfold Le
  by_cases h : d < d'
  · left; show v.toInt < v'.toInt; omega
  · right
    refine ⟨BitVec.eq_of_toInt_eq (by show v.toInt = v'.toInt; omega), ?_⟩
    show (BitVec.ofNat 32 k).toInt ≤ (BitVec.ofNat 32 k').toInt
    rw [word_toInt hk, word_toInt hk']
    by_contra hc
    exact h (hlt (by omega))

theorem firsts_def (c : IVec S8192 32) : firsts c = fun j => (Host.reduce2 reducer_argmin_i32_i32 (dists c) (iotaInDim S4096x8192 32 1)
    (constantI S_ 32 2147483647#32) (constantI S_ 32 0#32) reducesTo_S4096x8192_S4096_d1 h_S_ j).2 := rfl

theorem drop_eq {i : S4096x8192.Idx} {j : S4096.Idx} : reducesTo_S4096x8192_S4096_d1.drop i = j ↔ (i 0).val = (j 0).val := by
  constructor
  · rintro rfl; exact (drop_row i).symm
  · intro h
    refine funext fun a => ?_
    obtain rfl : a = 0 := Subsingleton.elim _ _
    exact Fin.ext ((drop_row i).trans h)

theorem second_eq (c : IVec S8192 32) (hC : Srt (vals c)) (cols : IVec S4096x8192 32) (hcols : ∀ i, cols i = BitVec.ofNat 32 (i 1).val) (j : S4096.Idx) :
    (Host.reduce2 reducer_argmin_i32_i32 (dists c) cols
      (constantI S_ 32 2147483647#32) (constantI S_ 32 0#32) reducesTo_S4096x8192_S4096_d1 h_S_ j).2 = colsOf c j := by
  obtain ⟨hk, hle, hlt⟩ := nearest_spec hC (j 0).val
  have hj : (j 0).val < 4096 := (j 0).isLt
  rw [show colsOf c j = BitVec.ofNat 32 (nearest (vals c) (j 0).val) from rfl]
  generalize nearest (vals c) (j 0).val = k at hk hle hlt ⊢
  have hd0 : (ixD (j 0).val k 0).val = (j 0).val := Nat.mod_eq_of_lt hj
  have hd1 : (ixD (j 0).val k 1).val = k := Nat.mod_eq_of_lt hk
  generalize ixD (j 0).val k = i0 at hd0 hd1
  have hval : (dists c i0).toInt = Search.dist (vals c k) (j 0).val := by rw [dists_toInt c hC, hd0, hd1]
  have hcol : cols i0 = BitVec.ofNat 32 k := by rw [hcols, hd1]
  have hlow : Le (dists c i0, cols i0) (2147483647#32, 0#32) := .inl (below_top hval (dist_lt (hC.2 k hk) hj))
  have hall : ∀ i, reducesTo_S4096x8192_S4096_d1.drop i = j → Le (dists c i0, cols i0) (dists c i, cols i) := fun i hi => by
    have hi1 : (i 1).val < 8192 := (i 1).isLt
    have hv := dists_toInt c hC i
    rw [drop_eq.mp hi] at hv
    rw [hcol, hcols]
    exact le_of_nearest hval hv hk hi1 (hle _ hi1) (hlt _)
  have e := reduce_least (dists c) cols (constantI S_ 32 2147483647#32) (constantI S_ 32 0#32) reducesTo_S4096x8192_S4096_d1 h_S_ j i0 (drop_eq.mpr hd0) hlow hall
  rw [e]
  exact hcol

theorem firsts_eq (c : IVec S8192 32) (hC : Srt (vals c)) : firsts c = colsOf c :=
  funext fun j => (congrFun (firsts_def c) j).trans (second_eq c hC _ (fun _ => rfl) j)

/-! ## The rows taken -/

theorem gather_at (x : S8x256x8192.Idx → F .f32) (w : IVec S4096x1 32) (j : S8x256x4096.Idx) (k : ℕ) (hk : k < 8192)
    (hw : ∀ i : S4096x1.Idx, (i 0).val = (j 2).val → (w i).toInt = k) :
    Host.gather gather_S8x256x8192_S4096x1_S8x256x4096_01_2_n_n_2_1_82561 x w j = x (ixF (j 0).val (j 1).val k) := by
  unfold Host.gather
  have h0 : (j 0).val < 8 := (j 0).isLt
  have h1 : (j 1).val < 256 := (j 1).isLt
  generalize hd : gather_S8x256x8192_S4096x1_S8x256x4096_01_2_n_n_2_1_82561 = d
  have hb : ∀ a, d.batchCoord j a = 0 := fun a => d.batchCoord_eq_zero j a (by rw [← hd]; exact List.not_mem_nil)
  have s0 : d.start j w (0 : Fin 3) = 0 := dif_neg (by rw [← hd]; decide)
  have s1 : d.start j w (1 : Fin 3) = 0 := dif_neg (by rw [← hd]; decide)
  have s2 : d.start j w (2 : Fin 3) = k := by
    refine (dif_pos (by rw [← hd]; decide)).trans ?_
    rw [hw _ (by subst hd; rfl), show S8x256x8192.size (2 : Fin 3) - d.sliceSizes (2 : Fin 3) = 8191 by subst hd; rfl]
    omega
  have o0 : d.offCoord j (0 : Fin 3) = (j 0).val := by
    subst hd
    exact dif_pos ((GatherDims.mem_sKept _ _).mpr ⟨show (0 : Fin 3) ∉ [2] by decide, List.not_mem_nil⟩)
  have o1 : d.offCoord j (1 : Fin 3) = (j 1).val := by
    subst hd
    exact dif_pos ((GatherDims.mem_sKept _ _).mpr ⟨show (1 : Fin 3) ∉ [2] by decide, List.not_mem_nil⟩)
  have o2 : d.offCoord j (2 : Fin 3) = 0 := d.offCoord_eq_zero j _ (fun h => ((GatherDims.mem_sKept _ _).mp h).1 (by rw [← hd]; decide))
  refine congrArg x (funext fun a => Fin.ext ?_)
  show d.start j w a + d.batchCoord j a + d.offCoord j a = _
  rw [hb]
  match a with
  | ⟨0, _⟩ => exact (congrArg₂ (fun p q => p + 0 + q) s0 o0).trans (by show 0 + 0 + (j 0).val = (j 0).val % 8; omega)
  | ⟨1, _⟩ => exact (congrArg₂ (fun p q => p + 0 + q) s1 o1).trans (by show 0 + 0 + (j 1).val = (j 1).val % 256; omega)
  | ⟨2, _⟩ => exact (congrArg₂ (fun p q => p + 0 + q) s2 o2).trans (by show k + 0 + 0 = k % 8192; omega)

theorem wrapped_toInt (f : IVec S4096 32) (hf : ∀ i, (f i).toNat < 8192) (i : S4096x1.Idx) : (wrapped f i).toInt = (f (ix4 (i 0).val)).toNat := by
  have h := hf (ix4 (i 0).val)
  have e : wrapped f i = Scalar.select (IntOp.cmpi .slt (f (ix4 (i 0).val)) 0#32) (IntOp.addi (f (ix4 (i 0).val)) 8192#32) (f (ix4 (i 0).val)) := by
    unfold wrapped
    refine congrArg (select (cmpi .slt f (broadcastInDim S4096 ![] bcast_S_S4096 (constantI S_ 32 0#32)))
      (addi f (broadcastInDim S4096 ![] bcast_S_S4096 (constantI S_ 32 8192#32))) f) (funext fun a => ?_)
    obtain rfl : a = 0 := Subsingleton.elim _ _
    exact Fin.ext (Nat.mod_eq_of_lt (i 0).isLt).symm
  have hs : IntOp.cmpi .slt (f (ix4 (i 0).val)) 0#32 = 0#1 := by
    show BitVec.ofBool ((f (ix4 (i 0).val)).slt 0#32) = 0#1
    rw [slt_small (by omega) (by decide)]; simp
  rw [e, hs, show Scalar.select 0#1 (IntOp.addi (f (ix4 (i 0).val)) 8192#32) (f (ix4 (i 0).val)) = f (ix4 (i 0).val) from rfl, toInt_small (by omega)]

theorem takeRows_eq (x : FVec F S8x256x8192 .f32) (f : IVec S4096 32) (hf : ∀ i, (f i).toNat < 8192) : takeRows x f = sampled x f := by
  have hin : inRange (wrapped f) = fun _ => 1#1 := by
    funext i
    refine Host.reduce_andi_one _ _ _ _ i rfl fun i => ?_
    have h := wrapped_toInt f hf i
    have := hf (ix4 (i 0).val)
    show IntOp.andi (IntOp.cmpi .sge (wrapped f i) 0#32) (IntOp.cmpi .sle (wrapped f i) 8191#32) = 1#1
    rw [IntOp.cmpi_sge.2 (by rw [h]; show (0 : ℤ) ≤ _; omega), IntOp.cmpi_sle.2 (by rw [h]; show _ ≤ (8191 : ℤ); omega)]
    rfl
  funext j
  unfold takeRows
  rw [hin]
  show Host.gather _ x (wrapped f) j = x (ixF (j 0).val (j 1).val (f (ix4 (j 2).val)).toNat)
  exact gather_at x _ j _ (hf _) fun i hi => by rw [wrapped_toInt f hf, hi]

end Cert.Proof.Ref

end
-- ==== Proof.Positions.lean ====
/-
  The list searched, as a term over the features, and what the precondition says of it: its words are sorted, none is
  negative and each is below 4096.
-/
module

public import proofs.«01_k».proof.Proof.Launch
public import proofs.«01_k».proof.Pre_cdf_sorted
public import proofs.«01_k».proof.Proof.Gen.Pre_cdf_sorted
public import Idealize.ShloMosaic.Lib.StableHlo.RunRead
public import Idealize.ShloMosaic.Lib.ReduceAll
public import Idealize.ShloMosaic.Lib.Claim

@[expose] public section

noncomputable section

namespace Cert.Proof.Samp

open Cert.KernelIdeal Cert.KernelIdeal.Gen
open Idealize.ShloMosaic
open Idealize.SL.Sem
open Cert.Proof.Search

variable {F : FTy → Type} [FloatOps F]

/-- The mean over the channels of the first batch. -/
def meanRow (x : FVec F S8x256x8192 .f32) : FVec F S1x8192 .f32 :=
  Host.divf (Host.reduceAdd (extractStridedSlice S1x256x8192 ![0, 0, 0] x slices_S8x256x8192_S1x256x8192_0_0_0)
      (constant S_ .f32 0x00000000#32) reducesTo_S1x256x8192_S1x8192_d1 h_S_)
    (broadcastInDim S1x8192 ![] bcast_S_S1x8192 (constant S_ .f32 0x43800000#32))

/-- The list of words, from the mean. -/
def words (v : FVec F S1x8192 .f32) : IVec S8192 32 :=
  minsi (fptosi 32 (mulf
      (Host.reduceWindowAdd ![8192] ![1] ![8191] ![0]
        (Host.divf (shapeCast S8192 v shapeCasts_S1x8192_S8192)
          (broadcastInDim S8192 ![] bcast_S_S8192
            (Host.reduceAdd (shapeCast S8192 v shapeCasts_S1x8192_S8192) (constant S_ .f32 0x00000000#32) reducesTo_S8192_S_d0 h_S_)))
        (broadcastInDim S_ ![] bcast_S_S_ (constant S_ .f32 0x00000000#32)) reduceWindows_S8192_S8192_w8192s1p8191_0 h_S_)
      (broadcastInDim S8192 ![] bcast_S_S8192 (constant S_ .f32 0x45800000#32))))
    (broadcastInDim S8192 ![] bcast_S_S8192 (constantI S_ 32 4095#32))

theorem cdfOf_eq (m : (ℓ : Loc nD τ sig) → Buf (Elt F) ℓ) (d : Dev nD) : cdfOf m d = words (meanRow (m (fLoc d))) := by
  unfold cdfOf V1 hostOps
  after_reads_simp
  rfl

theorem words_lt (v : FVec F S1x8192 .f32) (j : S8192.Idx) (h0 : 0 ≤ (words v j).toInt) : (words v j).toNat < 4096 := by
  have h : (words v j).toInt ≤ 4095 := by
    show (IntOp.minsi _ 4095#32).toInt ≤ _
    unfold IntOp.minsi
    split
    · rename_i h
      rw [BitVec.slt_eq_decide] at h
      have := of_decide_eq_true h
      have e : (4095#32 : BitVec 32).toInt = 4095 := by decide
      rw [e] at this; exact this.le
    · decide
  rw [BitVec.toInt_eq_toNat_cond] at h h0
  have := (words v j).isLt
  split at h <;> omega

theorem pre_unfold (x : FVec F S8x256x8192 .f32) : Cert.Pre_cdf_sorted.fn (F := F) x
    = andi (Host.reduce IntOp.andi
        (cmpi .sge (extractStridedSlice Cert.Pre_cdf_sorted.S8191 ![1] (words (meanRow x)) Cert.Pre_cdf_sorted.Facts.slices_S8192_S8191_1)
          (extractStridedSlice Cert.Pre_cdf_sorted.S8191 ![0] (words (meanRow x)) Cert.Pre_cdf_sorted.Facts.slices_S8192_S8191_0))
        (constantI Cert.Pre_cdf_sorted.S_ 1 1#1) Cert.Pre_cdf_sorted.Facts.reducesTo_S8191_S_d0 Cert.Pre_cdf_sorted.Facts.h_S_)
      (cmpi .sge (shapeCast Cert.Pre_cdf_sorted.S_
          (extractStridedSlice Cert.Pre_cdf_sorted.S1 ![0] (words (meanRow x)) Cert.Pre_cdf_sorted.Facts.slices_S8192_S1_0)
          Cert.Pre_cdf_sorted.Facts.shapeCasts_S1_S_) (constantI Cert.Pre_cdf_sorted.S_ 32 0#32)) := rfl

theorem andi_ones {a b : BitVec 1} (h : IntOp.andi a b = 1#1) : a = 1#1 ∧ b = 1#1 := by
  revert h; unfold IntOp.andi; revert a b; decide

/-- An index of the 8191 neighbours. -/
abbrev ixn (n : ℕ) (h : n < 8191) : Cert.Pre_cdf_sorted.S8191.Idx := fun a => ⟨n, by obtain rfl : a = 0 := Subsingleton.elim _ _; exact h⟩

theorem sorted_of_pre (x : FVec F S8x256x8192 .f32) (h : Cert.Pre_cdf_sorted.fn (F := F) x = fun _ => 1#1) :
    Srt (vals (words (meanRow x))) := by
  rw [pre_unfold] at h
  generalize hw : words (meanRow x) = w at h
  have hlt : ∀ j, 0 ≤ (w j).toInt → (w j).toNat < 4096 := fun j => hw ▸ words_lt (meanRow x) j
  obtain ⟨h1, h2⟩ := andi_ones (congrFun h (fun a => a.elim0))
  have hs : ∀ n : ℕ, n < 8191 → (w (ix8 n)).toInt ≤ (w (ix8 (n + 1))).toInt := by
    intro n hn
    have : Subsingleton Cert.Pre_cdf_sorted.S_.Idx := ⟨fun a b => funext fun i => i.elim0⟩
    have e := Host.reduce_andi_all _ _ _ _ _ h1 (ixn n hn)
    have e' := IntOp.cmpi_sge.1 e
    have e1 : extractStridedSlice Cert.Pre_cdf_sorted.S8191 ![0] w Cert.Pre_cdf_sorted.Facts.slices_S8192_S8191_0 (ixn n hn) = w (ix8 n) := by
      refine congrArg w (funext fun a => ?_)
      obtain rfl : a = 0 := Subsingleton.elim _ _
      exact Fin.ext (show 0 + n = n % 8192 by omega)
    have e2 : extractStridedSlice Cert.Pre_cdf_sorted.S8191 ![1] w Cert.Pre_cdf_sorted.Facts.slices_S8192_S8191_1 (ixn n hn) = w (ix8 (n + 1)) := by
      refine congrArg w (funext fun a => ?_)
      obtain rfl : a = 0 := Subsingleton.elim _ _
      exact Fin.ext (show 1 + n = (n + 1) % 8192 by omega)
    rw [e1, e2] at e'; exact e'
  have hz : 0 ≤ (w (ix8 0)).toInt := by
    have e' := IntOp.cmpi_sge.1 h2
    have e1 : shapeCast Cert.Pre_cdf_sorted.S_ (extractStridedSlice Cert.Pre_cdf_sorted.S1 ![0] w Cert.Pre_cdf_sorted.Facts.slices_S8192_S1_0)
          Cert.Pre_cdf_sorted.Facts.shapeCasts_S1_S_ (fun a => a.elim0) = w (ix8 0) := by
      refine congrArg w (funext fun a => ?_)
      obtain rfl : a = 0 := Subsingleton.elim _ _
      refine Fin.ext ?_
      show 0 + _ = 0 % 8192
      exact (Nat.zero_add _).trans (Nat.lt_one_iff.mp (Fin.isLt _))
    rw [e1] at e'; exact e'
  have hn : ∀ n, n < 8192 → 0 ≤ (w (ix8 n)).toInt := by
    intro n; induction n with
    | zero => exact fun _ => hz
    | succ n ih => exact fun h => (ih (by omega)).trans (hs n (by omega))
  have hv : ∀ n, n < 8192 → (w (ix8 n)).toInt = vals w n := fun n h =>
    toInt_small (by have := hlt _ (hn n h); omega)
  refine ⟨fun i j hij hj => ?_, fun i hi => hlt _ (hn i hi)⟩
  induction j, hij using Nat.le_induction with
  | base => exact le_rfl
  | succ j hij ih =>
    refine (ih (by omega)).trans ?_
    have := hs j (by omega)
    rw [hv j (by omega), hv (j + 1) hj] at this
    exact_mod_cast this

end Cert.Proof.Samp

end
-- ==== Proof.Means.lean ====
/-
  At the extended reals the mean over the channels of the first sequence is the first row of the means over the channels.
-/
module

public import proofs.«01_k».proof.Proof.RefValue
public import proofs.«01_k».proof.Proof.Positions
public import Idealize.ShloMosaic.Lib.Pointwise.Reduce
public import Idealize.ShloMosaic.Lib.IdealHost

@[expose] public section

noncomputable section

namespace Cert.Proof

open Idealize.ShloMosaic

theorem meanRow_eq (x : FVec Ideal Cert.KernelIdeal.S8x256x8192 .f32) : Samp.meanRow x = Ref.meanRow x := by
  funext j
  have h0 : (j 0).val = 0 := Nat.lt_one_iff.mp (j 0).isLt
  show Ideal.div (Ideal.hostReduceAdd _ _ _ j) _ = Ideal.div (Ideal.hostReduceAdd _ x _ _) _
  refine congrArg₂ Ideal.div ?_ rfl
  rw [Ideal.hostReduceAdd_r3_a1, Ideal.hostReduceAdd_r3_a1]
  refine congrArg₂ (· + ·) rfl (Finset.sum_congr rfl fun k _ => congrArg x (funext fun a => Fin.ext ?_))
  match a with
  | ⟨0, _⟩ => rfl
  | ⟨1, _⟩ => exact Nat.zero_add _
  | ⟨2, _⟩ => rfl

theorem words_eq (v : FVec Ideal Cert.KernelIdeal.S1x8192 .f32) : Samp.words v = Ref.words v := rfl

end Cert.Proof

end
-- ==== Proof.DenseRun.lean ====
module

public import proofs.«01_k».proof.Defs
public import proofs.«01_k».proof.Proof.Gen.Dense
public import proofs.«01_k».proof.Proof.Gen.DenseIdeal
public import proofs.«01_k».proof.Proof.Gen.DenseIdeal.Frame
public import proofs.«01_k».proof.Proof.Gen.DenseReferenceIdeal
public import proofs.«01_k».proof.Proof.Gen.DenseReferenceIdeal.Run
public import proofs.«01_k».proof.Proof.Gen.Pre_finite

public import Idealize.ShloMosaic.Lib.Pipeline.ValueKit

@[expose] public section

set_option maxRecDepth 16384

/-! The run of the three TensorCore calls: each result array at what its call's write-backs leave, and what each
    call finds in the arrays it reads. -/

noncomputable section

namespace Cert.DenseIdeal.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DenseIdeal Cert.DenseIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last call's output is the mixed result. -/
theorem mixed_at (c : Dev nD) : W6 m ρ c (Proc.devRef .tc main_v11) = (dat2 (V5 m ρ) c).arrAt 4 cfg2.N := W6_arr m ρ c 4

/-- The second call's first output is the feature result; nothing writes it afterwards. -/
theorem feat_at (c : Dev nD) : W6 m ρ c (Proc.devRef .tc main_v8_0) = (dat1 (V3 m ρ) c).arrAt 13 cfg1.N :=
  ((W6_of m ρ c main_v8_0 (by decide +kernel)).trans (W5_of m ρ c main_v8_0 (by decide))).trans (W4_arr m ρ c 13)

/-- The run: both results at the last write-backs, the arguments as launched. -/
theorem run : θ_run defs (onTc (τ := τ) (main (F := F))) ⟨m, fun _ => 0, ρ⟩ (fun r => ∀ c : Dev nD,
      r.2.mem ((c.tc : Thread nD τ).loc main_v11) = (dat2 (V5 m ρ) c).arrAt 4 cfg2.N
      ∧ r.2.mem ((c.tc : Thread nD τ).loc main_v8_0) = (dat1 (V3 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v11 (by decide))).trans (mixed_at m ρ c), (h c _ (mem_uc main_v8_0 (by decide))).trans (feat_at m ρ c), (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

/-! ## What the calls read: the arguments as launched, the reshaped columns, and what an earlier call left -/

theorem W1_v0 (c : Dev nD) : W1 m ρ c (Proc.devRef .tc main_v0) = shapeCast S256x1 (m ((c : Thread nD τ).loc main_arg3)) shapeCasts_S256_S256x1 := by
  rw [← W0_args m ρ c main_arg3 (by decide)]
  show StableHlo.after hostOps0 (W0 m ρ c) (Proc.devRef .tc main_v0) = _
  simp only [hostOps0]
  after_results_simp
  rfl

theorem W1_v1 (c : Dev nD) : W1 m ρ c (Proc.devRef .tc main_v1) = shapeCast S512x1 (m ((c : Thread nD τ).loc main_arg7)) shapeCasts_S512_S512x1 := by
  rw [← W0_args m ρ c main_arg7 (by decide)]
  show StableHlo.after hostOps0 (W0 m ρ c) (Proc.devRef .tc main_v1) = _
  simp only [hostOps0]
  after_results_simp
  rfl

theorem W1_v2 (c : Dev nD) : W1 m ρ c (Proc.devRef .tc main_v2) = shapeCast S256x1 (m ((c : Thread nD τ).loc main_arg11)) shapeCasts_S256_S256x1 := by
  rw [← W0_args m ρ c main_arg11 (by decide)]
  show StableHlo.after hostOps0 (W0 m ρ c) (Proc.devRef .tc main_v2) = _
  simp only [hostOps0]
  after_results_simp
  rfl

theorem W3_v4 (c : Dev nD) : W3 m ρ c (Proc.devRef .tc main_v4) = shapeCast S256x1 (m ((c : Thread nD τ).loc main_arg4)) shapeCasts_S256_S256x1 := by
  rw [← W2_args m ρ c main_arg4 (by decide)]
  show StableHlo.after hostOps1 (W2 m ρ c) (Proc.devRef .tc main_v4) = _
  simp only [hostOps1]
  after_results_simp
  rfl

theorem W3_v5 (c : Dev nD) : W3 m ρ c (Proc.devRef .tc main_v5) = shapeCast S256x1 (m ((c : Thread nD τ).loc main_arg5)) shapeCasts_S256_S256x1 := by
  rw [← W2_args m ρ c main_arg5 (by decide)]
  show StableHlo.after hostOps1 (W2 m ρ c) (Proc.devRef .tc main_v5) = _
  simp only [hostOps1]
  after_results_simp
  rfl

theorem W3_v6 (c : Dev nD) : W3 m ρ c (Proc.devRef .tc main_v6) = shapeCast S512x1 (m ((c : Thread nD τ).loc main_arg8)) shapeCasts_S512_S512x1 := by
  rw [← W2_args m ρ c main_arg8 (by decide)]
  show StableHlo.after hostOps1 (W2 m ρ c) (Proc.devRef .tc main_v6) = _
  simp only [hostOps1]
  after_results_simp
  rfl

theorem W3_v7 (c : Dev nD) : W3 m ρ c (Proc.devRef .tc main_v7) = shapeCast S512x1 (m ((c : Thread nD τ).loc main_arg9)) shapeCasts_S512_S512x1 := by
  rw [← W2_args m ρ c main_arg9 (by decide)]
  show StableHlo.after hostOps1 (W2 m ρ c) (Proc.devRef .tc main_v7) = _
  simp only [hostOps1]
  after_results_simp
  rfl

theorem W5_v9 (c : Dev nD) : W5 m ρ c (Proc.devRef .tc main_v9) = shapeCast S256x1 (m ((c : Thread nD τ).loc main_arg12)) shapeCasts_S256_S256x1 := by
  rw [← W4_args m ρ c main_arg12 (by decide)]
  show StableHlo.after hostOps2 (W4 m ρ c) (Proc.devRef .tc main_v9) = _
  simp only [hostOps2]
  after_results_simp
  rfl

theorem W5_v10 (c : Dev nD) : W5 m ρ c (Proc.devRef .tc main_v10) = shapeCast S256x1 (m ((c : Thread nD τ).loc main_arg13)) shapeCasts_S256_S256x1 := by
  rw [← W4_args m ρ c main_arg13 (by decide)]
  show StableHlo.after hostOps2 (W4 m ρ c) (Proc.devRef .tc main_v10) = _
  simp only [hostOps2]
  after_results_simp
  rfl

theorem W3_v0 (c : Dev nD) : W3 m ρ c (Proc.devRef .tc main_v0) = W1 m ρ c (Proc.devRef .tc main_v0) :=
  (W3_of m ρ c main_v0 (by decide)).trans (W2_of m ρ c main_v0 (by decide +kernel))

theorem W3_v1 (c : Dev nD) : W3 m ρ c (Proc.devRef .tc main_v1) = W1 m ρ c (Proc.devRef .tc main_v1) :=
  (W3_of m ρ c main_v1 (by decide)).trans (W2_of m ρ c main_v1 (by decide +kernel))

theorem W3_v2 (c : Dev nD) : W3 m ρ c (Proc.devRef .tc main_v2) = W1 m ρ c (Proc.devRef .tc main_v2) :=
  (W3_of m ρ c main_v2 (by decide)).trans (W2_of m ρ c main_v2 (by decide +kernel))

theorem W3_v3 (c : Dev nD) : W3 m ρ c (Proc.devRef .tc main_v3) = (dat0 (V1 m ρ) c).arrAt 5 cfg0.N :=
  (W3_of m ρ c main_v3 (by decide)).trans (W2_arr m ρ c 5)

theorem W5_v8_1 (c : Dev nD) : W5 m ρ c (Proc.devRef .tc main_v8_1) = (dat1 (V3 m ρ) c).arrAt 14 cfg1.N :=
  (W5_of m ρ c main_v8_1 (by decide)).trans (W4_arr m ρ c 14)

theorem W5_v8_2 (c : Dev nD) : W5 m ρ c (Proc.devRef .tc main_v8_2) = (dat1 (V3 m ρ) c).arrAt 15 cfg1.N :=
  (W5_of m ρ c main_v8_2 (by decide)).trans (W4_arr m ρ c 15)

end Cert.DenseIdeal.Calls

end

end
-- ==== Proof.DenseReal.lean ====
module

public import Idealize.ShloMosaic.Lib.Pipeline.ValueKit

@[expose] public section

/-! The group norm in real numbers: the mean and variance of a group of channels, and the same two numbers from
    sums taken beforehand — row sums and the products of pairs of rows. -/

noncomputable section

namespace Cert.GroupNorm

/-- The constant added to a variance. -/
def eps : ℝ := 10995116 * (2 : ℝ) ^ (-40 : ℤ)

theorem eps_pos : 0 < eps := by unfold eps; positivity

variable {P T : ℕ}

/-- The sum over the channels of group `g`, `k` channels to a group. -/
def gsum (k : ℕ) (f : Fin P → ℝ) (g : ℕ) : ℝ := ∑ p : Fin P, if p.val / k = g then f p else 0

/-- A group's mean over `n` values. -/
def mean (k : ℕ) (n : ℝ) (y : Fin P → Fin T → ℝ) (g : ℕ) : ℝ := gsum k (fun p => ∑ t, y p t) g / n

/-- A group's variance over `n` values. -/
def var (k : ℕ) (n : ℝ) (y : Fin P → Fin T → ℝ) (g : ℕ) : ℝ :=
  gsum k (fun p => ∑ t, (y p t - mean k n y g) * (y p t - mean k n y g)) g / n

/-- A value less its group's mean, over the group's deviation. -/
def nrm (k : ℕ) (n : ℝ) (y : Fin P → Fin T → ℝ) (p : Fin P) (t : Fin T) : ℝ :=
  (y p t - mean k n y (p.val / k)) / Real.sqrt (var k n y (p.val / k) + eps)

/-- The 1×1 convolution of one batch element. -/
def conv {C : ℕ} (W : Fin P → Fin C → ℝ) (b : Fin P → ℝ) (x : Fin C → Fin T → ℝ) (p : Fin P) (t : Fin T) : ℝ :=
  ∑ c, x c t * W p c + b p

/-- A normalised value, scaled and shifted, the part above zero. -/
def act (k : ℕ) (n : ℝ) (y : Fin P → Fin T → ℝ) (g e : Fin P → ℝ) (p : Fin P) (t : Fin T) : ℝ :=
  max (nrm k n y p t * g p + e p) 0

/-- Three arrays' channels, one after another. -/
def stack (x : Fin 256 → Fin T → ℝ) (y : Fin 512 → Fin T → ℝ) (z : Fin 256 → Fin T → ℝ) (c : Fin 1024) (t : Fin T) : ℝ :=
  if h : c.val < 256 then x ⟨c.val, h⟩ t else if h' : c.val - 256 < 512 then y ⟨c.val - 256, h'⟩ t
  else z ⟨c.val - 256 - 512, by have := c.isLt; omega⟩ t

theorem sum_split (f : Fin 1024 → ℝ) :
    ∑ c, f c = (∑ c : Fin 256, f ⟨c.val, by omega⟩) + (∑ c : Fin 512, f ⟨256 + c.val, by omega⟩) + (∑ c : Fin 256, f ⟨768 + c.val, by omega⟩) :=
  (Fin.sum_univ_add (a := 768) (b := 256) f).trans
    (congrArg (· + _) (Fin.sum_univ_add (a := 256) (b := 512) fun i => f (Fin.castAdd 256 i)))

/-- A convolution of the stacked channels, array by array. -/
theorem conv_stack (W : Fin P → Fin 1024 → ℝ) (b : Fin P → ℝ) (x : Fin 256 → Fin T → ℝ) (y : Fin 512 → Fin T → ℝ) (z : Fin 256 → Fin T → ℝ)
    (p : Fin P) (t : Fin T) :
    conv W b (stack x y z) p t = (∑ c : Fin 256, W p ⟨c.val, by omega⟩ * x c t) + (∑ c : Fin 512, W p ⟨256 + c.val, by omega⟩ * y c t)
      + (∑ c : Fin 256, W p ⟨768 + c.val, by omega⟩ * z c t) + b p := by
  unfold conv
  refine congrArg (· + b p) ?_
  rw [sum_split]
  refine congrArg₂ (· + ·) (congrArg₂ (· + ·) ?_ ?_) ?_
  · refine Finset.sum_congr rfl fun c _ => ?_
    rw [mul_comm]; unfold stack; rw [dif_pos c.isLt]
  · refine Finset.sum_congr rfl fun c _ => ?_
    have h : 256 + c.val - 256 = c.val := by omega
    rw [mul_comm]; unfold stack
    rw [dif_neg (by simp), dif_pos (by simp only; omega)]
    simp only [h]
  · refine Finset.sum_congr rfl fun c _ => ?_
    have h : 768 + c.val - 256 - 512 = c.val := by omega
    rw [mul_comm]; unfold stack
    rw [dif_neg (by simp only; omega), dif_neg (by simp only; omega)]
    simp only [h]

theorem gsum_add (k : ℕ) (f h : Fin P → ℝ) (g : ℕ) : gsum k (fun p => f p + h p) g = gsum k f g + gsum k h g := by
  unfold gsum
  rw [← Finset.sum_add_distrib]
  exact Finset.sum_congr rfl fun p _ => by split <;> simp

theorem gsum_mul (k : ℕ) (a : ℝ) (f : Fin P → ℝ) (g : ℕ) : gsum k (fun p => a * f p) g = a * gsum k f g := by
  unfold gsum
  rw [Finset.mul_sum]
  exact Finset.sum_congr rfl fun p _ => by split <;> simp

theorem gsum_nonneg (k : ℕ) (f : Fin P → ℝ) (g : ℕ) (h : ∀ p, 0 ≤ f p) : 0 ≤ gsum k f g :=
  Finset.sum_nonneg fun p _ => by split <;> simp [h p]

/-- The sum over a group, channel by channel. -/
theorem gsum_fin (k : ℕ) (hP : P = 32 * k) (f : Fin P → ℝ) (g : Fin 32) :
    gsum k f g.val = ∑ i : Fin k, f ⟨g.val * k + i.val, by
      have := i.isLt; have := g.isLt; subst hP
      calc g.val * k + i.val < g.val * k + k := by omega
        _ = (g.val + 1) * k := by ring
        _ ≤ 32 * k := Nat.mul_le_mul_right _ (by omega)⟩ := by
  unfold gsum
  rw [← Finset.sum_filter]
  symm
  refine Finset.sum_bij (fun i _ => ⟨g.val * k + i.val, ?_⟩) ?_ ?_ ?_ ?_
  · have := i.isLt; have := g.isLt; subst hP
    calc g.val * k + i.val < g.val * k + k := by omega
      _ = (g.val + 1) * k := by ring
      _ ≤ 32 * k := Nat.mul_le_mul_right _ (by omega)
  · intro i _
    have hk : 0 < k := lt_of_le_of_lt (Nat.zero_le _) i.isLt
    simp only [Finset.mem_filter, Finset.mem_univ, true_and]
    rw [mul_comm, Nat.mul_add_div hk, Nat.div_eq_of_lt i.isLt, add_zero]
  · intro i _ j _ h
    have := congrArg Fin.val h
    simp only at this
    exact Fin.ext (by omega)
  · intro p hp
    simp only [Finset.mem_filter, Finset.mem_univ, true_and] at hp
    have hk : 0 < k := by
      rcases Nat.eq_zero_or_pos k with h | h
      · subst h; subst hP; exact absurd p.isLt (by simp)
      · exact h
    refine ⟨⟨p.val % k, Nat.mod_lt _ hk⟩, Finset.mem_univ _, Fin.ext ?_⟩
    simp only
    rw [← hp, mul_comm]
    exact Nat.div_add_mod _ _
  · intro i _; rfl

/-- The sum over the channels of a 0/1 pattern times `f` is the sum over the group. -/
theorem gsum_mask (k : ℕ) (f : Fin P → ℝ) (g : ℕ) :
    ∑ p : Fin P, (if p.val / k = g then (1 : ℝ) else 0) * f p = gsum k f g :=
  Finset.sum_congr rfl fun p _ => by split <;> simp

/-- Picking a group's number for a channel. -/
theorem pick (k : ℕ) (f : Fin 32 → ℝ) (p : ℕ) (hp : p / k < 32) :
    ∑ g : Fin 32, (if p / k = g.val then (1 : ℝ) else 0) * f g = f ⟨p / k, hp⟩ := by
  rw [Finset.sum_eq_single (⟨p / k, hp⟩ : Fin 32)]
  · simp
  · intro g _ hg
    rw [if_neg (fun h => hg (Fin.ext h.symm)), zero_mul]
  · simp

theorem var_nonneg (k : ℕ) (n : ℝ) (hn : 0 < n) (y : Fin P → Fin T → ℝ) (g : ℕ) : 0 ≤ var k n y g :=
  div_nonneg (gsum_nonneg k _ g fun p => Finset.sum_nonneg fun t _ => mul_self_nonneg _) hn.le

/-- The variance is the mean of the squares less the square of the mean. -/
theorem var_eq (k : ℕ) (hP : P = 32 * k) (n : ℝ) (hn : 0 < n) (hk : n = k * T) (y : Fin P → Fin T → ℝ) (g : Fin 32) :
    gsum k (fun p => ∑ t, y p t * y p t) g.val / n - mean k n y g.val * mean k n y g.val = var k n y g.val := by
  have hS : gsum k (fun p => ∑ t, y p t) g.val = n * mean k n y g.val := by
    unfold mean; field_simp
  unfold var
  generalize hm : mean k n y g.val = μ at hS ⊢
  have e : (fun p => ∑ t, (y p t - μ) * (y p t - μ))
      = fun p : Fin P => (∑ t, y p t * y p t) + ((-2 * μ) * (∑ t, y p t) + μ * μ * (T : ℝ)) := by
    funext p
    have : ∀ t, (y p t - μ) * (y p t - μ) = y p t * y p t + ((-2 * μ) * y p t + μ * μ) := fun t => by ring
    simp only [this, Finset.sum_add_distrib, ← Finset.mul_sum, Finset.sum_const, Finset.card_univ, Fintype.card_fin,
      nsmul_eq_mul]
    ring
  rw [e, gsum_add, gsum_add, gsum_mul, hS]
  have hc : gsum k (fun _ : Fin P => μ * μ * (T : ℝ)) g.val = k * (μ * μ * T) := by
    rw [gsum_fin k hP]; simp
  rw [hc]
  have : (k : ℝ) * (μ * μ * T) = n * (μ * μ) := by rw [hk]; ring
  rw [this]
  field_simp
  ring

/-- The sum of a convolution's row from the row sums of its input. -/
theorem conv_sum {C : ℕ} (W : Fin P → Fin C → ℝ) (b : Fin P → ℝ) (x : Fin C → Fin T → ℝ) (p : Fin P) :
    ∑ c, W p c * (∑ t, x c t) + (T : ℝ) * b p = ∑ t, conv W b x p t := by
  unfold conv
  rw [Finset.sum_add_distrib, Finset.sum_comm]
  simp only [Finset.mul_sum, Finset.sum_const, Finset.card_univ, Fintype.card_fin, nsmul_eq_mul]
  congr 1
  exact Finset.sum_congr rfl fun c _ => Finset.sum_congr rfl fun t _ => mul_comm _ _

/-- The sum of its squares from the products of pairs of rows. -/
theorem conv_sq {C : ℕ} (W : Fin P → Fin C → ℝ) (b : Fin P → ℝ) (x : Fin C → Fin T → ℝ) (p : Fin P) :
    ∑ c, (∑ c', W p c' * (∑ t, x c' t * x c t)) * W p c + 2 * b p * (∑ c, W p c * (∑ t, x c t)) + (T : ℝ) * (b p * b p)
      = ∑ t, conv W b x p t * conv W b x p t := by
  have h1 : ∀ t, conv W b x p t * conv W b x p t
      = (∑ c, ∑ c', W p c' * (x c' t * x c t) * W p c) + 2 * b p * (∑ c, x c t * W p c) + b p * b p := by
    intro t
    have h2 : (∑ c, ∑ c', W p c' * (x c' t * x c t) * W p c) = (∑ c, x c t * W p c) * (∑ c, x c t * W p c) := by
      rw [Finset.sum_mul_sum]
      exact Finset.sum_congr rfl fun c _ => Finset.sum_congr rfl fun c' _ => by ring
    rw [h2]; unfold conv; ring
  simp only [h1, Finset.sum_add_distrib, ← Finset.mul_sum, Finset.sum_const, Finset.card_univ, Fintype.card_fin, nsmul_eq_mul]
  refine congrArg₂ (· + ·) (congrArg₂ (· + ·) ?_ ?_) (by ring)
  · rw [Finset.sum_comm]
    refine Finset.sum_congr rfl fun c _ => ?_
    rw [Finset.sum_comm, Finset.sum_mul]
    refine Finset.sum_congr rfl fun c' _ => ?_
    rw [Finset.mul_sum, Finset.sum_mul]
  · refine congrArg (2 * b p * ·) ?_
    rw [Finset.sum_comm]
    refine Finset.sum_congr rfl fun c _ => ?_
    rw [Finset.mul_sum]
    exact Finset.sum_congr rfl fun t _ => mul_comm _ _

/-! The same in extended reals, where the values are real. -/

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem sqrt_coe (r : ℝ) (h : 0 ≤ r) : Ideal.sqrt (r : EReal) = ((Real.sqrt r : ℝ) : EReal) :=
  if_neg (not_lt.2 h)

theorem rsqrt_coe (r : ℝ) (h : 0 < r) : Ideal.rsqrt (r : EReal) = (((Real.sqrt r)⁻¹ : ℝ) : EReal) :=
  (if_neg (not_lt.2 h.le)).trans (if_neg h.ne')

theorem max_coe (a b : ℝ) : ((max a b : ℝ) : EReal) = max (a : EReal) (b : EReal) :=
  EReal.coe_strictMono.monotone.map_max

theorem c4096 : Ideal.ofBits .f32 1166016512#32 = ((4096 : ℝ) : EReal) := by
  simp [Ideal.ofBits, Ideal.ieee]
  rw [← EReal.coe_mul, EReal.coe_eq_coe_iff]
  norm_num

theorem c32768 : Ideal.ofBits .f32 1191182336#32 = ((32768 : ℝ) : EReal) := by
  simp [Ideal.ofBits, Ideal.ieee]
  rw [← EReal.coe_mul, EReal.coe_eq_coe_iff]
  norm_num

theorem c65536 : Ideal.ofBits .f32 1199570944#32 = ((65536 : ℝ) : EReal) := by
  simp [Ideal.ofBits, Ideal.ieee]
  rw [← EReal.coe_mul, EReal.coe_eq_coe_iff]
  norm_num

theorem c2 : Ideal.ofBits .f32 1073741824#32 = ((2 : ℝ) : EReal) := by
  simp [Ideal.ofBits, Ideal.ieee]
  rw [← EReal.coe_mul, EReal.coe_eq_coe_iff]
  norm_num

theorem ceps : Ideal.ofBits .f32 925353388#32 = (eps : EReal) := by
  simp [Ideal.ofBits, Ideal.ieee, eps]

end Cert.GroupNorm

end
-- ==== Proof.DenseStats.lean ====
module

public import proofs.«01_k».proof.Proof.DenseRun
public import proofs.«01_k».proof.Proof.DenseReal

@[expose] public section

set_option maxRecDepth 16384
noncomputable section
open Idealize.ShloMosaic Idealize.ShloMosaic.TcCoe Idealize.SL.Sem
open Idealize.ShloMosaic.Pipeline (Dat)
namespace Cert.DenseIdeal.Stats
open Cert.DenseIdeal Cert.DenseIdeal.Gen Cert.GroupNorm

/-! The first call: for each batch element the mean and the reciprocal deviation of every group of the two
    convolutions, from the row sums of the input and the products of its pairs of rows. -/

/-- A number's quotient by `d`, rounded down, as a word: the quotient toward zero, less one where the signs differ and a remainder is left. -/
abbrev quo (d : BitVec 32) (p : ℕ) : BitVec 32 :=
  Scalar.select
    (IntOp.andi
      (IntOp.cmpi CmpIPredicate.ne
        (IntOp.subi (BitVec.setWidth 32 (IntOp.cmpi CmpIPredicate.sgt (BitVec.ofNat 32 p) 0#32))
          (BitVec.setWidth 32 (IntOp.cmpi CmpIPredicate.slt (BitVec.ofNat 32 p) 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector (BitVec.ofNat 32 p) d) 0#32))
    (IntOp.subi (IntOp.divsi ArithUnit.vector (BitVec.ofNat 32 p) d) 1#32)
    (IntOp.divsi ArithUnit.vector (BitVec.ofNat 32 p) d)

/-- The 0/1 pattern of the groups: one where the quotient is the group. -/
abbrev hit (d : BitVec 32) (p g : ℕ) : Ideal .f32 :=
  FloatOps.sitofp FTy.f32 (BitVec.setWidth 32 (IntOp.cmpi CmpIPredicate.eq (quo d p) (BitVec.ofNat 32 g)))

theorem quo8 : ∀ p : Fin 256, quo 8#32 p.val = BitVec.ofNat 32 (p.val / 8) := by decide +kernel

theorem quo16 : ∀ p : Fin 512, quo 16#32 p.val = BitVec.ofNat 32 (p.val / 16) := by decide +kernel

theorem same : ∀ a g : Fin 32, BitVec.setWidth 32 (IntOp.cmpi CmpIPredicate.eq (BitVec.ofNat 32 a.val) (BitVec.ofNat 32 g.val))
    = if a.val = g.val then 1#32 else 0#32 := by decide +kernel

theorem hit_of (d : BitVec 32) (p k : ℕ) (hp : p / k < 32) (hq : quo d p = BitVec.ofNat 32 (p / k)) (g : Fin 32) :
    hit d p g.val = (((if p / k = g.val then (1 : ℝ) else 0) : ℝ) : EReal) := by
  unfold hit
  rw [hq, same ⟨p / k, hp⟩ g]
  split
  · change (((1#32 : BitVec 32).toInt : ℝ) : EReal) = _
    simp
  · change (((0#32 : BitVec 32).toInt : ℝ) : EReal) = _
    simp

theorem hit8 (p : Fin 256) (g : Fin 32) : hit 8#32 p.val g.val = (((if p.val / 8 = g.val then (1 : ℝ) else 0) : ℝ) : EReal) :=
  hit_of _ _ 8 (by have := p.isLt; omega) (quo8 p) g

theorem hit16 (p : Fin 512) (g : Fin 32) : hit 16#32 p.val g.val = (((if p.val / 16 = g.val then (1 : ℝ) else 0) : ℝ) : EReal) :=
  hit_of _ _ 16 (by have := p.isLt; omega) (quo16 p) g

theorem g3 (j) : k0_pay3 (F := Ideal) j = 0 := by
  pointwise [k0_pay3]

theorem g2 (j) : k0_pay2 (F := Ideal) j = 0 := by
  pointwise [k0_pay2]

section
variable (X : Vec Ideal S1x256x4096 .f32) (x : Fin 256 → Fin 4096 → ℝ) (hX : ∀ c t, X (ix3 0 c t) = ((x c t : ℝ) : EReal))
include hX

theorem rows_coe (j) : k0_pay5 X (k0_pay3 (F := Ideal)) j = ((∑ t, x (j 0) t : ℝ) : EReal) := by
  pointwise [k0_pay5, k0_pay1]
  rw [g3, zero_add, coe_sum]
  exact Finset.sum_congr rfl fun t _ => hX _ _

theorem pairs_coe (j) : k0_pay4 X (k0_pay2 (F := Ideal)) j = ((∑ t, x (j 0) t * x (j 1) t : ℝ) : EReal) := by
  pointwise [k0_pay4, k0_pay1]
  rw [g2, zero_add, coe_sum]
  refine Finset.sum_congr rfl fun t _ => ?_
  rw [EReal.coe_mul]
  exact congrArg₂ (· * ·) (hX _ _) (hX _ _)
end

section
variable (x : Fin 256 → Fin 4096 → ℝ) (u : Vec Ideal S256x256 .f32) (v : Vec Ideal S256x1 .f32)
  (hu : ∀ p q, u (ix2 p q) = ((∑ t, x p t * x q t : ℝ) : EReal)) (hv : ∀ p, v (ix2 p 0) = ((∑ t, x p t : ℝ) : EReal))

include hv in
theorem sum256_coe (W : Vec Ideal S256x256 .f32) (w : Fin 256 → Fin 256 → ℝ) (hW : ∀ p q, W (ix2 p q) = ((w p q : ℝ) : EReal))
    (b : Vec Ideal S256x1 .f32) (b' : Fin 256 → ℝ) (hb : ∀ p, b (ix2 p 0) = ((b' p : ℝ) : EReal)) (p : Fin 256) :
    k0_pay11 v W b (ix2 p 0) = ((∑ t, conv w b' x p t : ℝ) : EReal) := by
  rw [← conv_sum]
  pointwise [k0_pay11, k0_pay10, k0_pay9]
  simp only [hW, hv, hb, c4096, ← EReal.coe_mul, ← coe_sum, ← EReal.coe_add]
  norm_num

include hu hv in
theorem sq256_coe (W : Vec Ideal S256x256 .f32) (w : Fin 256 → Fin 256 → ℝ) (hW : ∀ p q, W (ix2 p q) = ((w p q : ℝ) : EReal))
    (b : Vec Ideal S256x1 .f32) (b' : Fin 256 → ℝ) (hb : ∀ p, b (ix2 p 0) = ((b' p : ℝ) : EReal)) (p : Fin 256) :
    k0_pay12 u v W b (ix2 p 0) = ((∑ t, conv w b' x p t * conv w b' x p t : ℝ) : EReal) := by
  rw [← conv_sq]
  pointwise [k0_pay12, k0_pay10, k0_pay9]
  simp only [hW, hv, hu, hb, c4096, c2, ← EReal.coe_mul, ← coe_sum, ← EReal.coe_add]
  norm_num

include hv in
theorem sum512_coe (W : Vec Ideal S512x256 .f32) (w : Fin 512 → Fin 256 → ℝ) (hW : ∀ p q, W (ix2 p q) = ((w p q : ℝ) : EReal))
    (b : Vec Ideal S512x1 .f32) (b' : Fin 512 → ℝ) (hb : ∀ p, b (ix2 p 0) = ((b' p : ℝ) : EReal)) (p : Fin 512) :
    k0_pay21 v W b (ix2 p 0) = ((∑ t, conv w b' x p t : ℝ) : EReal) := by
  rw [← conv_sum]
  pointwise [k0_pay21, k0_pay20, k0_pay19]
  simp only [hW, hv, hb, c4096, ← EReal.coe_mul, ← coe_sum, ← EReal.coe_add]
  norm_num

include hu hv in
theorem sq512_coe (W : Vec Ideal S512x256 .f32) (w : Fin 512 → Fin 256 → ℝ) (hW : ∀ p q, W (ix2 p q) = ((w p q : ℝ) : EReal))
    (b : Vec Ideal S512x1 .f32) (b' : Fin 512 → ℝ) (hb : ∀ p, b (ix2 p 0) = ((b' p : ℝ) : EReal)) (p : Fin 512) :
    k0_pay22 u v W b (ix2 p 0) = ((∑ t, conv w b' x p t * conv w b' x p t : ℝ) : EReal) := by
  rw [← conv_sq]
  pointwise [k0_pay22, k0_pay20, k0_pay19]
  simp only [hW, hv, hu, hb, c4096, c2, ← EReal.coe_mul, ← coe_sum, ← EReal.coe_add]
  norm_num
end

theorem mask8_apply (g : Fin 32) (p : Fin 256) : k0_pay16 (F := Ideal) (iota .tc S32x256 32 [0] iota_S32x256_d0_w32) k0_pay13 k0_pay14 k0_pay15 (ix2 g p)
    = (((if p.val / 8 = g.val then (1 : ℝ) else 0) : ℝ) : EReal) := by
  pointwise [k0_pay16, k0_pay13, k0_pay14, k0_pay15]
  exact hit8 p g

theorem mask16_apply (g : Fin 32) (p : Fin 512) : k0_pay24 (F := Ideal) (iota .tc S32x512 32 [0] iota_S32x512_d0_w32) (iota .tc S32x512 32 [1] iota_S32x512_d1_w32) 16#32 k0_pay23 (ix2 g p)
    = (((if p.val / 16 = g.val then (1 : ℝ) else 0) : ℝ) : EReal) := by
  pointwise [k0_pay24, k0_pay23]
  exact hit16 p g

theorem weigh8 {s : FVec Ideal S256x1 .f32} (f : Fin 256 → ℝ) (hs : ∀ p, s (ix2 p 0) = ((f p : ℝ) : EReal)) (g : Fin 32) :
    (∑ p : Fin 256, k0_pay16 (F := Ideal) (iota .tc S32x256 32 [0] iota_S32x256_d0_w32) k0_pay13 k0_pay14 k0_pay15 (ix2 g p) * s (ix2 p 0) : EReal)
      = ((gsum 8 f g.val : ℝ) : EReal) := by
  rw [← gsum_mask, coe_sum]
  refine Finset.sum_congr rfl fun p _ => ?_
  rw [EReal.coe_mul]
  exact congrArg₂ (· * ·) (mask8_apply g p) (hs p)

theorem weigh16 {s : FVec Ideal S512x1 .f32} (f : Fin 512 → ℝ) (hs : ∀ p, s (ix2 p 0) = ((f p : ℝ) : EReal)) (g : Fin 32) :
    (∑ p : Fin 512, k0_pay24 (F := Ideal) (iota .tc S32x512 32 [0] iota_S32x512_d0_w32) (iota .tc S32x512 32 [1] iota_S32x512_d1_w32) 16#32 k0_pay23 (ix2 g p) * s (ix2 p 0) : EReal)
      = ((gsum 16 f g.val : ℝ) : EReal) := by
  rw [← gsum_mask, coe_sum]
  refine Finset.sum_congr rfl fun p _ => ?_
  rw [EReal.coe_mul]
  exact congrArg₂ (· * ·) (mask16_apply g p) (hs p)

section
variable (y : Fin 256 → Fin 4096 → ℝ) (s q : FVec Ideal S256x1 .f32)
  (hs : ∀ p, s (ix2 p 0) = ((∑ t, y p t : ℝ) : EReal)) (hq : ∀ p, q (ix2 p 0) = ((∑ t, y p t * y p t : ℝ) : EReal))

include hs in
theorem mean8_coe (g : Fin 32) :
    k0_pay17 s (iota .tc S32x256 32 [0] iota_S32x256_d0_w32) k0_pay13 k0_pay14 k0_pay15 (ix2 g 0) = ((mean 8 32768 y g.val : ℝ) : EReal) := by
  pointwise [k0_pay17]
  rw [c32768, weigh8 _ hs g, div_coe _ _ (by norm_num : (32768 : ℝ) ≠ 0)]
  rfl

include hs hq in
theorem dev8_coe (g : Fin 32) :
    k0_pay18 s q (iota .tc S32x256 32 [0] iota_S32x256_d0_w32) k0_pay13 k0_pay14 k0_pay15 (ix2 g 0)
      = (((Real.sqrt (var 8 32768 y g.val + eps))⁻¹ : ℝ) : EReal) := by
  have hp := var_nonneg 8 32768 (by norm_num) y g.val
  pointwise [k0_pay18]
  rw [c32768, ceps, weigh8 _ hq g, mean8_coe y s hs, ← EReal.coe_mul, div_coe _ _ (by norm_num : (32768 : ℝ) ≠ 0), ← EReal.coe_sub,
    var_eq 8 rfl 32768 (by norm_num) (by norm_num), ← EReal.coe_add, rsqrt_coe _ (by have := eps_pos; linarith)]
end

section
variable (y : Fin 512 → Fin 4096 → ℝ) (s q : FVec Ideal S512x1 .f32)
  (hs : ∀ p, s (ix2 p 0) = ((∑ t, y p t : ℝ) : EReal)) (hq : ∀ p, q (ix2 p 0) = ((∑ t, y p t * y p t : ℝ) : EReal))

include hs in
theorem mean16_coe (g : Fin 32) :
    k0_pay25 s (iota .tc S32x512 32 [0] iota_S32x512_d0_w32) (iota .tc S32x512 32 [1] iota_S32x512_d1_w32) 16#32 k0_pay23 (ix2 g 0)
      = ((mean 16 65536 y g.val : ℝ) : EReal) := by
  pointwise [k0_pay25]
  rw [c65536, weigh16 _ hs g, div_coe _ _ (by norm_num : (65536 : ℝ) ≠ 0)]
  rfl

include hs hq in
theorem dev16_coe (g : Fin 32) :
    k0_pay26 s q (iota .tc S32x512 32 [0] iota_S32x512_d0_w32) (iota .tc S32x512 32 [1] iota_S32x512_d1_w32) 16#32 k0_pay23 (ix2 g 0)
      = (((Real.sqrt (var 16 65536 y g.val + eps))⁻¹ : ℝ) : EReal) := by
  have hp := var_nonneg 16 65536 (by norm_num) y g.val
  pointwise [k0_pay26]
  rw [c65536, ceps, weigh16 _ hq g, mean16_coe y s hs, ← EReal.coe_mul, div_coe _ _ (by norm_num : (65536 : ℝ) ≠ 0), ← EReal.coe_sub,
    var_eq 16 rfl 65536 (by norm_num) (by norm_num), ← EReal.coe_add, rsqrt_coe _ (by have := eps_pos; linarith)]
end

theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- The four numbers of each group, one kind below another. -/
def stat (y1 : Fin 256 → Fin 4096 → ℝ) (y2 : Fin 512 → Fin 4096 → ℝ) (r : ℕ) : ℝ :=
  if r < 32 then mean 8 32768 y1 r
  else if r < 64 then (Real.sqrt (var 8 32768 y1 (r - 32) + eps))⁻¹
  else if r < 96 then mean 16 65536 y2 (r - 64)
  else (Real.sqrt (var 16 65536 y2 (r - 96) + eps))⁻¹

theorem stat_mean8 (y1 y2) (r g : ℕ) (h : r = g) (hg : g < 32) : stat y1 y2 r = mean 8 32768 y1 g := by
  unfold stat; rw [if_pos (by omega), h]

theorem stat_dev8 (y1 y2) (r g : ℕ) (h : r = 32 + g) (hg : g < 32) : stat y1 y2 r = (Real.sqrt (var 8 32768 y1 g + eps))⁻¹ := by
  unfold stat; rw [if_neg (by omega), if_pos (by omega), h, Nat.add_sub_cancel_left]

theorem stat_mean16 (y1 y2) (r g : ℕ) (h : r = 64 + g) (hg : g < 32) : stat y1 y2 r = mean 16 65536 y2 g := by
  unfold stat; rw [if_neg (by omega), if_neg (by omega), if_pos (by omega), h, Nat.add_sub_cancel_left]

theorem stat_dev16 (y1 y2) (r g : ℕ) (h : r = 96 + g) (hg : g < 32) : stat y1 y2 r = (Real.sqrt (var 16 65536 y2 g + eps))⁻¹ := by
  unfold stat; rw [if_neg (by omega), if_neg (by omega), if_neg (by omega), h, Nat.add_sub_cancel_left]

theorem up8 (v : FVec Ideal S32x1 .f32) (i) : k0_pay8 v i = v (ix2 (i 1) 0) := by
  pointwise [k0_pay8]; blk_ext

theorem up7 (v : FVec Ideal S32x1 .f32) (i) : k0_pay7 v i = v (ix2 (i 1) 0) := by
  pointwise [k0_pay7]; blk_ext

theorem up6 (v : FVec Ideal S32x1 .f32) (i) : k0_pay6 v i = v (ix2 (i 1) 0) := by
  pointwise [k0_pay6]; blk_ext

theorem up27 (v : FVec Ideal S32x1 .f32) (i) : k0_pay27 v i = v (ix2 (i 1) 0) := by
  pointwise [k0_pay27]; blk_ext

section
variable (V : (c : Dev nD) → (b : Ref sig .tc) → Buf (Elt Ideal) ((c : Thread nD τ).loc b)) (c : Dev nD)
  (x : Fin 8 → Fin 256 → Fin 4096 → ℝ) (w1 : Fin 256 → Fin 256 → ℝ) (b1 : Fin 256 → ℝ) (w2 : Fin 512 → Fin 256 → ℝ) (b2 : Fin 512 → ℝ)
  (hx : ∀ n p t, V c main_arg0 (ix3 n p t) = ((x n p t : ℝ) : EReal))
  (hw1 : ∀ p q, V c main_arg2 (ix2 p q) = ((w1 p q : ℝ) : EReal)) (hb1 : ∀ p, V c main_v0 (ix2 p 0) = ((b1 p : ℝ) : EReal))
  (hw2 : ∀ p q, V c main_arg6 (ix2 p q) = ((w2 p q : ℝ) : EReal)) (hb2 : ∀ p, V c main_v1 (ix2 p 0) = ((b2 p : ℝ) : EReal))

include hx in
theorem blk0 (t : Fin cfg0.N) (p k) : iblk0 V c 0 t (ix3 0 p k) = ((x t p k : ℝ) : EReal) := by
  refine Eq.trans ?_ (hx t p k); blk_ext [iblk0, idx t]
include hw1 in
theorem blk1 (t : Fin cfg0.N) (p k) : iblk0 V c 1 t (ix2 p k) = ((w1 p k : ℝ) : EReal) := by
  refine Eq.trans ?_ (hw1 p k); blk_ext [iblk0, idx t]
include hb1 in
theorem blk2 (t : Fin cfg0.N) (p) : iblk0 V c 2 t (ix2 p 0) = ((b1 p : ℝ) : EReal) := by
  refine Eq.trans ?_ (hb1 p); blk_ext [iblk0, idx t]
include hw2 in
theorem blk3 (t : Fin cfg0.N) (p k) : iblk0 V c 3 t (ix2 p k) = ((w2 p k : ℝ) : EReal) := by
  refine Eq.trans ?_ (hw2 p k); blk_ext [iblk0, idx t]
include hb2 in
theorem blk4 (t : Fin cfg0.N) (p) : iblk0 V c 4 t (ix2 p 0) = ((b2 p : ℝ) : EReal) := by
  refine Eq.trans ?_ (hb2 p); blk_ext [iblk0, idx t]

include hx hw1 hb1 hw2 hb2 in
theorem final : (dat0 V c).arrAt 5 cfg0.N = fun i => ((stat (conv w1 b1 (x (i 0))) (conv w2 b2 (x (i 0))) (i 1).val : ℝ) : EReal) := by
  refine (dat0 V c).arrAt_eq_of_covers 5 _ (by decide +kernel) fun t _ y => ?_
  blk_simp [idx t]
  rw [after0_5]; unfold outsAt0; frame_out
  have hb : x (((View.whole main_v3).slice (win0_5.rect t)).emb y 0) = x t := congrArg x (Fin.ext (by blk_simp [idx t]))
  rw [hb]
  have hX := blk0 V c x hx t
  have hu := fun p q => pairs_coe (iblk0 V c 0 t) (x t) hX (ix2 p q)
  have hv := fun p => rows_coe (iblk0 V c 0 t) (x t) hX (ix2 p 0)
  have hs1 := sum256_coe (x t) _ hv _ w1 (blk1 V c w1 hw1 t) _ b1 (blk2 V c b1 hb1 t)
  have hq1 := sq256_coe (x t) _ _ hu hv _ w1 (blk1 V c w1 hw1 t) _ b1 (blk2 V c b1 hb1 t)
  have hs2 := sum512_coe (x t) _ hv _ w2 (blk3 V c w2 hw2 t) _ b2 (blk4 V c b2 hb2 t)
  have hq2 := sq512_coe (x t) _ _ hu hv _ w2 (blk3 V c w2 hw2 t) _ b2 (blk4 V c b2 hb2 t)
  canon_tiles i h
  · exact (up8 _ i).trans ((dev16_coe _ _ _ hs2 hq2 (i 1)).trans (congrArg _ (stat_dev16 _ _ _ _ h1 i1_lt).symm))
  · exact (up7 _ i).trans ((mean16_coe _ _ hs2 (i 1)).trans (congrArg _ (stat_mean16 _ _ _ _ h1 i1_lt).symm))
  · exact (up6 _ i).trans ((dev8_coe _ _ _ hs1 hq1 (i 1)).trans (congrArg _ (stat_dev8 _ _ _ _ h1 i1_lt).symm))
  · exact (up27 _ i).trans ((mean8_coe _ _ hs1 (i 1)).trans (congrArg _ (stat_mean8 _ _ _ _ h1 i1_lt).symm))
end

end Cert.DenseIdeal.Stats

end
-- ==== Proof.DenseBlock.lean ====
module

public import proofs.«01_k».proof.Proof.DenseStats

@[expose] public section

set_option maxRecDepth 16384
noncomputable section
open Idealize.ShloMosaic Idealize.ShloMosaic.TcCoe Idealize.SL.Sem
open Idealize.ShloMosaic.Pipeline (Dat)
namespace Cert.DenseIdeal.Block
open Cert.DenseIdeal Cert.DenseIdeal.Gen Cert.GroupNorm Cert.DenseIdeal.Stats

/-! The second call, block by block: both activations from the stored statistics, the third convolution, and its groups'
    sums gathered over the two blocks of a batch element. -/

theorem cmask8 (p : Fin 256) (g : Fin 32) : k1_pay7 (F := Ideal) (ix2 p g) = (((if p.val / 8 = g.val then (1 : ℝ) else 0) : ℝ) : EReal) := by
  pointwise [k1_pay7]
  exact hit8 p g

theorem cmask16 (p : Fin 512) (g : Fin 32) :
    k1_pay10 (F := Ideal) (iota .tc S512x32 32 [1] iota_S512x32_d1_w32) (iota .tc S512x32 32 [0] iota_S512x32_d0_w32) 16#32 k1_pay8 k1_pay9 (ix2 p g)
      = (((if p.val / 16 = g.val then (1 : ℝ) else 0) : ℝ) : EReal) := by
  pointwise [k1_pay10, k1_pay8, k1_pay9]
  exact hit16 p g

theorem rmask8 (g : Fin 32) (p : Fin 256) :
    k1_pay14 (F := Ideal) (iota .tc S32x256 32 [0] iota_S32x256_d0_w32) k1_pay11 k1_pay12 k1_pay13 (ix2 g p)
      = (((if p.val / 8 = g.val then (1 : ℝ) else 0) : ℝ) : EReal) := by
  pointwise [k1_pay14, k1_pay11, k1_pay12, k1_pay13]
  exact hit8 p g

/-- Spreading a group's number over its channels. -/
theorem spread {P : ℕ} (k : ℕ) (p : Fin P) (hp : p.val / k < 32) (M : Fin 32 → EReal) (f : Fin 32 → EReal) (r : ℕ → ℝ)
    (hM : ∀ g : Fin 32, M g = (((if p.val / k = g.val then (1 : ℝ) else 0) : ℝ) : EReal)) (hf : ∀ g : Fin 32, f g = ((r g.val : ℝ) : EReal)) :
    ∑ g : Fin 32, M g * f g = ((r (p.val / k) : ℝ) : EReal) := by
  simp only [hM, hf, ← EReal.coe_mul, ← coe_sum]
  rw [pick k (fun g => r g.val) p.val hp]

/-- One value of an activation, from the convolution, the group's statistics, the scale and the shift. -/
theorem act_of {P : ℕ} (k : ℕ) (n : ℝ) (y : Fin P → Fin 4096 → ℝ) (g e : Fin P → ℝ) (p : Fin P) (t : Fin 4096) :
    max ((((y p t : ℝ) : EReal) - ((mean k n y (p.val / k) : ℝ) : EReal)) * (((Real.sqrt (var k n y (p.val / k) + eps))⁻¹ : ℝ) : EReal) * ((g p : ℝ) : EReal)
      + ((e p : ℝ) : EReal)) 0 = ((act k n y g e p t : ℝ) : EReal) := by
  unfold act nrm
  rw [max_coe, div_eq_mul_inv]
  push_cast
  rfl

section
variable (x : Fin 256 → Fin 4096 → ℝ) (τ : Fin 2048 → Fin 4096) (X : Vec Ideal S1x256x2048 .f32)
  (hX : ∀ q k, X (ix3 0 q k) = ((x q (τ k) : ℝ) : EReal))
  (y1 : Fin 256 → Fin 4096 → ℝ) (y2 : Fin 512 → Fin 4096 → ℝ) (S : Vec Ideal S1x128x1 .f32)
  (hS : ∀ r : Fin 128, S (ix3 0 r 0) = ((stat y1 y2 r.val : ℝ) : EReal))

include hX hS in
theorem act1_coe (w : Fin 256 → Fin 256 → ℝ) (b' g' e' : Fin 256 → ℝ) (hy : y1 = conv w b' x) (W : Vec Ideal S256x256 .f32) (b g e : Vec Ideal S256x1 .f32)
    (hW : ∀ p q, W (ix2 p q) = ((w p q : ℝ) : EReal)) (hb : ∀ p, b (ix2 p 0) = ((b' p : ℝ) : EReal))
    (hg : ∀ p, g (ix2 p 0) = ((g' p : ℝ) : EReal)) (he : ∀ p, e (ix2 p 0) = ((e' p : ℝ) : EReal)) (p : Fin 256) (k : Fin 2048) :
    k1_pay15 (k1_pay4 X) (k1_pay6 S) k1_pay7 W b g e (ix2 p k) = ((act 8 32768 y1 g' e' p (τ k) : ℝ) : EReal) := by
  have hp : p.val / 8 < 32 := by have := p.isLt; omega
  pointwise [k1_pay15, k1_pay4, k1_pay6]
  have hc : (∑ q, W (ix2 p q) * X (ix3 0 q k)) + b (ix2 p 0) = ((y1 p (τ k) : ℝ) : EReal) := by
    rw [hy]; unfold conv
    simp only [hW, hX, hb, ← EReal.coe_mul, ← coe_sum, ← EReal.coe_add]
    simp only [mul_comm]
  have hm : (∑ x : Fin 32, k1_pay7 (F := Ideal) (ix2 p x) * S (ix3 0 ⟨x.val, by omega⟩ 0) : EReal) = ((mean 8 32768 y1 (p.val / 8) : ℝ) : EReal) :=
    spread 8 p hp _ _ (fun g => mean 8 32768 y1 g) (fun g => cmask8 p g) fun g => (hS _).trans (congrArg _ (stat_mean8 y1 y2 _ _ rfl g.isLt))
  have hd : (∑ x : Fin 32, k1_pay7 (F := Ideal) (ix2 p x) * S (ix3 0 ⟨32 + x.val, by omega⟩ 0) : EReal)
      = (((Real.sqrt (var 8 32768 y1 (p.val / 8) + eps))⁻¹ : ℝ) : EReal) :=
    spread 8 p hp _ _ (fun g => (Real.sqrt (var 8 32768 y1 g + eps))⁻¹) (fun g => cmask8 p g) fun g => (hS _).trans (congrArg _ (stat_dev8 y1 y2 _ _ rfl g.isLt))
  rw [hc, hm, hd, hg, he]
  exact act_of 8 32768 y1 g' e' p (τ k)

include hX hS in
theorem act2_coe (w : Fin 512 → Fin 256 → ℝ) (b' g' e' : Fin 512 → ℝ) (hy : y2 = conv w b' x) (W : Vec Ideal S512x256 .f32) (b g e : Vec Ideal S512x1 .f32)
    (hW : ∀ p q, W (ix2 p q) = ((w p q : ℝ) : EReal)) (hb : ∀ p, b (ix2 p 0) = ((b' p : ℝ) : EReal))
    (hg : ∀ p, g (ix2 p 0) = ((g' p : ℝ) : EReal)) (he : ∀ p, e (ix2 p 0) = ((e' p : ℝ) : EReal)) (M : FVec Ideal S512x32 .f32)
    (hM : ∀ (p : Fin 512) (g : Fin 32), M (ix2 p g) = (((if p.val / 16 = g.val then (1 : ℝ) else 0) : ℝ) : EReal)) (p : Fin 512) (k : Fin 2048) :
    k1_pay18 (k1_pay16 (k1_pay6 S) M) (k1_pay17 (k1_pay4 X) (k1_pay6 S) M W b) g e (ix2 p k) = ((act 16 65536 y2 g' e' p (τ k) : ℝ) : EReal) := by
  have hp : p.val / 16 < 32 := by have := p.isLt; omega
  pointwise [k1_pay18, k1_pay17, k1_pay16, k1_pay4, k1_pay6]
  have hc : (∑ q, W (ix2 p q) * X (ix3 0 q k)) + b (ix2 p 0) = ((y2 p (τ k) : ℝ) : EReal) := by
    rw [hy]; unfold conv
    simp only [hW, hX, hb, ← EReal.coe_mul, ← coe_sum, ← EReal.coe_add]
    simp only [mul_comm]
  have hm : (∑ x : Fin 32, M (ix2 p x) * S (ix3 0 ⟨64 + x.val, by omega⟩ 0) : EReal) = ((mean 16 65536 y2 (p.val / 16) : ℝ) : EReal) :=
    spread 16 p hp _ _ (fun g => mean 16 65536 y2 g) (fun g => hM p g) fun g => (hS _).trans (congrArg _ (stat_mean16 y1 y2 _ _ rfl g.isLt))
  have hd : (∑ x : Fin 32, M (ix2 p x) * S (ix3 0 ⟨96 + x.val, by omega⟩ 0) : EReal)
      = (((Real.sqrt (var 16 65536 y2 (p.val / 16) + eps))⁻¹ : ℝ) : EReal) :=
    spread 16 p hp _ _ (fun g => (Real.sqrt (var 16 65536 y2 g + eps))⁻¹) (fun g => hM p g) fun g => (hS _).trans (congrArg _ (stat_dev16 y1 y2 _ _ rfl g.isLt))
  rw [hc, hm, hd, hg, he]
  exact act_of 16 65536 y2 g' e' p (τ k)
end

/-- The third convolution of the three stacked arrays. -/
theorem third_coe (f z : Fin 256 → Fin 4096 → ℝ) (y : Fin 512 → Fin 4096 → ℝ) (τ : Fin 2048 → Fin 4096) (w : Fin 256 → Fin 1024 → ℝ) (b' : Fin 256 → ℝ)
    (Y : Vec Ideal S1x256x2048 .f32) (A : FVec Ideal S256x2048 .f32) (s : FVec Ideal S512x1 .f32) (B : FVec Ideal S512x2048 .f32)
    (W : Vec Ideal S256x1024 .f32) (g e : Vec Ideal S512x1 .f32) (b : Vec Ideal S256x1 .f32)
    (hY : ∀ q k, Y (ix3 0 q k) = ((f q (τ k) : ℝ) : EReal)) (hA : ∀ q k, A (ix2 q k) = ((z q (τ k) : ℝ) : EReal))
    (hB : ∀ q k, k1_pay18 s B g e (ix2 q k) = ((y q (τ k) : ℝ) : EReal))
    (hW : ∀ p q, W (ix2 p q) = ((w p q : ℝ) : EReal)) (hb : ∀ p, b (ix2 p 0) = ((b' p : ℝ) : EReal)) (p : Fin 256) (k : Fin 2048) :
    k1_pay20 (k1_pay5 Y) A s B g e W b (ix2 p k) = ((conv w b' (stack f y z) p (τ k) : ℝ) : EReal) := by
  rw [conv_stack]
  pointwise [k1_pay20, k1_pay5]
  simp only [hY, hA, hB, hW, hb, ← EReal.coe_mul, ← coe_sum, ← EReal.coe_add]

/-- A group's sum of the rows of a block, added to what is there. -/
theorem gather_coe (y : Fin 256 → Fin 2048 → ℝ) (M : FVec Ideal S32x256 .f32)
    (hM : ∀ (g : Fin 32) (p : Fin 256), M (ix2 g p) = (((if p.val / 8 = g.val then (1 : ℝ) else 0) : ℝ) : EReal))
    (v3 A : FVec Ideal S256x2048 .f32) (s : FVec Ideal S512x1 .f32) (B : FVec Ideal S512x2048 .f32)
    (W : Vec Ideal S256x1024 .f32) (g e : Vec Ideal S512x1 .f32) (b : Vec Ideal S256x1 .f32)
    (hv : ∀ p k, k1_pay20 v3 A s B g e W b (ix2 p k) = ((y p k : ℝ) : EReal)) (a : Vec Ideal S1x32x1 .f32) (i) :
    k1_pay2 M (k1_pay22 v3 A s B g e W b) (constant S32x1 .f32 0x00000000#32) a i = a i + ((gsum 8 (fun p => ∑ k, y p k) (i 1).val : ℝ) : EReal) := by
  have hr : ∀ p, k1_pay22 v3 A s B g e W b (ix2 p 0) = ((∑ k, y p k : ℝ) : EReal) := fun p => by
    pointwise [k1_pay22]
    simp only [hv, ← coe_sum]
  pointwise [k1_pay2]
  refine congrArg (a i + ·) ?_
  rw [← gsum_mask, coe_sum]
  refine Finset.sum_congr rfl fun p _ => ?_
  rw [EReal.coe_mul]
  exact congrArg₂ (· * ·) (hM _ p) (hr p)

theorem gather_sq_coe (y : Fin 256 → Fin 2048 → ℝ) (M : FVec Ideal S32x256 .f32)
    (hM : ∀ (g : Fin 32) (p : Fin 256), M (ix2 g p) = (((if p.val / 8 = g.val then (1 : ℝ) else 0) : ℝ) : EReal))
    (v : FVec Ideal S256x2048 .f32) (hv : ∀ p k, v (ix2 p k) = ((y p k : ℝ) : EReal)) (a : Vec Ideal S1x32x1 .f32) (i) :
    k1_pay3 M v a i = a i + ((gsum 8 (fun p => ∑ k, y p k * y p k) (i 1).val : ℝ) : EReal) := by
  pointwise [k1_pay3]
  refine congrArg (a i + ·) ?_
  rw [← gsum_mask, coe_sum]
  refine Finset.sum_congr rfl fun p _ => ?_
  rw [EReal.coe_mul, coe_sum]
  refine congrArg₂ (· * ·) (hM _ p) (Finset.sum_congr rfl fun k _ => ?_)
  rw [EReal.coe_mul]
  exact congrArg₂ (· * ·) (hv p k) (hv p k)

theorem idx1 : ∀ t : Fin cfg1.N, win1_0.index t = ![t.val / 2, 0, t.val % 2] ∧ win1_1.index t = ![t.val / 2, 0, t.val % 2]
    ∧ win1_2.index t = ![t.val / 2, 0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![0, 0] ∧ win1_12.index t = ![0, 0]
    ∧ win1_13.index t = ![t.val / 2, 0, t.val % 2] ∧ win1_14.index t = ![t.val / 2, 0, t.val % 2] ∧ win1_15.index t = ![t.val / 2, 0, 0] :=
  (by decide +kernel : ∀ t : Fin grid1.N, _)

/-- A piece written last, read inside it. -/
theorem inside {Val : EltTy → Type} [∀ e, Nonempty (Val e)] {e : EltTy} (off size : Fin 3 → ℕ) (h : ∀ a, off a + size a ≤ S1x64x1.size a)
    (P : (Rect.unit (s := S1x64x1) off size h).shape.Idx → Val e) (L : List (View.Piece Val S1x64x1 e)) (y : S1x64x1.Idx)
    (i : (Rect.unit (s := S1x64x1) off size h).shape.Idx) (hi : ∀ a, (y a).val = off a + (i a).val) :
    View.canon (⟨Rect.unit off size h, P⟩ :: L) y = P i := by
  have e : (Rect.unit (s := S1x64x1) off size h).emb i = y := by
    funext a; apply Fin.ext
    exact (Rect.idx_unit_val off size h i a).trans (hi a).symm
  rw [← e]
  exact View.canon_cons_emb _ P L i

/-- A piece written last, read outside it. -/
theorem outside {Val : EltTy → Type} [∀ e, Nonempty (Val e)] {e : EltTy} (off size : Fin 3 → ℕ) (h : ∀ a, off a + size a ≤ S1x64x1.size a)
    (P : (Rect.unit (s := S1x64x1) off size h).shape.Idx → Val e) (L : List (View.Piece Val S1x64x1 e)) (y : S1x64x1.Idx)
    (a) (hi : (y a).val < off a ∨ off a + size a ≤ (y a).val) :
    View.canon (⟨Rect.unit off size h, P⟩ :: L) y = View.canon L y := by
  refine View.canon_cons_of_not_mem _ _ fun m => ?_
  have := (Rect.mem_set_unit (inb := h)).mp m a
  omega

/-- Two halves written one after the other, as one array. -/
theorem halves {Val : EltTy → Type} [∀ e, Nonempty (Val e)] {e : EltTy} (hP hQ) (P Q : S1x32x1.Idx → Val e) (L : List (View.Piece Val S1x64x1 e)) (y : S1x64x1.Idx)
    (X : Val e) (h1 : ∀ i : S1x32x1.Idx, (y 1).val = 32 + (i 1).val → P i = X) (h0 : ∀ i : S1x32x1.Idx, (y 1).val = (i 1).val → Q i = X) :
    View.canon (⟨Rect.unit ![0, 32, 0] ![1, 32, 1] hP, P⟩ :: ⟨Rect.unit ![0, 0, 0] ![1, 32, 1] hQ, Q⟩ :: L) y = X := by
  have hy : (y 1).val < 64 := (y 1).isLt
  have hy0 : (y 0).val < 1 := (y 0).isLt
  have hy2 : (y 2).val < 1 := (y 2).isLt
  by_cases h : 32 ≤ (y 1).val
  · refine (inside ![0, 32, 0] ![1, 32, 1] hP P _ y (ix3 (0 : Fin 1) (⟨(y 1).val - 32, by omega⟩ : Fin 32) (0 : Fin 1)) fun a => ?_).trans (h1 _ ?_)
    · fin_cases a
      · show (y 0).val = 0 + 0; omega
      · show (y 1).val = 32 + ((y 1).val - 32); omega
      · show (y 2).val = 0 + 0; omega
    · show (y 1).val = 32 + ((y 1).val - 32); omega
  · refine (outside ![0, 32, 0] ![1, 32, 1] hP P _ y 1 (Or.inl (by show (y 1).val < 32; omega))).trans ?_
    refine (inside ![0, 0, 0] ![1, 32, 1] hQ Q _ y (ix3 (0 : Fin 1) (⟨(y 1).val, by omega⟩ : Fin 32) (0 : Fin 1)) fun a => ?_).trans (h0 _ rfl)
    fin_cases a
    · show (y 0).val = 0 + 0; omega
    · show (y 1).val = 0 + (y 1).val; omega
    · show (y 2).val = 0 + 0; omega

theorem zeros (i) : k1_pay1 (F := Ideal) i = 0 := by
  pointwise [k1_pay1]

theorem whole_zero (hw) (y : S1x64x1.Idx) : View.canon (Val := Elt Ideal) (s := S1x64x1) (e := .f32) [⟨Rect.unit (s := S1x64x1) ![0, 0, 0] ![1, 64, 1] hw, k1_pay1 (F := Ideal)⟩] y = (0 : EReal) := by
  refine (inside (Val := Elt Ideal) (e := .f32) ![0, 0, 0] ![1, 64, 1] hw (k1_pay1 (F := Ideal)) [] y y fun a => ?_).trans (zeros y)
  fin_cases a <;> exact (Nat.zero_add _).symm

theorem zero_lo {κ sp} (v : View sig κ sp S1x64x1 .f32) (hw h) (i) :
    v.readCov (Val := Elt Ideal) [⟨Rect.unit (s := S1x64x1) ![0, 0, 0] ![1, 64, 1] hw, k1_pay1 (F := Ideal)⟩] (Rect.unit (s := S1x64x1) ![0, 0, 0] ![1, 32, 1] h).toLoadRect i = (0 : EReal) := by
  rw [View.readCov_eq_canon']
  exact whole_zero hw _

theorem zero_hi {κ sp} (v : View sig κ sp S1x64x1 .f32) (hw hq h) (Q) (i : S1x32x1.Idx) :
    v.readCov (Val := Elt Ideal) [⟨Rect.unit (s := S1x64x1) ![0, 0, 0] ![1, 32, 1] hq, Q⟩, ⟨Rect.unit (s := S1x64x1) ![0, 0, 0] ![1, 64, 1] hw, k1_pay1 (F := Ideal)⟩]
      (Rect.unit (s := S1x64x1) ![0, 32, 0] ![1, 32, 1] h).toLoadRect i = (0 : EReal) := by
  rw [View.readCov_eq_canon']
  refine (outside ![0, 0, 0] ![1, 32, 1] hq Q _ _ 1 (Or.inr ?_)).trans (whole_zero hw _)
  show 0 + 32 ≤ 32 + 1 * (i 1).val
  omega

/-- The batch element and the columns of a block. -/
def batch (t : Fin cfg1.N) : Fin 8 := ⟨t.val / 2, by have : t.val < 16 := t.isLt; omega⟩
def col (t : Fin cfg1.N) (k : Fin 2048) : Fin 4096 := ⟨t.val % 2 * 2048 + k.val, by have := k.isLt; omega⟩

/-- The two blocks of a batch element have all its columns. -/
theorem sum_cols (a b : Fin cfg1.N) (ha : a.val % 2 = 0) (hb : b.val % 2 = 1) (F : Fin 4096 → ℝ) : ∑ k, F k = ∑ k, F (col a k) + ∑ k, F (col b k) := by
  refine (Fin.sum_univ_add (a := 2048) (b := 2048) F).trans (congrArg₂ (· + ·) (Finset.sum_congr rfl fun k _ => congrArg F (Fin.ext ?_))
    (Finset.sum_congr rfl fun k _ => congrArg F (Fin.ext ?_)))
  · show k.val = a.val % 2 * 2048 + k.val; omega
  · show 2048 + k.val = b.val % 2 * 2048 + k.val; omega

/-- What the second call's arguments hold. -/
structure Holds (V : (c : Dev nD) → (b : Ref sig .tc) → Buf (Elt Ideal) ((c : Thread nD τ).loc b)) (c : Dev nD)
    (x f : Fin 8 → Fin 256 → Fin 4096 → ℝ) (w1 : Fin 256 → Fin 256 → ℝ) (b1 g1 e1 : Fin 256 → ℝ) (w2 : Fin 512 → Fin 256 → ℝ) (b2 g2 e2 : Fin 512 → ℝ)
    (w3 : Fin 256 → Fin 1024 → ℝ) (b3 : Fin 256 → ℝ) : Prop where
  hx : ∀ n p t, V c main_arg0 (ix3 n p t) = ((x n p t : ℝ) : EReal)
  hf : ∀ n p t, V c main_arg1 (ix3 n p t) = ((f n p t : ℝ) : EReal)
  hs : ∀ n r, V c main_v3 (ix3 n r 0) = ((stat (conv w1 b1 (x n)) (conv w2 b2 (x n)) r.val : ℝ) : EReal)
  hw1 : ∀ p q, V c main_arg2 (ix2 p q) = ((w1 p q : ℝ) : EReal)
  hb1 : ∀ p, V c main_v0 (ix2 p 0) = ((b1 p : ℝ) : EReal)
  hg1 : ∀ p, V c main_v4 (ix2 p 0) = ((g1 p : ℝ) : EReal)
  he1 : ∀ p, V c main_v5 (ix2 p 0) = ((e1 p : ℝ) : EReal)
  hw2 : ∀ p q, V c main_arg6 (ix2 p q) = ((w2 p q : ℝ) : EReal)
  hb2 : ∀ p, V c main_v1 (ix2 p 0) = ((b2 p : ℝ) : EReal)
  hg2 : ∀ p, V c main_v6 (ix2 p 0) = ((g2 p : ℝ) : EReal)
  he2 : ∀ p, V c main_v7 (ix2 p 0) = ((e2 p : ℝ) : EReal)
  hw3 : ∀ p q, V c main_arg10 (ix2 p q) = ((w3 p q : ℝ) : EReal)
  hb3 : ∀ p, V c main_v2 (ix2 p 0) = ((b3 p : ℝ) : EReal)

section
variable {V : (c : Dev nD) → (b : Ref sig .tc) → Buf (Elt Ideal) ((c : Thread nD τ).loc b)} {c : Dev nD}
  {x f : Fin 8 → Fin 256 → Fin 4096 → ℝ} {w1 : Fin 256 → Fin 256 → ℝ} {b1 g1 e1 : Fin 256 → ℝ} {w2 : Fin 512 → Fin 256 → ℝ} {b2 g2 e2 : Fin 512 → ℝ}
  {w3 : Fin 256 → Fin 1024 → ℝ} {b3 : Fin 256 → ℝ} (H : Holds V c x f w1 b1 g1 e1 w2 b2 g2 e2 w3 b3)

include H
theorem blk0 (t : Fin cfg1.N) (p k) : iblk1 V c 0 t (ix3 0 p k) = ((x (batch t) p (col t k) : ℝ) : EReal) := by
  refine Eq.trans ?_ (H.hx (batch t) p (col t k)); blk_ext [iblk1, idx1 t, batch, col]
theorem blk1 (t : Fin cfg1.N) (p k) : iblk1 V c 1 t (ix3 0 p k) = ((f (batch t) p (col t k) : ℝ) : EReal) := by
  refine Eq.trans ?_ (H.hf (batch t) p (col t k)); blk_ext [iblk1, idx1 t, batch, col]
theorem blk2 (t : Fin cfg1.N) (r) : iblk1 V c 2 t (ix3 0 r 0) = ((stat (conv w1 b1 (x (batch t))) (conv w2 b2 (x (batch t))) r.val : ℝ) : EReal) := by
  refine Eq.trans ?_ (H.hs (batch t) r); blk_ext [iblk1, idx1 t, batch]
theorem blk3 (t : Fin cfg1.N) (p k) : iblk1 V c 3 t (ix2 p k) = ((w1 p k : ℝ) : EReal) := by
  refine Eq.trans ?_ (H.hw1 p k); blk_ext [iblk1, idx1 t]
theorem blk4 (t : Fin cfg1.N) (p) : iblk1 V c 4 t (ix2 p 0) = ((b1 p : ℝ) : EReal) := by
  refine Eq.trans ?_ (H.hb1 p); blk_ext [iblk1, idx1 t]
theorem blk5 (t : Fin cfg1.N) (p) : iblk1 V c 5 t (ix2 p 0) = ((g1 p : ℝ) : EReal) := by
  refine Eq.trans ?_ (H.hg1 p); blk_ext [iblk1, idx1 t]
theorem blk6 (t : Fin cfg1.N) (p) : iblk1 V c 6 t (ix2 p 0) = ((e1 p : ℝ) : EReal) := by
  refine Eq.trans ?_ (H.he1 p); blk_ext [iblk1, idx1 t]
theorem blk7 (t : Fin cfg1.N) (p k) : iblk1 V c 7 t (ix2 p k) = ((w2 p k : ℝ) : EReal) := by
  refine Eq.trans ?_ (H.hw2 p k); blk_ext [iblk1, idx1 t]
theorem blk8 (t : Fin cfg1.N) (p) : iblk1 V c 8 t (ix2 p 0) = ((b2 p : ℝ) : EReal) := by
  refine Eq.trans ?_ (H.hb2 p); blk_ext [iblk1, idx1 t]
theorem blk9 (t : Fin cfg1.N) (p) : iblk1 V c 9 t (ix2 p 0) = ((g2 p : ℝ) : EReal) := by
  refine Eq.trans ?_ (H.hg2 p); blk_ext [iblk1, idx1 t]
theorem blk10 (t : Fin cfg1.N) (p) : iblk1 V c 10 t (ix2 p 0) = ((e2 p : ℝ) : EReal) := by
  refine Eq.trans ?_ (H.he2 p); blk_ext [iblk1, idx1 t]
theorem blk11 (t : Fin cfg1.N) (p k) : iblk1 V c 11 t (ix2 p k) = ((w3 p k : ℝ) : EReal) := by
  refine Eq.trans ?_ (H.hw3 p k); blk_ext [iblk1, idx1 t]
theorem blk12 (t : Fin cfg1.N) (p) : iblk1 V c 12 t (ix2 p 0) = ((b3 p : ℝ) : EReal) := by
  refine Eq.trans ?_ (H.hb3 p); blk_ext [iblk1, idx1 t]

theorem second (t : Fin cfg1.N) (p k) :
    k1_pay18 (k1_pay16 (k1_pay6 (iblk1 V c 2 t)) (k1_pay10 (iota .tc S512x32 32 [1] iota_S512x32_d1_w32) (iota .tc S512x32 32 [0] iota_S512x32_d0_w32) 16#32 k1_pay8 k1_pay9))
      (k1_pay17 (k1_pay4 (iblk1 V c 0 t)) (k1_pay6 (iblk1 V c 2 t))
        (k1_pay10 (iota .tc S512x32 32 [1] iota_S512x32_d1_w32) (iota .tc S512x32 32 [0] iota_S512x32_d0_w32) 16#32 k1_pay8 k1_pay9) (iblk1 V c 7 t) (iblk1 V c 8 t))
      (iblk1 V c 9 t) (iblk1 V c 10 t) (ix2 p k)
      = ((act 16 65536 (conv w2 b2 (x (batch t))) g2 e2 p (col t k) : ℝ) : EReal) :=
  act2_coe (x (batch t)) (col t) _ (blk0 H t) _ _ _ (blk2 H t) w2 b2 g2 e2 rfl _ _ _ _ (blk7 H t) (blk8 H t) (blk9 H t) (blk10 H t) _ cmask16 p k

theorem first (t : Fin cfg1.N) (p k) :
    k1_pay15 (k1_pay4 (iblk1 V c 0 t)) (k1_pay6 (iblk1 V c 2 t)) k1_pay7 (iblk1 V c 3 t) (iblk1 V c 4 t) (iblk1 V c 5 t) (iblk1 V c 6 t) (ix2 p k)
      = ((act 8 32768 (conv w1 b1 (x (batch t))) g1 e1 p (col t k) : ℝ) : EReal) :=
  act1_coe (x (batch t)) (col t) _ (blk0 H t) _ _ _ (blk2 H t) w1 b1 g1 e1 rfl _ _ _ _ (blk3 H t) (blk4 H t) (blk5 H t) (blk6 H t) p k
end

/-- The three stacked, convolved. -/
def third (x f : Fin 8 → Fin 256 → Fin 4096 → ℝ) (w1 : Fin 256 → Fin 256 → ℝ) (b1 g1 e1 : Fin 256 → ℝ) (w2 : Fin 512 → Fin 256 → ℝ) (b2 g2 e2 : Fin 512 → ℝ)
    (w3 : Fin 256 → Fin 1024 → ℝ) (b3 : Fin 256 → ℝ) (n : Fin 8) : Fin 256 → Fin 4096 → ℝ :=
  conv w3 b3 (stack (f n) (act 16 65536 (conv w2 b2 (x n)) g2 e2) (act 8 32768 (conv w1 b1 (x n)) g1 e1))

section
variable {V : (c : Dev nD) → (b : Ref sig .tc) → Buf (Elt Ideal) ((c : Thread nD τ).loc b)} {c : Dev nD}
  {x f : Fin 8 → Fin 256 → Fin 4096 → ℝ} {w1 : Fin 256 → Fin 256 → ℝ} {b1 g1 e1 : Fin 256 → ℝ} {w2 : Fin 512 → Fin 256 → ℝ} {b2 g2 e2 : Fin 512 → ℝ}
  {w3 : Fin 256 → Fin 1024 → ℝ} {b3 : Fin 256 → ℝ} (H : Holds V c x f w1 b1 g1 e1 w2 b2 g2 e2 w3 b3)
include H
theorem thirds (t : Fin cfg1.N) (p k) :
    k1_pay20 (k1_pay5 (iblk1 V c 1 t))
      (k1_pay15 (k1_pay4 (iblk1 V c 0 t)) (k1_pay6 (iblk1 V c 2 t)) k1_pay7 (iblk1 V c 3 t) (iblk1 V c 4 t) (iblk1 V c 5 t) (iblk1 V c 6 t))
      (k1_pay16 (k1_pay6 (iblk1 V c 2 t)) (k1_pay10 (iota .tc S512x32 32 [1] iota_S512x32_d1_w32) (iota .tc S512x32 32 [0] iota_S512x32_d0_w32) 16#32 k1_pay8 k1_pay9))
      (k1_pay17 (k1_pay4 (iblk1 V c 0 t)) (k1_pay6 (iblk1 V c 2 t))
        (k1_pay10 (iota .tc S512x32 32 [1] iota_S512x32_d1_w32) (iota .tc S512x32 32 [0] iota_S512x32_d0_w32) 16#32 k1_pay8 k1_pay9) (iblk1 V c 7 t) (iblk1 V c 8 t))
      (iblk1 V c 9 t) (iblk1 V c 10 t) (iblk1 V c 11 t) (iblk1 V c 12 t) (ix2 p k)
      = ((third x f w1 b1 g1 e1 w2 b2 g2 e2 w3 b3 (batch t) p (col t k) : ℝ) : EReal) :=
  third_coe (f (batch t)) _ _ (col t) w3 b3 _ _ _ _ _ _ _ _ (blk1 H t) (first H t) (second H t) (blk11 H t) (blk12 H t) p k

theorem final13 : (dat1 V c).arrAt 13 cfg1.N = fun i => ((act 16 65536 (conv w2 b2 (x (i 0))) g2 e2 (i 1) (i 2) : ℝ) : EReal) := by
  refine (dat1 V c).arrAt_eq_of_covers 13 _ (by decide +kernel) fun t _ y => ?_
  blk_simp [idx1 t]
  rw [after1_13]
  refine Eq.trans ?_ ((second H t (y 1) (y 2)).trans (congrArg _ ?_))
  · by_cases h0 : t.val % 2 = 0
    · rw [outsAt1_A V c t h0]; frame_out
      pointwise [k1_pay19]
      blk_ext
    · rw [outsAt1_B V c t h0]; frame_out
      pointwise [k1_pay19]
      blk_ext
  · have e0 : (win1_13.blk t).view.emb y 0 = batch t := Fin.ext (by blk_simp [idx1 t, batch])
    have e1 : (win1_13.blk t).view.emb y 1 = y 1 := Fin.ext (by blk_simp [idx1 t])
    have e2 : (win1_13.blk t).view.emb y 2 = col t (y 2) := Fin.ext (by blk_simp [idx1 t, col])
    rw [e0, e1, e2]

theorem final14 : (dat1 V c).arrAt 14 cfg1.N = fun i => ((third x f w1 b1 g1 e1 w2 b2 g2 e2 w3 b3 (i 0) (i 1) (i 2) : ℝ) : EReal) := by
  refine (dat1 V c).arrAt_eq_of_covers 14 _ (by decide +kernel) fun t _ y => ?_
  blk_simp [idx1 t]
  rw [after1_14]
  refine Eq.trans ?_ ((thirds H t (y 1) (y 2)).trans (congrArg _ ?_))
  · by_cases h0 : t.val % 2 = 0
    · rw [outsAt1_A V c t h0]; frame_out
      pointwise [k1_pay21]
      blk_ext
    · rw [outsAt1_B V c t h0]; frame_out
      pointwise [k1_pay21]
      blk_ext
  · have e0 : (win1_14.blk t).view.emb y 0 = batch t := Fin.ext (by blk_simp [idx1 t, batch])
    have e1 : (win1_14.blk t).view.emb y 1 = y 1 := Fin.ext (by blk_simp [idx1 t])
    have e2 : (win1_14.blk t).view.emb y 2 = col t (y 2) := Fin.ext (by blk_simp [idx1 t, col])
    rw [e0, e1, e2]

/-- What a block adds to the groups' sums, squares below. -/
def part (y : Fin 256 → Fin 2048 → ℝ) (r : ℕ) : ℝ :=
  if r < 32 then gsum 8 (fun p => ∑ k, y p k) r else gsum 8 (fun p => ∑ k, y p k * y p k) (r - 32)

theorem even (t : Fin cfg1.N) (h0 : t.val % 2 = 0) (y) :
    (outsAt1 V c t.val t.isLt).2.2 y = ((part (fun p k => third x f w1 b1 g1 e1 w2 b2 g2 e2 w3 b3 (batch t) p (col t k)) (y 1).val : ℝ) : EReal) := by
  rw [outsAt1_A V c t h0]; frame_out
  refine halves _ _ _ _ _ y _ (fun i hi => ?_) (fun i hi => ?_)
  · refine (gather_sq_coe _ _ rmask8 _ (thirds H t) _ i).trans ?_
    rw [zero_hi, zero_add]; unfold part; rw [if_neg (by omega), hi, Nat.add_sub_cancel_left]
  · refine (gather_coe _ _ rmask8 _ _ _ _ _ _ _ _ (thirds H t) _ i).trans ?_
    have : (i 1).val < 32 := (i 1).isLt
    rw [zero_lo, zero_add]; unfold part; rw [if_pos (by rw [hi]; exact this), hi]

theorem odd (t : Fin cfg1.N) (h0 : ¬ t.val % 2 = 0) (y) :
    (outsAt1 V c t.val t.isLt).2.2 y = (outsAt1 V c (t.val - 1) (by have := t.isLt; omega)).2.2 y
      + ((part (fun p k => third x f w1 b1 g1 e1 w2 b2 g2 e2 w3 b3 (batch t) p (col t k)) (y 1).val : ℝ) : EReal) := by
  rw [outsAt1_B V c t h0]; frame_out
  have hy0 : (y 0).val < 1 := (y 0).isLt
  have hy2 : (y 2).val < 1 := (y 2).isLt
  refine halves _ _ _ _ _ y _ (fun i hi => ?_) (fun i hi => ?_)
  · refine (gather_sq_coe _ _ rmask8 _ (thirds H t) _ i).trans (congrArg₂ (· + ·) ?_ ?_)
    · refine View.ld_unit_apply_of _ _ _ _ i y fun a => ?_
      fin_cases a
      · have h : (i 0).val < 1 := (i 0).isLt; show (y 0).val = 0 + (i 0).val; omega
      · exact hi
      · have h : (i 2).val < 1 := (i 2).isLt; show (y 2).val = 0 + (i 2).val; omega
    · unfold part; rw [if_neg (by omega), hi, Nat.add_sub_cancel_left]
  · refine (gather_coe _ _ rmask8 _ _ _ _ _ _ _ _ (thirds H t) _ i).trans (congrArg₂ (· + ·) ?_ ?_)
    · refine View.ld_unit_apply_of _ _ _ _ i y fun a => ?_
      fin_cases a
      · have h : (i 0).val < 1 := (i 0).isLt; show (y 0).val = 0 + (i 0).val; omega
      · show (y 1).val = 0 + (i 1).val; omega
      · have h : (i 2).val < 1 := (i 2).isLt; show (y 2).val = 0 + (i 2).val; omega
    · have : (i 1).val < 32 := (i 1).isLt
      unfold part; rw [if_pos (by rw [hi]; exact this), hi]

theorem final15 : (dat1 V c).arrAt 15 cfg1.N = fun i =>
    (((if (i 1).val < 32 then gsum 8 (fun p => ∑ t, third x f w1 b1 g1 e1 w2 b2 g2 e2 w3 b3 (i 0) p t) (i 1).val
      else gsum 8 (fun p => ∑ t, third x f w1 b1 g1 e1 w2 b2 g2 e2 w3 b3 (i 0) p t * third x f w1 b1 g1 e1 w2 b2 g2 e2 w3 b3 (i 0) p t) ((i 1).val - 32)) : ℝ) : EReal) := by
  refine (dat1 V c).arrAt_eq_of_covers 15 _ (by decide +kernel) fun t ht y => ?_
  have h1 : t.val % 2 = 1 := (flush1_15 t).mp ht
  blk_simp [idx1 t]
  have e0 : (win1_15.blk t).view.emb y 0 = batch t := Fin.ext (by blk_simp [idx1 t, batch])
  rw [e0]
  have ht' : t.val - 1 < cfg1.N := lt_of_le_of_lt (Nat.sub_le _ _) t.isLt
  have hb : batch ⟨t.val - 1, ht'⟩ = batch t := Fin.ext (by show (t.val - 1) / 2 = t.val / 2; omega)
  rw [after1_15, odd H t (by omega), even H ⟨t.val - 1, ht'⟩ (by show (t.val - 1) % 2 = 0; omega), hb, ← EReal.coe_add]
  refine congrArg _ ?_
  have hs := fun F => (sum_cols ⟨t.val - 1, ht'⟩ t (by show (t.val - 1) % 2 = 0; omega) h1 F).symm
  unfold part
  split
  · rw [← gsum_add]; refine congrArg (gsum 8 · _) (funext fun p => ?_); exact hs fun k => third x f w1 b1 g1 e1 w2 b2 g2 e2 w3 b3 (batch t) p k
  · rw [← gsum_add]; refine congrArg (gsum 8 · _) (funext fun p => ?_)
    exact hs fun k => third x f w1 b1 g1 e1 w2 b2 g2 e2 w3 b3 (batch t) p k * third x f w1 b1 g1 e1 w2 b2 g2 e2 w3 b3 (batch t) p k
end
end Cert.DenseIdeal.Block

end
-- ==== Proof.DenseNorm.lean ====
module

public import proofs.«01_k».proof.Proof.DenseBlock

@[expose] public section

set_option maxRecDepth 16384
noncomputable section
open Idealize.ShloMosaic Idealize.ShloMosaic.TcCoe Idealize.SL.Sem
open Idealize.ShloMosaic.Pipeline (Dat)
namespace Cert.DenseIdeal.Norm
open Cert.DenseIdeal Cert.DenseIdeal.Gen Cert.GroupNorm Cert.DenseIdeal.Stats

/-! The third call: each block normed by its groups' sums of values and of squares, scaled, shifted and cut at zero. -/

theorem idx2 : ∀ t : Fin cfg2.N, win2_0.index t = ![t.val / 2, 0, t.val % 2] ∧ win2_1.index t = ![t.val / 2, 0, 0]
    ∧ win2_2.index t = ![0, 0] ∧ win2_3.index t = ![0, 0] ∧ win2_4.index t = ![t.val / 2, 0, t.val % 2] :=
  (by decide +kernel : ∀ t : Fin grid2.N, _)

section
variable (y : Fin 256 → Fin 4096 → ℝ) (τ : Fin 2048 → Fin 4096) (Y : Vec Ideal S1x256x2048 .bf16) (S : Vec Ideal S1x64x1 .f32)
  (hY : ∀ p k, Y (ix3 0 p k) = ((y p (τ k) : ℝ) : EReal))
  (hS : ∀ r : Fin 64, S (ix3 0 r 0) = (((if r.val < 32 then gsum 8 (fun p => ∑ t, y p t) r.val else gsum 8 (fun p => ∑ t, y p t * y p t) (r.val - 32)) : ℝ) : EReal))

include hS in
theorem mean_coe (g : Fin 32) : k2_pay4 S (ix2 g 0) = ((mean 8 32768 y g.val : ℝ) : EReal) := by
  pointwise [k2_pay4, k2_pay3]
  rw [c32768]
  refine (congrArg (Ideal.div · _) ((hS _).trans (congrArg _ (if_pos g.isLt)))).trans ?_
  rw [div_coe _ _ (by norm_num : (32768 : ℝ) ≠ 0)]
  rfl

include hS in
theorem dev_coe (g : Fin 32) : k2_pay5 S (ix2 g 0) = (((Real.sqrt (var 8 32768 y g.val + eps))⁻¹ : ℝ) : EReal) := by
  have hp := var_nonneg 8 32768 (by norm_num) y g.val
  have hq : S (ix3 0 ⟨32 + g.val, by omega⟩ 0) = ((gsum 8 (fun p => ∑ t, y p t * y p t) g.val : ℝ) : EReal) :=
    (hS _).trans (congrArg _ ((if_neg (by show ¬ 32 + g.val < 32; omega)).trans (by rw [Nat.add_sub_cancel_left])))
  pointwise [k2_pay5, k2_pay3]
  rw [c32768, ceps, hq, mean_coe y S hS, ← EReal.coe_mul, div_coe _ _ (by norm_num : (32768 : ℝ) ≠ 0), ← EReal.coe_sub,
    var_eq 8 rfl 32768 (by norm_num) (by norm_num), ← EReal.coe_add, rsqrt_coe _ (by have := eps_pos; linarith)]

theorem nrm_of {P : ℕ} (k : ℕ) (n : ℝ) (y : Fin P → Fin 4096 → ℝ) (p : Fin P) (t : Fin 4096) :
    (((y p t : ℝ) : EReal) - ((mean k n y (p.val / k) : ℝ) : EReal)) * (((Real.sqrt (var k n y (p.val / k) + eps))⁻¹ : ℝ) : EReal) = ((nrm k n y p t : ℝ) : EReal) := by
  unfold nrm
  rw [div_eq_mul_inv]
  push_cast
  rfl

include hY hS in
theorem norm_coe (G B : Vec Ideal S256x1 .f32) (p : Fin 256) (k : Fin 2048) :
    k2_pay1 (k2_pay2 Y) (k2_pay4 S) (k2_pay5 S) (iota .tc S256x32 32 [1] iota_S256x32_d1_w32) k2_pay6 G B (ix3 0 p k)
      = max (((nrm 8 32768 y p (τ k) : ℝ) : EReal) * G (ix2 p 0) + B (ix2 p 0)) 0 := by
  have hp : p.val / 8 < 32 := by have := p.isLt; omega
  pointwise [k2_pay1, k2_pay2, k2_pay6]
  refine congrArg (max · _) (congrArg (· + _) (congrArg (· * _) (Eq.trans ?_ (nrm_of 8 32768 y p (τ k)))))
  refine congrArg₂ (· * ·) (congrArg₂ (· - ·) (hY p k) ?_) ?_
  · exact Cert.DenseIdeal.Block.spread 8 p hp _ _ (fun g => mean 8 32768 y g) (fun g => hit8 p g) (mean_coe y S hS)
  · exact Cert.DenseIdeal.Block.spread 8 p hp _ _ (fun g => (Real.sqrt (var 8 32768 y g + eps))⁻¹) (fun g => hit8 p g) (dev_coe y S hS)
end

def batch (t : Fin cfg2.N) : Fin 8 := ⟨t.val / 2, by have : t.val < 16 := t.isLt; omega⟩
def col (t : Fin cfg2.N) (k : Fin 2048) : Fin 4096 := ⟨t.val % 2 * 2048 + k.val, by have := k.isLt; omega⟩

section
variable (V : (c : Dev nD) → (b : Ref sig .tc) → Buf (Elt Ideal) ((c : Thread nD τ).loc b)) (c : Dev nD)
  (y : Fin 8 → Fin 256 → Fin 4096 → ℝ)
  (hy : ∀ n p t, V c main_v8_1 (ix3 n p t) = ((y n p t : ℝ) : EReal))
  (hs : ∀ n r, V c main_v8_2 (ix3 n r 0) = (((if r.val < 32 then gsum 8 (fun p => ∑ t, y n p t) r.val else gsum 8 (fun p => ∑ t, y n p t * y n p t) (r.val - 32)) : ℝ) : EReal))

include hy in
theorem blk0 (t : Fin cfg2.N) (p k) : iblk2 V c 0 t (ix3 0 p k) = ((y (batch t) p (col t k) : ℝ) : EReal) := by
  refine Eq.trans ?_ (hy (batch t) p (col t k)); blk_ext [iblk2, idx2 t, batch, col]
include hs in
theorem blk1 (t : Fin cfg2.N) (r) : iblk2 V c 1 t (ix3 0 r 0) = (((if r.val < 32 then gsum 8 (fun p => ∑ s, y (batch t) p s) r.val else gsum 8 (fun p => ∑ s, y (batch t) p s * y (batch t) p s) (r.val - 32)) : ℝ) : EReal) := by
  refine Eq.trans ?_ (hs (batch t) r); blk_ext [iblk2, idx2 t, batch]
theorem blk2 (t : Fin cfg2.N) (p) : iblk2 V c 2 t (ix2 p 0) = V c main_v9 (ix2 p 0) := by
  blk_ext [iblk2, idx2 t]
theorem blk3 (t : Fin cfg2.N) (p) : iblk2 V c 3 t (ix2 p 0) = V c main_v10 (ix2 p 0) := by
  blk_ext [iblk2, idx2 t]

include hy hs in
theorem final4 : (dat2 V c).arrAt 4 cfg2.N = fun i =>
    max (((nrm 8 32768 (y (i 0)) (i 1) (i 2) : ℝ) : EReal) * V c main_v9 (ix2 (i 1) 0) + V c main_v10 (ix2 (i 1) 0)) (0 : EReal) := by
  refine (dat2 V c).arrAt_eq_of_covers 4 _ (by decide +kernel) fun t _ z => ?_
  blk_simp [idx2 t]
  have e0 : (win2_4.blk t).view.emb z 0 = batch t := Fin.ext (by blk_simp [idx2 t, batch])
  have e1 : (win2_4.blk t).view.emb z 1 = z 1 := Fin.ext (by blk_simp [idx2 t])
  have e2 : (win2_4.blk t).view.emb z 2 = col t (z 2) := Fin.ext (by blk_simp [idx2 t, col])
  rw [e0, e1, e2]
  refine Eq.trans ?_ ((norm_coe (y (batch t)) (col t) _ _ (blk0 V c y hy t) (blk1 V c y hs t) (iblk2 V c 2 t) (iblk2 V c 3 t) (z 1) (z 2)).trans
    (congrArg (max · (0 : EReal)) (congrArg₂ (fun a b : EReal => ((nrm 8 32768 (y (batch t)) (z 1) (col t (z 2)) : ℝ) : EReal) * a + b) (blk2 V c t (z 1)) (blk3 V c t (z 1)))))
  rw [after2_4]; unfold out2_4; frame_out
  blk_ext
end

end Cert.DenseIdeal.Norm
-- ==== Proof.DenseRef.lean ====
module

public import proofs.«01_k».proof.Proof.Gen.DenseReferenceIdeal.Run
public import proofs.«01_k».proof.Proof.DenseReal
public import Idealize.ShloMosaic.Lib.Pipeline.ValueKit

@[expose] public section

set_option maxRecDepth 16384
noncomputable section
open Idealize.ShloMosaic Idealize.ShloMosaic.TcCoe Idealize.SL.Sem
namespace Cert.DenseReferenceIdeal.Plain
open Cert.DenseReferenceIdeal Cert.DenseReferenceIdeal.Gen Cert.DenseReferenceIdeal.Value Cert.GroupNorm
variable (m : (ℓ : Loc nD τ sig) → Buf (Elt Ideal) ℓ)

/-- A 1×1 convolution to 512 channels: the weights against the channels, and the bias. -/
abbrev conv512 (X : FVec Ideal S8x256x4096 .f32) (W : FVec Ideal S512x256 .f32) (b : FVec Ideal S512 .f32) : FVec Ideal S8x512x4096 .f32 :=
  addf (transpose S8x512x4096 [0, 2, 1] (Host.dotGeneral dot_S8x256x4096_S512x256_S8x4096x512_1_1_02_0_n_n none X W) transposes_S8x4096x512_S8x512x4096_0_2_1) (broadcastInDim S8x512x4096 ![0, 1, 2] bcast_S1x512x1_S8x512x4096_0_1_2 (broadcastInDim S1x512x1 ![1] bcast_S512_S1x512x1_1 b))

/-- A 1×1 convolution of 256 channels to 256. -/
abbrev conv256 (X : FVec Ideal S8x256x4096 .f32) (W : FVec Ideal S256x256 .f32) (b : FVec Ideal S256 .f32) : FVec Ideal S8x256x4096 .f32 :=
  addf (transpose S8x256x4096 [0, 2, 1] (Host.dotGeneral dot_S8x256x4096_S256x256_S8x4096x256_1_1_02_0_n_n none X W) transposes_S8x4096x256_S8x256x4096_0_2_1) (broadcastInDim S8x256x4096 ![0, 1, 2] bcast_S1x256x1_S8x256x4096_0_1_2 (broadcastInDim S1x256x1 ![1] bcast_S256_S1x256x1_1 b))

/-- The 1×1 convolution of the three stacked pieces to 256 channels. -/
abbrev conv1024 (X : FVec Ideal S8x256x4096 .f32) (Y : FVec Ideal S8x512x4096 .f32) (Z : FVec Ideal S8x256x4096 .f32) (W : FVec Ideal S256x1024 .f32) (b : FVec Ideal S256 .f32) : FVec Ideal S8x256x4096 .f32 :=
  addf (transpose S8x256x4096 [0, 2, 1] (Host.dotGeneral (φ₁ := .f32) dot_S8x1024x4096_S256x1024_S8x4096x256_1_1_02_0_n_n none (concatenate S8x1024x4096 1 [⟨S8x256x4096, (X : (⟨S8x256x4096, .f32⟩ : BufTy).Contents (Elt Ideal))⟩, ⟨S8x512x4096, (Y : (⟨S8x512x4096, .f32⟩ : BufTy).Contents (Elt Ideal))⟩, ⟨S8x256x4096, (Z : (⟨S8x256x4096, .f32⟩ : BufTy).Contents (Elt Ideal))⟩] concatenates_S8x256x4096_S8x512x4096_S8x256x4096_S8x1024x4096_d1) W) transposes_S8x4096x256_S8x256x4096_0_2_1) (broadcastInDim S8x256x4096 ![0, 1, 2] bcast_S1x256x1_S8x256x4096_0_1_2 (broadcastInDim S1x256x1 ![1] bcast_S256_S1x256x1_1 b))

/-- The mean of each group of 16 channels. -/
abbrev mean512 (Y : FVec Ideal S8x512x4096 .f32) : FVec Ideal S8x32x1x1 .f32 :=
  Host.divf (broadcastInDim S8x32x1x1 ![0, 1] bcast_S8x32_S8x32x1x1_0_1 (Host.reduceAdd (shapeCast _ Y shapeCasts_S8x512x4096_S8x32x16x4096) (constant S_ .f32 0x00000000#32) reducesTo_S8x32x16x4096_S8x32_d2_3 h_S_)) (broadcastInDim S8x32x1x1 ![] bcast_S_S8x32x1x1 (constant S_ .f32 0x47800000#32))

/-- How far each value lies from its group's mean. -/
abbrev dev512 (Y : FVec Ideal S8x512x4096 .f32) : FVec Ideal S8x32x16x4096 .f32 :=
  subf (shapeCast _ Y shapeCasts_S8x512x4096_S8x32x16x4096) (broadcastInDim S8x32x16x4096 ![0, 1, 2, 3] bcast_S8x32x1x1_S8x32x16x4096_0_1_2_3 (mean512 Y))

/-- The variance of each group of 16 channels. -/
abbrev var512 (Y : FVec Ideal S8x512x4096 .f32) : FVec Ideal S8x32x1x1 .f32 :=
  select (broadcastInDim S8x32x1x1 ![] bcast_S_S8x32x1x1 (cmpf .ogt (subf (constant S_ .f32 0x47800000#32) (sitofp (F := Ideal) .f32 (constantI S_ 32 0#32))) (constant S_ .f32 0x00000000#32))) (Host.divf (broadcastInDim S8x32x1x1 ![0, 1] bcast_S8x32_S8x32x1x1_0_1 (Host.reduceAdd (mulf (dev512 Y) (dev512 Y)) (constant S_ .f32 0x00000000#32) reducesTo_S8x32x16x4096_S8x32_d2_3 h_S_)) (broadcastInDim S8x32x1x1 ![] bcast_S_S8x32x1x1 (subf (constant S_ .f32 0x47800000#32) (sitofp (F := Ideal) .f32 (constantI S_ 32 0#32))))) (broadcastInDim S8x32x1x1 ![] bcast_S_S8x32x1x1 (id (constant S_ .f32 0x7FC00000#32)))

/-- The group norm of 512 channels in 32 groups of 16, its scale and shift, then the part above zero. -/
abbrev norm512 (Y : FVec Ideal S8x512x4096 .f32) (G B : FVec Ideal S512 .f32) : FVec Ideal S8x512x4096 .f32 :=
  maximumf (addf (mulf (shapeCast _ (Host.divf (dev512 Y) (broadcastInDim S8x32x16x4096 ![0, 1, 2, 3] bcast_S8x32x1x1_S8x32x16x4096_0_1_2_3 (Host.sqrt (addf (var512 Y) (broadcastInDim S8x32x1x1 ![] bcast_S_S8x32x1x1 (constant S_ .f32 0x3727C5AC#32)))))) shapeCasts_S8x32x16x4096_S8x512x4096) (broadcastInDim S8x512x4096 ![0, 1, 2] bcast_S1x512x1_S8x512x4096_0_1_2 (broadcastInDim S1x512x1 ![1] bcast_S512_S1x512x1_1 G))) (broadcastInDim S8x512x4096 ![0, 1, 2] bcast_S1x512x1_S8x512x4096_0_1_2 (broadcastInDim S1x512x1 ![1] bcast_S512_S1x512x1_1 B))) (broadcastInDim S8x512x4096 ![] bcast_S_S8x512x4096 (constant S_ .f32 0x00000000#32))

/-- The mean of each group of 8 channels. -/
abbrev mean256 (Y : FVec Ideal S8x256x4096 .f32) : FVec Ideal S8x32x1x1 .f32 :=
  Host.divf (broadcastInDim S8x32x1x1 ![0, 1] bcast_S8x32_S8x32x1x1_0_1 (Host.reduceAdd (shapeCast _ Y shapeCasts_S8x256x4096_S8x32x8x4096) (constant S_ .f32 0x00000000#32) reducesTo_S8x32x8x4096_S8x32_d2_3 h_S_)) (broadcastInDim S8x32x1x1 ![] bcast_S_S8x32x1x1 (constant S_ .f32 0x47000000#32))

/-- How far each value lies from its group's mean. -/
abbrev dev256 (Y : FVec Ideal S8x256x4096 .f32) : FVec Ideal S8x32x8x4096 .f32 :=
  subf (shapeCast _ Y shapeCasts_S8x256x4096_S8x32x8x4096) (broadcastInDim S8x32x8x4096 ![0, 1, 2, 3] bcast_S8x32x1x1_S8x32x8x4096_0_1_2_3 (mean256 Y))

/-- The variance of each group of 8 channels. -/
abbrev var256 (Y : FVec Ideal S8x256x4096 .f32) : FVec Ideal S8x32x1x1 .f32 :=
  select (broadcastInDim S8x32x1x1 ![] bcast_S_S8x32x1x1 (cmpf .ogt (subf (constant S_ .f32 0x47000000#32) (sitofp (F := Ideal) .f32 (constantI S_ 32 0#32))) (constant S_ .f32 0x00000000#32))) (Host.divf (broadcastInDim S8x32x1x1 ![0, 1] bcast_S8x32_S8x32x1x1_0_1 (Host.reduceAdd (mulf (dev256 Y) (dev256 Y)) (constant S_ .f32 0x00000000#32) reducesTo_S8x32x8x4096_S8x32_d2_3 h_S_)) (broadcastInDim S8x32x1x1 ![] bcast_S_S8x32x1x1 (subf (constant S_ .f32 0x47000000#32) (sitofp (F := Ideal) .f32 (constantI S_ 32 0#32))))) (broadcastInDim S8x32x1x1 ![] bcast_S_S8x32x1x1 (id (constant S_ .f32 0x7FC00000#32)))

/-- The group norm of 256 channels in 32 groups of 8, its scale and shift, then the part above zero. -/
abbrev norm256 (Y : FVec Ideal S8x256x4096 .f32) (G B : FVec Ideal S256 .f32) : FVec Ideal S8x256x4096 .f32 :=
  maximumf (addf (mulf (shapeCast _ (Host.divf (dev256 Y) (broadcastInDim S8x32x8x4096 ![0, 1, 2, 3] bcast_S8x32x1x1_S8x32x8x4096_0_1_2_3 (Host.sqrt (addf (var256 Y) (broadcastInDim S8x32x1x1 ![] bcast_S_S8x32x1x1 (constant S_ .f32 0x3727C5AC#32)))))) shapeCasts_S8x32x8x4096_S8x256x4096) (broadcastInDim S8x256x4096 ![0, 1, 2] bcast_S1x256x1_S8x256x4096_0_1_2 (broadcastInDim S1x256x1 ![1] bcast_S256_S1x256x1_1 G))) (broadcastInDim S8x256x4096 ![0, 1, 2] bcast_S1x256x1_S8x256x4096_0_1_2 (broadcastInDim S1x256x1 ![1] bcast_S256_S1x256x1_1 B))) (broadcastInDim S8x256x4096 ![] bcast_S_S8x256x4096 (constant S_ .f32 0x00000000#32))

theorem out1_eq (c : Dev nD) : (res_out1 m c : FVec Ideal S8x512x4096 .f32) = norm512 (conv512 (m ((c.tc : Thread nD τ).loc main_arg0)) (m ((c.tc : Thread nD τ).loc main_arg6)) (m ((c.tc : Thread nD τ).loc main_arg7))) (m ((c.tc : Thread nD τ).loc main_arg8)) (m ((c.tc : Thread nD τ).loc main_arg9)) := rfl

theorem out0_eq (c : Dev nD) : (res_out0 m c : FVec Ideal S8x256x4096 .f32) = norm256 (conv1024 (m ((c.tc : Thread nD τ).loc main_arg1)) (res_out1 m c) (norm256 (conv256 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg10)) (m ((c.tc : Thread nD τ).loc main_arg11))) (m ((c.tc : Thread nD τ).loc main_arg12)) (m ((c.tc : Thread nD τ).loc main_arg13)) := rfl

theorem sitofp_zero : (FloatOps.sitofp FTy.f32 0#32 : Ideal .f32) = ((0 : ℝ) : EReal) := by
  change (((0#32 : BitVec 32).toInt : ℝ) : EReal) = _
  simp

/-- The group norm of real values. -/
theorem norm256_coe (Y : FVec Ideal S8x256x4096 .f32) (y : Fin 8 → Fin 256 → Fin 4096 → ℝ)
    (hY : ∀ i, Y i = ((y (i 0) (i 1) (i 2) : ℝ) : EReal)) (G B : FVec Ideal S256 .f32) (j) :
    norm256 Y G B j = max (((nrm 8 32768 (y (j 0)) (j 1) (j 2) : ℝ) : EReal) * G (ix1 (j 1)) + B (ix1 (j 1))) 0 := by
  pointwise
  have hq : (j 1).val / 8 < 32 := by have := (j 1).isLt; change (j 1).val < 256 at this; omega
  have hm : (∑ i : Fin 8, ∑ t, y (j 0) ⟨(j 1).val / 8 * 8 + i.val, by omega⟩ t) / 32768 = mean 8 32768 (y (j 0)) ((j 1).val / 8) := by
    unfold mean; rw [gsum_fin 8 rfl _ ⟨_, hq⟩]
  have hv : (∑ i : Fin 8, ∑ t, (y (j 0) ⟨(j 1).val / 8 * 8 + i.val, by omega⟩ t - mean 8 32768 (y (j 0)) ((j 1).val / 8)) * (y (j 0) ⟨(j 1).val / 8 * 8 + i.val, by omega⟩ t - mean 8 32768 (y (j 0)) ((j 1).val / 8))) / 32768 = var 8 32768 (y (j 0)) ((j 1).val / 8) := by
    unfold var; rw [gsum_fin 8 rfl _ ⟨_, hq⟩]
  have hp := var_nonneg 8 32768 (by norm_num) (y (j 0)) ((j 1).val / 8)
  have hr : ∀ b t, Y (ix3 (j 0) b t) = ((y (j 0) b t : ℝ) : EReal) := fun b t => hY _
  rw [hY j]
  simp only [hr, ← coe_sum]
  rw [c32768, ceps, sitofp_zero, ← EReal.coe_sub, div_coe _ _ (by norm_num : (32768 : ℝ) ≠ 0), hm]
  simp only [← EReal.coe_sub, ← EReal.coe_mul, ← coe_sum]
  rw [if_pos (by norm_num), sub_zero, div_coe _ _ (by norm_num : (32768 : ℝ) ≠ 0), hv, ← EReal.coe_add,
    sqrt_coe _ (by have := eps_pos; linarith), div_coe _ _ (Real.sqrt_pos.2 (by have := eps_pos; linarith)).ne']
  rfl

/-- The same of 512 channels. -/
theorem norm512_coe (Y : FVec Ideal S8x512x4096 .f32) (y : Fin 8 → Fin 512 → Fin 4096 → ℝ)
    (hY : ∀ i, Y i = ((y (i 0) (i 1) (i 2) : ℝ) : EReal)) (G B : FVec Ideal S512 .f32) (j) :
    norm512 Y G B j = max (((nrm 16 65536 (y (j 0)) (j 1) (j 2) : ℝ) : EReal) * G (ix1 (j 1)) + B (ix1 (j 1))) 0 := by
  pointwise
  have hq : (j 1).val / 16 < 32 := by have := (j 1).isLt; change (j 1).val < 512 at this; omega
  have hm : (∑ i : Fin 16, ∑ t, y (j 0) ⟨(j 1).val / 16 * 16 + i.val, by omega⟩ t) / 65536 = mean 16 65536 (y (j 0)) ((j 1).val / 16) := by
    unfold mean; rw [gsum_fin 16 rfl _ ⟨_, hq⟩]
  have hv : (∑ i : Fin 16, ∑ t, (y (j 0) ⟨(j 1).val / 16 * 16 + i.val, by omega⟩ t - mean 16 65536 (y (j 0)) ((j 1).val / 16)) * (y (j 0) ⟨(j 1).val / 16 * 16 + i.val, by omega⟩ t - mean 16 65536 (y (j 0)) ((j 1).val / 16))) / 65536 = var 16 65536 (y (j 0)) ((j 1).val / 16) := by
    unfold var; rw [gsum_fin 16 rfl _ ⟨_, hq⟩]
  have hp := var_nonneg 16 65536 (by norm_num) (y (j 0)) ((j 1).val / 16)
  have hr : ∀ b t, Y (ix3 (j 0) b t) = ((y (j 0) b t : ℝ) : EReal) := fun b t => hY _
  rw [hY j]
  simp only [hr, ← coe_sum]
  rw [c65536, ceps, sitofp_zero, ← EReal.coe_sub, div_coe _ _ (by norm_num : (65536 : ℝ) ≠ 0), hm]
  simp only [← EReal.coe_sub, ← EReal.coe_mul, ← coe_sum]
  rw [if_pos (by norm_num), sub_zero, div_coe _ _ (by norm_num : (65536 : ℝ) ≠ 0), hv, ← EReal.coe_add,
    sqrt_coe _ (by have := eps_pos; linarith), div_coe _ _ (Real.sqrt_pos.2 (by have := eps_pos; linarith)).ne']
  rfl

theorem conv512_coe (X : FVec Ideal S8x256x4096 .f32) (W : FVec Ideal S512x256 .f32) (b : FVec Ideal S512 .f32)
    (x : Fin 8 → Fin 256 → Fin 4096 → ℝ) (w : Fin 512 → Fin 256 → ℝ) (b' : Fin 512 → ℝ)
    (hX : ∀ n c t, X (ix3 n c t) = ((x n c t : ℝ) : EReal)) (hW : ∀ p c, W (ix2 p c) = ((w p c : ℝ) : EReal))
    (hb : ∀ p, b (ix1 p) = ((b' p : ℝ) : EReal)) (i) :
    conv512 X W b i = ((conv w b' (x (i 0)) (i 1) (i 2) : ℝ) : EReal) := by
  pointwise
  unfold conv
  rw [EReal.coe_add, coe_sum]
  refine congrArg₂ (· + ·) (Finset.sum_congr rfl fun c _ => ?_) (hb _)
  rw [EReal.coe_mul]
  exact congrArg₂ (· * ·) (hX _ _ _) (hW _ _)

theorem conv256_coe (X : FVec Ideal S8x256x4096 .f32) (W : FVec Ideal S256x256 .f32) (b : FVec Ideal S256 .f32)
    (x : Fin 8 → Fin 256 → Fin 4096 → ℝ) (w : Fin 256 → Fin 256 → ℝ) (b' : Fin 256 → ℝ)
    (hX : ∀ n c t, X (ix3 n c t) = ((x n c t : ℝ) : EReal)) (hW : ∀ p c, W (ix2 p c) = ((w p c : ℝ) : EReal))
    (hb : ∀ p, b (ix1 p) = ((b' p : ℝ) : EReal)) (i) :
    conv256 X W b i = ((conv w b' (x (i 0)) (i 1) (i 2) : ℝ) : EReal) := by
  pointwise
  unfold conv
  rw [EReal.coe_add, coe_sum]
  refine congrArg₂ (· + ·) (Finset.sum_congr rfl fun c _ => ?_) (hb _)
  rw [EReal.coe_mul]
  exact congrArg₂ (· * ·) (hX _ _ _) (hW _ _)

theorem conv1024_coe (X : FVec Ideal S8x256x4096 .f32) (Y : FVec Ideal S8x512x4096 .f32) (Z : FVec Ideal S8x256x4096 .f32)
    (W : FVec Ideal S256x1024 .f32) (b : FVec Ideal S256 .f32)
    (x : Fin 8 → Fin 256 → Fin 4096 → ℝ) (y : Fin 8 → Fin 512 → Fin 4096 → ℝ) (z : Fin 8 → Fin 256 → Fin 4096 → ℝ)
    (w : Fin 256 → Fin 1024 → ℝ) (b' : Fin 256 → ℝ)
    (hX : ∀ n c t, X (ix3 n c t) = ((x n c t : ℝ) : EReal)) (hY : ∀ n c t, Y (ix3 n c t) = ((y n c t : ℝ) : EReal))
    (hZ : ∀ n c t, Z (ix3 n c t) = ((z n c t : ℝ) : EReal)) (hW : ∀ p c, W (ix2 p c) = ((w p c : ℝ) : EReal))
    (hb : ∀ p, b (ix1 p) = ((b' p : ℝ) : EReal)) (i) :
    conv1024 X Y Z W b i = ((conv w b' (stack (x (i 0)) (y (i 0)) (z (i 0))) (i 1) (i 2) : ℝ) : EReal) := by
  pointwise
  unfold conv
  rw [EReal.coe_add, coe_sum]
  refine congrArg₂ (· + ·) (Finset.sum_congr rfl fun c _ => ?_) (hb _)
  rw [EReal.coe_mul]
  refine congrArg₂ (· * ·) ?_ (hW _ _)
  unfold stack
  split
  · exact hX _ _ _
  · split
    · exact hY _ _ _
    · exact hZ _ _ _

end Cert.DenseReferenceIdeal.Plain
-- ==== Proof.DenseSame.lean ====
module

public import proofs.«01_k».proof.Defs
public import proofs.«01_k».proof.Proof.DenseNorm
public import proofs.«01_k».proof.Proof.DenseRef
public import proofs.«01_k».proof.Proof.DenseRun
public import proofs.«01_k».proof.Proof.Gen.Pre_finite
public import Idealize.ShloMosaic.Lib.ReduceAll

@[expose] public section

set_option maxRecDepth 16384

/-! The three calls and the plain mathematics leave the same two results where the inputs they square, multiply or
    subtract are finite. -/

noncomputable section

namespace Cert.DenseIdeal.Same

open Idealize.ShloMosaic Idealize.ShloMosaic.TcCoe Idealize.SL.Sem
open Idealize.ShloMosaic.Pipeline (Dat)
open Cert.GroupNorm

/-! What the precondition says of each input. -/

theorem andi_ones {a b : BitVec 1} (h : IntOp.andi a b = 1#1) : a = 1#1 ∧ b = 1#1 := by
  revert h; unfold IntOp.andi; revert a b; decide

/-- Every element is below infinity in absolute value. -/
abbrev bounded {F : FTy → Type} [FloatOps F] {s : Shape} {axes : List (Fin s.rank)} (b : Cert.Pre_finite.S_.BroadcastsInDim s (![] : Fin 0 → Fin s.rank))
    (h : s.ReducesTo axes Cert.Pre_finite.S_) (x : FVec F s .f32) : IVec Cert.Pre_finite.S_ 1 :=
  Host.reduce IntOp.andi (cmpf .olt (Host.absf x) (broadcastInDim s ![] b (constant Cert.Pre_finite.S_ .f32 0x7F800000#32)))
    (constantI Cert.Pre_finite.S_ 1 1#1) h Cert.Pre_finite.Facts.h_S_

theorem real_of {s : Shape} {axes : List (Fin s.rank)} (b : Cert.Pre_finite.S_.BroadcastsInDim s (![] : Fin 0 → Fin s.rank))
    (h : s.ReducesTo axes Cert.Pre_finite.S_) (x : FVec Ideal s .f32) (e : bounded b h x (fun a => a.elim0) = 1#1) (i : s.Idx) :
    x i = (((x i : EReal).toReal : ℝ) : EReal) := by
  have : Subsingleton Cert.Pre_finite.S_.Idx := ⟨fun a b => funext fun i => i.elim0⟩
  have e' : Ideal.cmp .olt (max (x i : EReal) (-(x i : EReal))) (Ideal.ofBits .f32 0x7F800000#32) = 1#1 := Host.reduce_andi_all _ _ _ _ _ e i
  have ht : Ideal.ofBits .f32 0x7F800000#32 = ⊤ := by simp [Ideal.ofBits, Ideal.ieee]
  rw [ht] at e'
  have hl : max (x i : EReal) (-(x i : EReal)) < ⊤ := by
    by_contra hn
    unfold Ideal.cmp at e'
    simp [hn] at e'
  obtain ⟨h1, h2⟩ := max_lt_iff.mp hl
  refine (EReal.coe_toReal h1.ne fun hb => ?_).symm
  rw [hb] at h2
  simp at h2

open Cert.Pre_finite in
theorem pre_unfold {F : FTy → Type} [FloatOps F] (x0 x1 : FVec F S8x256x4096 .f32) (x2 : FVec F S256x256 .f32) (x3 x4 x5 : FVec F S256 .f32)
    (x6 : FVec F S512x256 .f32) (x7 x8 x9 : FVec F S512 .f32) (x10 : FVec F S256x1024 .f32) (x11 x12 x13 : FVec F S256 .f32) :
    Cert.Pre_finite.fn x0 x1 x2 x3 x4 x5 x6 x7 x8 x9 x10 x11 x12 x13
      = andi (andi (andi (andi (andi (andi (andi (andi (andi (andi (andi (bounded Facts.bcast_S_S8x256x4096 Facts.reducesTo_S8x256x4096_S_d0_1_2 x0)
          (bounded Facts.bcast_S_S8x256x4096 Facts.reducesTo_S8x256x4096_S_d0_1_2 x1)) (bounded Facts.bcast_S_S256x256 Facts.reducesTo_S256x256_S_d0_1 x2))
          (bounded Facts.bcast_S_S256 Facts.reducesTo_S256_S_d0 x3)) (bounded Facts.bcast_S_S256 Facts.reducesTo_S256_S_d0 x4))
          (bounded Facts.bcast_S_S256 Facts.reducesTo_S256_S_d0 x5)) (bounded Facts.bcast_S_S512x256 Facts.reducesTo_S512x256_S_d0_1 x6))
          (bounded Facts.bcast_S_S512 Facts.reducesTo_S512_S_d0 x7)) (bounded Facts.bcast_S_S512 Facts.reducesTo_S512_S_d0 x8))
          (bounded Facts.bcast_S_S512 Facts.reducesTo_S512_S_d0 x9)) (bounded Facts.bcast_S_S256x1024 Facts.reducesTo_S256x1024_S_d0_1 x10))
          (bounded Facts.bcast_S_S256 Facts.reducesTo_S256_S_d0 x11) := rfl

/-! The plain mathematics at real inputs. -/

section
open Cert.DenseReferenceIdeal Cert.DenseReferenceIdeal.Plain

theorem act_coe {P : ℕ} (k : ℕ) (n : ℝ) (y : Fin P → Fin 4096 → ℝ) (g e : Fin P → ℝ) (p : Fin P) (t : Fin 4096) (G B : EReal) (hG : G = ((g p : ℝ) : EReal)) (hB : B = ((e p : ℝ) : EReal)) :
    max (((nrm k n y p t : ℝ) : EReal) * G + B) 0 = ((act k n y g e p t : ℝ) : EReal) := by
  unfold act
  rw [hG, hB, max_coe]
  push_cast
  rfl

theorem plain512 (X : FVec Ideal S8x256x4096 .f32) (W : FVec Ideal S512x256 .f32) (b G B : FVec Ideal S512 .f32)
    (x : Fin 8 → Fin 256 → Fin 4096 → ℝ) (w : Fin 512 → Fin 256 → ℝ) (b' g e : Fin 512 → ℝ)
    (hX : ∀ n c t, X (ix3 n c t) = ((x n c t : ℝ) : EReal)) (hW : ∀ p c, W (ix2 p c) = ((w p c : ℝ) : EReal)) (hb : ∀ p, b (ix1 p) = ((b' p : ℝ) : EReal))
    (hG : ∀ p, G (ix1 p) = ((g p : ℝ) : EReal)) (hB : ∀ p, B (ix1 p) = ((e p : ℝ) : EReal)) (i) :
    norm512 (conv512 X W b) G B i = ((act 16 65536 (conv w b' (x (i 0))) g e (i 1) (i 2) : ℝ) : EReal) :=
  (norm512_coe _ (fun n => conv w b' (x n)) (conv512_coe X W b x w b' hX hW hb) G B i).trans
    (act_coe 16 65536 _ g e (i 1) (i 2) _ _ (hG _) (hB _))

theorem plain256 (X : FVec Ideal S8x256x4096 .f32) (W : FVec Ideal S256x256 .f32) (b G B : FVec Ideal S256 .f32)
    (x : Fin 8 → Fin 256 → Fin 4096 → ℝ) (w : Fin 256 → Fin 256 → ℝ) (b' g e : Fin 256 → ℝ)
    (hX : ∀ n c t, X (ix3 n c t) = ((x n c t : ℝ) : EReal)) (hW : ∀ p c, W (ix2 p c) = ((w p c : ℝ) : EReal)) (hb : ∀ p, b (ix1 p) = ((b' p : ℝ) : EReal))
    (hG : ∀ p, G (ix1 p) = ((g p : ℝ) : EReal)) (hB : ∀ p, B (ix1 p) = ((e p : ℝ) : EReal)) (i) :
    norm256 (conv256 X W b) G B i = ((act 8 32768 (conv w b' (x (i 0))) g e (i 1) (i 2) : ℝ) : EReal) :=
  (norm256_coe _ (fun n => conv w b' (x n)) (conv256_coe X W b x w b' hX hW hb) G B i).trans
    (act_coe 8 32768 _ g e (i 1) (i 2) _ _ (hG _) (hB _))

theorem plain_mixed (X Z : FVec Ideal S8x256x4096 .f32) (Y : FVec Ideal S8x512x4096 .f32) (W : FVec Ideal S256x1024 .f32) (b G B : FVec Ideal S256 .f32)
    (x z : Fin 8 → Fin 256 → Fin 4096 → ℝ) (y : Fin 8 → Fin 512 → Fin 4096 → ℝ) (w : Fin 256 → Fin 1024 → ℝ) (b' : Fin 256 → ℝ)
    (hX : ∀ n c t, X (ix3 n c t) = ((x n c t : ℝ) : EReal)) (hY : ∀ n c t, Y (ix3 n c t) = ((y n c t : ℝ) : EReal))
    (hZ : ∀ n c t, Z (ix3 n c t) = ((z n c t : ℝ) : EReal)) (hW : ∀ p c, W (ix2 p c) = ((w p c : ℝ) : EReal)) (hb : ∀ p, b (ix1 p) = ((b' p : ℝ) : EReal)) (i) :
    norm256 (conv1024 X Y Z W b) G B i
      = max (((nrm 8 32768 (conv w b' (stack (x (i 0)) (y (i 0)) (z (i 0)))) (i 1) (i 2) : ℝ) : EReal) * G (ix1 (i 1)) + B (ix1 (i 1))) 0 :=
  norm256_coe _ (fun n => conv w b' (stack (x n) (y n) (z n))) (conv1024_coe X Y Z W b x y z w b' hX hY hZ hW hb) G B i
end

/-! What the calls find and leave. -/

section
open Cert.DenseIdeal Cert.DenseIdeal.Gen Cert.DenseIdeal.Calls

theorem cast256 (v : FVec Ideal S256 .f32) (p : Fin 256) : shapeCast S256x1 v shapeCasts_S256_S256x1 (ix2 p 0) = v (ix1 p) := by pointwise
theorem cast512 (v : FVec Ideal S512 .f32) (p : Fin 512) : shapeCast S512x1 v shapeCasts_S512_S512x1 (ix2 p 0) = v (ix1 p) := by pointwise

variable (m : (ℓ : Loc nD τ sig) → Buf (Elt Ideal) ℓ) (ρ : Dev nD → PrngReg) (c : Dev nD)

/-- The arguments as real numbers. -/
structure Reals (x f : Fin 8 → Fin 256 → Fin 4096 → ℝ) (w1 : Fin 256 → Fin 256 → ℝ) (b1 g1 e1 : Fin 256 → ℝ) (w2 : Fin 512 → Fin 256 → ℝ) (b2 g2 e2 : Fin 512 → ℝ)
    (w3 : Fin 256 → Fin 1024 → ℝ) (b3 : Fin 256 → ℝ) : Prop where
  hx : ∀ n p t, m ((c.tc : Thread nD τ).loc main_arg0) (ix3 n p t) = ((x n p t : ℝ) : EReal)
  hf : ∀ n p t, m ((c.tc : Thread nD τ).loc main_arg1) (ix3 n p t) = ((f n p t : ℝ) : EReal)
  hw1 : ∀ p q, m ((c.tc : Thread nD τ).loc main_arg2) (ix2 p q) = ((w1 p q : ℝ) : EReal)
  hb1 : ∀ p, m ((c.tc : Thread nD τ).loc main_arg3) (ix1 p) = ((b1 p : ℝ) : EReal)
  hg1 : ∀ p, m ((c.tc : Thread nD τ).loc main_arg4) (ix1 p) = ((g1 p : ℝ) : EReal)
  he1 : ∀ p, m ((c.tc : Thread nD τ).loc main_arg5) (ix1 p) = ((e1 p : ℝ) : EReal)
  hw2 : ∀ p q, m ((c.tc : Thread nD τ).loc main_arg6) (ix2 p q) = ((w2 p q : ℝ) : EReal)
  hb2 : ∀ p, m ((c.tc : Thread nD τ).loc main_arg7) (ix1 p) = ((b2 p : ℝ) : EReal)
  hg2 : ∀ p, m ((c.tc : Thread nD τ).loc main_arg8) (ix1 p) = ((g2 p : ℝ) : EReal)
  he2 : ∀ p, m ((c.tc : Thread nD τ).loc main_arg9) (ix1 p) = ((e2 p : ℝ) : EReal)
  hw3 : ∀ p q, m ((c.tc : Thread nD τ).loc main_arg10) (ix2 p q) = ((w3 p q : ℝ) : EReal)
  hb3 : ∀ p, m ((c.tc : Thread nD τ).loc main_arg11) (ix1 p) = ((b3 p : ℝ) : EReal)

variable {m c} {x f : Fin 8 → Fin 256 → Fin 4096 → ℝ} {w1 : Fin 256 → Fin 256 → ℝ} {b1 g1 e1 : Fin 256 → ℝ} {w2 : Fin 512 → Fin 256 → ℝ} {b2 g2 e2 : Fin 512 → ℝ}
    {w3 : Fin 256 → Fin 1024 → ℝ} {b3 : Fin 256 → ℝ} (R : Reals m c x f w1 b1 g1 e1 w2 b2 g2 e2 w3 b3)
include R

theorem stats : (dat0 (V1 m ρ) c).arrAt 5 cfg0.N = fun i => ((Stats.stat (conv w1 b1 (x (i 0))) (conv w2 b2 (x (i 0))) (i 1).val : ℝ) : EReal) :=
  Stats.final (V1 m ρ) c x w1 b1 w2 b2
    (fun n p t => (congrFun (W1_args m ρ c main_arg0 (by decide)) _).trans (R.hx n p t))
    (fun p q => (congrFun (W1_args m ρ c main_arg2 (by decide)) _).trans (R.hw1 p q))
    (fun p => (congrFun (W1_v0 m ρ c) _).trans ((cast256 _ p).trans (R.hb1 p)))
    (fun p q => (congrFun (W1_args m ρ c main_arg6 (by decide)) _).trans (R.hw2 p q))
    (fun p => (congrFun (W1_v1 m ρ c) _).trans ((cast512 _ p).trans (R.hb2 p)))

theorem holds : Block.Holds (V3 m ρ) c x f w1 b1 g1 e1 w2 b2 g2 e2 w3 b3 where
  hx n p t := (congrFun (W3_args m ρ c main_arg0 (by decide)) _).trans (R.hx n p t)
  hf n p t := (congrFun (W3_args m ρ c main_arg1 (by decide)) _).trans (R.hf n p t)
  hs n r := (congrFun (W3_v3 m ρ c) _).trans (congrFun (stats ρ R) (ix3 n r 0))
  hw1 p q := (congrFun (W3_args m ρ c main_arg2 (by decide)) _).trans (R.hw1 p q)
  hb1 p := (congrFun ((W3_v0 m ρ c).trans (W1_v0 m ρ c)) _).trans ((cast256 _ p).trans (R.hb1 p))
  hg1 p := (congrFun (W3_v4 m ρ c) _).trans ((cast256 _ p).trans (R.hg1 p))
  he1 p := (congrFun (W3_v5 m ρ c) _).trans ((cast256 _ p).trans (R.he1 p))
  hw2 p q := (congrFun (W3_args m ρ c main_arg6 (by decide)) _).trans (R.hw2 p q)
  hb2 p := (congrFun ((W3_v1 m ρ c).trans (W1_v1 m ρ c)) _).trans ((cast512 _ p).trans (R.hb2 p))
  hg2 p := (congrFun (W3_v6 m ρ c) _).trans ((cast512 _ p).trans (R.hg2 p))
  he2 p := (congrFun (W3_v7 m ρ c) _).trans ((cast512 _ p).trans (R.he2 p))
  hw3 p q := (congrFun (W3_args m ρ c main_arg10 (by decide)) _).trans (R.hw3 p q)
  hb3 p := (congrFun ((W3_v2 m ρ c).trans (W1_v2 m ρ c)) _).trans ((cast256 _ p).trans (R.hb3 p))

theorem feat (i) : (dat1 (V3 m ρ) c).arrAt 13 cfg1.N i = ((act 16 65536 (conv w2 b2 (x (i 0))) g2 e2 (i 1) (i 2) : ℝ) : EReal) :=
  congrFun (Block.final13 (holds ρ R)) i

theorem mixed (i : S8x256x4096.Idx) : (dat2 (V5 m ρ) c).arrAt 4 cfg2.N i
    = max (((nrm 8 32768 (Block.third x f w1 b1 g1 e1 w2 b2 g2 e2 w3 b3 (i 0)) (i 1) (i 2) : ℝ) : EReal) * (m ((c.tc : Thread nD τ).loc main_arg12) (ix1 (i 1)) : EReal)
        + (m ((c.tc : Thread nD τ).loc main_arg13) (ix1 (i 1)) : EReal)) (0 : EReal) := by
  have h := congrFun (Norm.final4 (V5 m ρ) c (Block.third x f w1 b1 g1 e1 w2 b2 g2 e2 w3 b3)
    (fun n p t => (congrFun (W5_v8_1 m ρ c) _).trans (congrFun (Block.final14 (holds ρ R)) (ix3 n p t)))
    (fun n r => (congrFun (W5_v8_2 m ρ c) _).trans (congrFun (Block.final15 (holds ρ R)) (ix3 n r 0)))) i
  refine h.trans (congrArg (max · (0 : EReal)) (congrArg₂ (fun a b : EReal => ((nrm 8 32768 (Block.third x f w1 b1 g1 e1 w2 b2 g2 e2 w3 b3 (i 0)) (i 1) (i 2) : ℝ) : EReal) * a + b) ?_ ?_))
  · exact (congrFun (W5_v9 m ρ c) _).trans (cast256 _ (i 1))
  · exact (congrFun (W5_v10 m ρ c) _).trans (cast256 _ (i 1))
end

/-! Both at once. -/

section
open Cert.DenseIdeal Cert.DenseIdeal.Gen

theorem real_of_pre [Cert.Pre_finite.Facts] {m : (ℓ : Loc nD τ sig) → Buf (Elt Ideal) ℓ} (h : Cert.Pre_DenseIdeal_finite m) (c : Dev nD) :
    ∃ x f w1 b1 g1 e1 w2 b2 g2 e2 w3 b3, Reals m c x f w1 b1 g1 e1 w2 b2 g2 e2 w3 b3 := by
  have h := congrFun ((pre_unfold _ _ _ _ _ _ _ _ _ _ _ _ _ _).symm.trans (h c)) (fun a : Fin 0 => a.elim0)
  obtain ⟨h, h11⟩ := andi_ones h
  obtain ⟨h, h10⟩ := andi_ones h
  obtain ⟨h, h9⟩ := andi_ones h
  obtain ⟨h, h8⟩ := andi_ones h
  obtain ⟨h, h7⟩ := andi_ones h
  obtain ⟨h, h6⟩ := andi_ones h
  obtain ⟨h, h5⟩ := andi_ones h
  obtain ⟨h, h4⟩ := andi_ones h
  obtain ⟨h, h3⟩ := andi_ones h
  obtain ⟨h, h2⟩ := andi_ones h
  obtain ⟨h0, h1⟩ := andi_ones h
  exact ⟨_, _, _, _, _, _, _, _, _, _, _, _,
    fun n p t => real_of _ _ _ h0 (ix3 n p t), fun n p t => real_of _ _ _ h1 (ix3 n p t), fun p q => real_of _ _ _ h2 (ix2 p q),
    fun p => real_of _ _ _ h3 (ix1 p), fun p => real_of _ _ _ h4 (ix1 p), fun p => real_of _ _ _ h5 (ix1 p), fun p q => real_of _ _ _ h6 (ix2 p q),
    fun p => real_of _ _ _ h7 (ix1 p), fun p => real_of _ _ _ h8 (ix1 p), fun p => real_of _ _ _ h9 (ix1 p), fun p q => real_of _ _ _ h10 (ix2 p q),
    fun p => real_of _ _ _ h11 (ix1 p)⟩
end

end Cert.DenseIdeal.Same

end
-- ==== Proof.DenseClaims.lean ====
module

public import proofs.«01_k».proof.Proof.DenseSame
public import proofs.«01_k».proof.Dense
public import proofs.«01_k».proof.Proof.Gen.Dense

@[expose] public section

/-! The claims about the three calls: they run to a quiet end as printed and at the extended reals, and so does the plain
    mathematics; the two leave the same results. -/

noncomputable section

namespace Cert.Proof.Dense

open Idealize.ShloMosaic Idealize.SL.Sem
open Cert.GroupNorm Cert.DenseIdeal.Same

section
variable {F : FTy → Type} [FloatOps F]
set_option maxHeartbeats 0
set_option maxRecDepth 65536

/-! The calls as printed and their reading at the extended reals are one text. -/

theorem bodies_eq : Cert.Dense.defs₀ (F := F) = Cert.DenseIdeal.defs₀ (F := F) := by
  funext k ℓ a
  match k, ℓ, a with
  | .tc, ⟨0, _⟩, (t, s) => exact rfl
  | .tc, ⟨1, _⟩, (t, s) => exact rfl
  | .tc, ⟨2, _⟩, (t, s) => exact rfl
  | .tc, ⟨_ + 3, h⟩, _ => exact absurd h (Nat.not_lt.2 (Nat.le_add_left _ _))
  | .scScalar _, _, _ => exact rfl
  | .scVector _ _, _, _ => exact rfl

theorem defs_eq : Cert.Dense.defs (F := F) = Cert.DenseIdeal.defs (F := F) := by
  exact congrArg (Pipeline.defs Cert.Dense.pcfgs) bodies_eq

theorem main_eq : Cert.Dense.main (F := F) = Cert.DenseIdeal.main (F := F) := by exact rfl

theorem frame_printed : Cert.quiescent_Dense := fun m g _ => by
  have h := Cert.DenseIdeal.Gen.frame (F := Bits) m g
  rw [← defs_eq, ← main_eq] at h
  exact h

end

theorem frame_ideal : Cert.quiescent_DenseIdeal := fun m g _ => Cert.DenseIdeal.Gen.frame (F := Ideal) m g

theorem frame_ideal_finite : Cert.quiescent_DenseIdeal_pre_finite := fun m g _ => Cert.DenseIdeal.Gen.frame (F := Ideal) m g

theorem frame_plain : Cert.quiescent_DenseReferenceIdeal := fun m g _ =>
  θ_run_mono (Cert.DenseReferenceIdeal.Value.run (F := Ideal) m g) fun r h => ⟨fun c => (h c).2.2, sem_eq_zero_of_no_sems rfl _⟩

theorem frame_plain_finite : Cert.quiescent_DenseReferenceIdeal_pre_finite := fun m g _ =>
  θ_run_mono (Cert.DenseReferenceIdeal.Value.run (F := Ideal) m g) fun r h => ⟨fun c => (h c).2.2, sem_eq_zero_of_no_sems rfl _⟩

/-- Both results are the same extended reals. -/
theorem same : Cert.algebraic_DenseIdeal_DenseReferenceIdeal_pre_finite := fun m g m' g' hpre hagree => by
  refine ⟨fun c => (Cert.DenseIdeal.Gen.dat2 (Cert.DenseIdeal.Gen.V5 m g) c).arrAt 4 Cert.DenseIdeal.cfg2.N,
    fun c => (Cert.DenseIdeal.Gen.dat1 (Cert.DenseIdeal.Gen.V3 m g) c).arrAt 13 Cert.DenseIdeal.cfg1.N, Cert.DenseIdeal.Calls.run m g, ?_⟩
  refine θ_run_mono (Cert.DenseReferenceIdeal.Value.run (F := Ideal) m' g') fun r h c => ?_
  obtain ⟨x, f, w1, b1, g1, e1, w2, b2, g2, e2, w3, b3, R⟩ := real_of_pre hpre c
  obtain ⟨a0, a1, a2, a3, a4, a5, a6, a7, a8, a9, a10, a11, a12, a13⟩ := hagree c
  have h1 : ∀ i, Cert.DenseReferenceIdeal.Value.res_out1 m' c i = ((act 16 65536 (conv w2 b2 (x (i 0))) g2 e2 (i 1) (i 2) : ℝ) : EReal) := fun i => by
    refine (congrFun (Cert.DenseReferenceIdeal.Plain.out1_eq m' c) i).trans ?_
    rw [a0, a6, a7, a8, a9]
    exact plain512 _ _ _ _ _ x w2 b2 g2 e2 R.hx R.hw2 R.hb2 R.hg2 R.he2 i
  refine ⟨(h c).1.trans (funext fun i => ?_), (h c).2.1.trans (funext fun i => ?_), (h c).2.2⟩
  · refine Eq.trans ?_ (mixed g R i).symm
    refine (congrFun (Cert.DenseReferenceIdeal.Plain.out0_eq m' c) i).trans ?_
    rw [a0, a1, a2, a3, a4, a5, a10, a11, a12, a13]
    exact plain_mixed _ _ _ _ _ _ _ f _ _ w3 b3 R.hf (fun n p t => h1 (ix3 n p t))
      (fun n p t => plain256 _ _ _ _ _ x w1 b1 g1 e1 R.hx R.hw1 R.hb1 R.hg1 R.he1 (ix3 n p t)) R.hw3 R.hb3 i
  · exact (h1 i).trans (feat g R i).symm

end Cert.Proof.Dense

end
-- ==== Proof.lean ====
/-
  The claims of proofs.«01_k».proof.Defs: the sampling program runs to a quiet end, as printed and at the extended reals, and so
  does the reference; at the extended reals the two leave the same rows. The three calls after it likewise: they run to a
  quiet end, and at the extended reals leave the two results of the plain mathematics.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_cdf_sorted
public import proofs.«01_k».proof.Proof.Twin
public import proofs.«01_k».proof.Proof.Means
public import proofs.«01_k».proof.Proof.Gen.Dense
public import proofs.«01_k».proof.Proof.Gen.DenseIdeal
public import proofs.«01_k».proof.Proof.Gen.DenseReferenceIdeal
public import proofs.«01_k».proof.Proof.Gen.Pre_finite
public import proofs.«01_k».proof.Proof.DenseClaims

@[expose] public section

noncomputable section

namespace Cert.Proof

open Idealize.ShloMosaic Idealize.SL.Sem

instance eltNonempty {F : FTy → Type} [FloatOps F] (e : EltTy) : Nonempty (Elt F e) := by
  cases e <;> first | exact ⟨(0 : BitVec _)⟩ | exact ⟨FloatOps.ofBits _ 0⟩

/-- The precondition gives the sorted lists the run needs. -/
theorem lists {F : FTy → Type} [FloatOps F] {m : (ℓ : Loc Cert.KernelIdeal.nD Cert.KernelIdeal.τ Cert.KernelIdeal.sig) → Buf (Elt F) ℓ}
    (h : ∀ c : Dev Cert.KernelIdeal.nD, Cert.Pre_cdf_sorted.fn (F := F) (m (Samp.fLoc c)) = fun _ => 1#1) : Samp.ListsOK m := fun d => by
  show Search.Srt (Search.vals (Samp.cdfOf m d))
  rw [Samp.cdfOf_eq]
  exact Samp.sorted_of_pre _ (h d)

theorem frame_kernel : Cert.quiescent_Kernel := fun m g hpre =>
  θ_run_mono (Samp.run_main (F := Bits) m g (lists hpre)) fun _ h => ⟨fun c => (h.1 c).1, h.2⟩

theorem frame_ideal : Cert.quiescent_KernelIdeal := fun m g hpre =>
  θ_run_mono (Samp.run_main (F := Ideal) m g (lists hpre)) fun _ h => ⟨fun c => (h.1 c).1, h.2⟩

/-- The rows the two programs leave are the same. -/
theorem values {m : (ℓ : Loc Cert.KernelIdeal.nD Cert.KernelIdeal.τ Cert.KernelIdeal.sig) → Buf (Elt Ideal) ℓ} (h : Samp.ListsOK m)
    (c : Dev Cert.KernelIdeal.nD) : Ref.takeRows (F := Ideal) (m (Samp.fLoc c)) (Ref.firsts (Ref.words (Ref.meanRow (F := Ideal) (m (Samp.fLoc c)))))
      = Samp.sampled (m (Samp.fLoc c)) (Samp.colsOf (Samp.cdfOf m c)) := by
  have hs : Search.Srt (Search.vals (Samp.cdfOf m c)) := h c
  rw [← meanRow_eq, ← words_eq, ← Samp.cdfOf_eq, Ref.firsts_eq _ hs]
  exact Ref.takeRows_eq _ _ fun i => Samp.colsOf_lt _ hs i

theorem same : Cert.algebraic_KernelIdeal_ReferenceIdeal := fun m g m' g' hpre hagree => by
  have hl := lists hpre
  refine ⟨fun c => Samp.sampled (m (Samp.fLoc c)) (Samp.colsOf (Samp.cdfOf m c)), ?_, ?_⟩
  · exact θ_run_mono (Samp.run_main (F := Ideal) m g hl) fun _ h c => ⟨(h.1 c).2, (h.1 c).1⟩
  · refine θ_run_mono (Ref.run m' g') fun _ h c => ⟨(h c).1.trans ?_, (h c).2⟩
    rw [hagree c]
    exact values hl c

theorem claim : Cert.Claim := ⟨Cert.Kernel.Gen.facts, Cert.KernelIdeal.Gen.facts, Cert.ReferenceIdeal.Gen.facts, Cert.Dense.Gen.facts,
  Cert.DenseIdeal.Gen.facts, Cert.DenseReferenceIdeal.Gen.facts, Cert.Pre_cdf_sorted.Gen.facts, Cert.Pre_finite.Gen.facts,
  frame_kernel, frame_ideal, fun m g _ => Ref.frame m g, fun m g _ => Ref.frame m g,
  Dense.frame_printed, Dense.frame_ideal, Dense.frame_ideal_finite, Dense.frame_plain, Dense.frame_plain_finite,
  trivial, same, trivial, Dense.same⟩

end Cert.Proof

end
